-- ==== Defs.lean ====
def Pre_Kernel (m : (ℓ : Loc Cert.Kernel.nD Cert.Kernel.τ Cert.Kernel.sig) → Buf (Elt Bits) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v136_1)) (v1 : (c : Dev Cert.Kernel3Ideal.nD) → Buf (Elt Ideal) ((c.tc : Thread Cert.Kernel3Ideal.nD Cert.Kernel3Ideal.τ).loc Cert.Kernel3Ideal.main_v136_2)) (v2 : (c : Dev Cert.Kernel3Ideal.nD) → Buf (Elt Ideal) ((c.tc : Thread Cert.Kernel3Ideal.nD Cert.Kernel3Ideal.τ).loc Cert.Kernel3Ideal.main_v136_3)) (v3 : (c : Dev Cert.Kernel3Ideal.nD) → Buf (Elt Ideal) ((c.tc : Thread Cert.Kernel3Ideal.nD Cert.Kernel3Ideal.τ).loc Cert.Kernel3Ideal.main_v136_4)) (v4 : (c : Dev Cert.Kernel3Ideal.nD) → Buf (Elt Ideal) ((c.tc : Thread Cert.Kernel3Ideal.nD Cert.Kernel3Ideal.τ).loc Cert.Kernel3Ideal.main_v136_5)) (v5 : (c : Dev Cert.Kernel3Ideal.nD) → Buf (Elt Ideal) ((c.tc : Thread Cert.Kernel3Ideal.nD Cert.Kernel3Ideal.τ).loc Cert.Kernel3Ideal.main_v136_6)) (v6 : (c : Dev Cert.Kernel3Ideal.nD) → Buf (Elt Ideal) ((c.tc : Thread Cert.Kernel3Ideal.nD Cert.Kernel3Ideal.τ).loc Cert.Kernel3Ideal.main_v136_7)) (v7 : (c : Dev Cert.Kernel3Ideal.nD) → Buf (Elt Ideal) ((c.tc : Thread Cert.Kernel3Ideal.nD Cert.Kernel3Ideal.τ).loc Cert.Kernel3Ideal.main_v136_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v136_1) = v0 c
          ∧ r.2.mem ((c.tc : Thread Cert.Kernel3Ideal.nD Cert.Kernel3Ideal.τ).loc Cert.Kernel3Ideal.main_v136_2) = v1 c
          ∧ r.2.mem ((c.tc : Thread Cert.Kernel3Ideal.nD Cert.Kernel3Ideal.τ).loc Cert.Kernel3Ideal.main_v136_3) = v2 c
          ∧ r.2.mem ((c.tc : Thread Cert.Kernel3Ideal.nD Cert.Kernel3Ideal.τ).loc Cert.Kernel3Ideal.main_v136_4) = v3 c
          ∧ r.2.mem ((c.tc : Thread Cert.Kernel3Ideal.nD Cert.Kernel3Ideal.τ).loc Cert.Kernel3Ideal.main_v136_5) = v4 c
          ∧ r.2.mem ((c.tc : Thread Cert.Kernel3Ideal.nD Cert.Kernel3Ideal.τ).loc Cert.Kernel3Ideal.main_v136_6) = v5 c
          ∧ r.2.mem ((c.tc : Thread Cert.Kernel3Ideal.nD Cert.Kernel3Ideal.τ).loc Cert.Kernel3Ideal.main_v136_7) = v6 c
          ∧ r.2.mem ((c.tc : Thread Cert.Kernel3Ideal.nD Cert.Kernel3Ideal.τ).loc Cert.Kernel3Ideal.main_v136_8) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v340) = v0 c
          ∧ r.2.mem ((c.tc : Thread Cert.Reference3Ideal.nD Cert.Reference3Ideal.τ).loc Cert.Reference3Ideal.main_v536) = v1 c
          ∧ r.2.mem ((c.tc : Thread Cert.Reference3Ideal.nD Cert.Reference3Ideal.τ).loc Cert.Reference3Ideal.main_v537) = v2 c
          ∧ r.2.mem ((c.tc : Thread Cert.Reference3Ideal.nD Cert.Reference3Ideal.τ).loc Cert.Reference3Ideal.main_v538) = v3 c
          ∧ r.2.mem ((c.tc : Thread Cert.Reference3Ideal.nD Cert.Reference3Ideal.τ).loc Cert.Reference3Ideal.main_v542) = v4 c
          ∧ r.2.mem ((c.tc : Thread Cert.Reference3Ideal.nD Cert.Reference3Ideal.τ).loc Cert.Reference3Ideal.main_v546) = v5 c
          ∧ r.2.mem ((c.tc : Thread Cert.Reference3Ideal.nD Cert.Reference3Ideal.τ).loc Cert.Reference3Ideal.main_v547) = v6 c
          ∧ r.2.mem ((c.tc : Thread Cert.Reference3Ideal.nD Cert.Reference3Ideal.τ).loc Cert.Reference3Ideal.main_v550) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v21) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S128x512x256 : Shape := ⟨3, ![128, 512, 256]⟩
abbrev S128x8x256 : Shape := ⟨3, ![128, 8, 256]⟩
abbrev S32768x128 : Shape := ⟨2, ![32768, 128]⟩
abbrev S32768x64 : Shape := ⟨2, ![32768, 64]⟩
abbrev S1x512x256 : Shape := ⟨3, ![1, 512, 256]⟩
abbrev S1x8x256 : Shape := ⟨3, ![1, 8, 256]⟩
abbrev S2048x128 : Shape := ⟨2, ![2048, 128]⟩
abbrev S2048x64 : Shape := ⟨2, ![2048, 64]⟩
abbrev S2x2048x64 : Shape := ⟨3, ![2, 2048, 64]⟩
abbrev S8x128x256 : Shape := ⟨3, ![8, 128, 256]⟩
abbrev S8x256x256 : Shape := ⟨3, ![8, 256, 256]⟩
abbrev S8x256x2048 : Shape := ⟨3, ![8, 256, 2048]⟩
abbrev S2x64x1024 : Shape := ⟨3, ![2, 64, 1024]⟩
abbrev S1x2048x64 : Shape := ⟨3, ![1, 2048, 64]⟩
abbrev S256x128 : Shape := ⟨2, ![256, 128]⟩
abbrev S128x256 : Shape := ⟨2, ![128, 256]⟩
abbrev S1x128x256 : Shape := ⟨3, ![1, 128, 256]⟩
abbrev S256x256 : Shape := ⟨2, ![256, 256]⟩
abbrev S512x256 : Shape := ⟨2, ![512, 256]⟩
abbrev S64x256 : Shape := ⟨2, ![64, 256]⟩
abbrev S64x2048 : Shape := ⟨2, ![64, 2048]⟩
abbrev S8x256 : Shape := ⟨2, ![8, 256]⟩
abbrev S1x256 : Shape := ⟨2, ![1, 256]⟩
abbrev S1x2048 : Shape := ⟨2, ![1, 2048]⟩
abbrev S256x64 : Shape := ⟨2, ![256, 64]⟩
abbrev S256x2048 : Shape := ⟨2, ![256, 2048]⟩
abbrev S1x256x256 : Shape := ⟨3, ![1, 256, 256]⟩
abbrev S16x256 : Shape := ⟨2, ![16, 256]⟩
abbrev S16x16x256 : Shape := ⟨3, ![16, 16, 256]⟩
abbrev S8x16x256 : Shape := ⟨3, ![8, 16, 256]⟩
abbrev S4x16x256 : Shape := ⟨3, ![4, 16, 256]⟩
abbrev S2x16x256 : Shape := ⟨3, ![2, 16, 256]⟩
abbrev S1x16x256 : Shape := ⟨3, ![1, 16, 256]⟩
abbrev S256 : Shape := ⟨1, ![256]⟩
abbrev S8x2048 : Shape := ⟨2, ![8, 2048]⟩
abbrev S256x1024 : Shape := ⟨2, ![256, 1024]⟩
abbrev S1x256x64 : Shape := ⟨3, ![1, 256, 64]⟩
abbrev S64x1024 : Shape := ⟨2, ![64, 1024]⟩
abbrev S1x256x1024 : Shape := ⟨3, ![1, 256, 1024]⟩
abbrev S32x8x1024 : Shape := ⟨3, ![32, 8, 1024]⟩
abbrev S16x8x1024 : Shape := ⟨3, ![16, 8, 1024]⟩
abbrev S8x8x1024 : Shape := ⟨3, ![8, 8, 1024]⟩
abbrev S4x8x1024 : Shape := ⟨3, ![4, 8, 1024]⟩
abbrev S2x8x1024 : Shape := ⟨3, ![2, 8, 1024]⟩
abbrev S1x8x1024 : Shape := ⟨3, ![1, 8, 1024]⟩
abbrev S8x1024 : Shape := ⟨2, ![8, 1024]⟩
abbrev S2048 : Shape := ⟨1, ![2048]⟩
abbrev S1x256x2048 : Shape := ⟨3, ![1, 256, 2048]⟩
abbrev S1x64x256 : Shape := ⟨3, ![1, 64, 256]⟩
abbrev S1x64x1024 : Shape := ⟨3, ![1, 64, 1024]⟩
abbrev S32x8x2048 : Shape := ⟨3, ![32, 8, 2048]⟩
abbrev S16x8x2048 : Shape := ⟨3, ![16, 8, 2048]⟩
abbrev S8x8x2048 : Shape := ⟨3, ![8, 8, 2048]⟩
abbrev S4x8x2048 : Shape := ⟨3, ![4, 8, 2048]⟩
abbrev S2x8x2048 : Shape := ⟨3, ![2, 8, 2048]⟩
abbrev S1x8x2048 : Shape := ⟨3, ![1, 8, 2048]⟩

abbrev nBuf : Space → Nat
  | .hbm => 8
  | .vmem => 24
  | .smem => 0
  | _ => 0

abbrev bufTy : (tb : Table) → Fin (tcTables nBuf tb) → BufTy
  | .hbm, ⟨0, _⟩ => ⟨S128x512x256, .bf16⟩
  | .hbm, ⟨1, _⟩ => ⟨S128x512x256, .f32⟩
  | .hbm, ⟨2, _⟩ => ⟨S128x8x256, .f32⟩
  | .hbm, ⟨3, _⟩ => ⟨S128x512x256, .bf16⟩
  | .hbm, ⟨4, _⟩ => ⟨S32768x128, .f32⟩
  | .hbm, ⟨5, _⟩ => ⟨S32768x128, .f32⟩
  | .hbm, ⟨6, _⟩ => ⟨S32768x64, .f32⟩
  | .hbm, ⟨7, _⟩ => ⟨S128x512x256, .bf16⟩
  | .local _ .vmem, ⟨0, _⟩ => ⟨S1x512x256, .bf16⟩
  | .local _ .vmem, ⟨1, _⟩ => ⟨S1x512x256, .bf16⟩
  | .local _ .vmem, ⟨2, _⟩ => ⟨S1x512x256, .f32⟩
  | .local _ .vmem, ⟨3, _⟩ => ⟨S1x512x256, .f32⟩
  | .local _ .vmem, ⟨4, _⟩ => ⟨S1x8x256, .f32⟩
  | .local _ .vmem, ⟨5, _⟩ => ⟨S1x8x256, .f32⟩
  | .local _ .vmem, ⟨6, _⟩ => ⟨S1x512x256, .bf16⟩
  | .local _ .vmem, ⟨7, _⟩ => ⟨S1x512x256, .bf16⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x64, .f32⟩
  | .local _ .vmem, ⟨13, _⟩ => ⟨S2048x64, .f32⟩
  | .local _ .vmem, ⟨14, _⟩ => ⟨S1x512x256, .bf16⟩
  | .local _ .vmem, ⟨15, _⟩ => ⟨S1x512x256, .bf16⟩
  | .local _ .vmem, ⟨16, _⟩ => ⟨S2x2048x64, .bf16⟩
  | .local _ .vmem, ⟨17, _⟩ => ⟨S8x128x256, .bf16⟩
  | .local _ .vmem, ⟨18, _⟩ => ⟨S2048x64, .f32⟩
  | .local _ .vmem, ⟨19, _⟩ => ⟨S8x256x256, .i32⟩
  | .local _ .vmem, ⟨20, _⟩ => ⟨S8x256x256, .bf16⟩
  | .local _ .vmem, ⟨21, _⟩ => ⟨S8x256x256, .bf16⟩
  | .local _ .vmem, ⟨22, _⟩ => ⟨S8x256x2048, .f32⟩
  | .local _ .vmem, ⟨23, _⟩ => ⟨S2x64x1024, .f32⟩
  | _, _ => ⟨S128x512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [BitOps F]

abbrev grid0 : Pipeline.Grid := ⟨2, ![16, 8], ![false, false]⟩

@[reducible] def k0_t1_loop (i : grid0.Coords) : Scf.Loop 32 :=
  let c0_i32_12 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_10 : BitVec 32 := 1#32
  let v38 : BitVec 32 := Scalar.shrui v7 c1_i32_10
  let v39 : BitVec 32 := Scalar.subi v38 c0_i32_12
  let c1_i32_13 : BitVec 32 := 1#32
  let v41 : BitVec 32 := Scalar.divsi v39 c1_i32_13
  let v42 : BitVec 32 := Scalar.muli v41 c1_i32_13
  let v43 : BitVec 32 := Scalar.addi c0_i32_12 v42
  let c1_i32_14 : BitVec 32 := 1#32
  ⟨c0_i32_12, v43, c1_i32_14⟩
def k0_mult1 (i : grid0.Coords) (k0_t1 : Fin (k0_t1_loop i).trips) : BitVec 32 :=
  let c2_i32_175 : BitVec 32 := 2#32
  let c0_i32_12 : BitVec 32 := 0#32
  let c1_i32_14 : BitVec 32 := 1#32
  let arg18 : BitVec 32 := Scf.iv c0_i32_12 c1_i32_14 k0_t1
  let v322 : BitVec 32 := Scalar.muli c2_i32_175 arg18
  let c256_i32_176 : BitVec 32 := 256#32
  let v323 : BitVec 32 := Scalar.muli v322 c256_i32_176
  v323
def k0_off1 (i : grid0.Coords) (k0_t1 : Fin (k0_t1_loop i).trips) : Fin 2 → Nat :=
  let c2_i32_175 : BitVec 32 := 2#32
  let c0_i32_12 : BitVec 32 := 0#32
  let c1_i32_14 : BitVec 32 := 1#32
  let arg18 : BitVec 32 := Scf.iv c0_i32_12 c1_i32_14 k0_t1
  let v322 : BitVec 32 := Scalar.muli c2_i32_175 arg18
  let c256_i32_176 : BitVec 32 := 256#32
  let v323 : BitVec 32 := Scalar.muli v322 c256_i32_176
  let v324 : BitVec 32 := v323
  let v325 : Index := Scalar.indexCast v324
  let c0_177 : Index := 0#32
  ![v325.toNat, 0]
def k0_off2 (i : grid0.Coords) (k0_t1 : Fin (k0_t1_loop i).trips) : Fin 3 → Nat :=
  let c2_i32_175 : BitVec 32 := 2#32
  let c0_i32_12 : BitVec 32 := 0#32
  let c1_i32_14 : BitVec 32 := 1#32
  let arg18 : BitVec 32 := Scf.iv c0_i32_12 c1_i32_14 k0_t1
  let v322 : BitVec 32 := Scalar.muli c2_i32_175 arg18
  let v367 : Index := Scalar.indexCast v322
  let c0_185 : Index := 0#32
  let c0_186 : Index := 0#32
  ![v367.toNat, 0, 0]
def k0_mult2 (i : grid0.Coords) (k0_t1 : Fin (k0_t1_loop i).trips) : BitVec 32 :=
  let c2_i32 : BitVec 32 := 2#32
  let c0_i32_12 : BitVec 32 := 0#32
  let c1_i32_14 : BitVec 32 := 1#32
  let arg18 : BitVec 32 := Scf.iv c0_i32_12 c1_i32_14 k0_t1
  let v320 : BitVec 32 := Scalar.muli c2_i32 arg18
  let c1_i32_174 : BitVec 32 := 1#32
  let v321 : BitVec 32 := Scalar.addi v320 c1_i32_174
  let c256_i32_189 : BitVec 32 := 256#32
  let v379 : BitVec 32 := Scalar.muli v321 c256_i32_189
  v379
def k0_off3 (i : grid0.Coords) (k0_t1 : Fin (k0_t1_loop i).trips) : Fin 2 → Nat :=
  let c2_i32 : BitVec 32 := 2#32
  let c0_i32_12 : BitVec 32 := 0#32
  let c1_i32_14 : BitVec 32 := 1#32
  let arg18 : BitVec 32 := Scf.iv c0_i32_12 c1_i32_14 k0_t1
  let v320 : BitVec 32 := Scalar.muli c2_i32 arg18
  let c1_i32_174 : BitVec 32 := 1#32
  let v321 : BitVec 32 := Scalar.addi v320 c1_i32_174
  let c256_i32_189 : BitVec 32 := 256#32
  let v379 : BitVec 32 := Scalar.muli v321 c256_i32_189
  let v380 : BitVec 32 := v379
  let v381 : Index := Scalar.indexCast v380
  let c0_190 : Index := 0#32
  ![v381.toNat, 0]
def k0_off4 (i : grid0.Coords) (k0_t1 : Fin (k0_t1_loop i).trips) : Fin 3 → Nat :=
  let c2_i32 : BitVec 32 := 2#32
  let c0_i32_12 : BitVec 32 := 0#32
  let c1_i32_14 : BitVec 32 := 1#32
  let arg18 : BitVec 32 := Scf.iv c0_i32_12 c1_i32_14 k0_t1
  let v320 : BitVec 32 := Scalar.muli c2_i32 arg18
  let c1_i32_174 : BitVec 32 := 1#32
  let v321 : BitVec 32 := Scalar.addi v320 c1_i32_174
  let v423 : Index := Scalar.indexCast v321
  let c0_201 : Index := 0#32
  let c0_202 : Index := 0#32
  ![v423.toNat, 0, 0]
@[reducible] def k0_t2_loop (i : grid0.Coords) : Scf.Loop 32 :=
  let c0_i32_12 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_10 : BitVec 32 := 1#32
  let v38 : BitVec 32 := Scalar.shrui v7 c1_i32_10
  let v39 : BitVec 32 := Scalar.subi v38 c0_i32_12
  let c1_i32_13 : BitVec 32 := 1#32
  let v41 : BitVec 32 := Scalar.divsi v39 c1_i32_13
  let v42 : BitVec 32 := Scalar.muli v41 c1_i32_13
  let v43 : BitVec 32 := Scalar.addi c0_i32_12 v42
  let v40 : BitVec 32 := Scalar.addi c0_i32_12 v39
  let c1_i32_15 : BitVec 32 := 1#32
  ⟨v43, v40, c1_i32_15⟩
def k0_mult3 (i : grid0.Coords) (k0_t2 : Fin (k0_t2_loop i).trips) : BitVec 32 :=
  let c2_i32_175 : BitVec 32 := 2#32
  let c0_i32_12 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_10 : BitVec 32 := 1#32
  let v38 : BitVec 32 := Scalar.shrui v7 c1_i32_10
  let v39 : BitVec 32 := Scalar.subi v38 c0_i32_12
  let c1_i32_13 : BitVec 32 := 1#32
  let v41 : BitVec 32 := Scalar.divsi v39 c1_i32_13
  let v42 : BitVec 32 := Scalar.muli v41 c1_i32_13
  let v43 : BitVec 32 := Scalar.addi c0_i32_12 v42
  let c1_i32_15 : BitVec 32 := 1#32
  let arg18 : BitVec 32 := Scf.iv v43 c1_i32_15 k0_t2
  let v322 : BitVec 32 := Scalar.muli c2_i32_175 arg18
  let c256_i32_176 : BitVec 32 := 256#32
  let v323 : BitVec 32 := Scalar.muli v322 c256_i32_176
  v323
def k0_off5 (i : grid0.Coords) (k0_t2 : Fin (k0_t2_loop i).trips) : Fin 2 → Nat :=
  let c2_i32_175 : BitVec 32 := 2#32
  let c0_i32_12 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_10 : BitVec 32 := 1#32
  let v38 : BitVec 32 := Scalar.shrui v7 c1_i32_10
  let v39 : BitVec 32 := Scalar.subi v38 c0_i32_12
  let c1_i32_13 : BitVec 32 := 1#32
  let v41 : BitVec 32 := Scalar.divsi v39 c1_i32_13
  let v42 : BitVec 32 := Scalar.muli v41 c1_i32_13
  let v43 : BitVec 32 := Scalar.addi c0_i32_12 v42
  let c1_i32_15 : BitVec 32 := 1#32
  let arg18 : BitVec 32 := Scf.iv v43 c1_i32_15 k0_t2
  let v322 : BitVec 32 := Scalar.muli c2_i32_175 arg18
  let c256_i32_176 : BitVec 32 := 256#32
  let v323 : BitVec 32 := Scalar.muli v322 c256_i32_176
  let v324 : BitVec 32 := v323
  let v325 : Index := Scalar.indexCast v324
  let c0_177 : Index := 0#32
  ![v325.toNat, 0]
def k0_off6 (i : grid0.Coords) (k0_t2 : Fin (k0_t2_loop i).trips) : Fin 3 → Nat :=
  let c2_i32_175 : BitVec 32 := 2#32
  let c0_i32_12 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_10 : BitVec 32 := 1#32
  let v38 : BitVec 32 := Scalar.shrui v7 c1_i32_10
  let v39 : BitVec 32 := Scalar.subi v38 c0_i32_12
  let c1_i32_13 : BitVec 32 := 1#32
  let v41 : BitVec 32 := Scalar.divsi v39 c1_i32_13
  let v42 : BitVec 32 := Scalar.muli v41 c1_i32_13
  let v43 : BitVec 32 := Scalar.addi c0_i32_12 v42
  let c1_i32_15 : BitVec 32 := 1#32
  let arg18 : BitVec 32 := Scf.iv v43 c1_i32_15 k0_t2
  let v322 : BitVec 32 := Scalar.muli c2_i32_175 arg18
  let v367 : Index := Scalar.indexCast v322
  let c0_185 : Index := 0#32
  let c0_186 : Index := 0#32
  ![v367.toNat, 0, 0]
def k0_mult4 (i : grid0.Coords) (k0_t2 : Fin (k0_t2_loop i).trips) : BitVec 32 :=
  let c2_i32 : BitVec 32 := 2#32
  let c0_i32_12 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_10 : BitVec 32 := 1#32
  let v38 : BitVec 32 := Scalar.shrui v7 c1_i32_10
  let v39 : BitVec 32 := Scalar.subi v38 c0_i32_12
  let c1_i32_13 : BitVec 32 := 1#32
  let v41 : BitVec 32 := Scalar.divsi v39 c1_i32_13
  let v42 : BitVec 32 := Scalar.muli v41 c1_i32_13
  let v43 : BitVec 32 := Scalar.addi c0_i32_12 v42
  let c1_i32_15 : BitVec 32 := 1#32
  let arg18 : BitVec 32 := Scf.iv v43 c1_i32_15 k0_t2
  let v320 : BitVec 32 := Scalar.muli c2_i32 arg18
  let c1_i32_174 : BitVec 32 := 1#32
  let v321 : BitVec 32 := Scalar.addi v320 c1_i32_174
  let c256_i32_189 : BitVec 32 := 256#32
  let v379 : BitVec 32 := Scalar.muli v321 c256_i32_189
  v379
def k0_off7 (i : grid0.Coords) (k0_t2 : Fin (k0_t2_loop i).trips) : Fin 2 → Nat :=
  let c2_i32 : BitVec 32 := 2#32
  let c0_i32_12 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_10 : BitVec 32 := 1#32
  let v38 : BitVec 32 := Scalar.shrui v7 c1_i32_10
  let v39 : BitVec 32 := Scalar.subi v38 c0_i32_12
  let c1_i32_13 : BitVec 32 := 1#32
  let v41 : BitVec 32 := Scalar.divsi v39 c1_i32_13
  let v42 : BitVec 32 := Scalar.muli v41 c1_i32_13
  let v43 : BitVec 32 := Scalar.addi c0_i32_12 v42
  let c1_i32_15 : BitVec 32 := 1#32
  let arg18 : BitVec 32 := Scf.iv v43 c1_i32_15 k0_t2
  let v320 : BitVec 32 := Scalar.muli c2_i32 arg18
  let c1_i32_174 : BitVec 32 := 1#32
  let v321 : BitVec 32 := Scalar.addi v320 c1_i32_174
  let c256_i32_189 : BitVec 32 := 256#32
  let v379 : BitVec 32 := Scalar.muli v321 c256_i32_189
  let v380 : BitVec 32 := v379
  let v381 : Index := Scalar.indexCast v380
  let c0_190 : Index := 0#32
  ![v381.toNat, 0]
def k0_off8 (i : grid0.Coords) (k0_t2 : Fin (k0_t2_loop i).trips) : Fin 3 → Nat :=
  let c2_i32 : BitVec 32 := 2#32
  let c0_i32_12 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_10 : BitVec 32 := 1#32
  let v38 : BitVec 32 := Scalar.shrui v7 c1_i32_10
  let v39 : BitVec 32 := Scalar.subi v38 c0_i32_12
  let c1_i32_13 : BitVec 32 := 1#32
  let v41 : BitVec 32 := Scalar.divsi v39 c1_i32_13
  let v42 : BitVec 32 := Scalar.muli v41 c1_i32_13
  let v43 : BitVec 32 := Scalar.addi c0_i32_12 v42
  let c1_i32_15 : BitVec 32 := 1#32
  let arg18 : BitVec 32 := Scf.iv v43 c1_i32_15 k0_t2
  let v320 : BitVec 32 := Scalar.muli c2_i32 arg18
  let c1_i32_174 : BitVec 32 := 1#32
  let v321 : BitVec 32 := Scalar.addi v320 c1_i32_174
  let v423 : Index := Scalar.indexCast v321
  let c0_201 : Index := 0#32
  let c0_202 : Index := 0#32
  ![v423.toNat, 0, 0]
def k0_cond2 (i : grid0.Coords) : BitVec 1 :=
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_16 : BitVec 32 := 1#32
  let v44 : BitVec 32 := Scalar.andi v7 c1_i32_16
  let c1_i32_17 : BitVec 32 := 1#32
  let v45 : BitVec 1 := Scalar.cmpi .eq v44 c1_i32_17
  let v46 : BitVec 32 := Scalar.extui v45
  let c0_i32_18 : BitVec 32 := 0#32
  let v47 : BitVec 1 := Scalar.cmpi .ne v46 c0_i32_18
  v47

def k0_mult5 (i : grid0.Coords) : BitVec 32 :=
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_174 : BitVec 32 := 1#32
  let v320 : BitVec 32 := Scalar.subi v7 c1_i32_174
  let c256_i32_175 : BitVec 32 := 256#32
  let v321 : BitVec 32 := Scalar.muli v320 c256_i32_175
  v321
def k0_off9 (i : grid0.Coords) : Fin 2 → Nat :=
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_174 : BitVec 32 := 1#32
  let v320 : BitVec 32 := Scalar.subi v7 c1_i32_174
  let c256_i32_175 : BitVec 32 := 256#32
  let v321 : BitVec 32 := Scalar.muli v320 c256_i32_175
  let v322 : BitVec 32 := v321
  let v323 : Index := Scalar.indexCast v322
  let c0_176 : Index := 0#32
  ![v323.toNat, 0]
def k0_off10 (i : grid0.Coords) : Fin 3 → Nat :=
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_174 : BitVec 32 := 1#32
  let v320 : BitVec 32 := Scalar.subi v7 c1_i32_174
  let v365 : Index := Scalar.indexCast v320
  let c0_184 : Index := 0#32
  let c0_185 : Index := 0#32
  ![v365.toNat, 0, 0]
@[reducible] def k0_t3_loop (i : grid0.Coords) : Scf.Loop 32 :=
  let c0_i32_25 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_24 : BitVec 32 := 1#32
  let v65 : BitVec 32 := Scalar.shrui v7 c1_i32_24
  let v66 : BitVec 32 := Scalar.subi v65 c0_i32_25
  let c1_i32_26 : BitVec 32 := 1#32
  let v68 : BitVec 32 := Scalar.divsi v66 c1_i32_26
  let v69 : BitVec 32 := Scalar.muli v68 c1_i32_26
  let v70 : BitVec 32 := Scalar.addi c0_i32_25 v69
  let c1_i32_27 : BitVec 32 := 1#32
  ⟨c0_i32_25, v70, c1_i32_27⟩
def k0_off11 (i : grid0.Coords) (k0_t3 : Fin (k0_t3_loop i).trips) : Fin 3 → Nat :=
  let c2_i32_175 : BitVec 32 := 2#32
  let c0_i32_25 : BitVec 32 := 0#32
  let c1_i32_27 : BitVec 32 := 1#32
  let arg18 : BitVec 32 := Scf.iv c0_i32_25 c1_i32_27 k0_t3
  let v322 : BitVec 32 := Scalar.muli c2_i32_175 arg18
  let v323 : Index := Scalar.indexCast v322
  let c0_176 : Index := 0#32
  let c0_177 : Index := 0#32
  ![v323.toNat, 0, 0]
def k0_off12 (i : grid0.Coords) (k0_t3 : Fin (k0_t3_loop i).trips) : Fin 3 → Nat :=
  let c2_i32 : BitVec 32 := 2#32
  let c0_i32_25 : BitVec 32 := 0#32
  let c1_i32_27 : BitVec 32 := 1#32
  let arg18 : BitVec 32 := Scf.iv c0_i32_25 c1_i32_27 k0_t3
  let v320 : BitVec 32 := Scalar.muli c2_i32 arg18
  let c1_i32_174 : BitVec 32 := 1#32
  let v321 : BitVec 32 := Scalar.addi v320 c1_i32_174
  let v347 : Index := Scalar.indexCast v321
  let c0_180 : Index := 0#32
  let c0_181 : Index := 0#32
  ![v347.toNat, 0, 0]
@[reducible] def k0_t4_loop (i : grid0.Coords) : Scf.Loop 32 :=
  let c0_i32_25 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_24 : BitVec 32 := 1#32
  let v65 : BitVec 32 := Scalar.shrui v7 c1_i32_24
  let v66 : BitVec 32 := Scalar.subi v65 c0_i32_25
  let c1_i32_26 : BitVec 32 := 1#32
  let v68 : BitVec 32 := Scalar.divsi v66 c1_i32_26
  let v69 : BitVec 32 := Scalar.muli v68 c1_i32_26
  let v70 : BitVec 32 := Scalar.addi c0_i32_25 v69
  let v67 : BitVec 32 := Scalar.addi c0_i32_25 v66
  let c1_i32_28 : BitVec 32 := 1#32
  ⟨v70, v67, c1_i32_28⟩
def k0_off13 (i : grid0.Coords) (k0_t4 : Fin (k0_t4_loop i).trips) : Fin 3 → Nat :=
  let c2_i32_175 : BitVec 32 := 2#32
  let c0_i32_25 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_24 : BitVec 32 := 1#32
  let v65 : BitVec 32 := Scalar.shrui v7 c1_i32_24
  let v66 : BitVec 32 := Scalar.subi v65 c0_i32_25
  let c1_i32_26 : BitVec 32 := 1#32
  let v68 : BitVec 32 := Scalar.divsi v66 c1_i32_26
  let v69 : BitVec 32 := Scalar.muli v68 c1_i32_26
  let v70 : BitVec 32 := Scalar.addi c0_i32_25 v69
  let c1_i32_28 : BitVec 32 := 1#32
  let arg18 : BitVec 32 := Scf.iv v70 c1_i32_28 k0_t4
  let v322 : BitVec 32 := Scalar.muli c2_i32_175 arg18
  let v323 : Index := Scalar.indexCast v322
  let c0_176 : Index := 0#32
  let c0_177 : Index := 0#32
  ![v323.toNat, 0, 0]
def k0_off14 (i : grid0.Coords) (k0_t4 : Fin (k0_t4_loop i).trips) : Fin 3 → Nat :=
  let c2_i32 : BitVec 32 := 2#32
  let c0_i32_25 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_24 : BitVec 32 := 1#32
  let v65 : BitVec 32 := Scalar.shrui v7 c1_i32_24
  let v66 : BitVec 32 := Scalar.subi v65 c0_i32_25
  let c1_i32_26 : BitVec 32 := 1#32
  let v68 : BitVec 32 := Scalar.divsi v66 c1_i32_26
  let v69 : BitVec 32 := Scalar.muli v68 c1_i32_26
  let v70 : BitVec 32 := Scalar.addi c0_i32_25 v69
  let c1_i32_28 : BitVec 32 := 1#32
  let arg18 : BitVec 32 := Scf.iv v70 c1_i32_28 k0_t4
  let v320 : BitVec 32 := Scalar.muli c2_i32 arg18
  let c1_i32_174 : BitVec 32 := 1#32
  let v321 : BitVec 32 := Scalar.addi v320 c1_i32_174
  let v347 : Index := Scalar.indexCast v321
  let c0_180 : Index := 0#32
  let c0_181 : Index := 0#32
  ![v347.toNat, 0, 0]
def k0_cond3 (i : grid0.Coords) : BitVec 1 :=
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_29 : BitVec 32 := 1#32
  let v73 : BitVec 32 := Scalar.andi v7 c1_i32_29
  let c1_i32_30 : BitVec 32 := 1#32
  let v74 : BitVec 1 := Scalar.cmpi .eq v73 c1_i32_30
  let v75 : BitVec 32 := Scalar.extui v74
  let c0_i32_31 : BitVec 32 := 0#32
  let v76 : BitVec 1 := Scalar.cmpi .ne v75 c0_i32_31
  v76

def k0_off15 (i : grid0.Coords) : Fin 3 → Nat :=
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_174 : BitVec 32 := 1#32
  let v320 : BitVec 32 := Scalar.subi v7 c1_i32_174
  let v321 : Index := Scalar.indexCast v320
  let c0_175 : Index := 0#32
  let c0_176 : Index := 0#32
  ![v321.toNat, 0, 0]
@[reducible] def k0_t5_loop (i : grid0.Coords) : Scf.Loop 32 :=
  let c0_i32_39 : BitVec 32 := 0#32
  let c0_i32_21 : BitVec 32 := 0#32
  let arg1 : BitVec 32 := BitVec.ofNat 32 (i 1).val
  let c1_i32_19 : BitVec 32 := 1#32
  let v48 : BitVec 32 := Scalar.addi arg1 c1_i32_19
  let c256_i32_20 : BitVec 32 := 256#32
  let v49 : BitVec 32 := Scalar.muli v48 c256_i32_20
  let v50 : BitVec 32 := Scalar.addi c0_i32_21 v49
  let c256_i32_22 : BitVec 32 := 256#32
  let v51 : BitVec 1 := Scalar.cmpi .sgt v50 c256_i32_22
  let c15_i32_37 : BitVec 32 := 15#32
  let c0_i32_38 : BitVec 32 := 0#32
  let v89 : BitVec 32 := Scalar.select v51 c15_i32_37 c0_i32_38
  let v90 : BitVec 32 := Scalar.subi v89 c0_i32_39
  let c1_i32_40 : BitVec 32 := 1#32
  let v92 : BitVec 32 := Scalar.divsi v90 c1_i32_40
  let v93 : BitVec 32 := Scalar.muli v92 c1_i32_40
  let v94 : BitVec 32 := Scalar.addi c0_i32_39 v93
  let c1_i32_41 : BitVec 32 := 1#32
  ⟨c0_i32_39, v94, c1_i32_41⟩
@[reducible] def k0_t6_loop (i : grid0.Coords) : Scf.Loop 32 :=
  let c0_i32_181 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_180 : BitVec 32 := 1#32
  let v336 : BitVec 32 := Scalar.shrui v7 c1_i32_180
  let v337 : BitVec 32 := Scalar.subi v336 c0_i32_181
  let c1_i32_182 : BitVec 32 := 1#32
  let v339 : BitVec 32 := Scalar.divsi v337 c1_i32_182
  let v340 : BitVec 32 := Scalar.muli v339 c1_i32_182
  let v341 : BitVec 32 := Scalar.addi c0_i32_181 v340
  let c1_i32_183 : BitVec 32 := 1#32
  ⟨c0_i32_181, v341, c1_i32_183⟩
def k0_off16 (i : grid0.Coords) (k0_t6 : Fin (k0_t6_loop i).trips) : Fin 3 → Nat :=
  let c2_i32_192 : BitVec 32 := 2#32
  let c0_i32_181 : BitVec 32 := 0#32
  let c1_i32_183 : BitVec 32 := 1#32
  let arg21 : BitVec 32 := Scf.iv c0_i32_181 c1_i32_183 k0_t6
  let v359 : BitVec 32 := Scalar.muli c2_i32_192 arg21
  let v360 : Index := Scalar.indexCast v359
  let c0_193 : Index := 0#32
  let c0_194 : Index := 0#32
  ![v360.toNat, 0, 0]
def k0_off17 (i : grid0.Coords) (k0_t6 : Fin (k0_t6_loop i).trips) : Fin 3 → Nat :=
  let c2_i32 : BitVec 32 := 2#32
  let c0_i32_181 : BitVec 32 := 0#32
  let c1_i32_183 : BitVec 32 := 1#32
  let arg21 : BitVec 32 := Scf.iv c0_i32_181 c1_i32_183 k0_t6
  let v357 : BitVec 32 := Scalar.muli c2_i32 arg21
  let c1_i32_191 : BitVec 32 := 1#32
  let v358 : BitVec 32 := Scalar.addi v357 c1_i32_191
  let v384 : Index := Scalar.indexCast v358
  let c0_197 : Index := 0#32
  let c0_198 : Index := 0#32
  ![v384.toNat, 0, 0]
@[reducible] def k0_t7_loop (i : grid0.Coords) : Scf.Loop 32 :=
  let c0_i32_181 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_180 : BitVec 32 := 1#32
  let v336 : BitVec 32 := Scalar.shrui v7 c1_i32_180
  let v337 : BitVec 32 := Scalar.subi v336 c0_i32_181
  let c1_i32_182 : BitVec 32 := 1#32
  let v339 : BitVec 32 := Scalar.divsi v337 c1_i32_182
  let v340 : BitVec 32 := Scalar.muli v339 c1_i32_182
  let v341 : BitVec 32 := Scalar.addi c0_i32_181 v340
  let v338 : BitVec 32 := Scalar.addi c0_i32_181 v337
  let c1_i32_184 : BitVec 32 := 1#32
  ⟨v341, v338, c1_i32_184⟩
def k0_off18 (i : grid0.Coords) (k0_t7 : Fin (k0_t7_loop i).trips) : Fin 3 → Nat :=
  let c2_i32_192 : BitVec 32 := 2#32
  let c0_i32_181 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_180 : BitVec 32 := 1#32
  let v336 : BitVec 32 := Scalar.shrui v7 c1_i32_180
  let v337 : BitVec 32 := Scalar.subi v336 c0_i32_181
  let c1_i32_182 : BitVec 32 := 1#32
  let v339 : BitVec 32 := Scalar.divsi v337 c1_i32_182
  let v340 : BitVec 32 := Scalar.muli v339 c1_i32_182
  let v341 : BitVec 32 := Scalar.addi c0_i32_181 v340
  let c1_i32_184 : BitVec 32 := 1#32
  let arg21 : BitVec 32 := Scf.iv v341 c1_i32_184 k0_t7
  let v359 : BitVec 32 := Scalar.muli c2_i32_192 arg21
  let v360 : Index := Scalar.indexCast v359
  let c0_193 : Index := 0#32
  let c0_194 : Index := 0#32
  ![v360.toNat, 0, 0]
def k0_off19 (i : grid0.Coords) (k0_t7 : Fin (k0_t7_loop i).trips) : Fin 3 → Nat :=
  let c2_i32 : BitVec 32 := 2#32
  let c0_i32_181 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_180 : BitVec 32 := 1#32
  let v336 : BitVec 32 := Scalar.shrui v7 c1_i32_180
  let v337 : BitVec 32 := Scalar.subi v336 c0_i32_181
  let c1_i32_182 : BitVec 32 := 1#32
  let v339 : BitVec 32 := Scalar.divsi v337 c1_i32_182
  let v340 : BitVec 32 := Scalar.muli v339 c1_i32_182
  let v341 : BitVec 32 := Scalar.addi c0_i32_181 v340
  let c1_i32_184 : BitVec 32 := 1#32
  let arg21 : BitVec 32 := Scf.iv v341 c1_i32_184 k0_t7
  let v357 : BitVec 32 := Scalar.muli c2_i32 arg21
  let c1_i32_191 : BitVec 32 := 1#32
  let v358 : BitVec 32 := Scalar.addi v357 c1_i32_191
  let v384 : Index := Scalar.indexCast v358
  let c0_197 : Index := 0#32
  let c0_198 : Index := 0#32
  ![v384.toNat, 0, 0]
def k0_cond4 (i : grid0.Coords) : BitVec 1 :=
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_185 : BitVec 32 := 1#32
  let v344 : BitVec 32 := Scalar.andi v7 c1_i32_185
  let c1_i32_186 : BitVec 32 := 1#32
  let v345 : BitVec 1 := Scalar.cmpi .eq v344 c1_i32_186
  let v346 : BitVec 32 := Scalar.extui v345
  let c0_i32_187 : BitVec 32 := 0#32
  let v347 : BitVec 1 := Scalar.cmpi .ne v346 c0_i32_187
  v347

def k0_off20 (i : grid0.Coords) : Fin 3 → Nat :=
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_191 : BitVec 32 := 1#32
  let v357 : BitVec 32 := Scalar.subi v7 c1_i32_191
  let v358 : Index := Scalar.indexCast v357
  let c0_192 : Index := 0#32
  let c0_193 : Index := 0#32
  ![v358.toNat, 0, 0]
@[reducible] def k0_t8_loop (i : grid0.Coords) : Scf.Loop 32 :=
  let c0_i32_39 : BitVec 32 := 0#32
  let c0_i32_21 : BitVec 32 := 0#32
  let arg1 : BitVec 32 := BitVec.ofNat 32 (i 1).val
  let c1_i32_19 : BitVec 32 := 1#32
  let v48 : BitVec 32 := Scalar.addi arg1 c1_i32_19
  let c256_i32_20 : BitVec 32 := 256#32
  let v49 : BitVec 32 := Scalar.muli v48 c256_i32_20
  let v50 : BitVec 32 := Scalar.addi c0_i32_21 v49
  let c256_i32_22 : BitVec 32 := 256#32
  let v51 : BitVec 1 := Scalar.cmpi .sgt v50 c256_i32_22
  let c15_i32_37 : BitVec 32 := 15#32
  let c0_i32_38 : BitVec 32 := 0#32
  let v89 : BitVec 32 := Scalar.select v51 c15_i32_37 c0_i32_38
  let v90 : BitVec 32 := Scalar.subi v89 c0_i32_39
  let c1_i32_40 : BitVec 32 := 1#32
  let v92 : BitVec 32 := Scalar.divsi v90 c1_i32_40
  let v93 : BitVec 32 := Scalar.muli v92 c1_i32_40
  let v94 : BitVec 32 := Scalar.addi c0_i32_39 v93
  let v91 : BitVec 32 := Scalar.addi c0_i32_39 v90
  let c1_i32_42 : BitVec 32 := 1#32
  ⟨v94, v91, c1_i32_42⟩
@[reducible] def k0_t9_loop (i : grid0.Coords) : Scf.Loop 32 :=
  let c0_i32_181 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_180 : BitVec 32 := 1#32
  let v336 : BitVec 32 := Scalar.shrui v7 c1_i32_180
  let v337 : BitVec 32 := Scalar.subi v336 c0_i32_181
  let c1_i32_182 : BitVec 32 := 1#32
  let v339 : BitVec 32 := Scalar.divsi v337 c1_i32_182
  let v340 : BitVec 32 := Scalar.muli v339 c1_i32_182
  let v341 : BitVec 32 := Scalar.addi c0_i32_181 v340
  let c1_i32_183 : BitVec 32 := 1#32
  ⟨c0_i32_181, v341, c1_i32_183⟩
def k0_off21 (i : grid0.Coords) (k0_t9 : Fin (k0_t9_loop i).trips) : Fin 3 → Nat :=
  let c2_i32_192 : BitVec 32 := 2#32
  let c0_i32_181 : BitVec 32 := 0#32
  let c1_i32_183 : BitVec 32 := 1#32
  let arg21 : BitVec 32 := Scf.iv c0_i32_181 c1_i32_183 k0_t9
  let v359 : BitVec 32 := Scalar.muli c2_i32_192 arg21
  let v360 : Index := Scalar.indexCast v359
  let c0_193 : Index := 0#32
  let c0_194 : Index := 0#32
  ![v360.toNat, 0, 0]
def k0_off22 (i : grid0.Coords) (k0_t9 : Fin (k0_t9_loop i).trips) : Fin 3 → Nat :=
  let c2_i32 : BitVec 32 := 2#32
  let c0_i32_181 : BitVec 32 := 0#32
  let c1_i32_183 : BitVec 32 := 1#32
  let arg21 : BitVec 32 := Scf.iv c0_i32_181 c1_i32_183 k0_t9
  let v357 : BitVec 32 := Scalar.muli c2_i32 arg21
  let c1_i32_191 : BitVec 32 := 1#32
  let v358 : BitVec 32 := Scalar.addi v357 c1_i32_191
  let v384 : Index := Scalar.indexCast v358
  let c0_197 : Index := 0#32
  let c0_198 : Index := 0#32
  ![v384.toNat, 0, 0]
@[reducible] def k0_t10_loop (i : grid0.Coords) : Scf.Loop 32 :=
  let c0_i32_181 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_180 : BitVec 32 := 1#32
  let v336 : BitVec 32 := Scalar.shrui v7 c1_i32_180
  let v337 : BitVec 32 := Scalar.subi v336 c0_i32_181
  let c1_i32_182 : BitVec 32 := 1#32
  let v339 : BitVec 32 := Scalar.divsi v337 c1_i32_182
  let v340 : BitVec 32 := Scalar.muli v339 c1_i32_182
  let v341 : BitVec 32 := Scalar.addi c0_i32_181 v340
  let v338 : BitVec 32 := Scalar.addi c0_i32_181 v337
  let c1_i32_184 : BitVec 32 := 1#32
  ⟨v341, v338, c1_i32_184⟩
def k0_off23 (i : grid0.Coords) (k0_t10 : Fin (k0_t10_loop i).trips) : Fin 3 → Nat :=
  let c2_i32_192 : BitVec 32 := 2#32
  let c0_i32_181 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_180 : BitVec 32 := 1#32
  let v336 : BitVec 32 := Scalar.shrui v7 c1_i32_180
  let v337 : BitVec 32 := Scalar.subi v336 c0_i32_181
  let c1_i32_182 : BitVec 32 := 1#32
  let v339 : BitVec 32 := Scalar.divsi v337 c1_i32_182
  let v340 : BitVec 32 := Scalar.muli v339 c1_i32_182
  let v341 : BitVec 32 := Scalar.addi c0_i32_181 v340
  let c1_i32_184 : BitVec 32 := 1#32
  let arg21 : BitVec 32 := Scf.iv v341 c1_i32_184 k0_t10
  let v359 : BitVec 32 := Scalar.muli c2_i32_192 arg21
  let v360 : Index := Scalar.indexCast v359
  let c0_193 : Index := 0#32
  let c0_194 : Index := 0#32
  ![v360.toNat, 0, 0]
def k0_off24 (i : grid0.Coords) (k0_t10 : Fin (k0_t10_loop i).trips) : Fin 3 → Nat :=
  let c2_i32 : BitVec 32 := 2#32
  let c0_i32_181 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_180 : BitVec 32 := 1#32
  let v336 : BitVec 32 := Scalar.shrui v7 c1_i32_180
  let v337 : BitVec 32 := Scalar.subi v336 c0_i32_181
  let c1_i32_182 : BitVec 32 := 1#32
  let v339 : BitVec 32 := Scalar.divsi v337 c1_i32_182
  let v340 : BitVec 32 := Scalar.muli v339 c1_i32_182
  let v341 : BitVec 32 := Scalar.addi c0_i32_181 v340
  let c1_i32_184 : BitVec 32 := 1#32
  let arg21 : BitVec 32 := Scf.iv v341 c1_i32_184 k0_t10
  let v357 : BitVec 32 := Scalar.muli c2_i32 arg21
  let c1_i32_191 : BitVec 32 := 1#32
  let v358 : BitVec 32 := Scalar.addi v357 c1_i32_191
  let v384 : Index := Scalar.indexCast v358
  let c0_197 : Index := 0#32
  let c0_198 : Index := 0#32
  ![v384.toNat, 0, 0]
def k0_cond5 (i : grid0.Coords) : BitVec 1 :=
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_185 : BitVec 32 := 1#32
  let v344 : BitVec 32 := Scalar.andi v7 c1_i32_185
  let c1_i32_186 : BitVec 32 := 1#32
  let v345 : BitVec 1 := Scalar.cmpi .eq v344 c1_i32_186
  let v346 : BitVec 32 := Scalar.extui v345
  let c0_i32_187 : BitVec 32 := 0#32
  let v347 : BitVec 1 := Scalar.cmpi .ne v346 c0_i32_187
  v347

def k0_off25 (i : grid0.Coords) : Fin 3 → Nat :=
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_191 : BitVec 32 := 1#32
  let v357 : BitVec 32 := Scalar.subi v7 c1_i32_191
  let v358 : Index := Scalar.indexCast v357
  let c0_192 : Index := 0#32
  let c0_193 : Index := 0#32
  ![v358.toNat, 0, 0]
@[reducible] def k0_t11_loop (i : grid0.Coords) : Scf.Loop 32 :=
  let c0_i32_49 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_47 : BitVec 32 := 1#32
  let v108 : BitVec 32 := Scalar.shrui v7 c1_i32_47
  let v109 : BitVec 32 := Scalar.subi v108 c0_i32_49
  let c1_i32_50 : BitVec 32 := 1#32
  let v111 : BitVec 32 := Scalar.divsi v109 c1_i32_50
  let v112 : BitVec 32 := Scalar.muli v111 c1_i32_50
  let v113 : BitVec 32 := Scalar.addi c0_i32_49 v112
  let c1_i32_51 : BitVec 32 := 1#32
  ⟨c0_i32_49, v113, c1_i32_51⟩
def k0_off26 (i : grid0.Coords) (k0_t11 : Fin (k0_t11_loop i).trips) : Fin 3 → Nat :=
  let c2_i32_175 : BitVec 32 := 2#32
  let c0_i32_49 : BitVec 32 := 0#32
  let c1_i32_51 : BitVec 32 := 1#32
  let arg18 : BitVec 32 := Scf.iv c0_i32_49 c1_i32_51 k0_t11
  let v322 : BitVec 32 := Scalar.muli c2_i32_175 arg18
  let v323 : Index := Scalar.indexCast v322
  let c0_176 : Index := 0#32
  let c0_177 : Index := 0#32
  ![v323.toNat, 0, 0]
def k0_off27 (i : grid0.Coords) (k0_t11 : Fin (k0_t11_loop i).trips) : Fin 3 → Nat :=
  let c2_i32 : BitVec 32 := 2#32
  let c0_i32_49 : BitVec 32 := 0#32
  let c1_i32_51 : BitVec 32 := 1#32
  let arg18 : BitVec 32 := Scf.iv c0_i32_49 c1_i32_51 k0_t11
  let v320 : BitVec 32 := Scalar.muli c2_i32 arg18
  let c1_i32_174 : BitVec 32 := 1#32
  let v321 : BitVec 32 := Scalar.addi v320 c1_i32_174
  let v343 : Index := Scalar.indexCast v321
  let c0_185 : Index := 0#32
  let c0_186 : Index := 0#32
  ![v343.toNat, 0, 0]
@[reducible] def k0_t12_loop (i : grid0.Coords) : Scf.Loop 32 :=
  let c0_i32_49 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_47 : BitVec 32 := 1#32
  let v108 : BitVec 32 := Scalar.shrui v7 c1_i32_47
  let v109 : BitVec 32 := Scalar.subi v108 c0_i32_49
  let c1_i32_50 : BitVec 32 := 1#32
  let v111 : BitVec 32 := Scalar.divsi v109 c1_i32_50
  let v112 : BitVec 32 := Scalar.muli v111 c1_i32_50
  let v113 : BitVec 32 := Scalar.addi c0_i32_49 v112
  let v110 : BitVec 32 := Scalar.addi c0_i32_49 v109
  let c1_i32_52 : BitVec 32 := 1#32
  ⟨v113, v110, c1_i32_52⟩
def k0_off28 (i : grid0.Coords) (k0_t12 : Fin (k0_t12_loop i).trips) : Fin 3 → Nat :=
  let c2_i32_175 : BitVec 32 := 2#32
  let c0_i32_49 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_47 : BitVec 32 := 1#32
  let v108 : BitVec 32 := Scalar.shrui v7 c1_i32_47
  let v109 : BitVec 32 := Scalar.subi v108 c0_i32_49
  let c1_i32_50 : BitVec 32 := 1#32
  let v111 : BitVec 32 := Scalar.divsi v109 c1_i32_50
  let v112 : BitVec 32 := Scalar.muli v111 c1_i32_50
  let v113 : BitVec 32 := Scalar.addi c0_i32_49 v112
  let c1_i32_52 : BitVec 32 := 1#32
  let arg18 : BitVec 32 := Scf.iv v113 c1_i32_52 k0_t12
  let v322 : BitVec 32 := Scalar.muli c2_i32_175 arg18
  let v323 : Index := Scalar.indexCast v322
  let c0_176 : Index := 0#32
  let c0_177 : Index := 0#32
  ![v323.toNat, 0, 0]
def k0_off29 (i : grid0.Coords) (k0_t12 : Fin (k0_t12_loop i).trips) : Fin 3 → Nat :=
  let c2_i32 : BitVec 32 := 2#32
  let c0_i32_49 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_47 : BitVec 32 := 1#32
  let v108 : BitVec 32 := Scalar.shrui v7 c1_i32_47
  let v109 : BitVec 32 := Scalar.subi v108 c0_i32_49
  let c1_i32_50 : BitVec 32 := 1#32
  let v111 : BitVec 32 := Scalar.divsi v109 c1_i32_50
  let v112 : BitVec 32 := Scalar.muli v111 c1_i32_50
  let v113 : BitVec 32 := Scalar.addi c0_i32_49 v112
  let c1_i32_52 : BitVec 32 := 1#32
  let arg18 : BitVec 32 := Scf.iv v113 c1_i32_52 k0_t12
  let v320 : BitVec 32 := Scalar.muli c2_i32 arg18
  let c1_i32_174 : BitVec 32 := 1#32
  let v321 : BitVec 32 := Scalar.addi v320 c1_i32_174
  let v343 : Index := Scalar.indexCast v321
  let c0_185 : Index := 0#32
  let c0_186 : Index := 0#32
  ![v343.toNat, 0, 0]
def k0_cond6 (i : grid0.Coords) : BitVec 1 :=
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_53 : BitVec 32 := 1#32
  let v114 : BitVec 32 := Scalar.andi v7 c1_i32_53
  let c1_i32_54 : BitVec 32 := 1#32
  let v115 : BitVec 1 := Scalar.cmpi .eq v114 c1_i32_54
  let v116 : BitVec 32 := Scalar.extui v115
  let c0_i32_55 : BitVec 32 := 0#32
  let v117 : BitVec 1 := Scalar.cmpi .ne v116 c0_i32_55
  v117

def k0_off30 (i : grid0.Coords) : Fin 3 → Nat :=
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_174 : BitVec 32 := 1#32
  let v320 : BitVec 32 := Scalar.subi v7 c1_i32_174
  let v321 : Index := Scalar.indexCast v320
  let c0_175 : Index := 0#32
  let c0_176 : Index := 0#32
  ![v321.toNat, 0, 0]
@[reducible] def k0_t13_loop (i : grid0.Coords) : Scf.Loop 32 :=
  let c0_i32_58 : BitVec 32 := 0#32
  let c0_i32_21 : BitVec 32 := 0#32
  let arg1 : BitVec 32 := BitVec.ofNat 32 (i 1).val
  let c1_i32_19 : BitVec 32 := 1#32
  let v48 : BitVec 32 := Scalar.addi arg1 c1_i32_19
  let c256_i32_20 : BitVec 32 := 256#32
  let v49 : BitVec 32 := Scalar.muli v48 c256_i32_20
  let v50 : BitVec 32 := Scalar.addi c0_i32_21 v49
  let c256_i32_22 : BitVec 32 := 256#32
  let v51 : BitVec 1 := Scalar.cmpi .sgt v50 c256_i32_22
  let c8_i32 : BitVec 32 := 8#32
  let c0_i32_56 : BitVec 32 := 0#32
  let v118 : BitVec 32 := Scalar.select v51 c8_i32 c0_i32_56
  let v120 : BitVec 32 := Scalar.subi v118 c0_i32_58
  let c1_i32_59 : BitVec 32 := 1#32
  let v122 : BitVec 32 := Scalar.divsi v120 c1_i32_59
  let v123 : BitVec 32 := Scalar.muli v122 c1_i32_59
  let v124 : BitVec 32 := Scalar.addi c0_i32_58 v123
  let c1_i32_60 : BitVec 32 := 1#32
  ⟨c0_i32_58, v124, c1_i32_60⟩
@[reducible] def k0_t14_loop (i : grid0.Coords) : Scf.Loop 32 :=
  let c0_i32_177 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_176 : BitVec 32 := 1#32
  let v327 : BitVec 32 := Scalar.shrui v7 c1_i32_176
  let v328 : BitVec 32 := Scalar.subi v327 c0_i32_177
  let c1_i32_178 : BitVec 32 := 1#32
  let v330 : BitVec 32 := Scalar.divsi v328 c1_i32_178
  let v331 : BitVec 32 := Scalar.muli v330 c1_i32_178
  let v332 : BitVec 32 := Scalar.addi c0_i32_177 v331
  let c1_i32_179 : BitVec 32 := 1#32
  ⟨c0_i32_177, v332, c1_i32_179⟩
def k0_off31 (i : grid0.Coords) (k0_t14 : Fin (k0_t14_loop i).trips) : Fin 3 → Nat :=
  let c2_i32_188 : BitVec 32 := 2#32
  let c0_i32_177 : BitVec 32 := 0#32
  let c1_i32_179 : BitVec 32 := 1#32
  let arg21 : BitVec 32 := Scf.iv c0_i32_177 c1_i32_179 k0_t14
  let v351 : BitVec 32 := Scalar.muli c2_i32_188 arg21
  let v352 : Index := Scalar.indexCast v351
  let c0_189 : Index := 0#32
  let c0_190 : Index := 0#32
  ![v352.toNat, 0, 0]
def k0_off32 (i : grid0.Coords) (k0_t14 : Fin (k0_t14_loop i).trips) : Fin 3 → Nat :=
  let c2_i32 : BitVec 32 := 2#32
  let c0_i32_177 : BitVec 32 := 0#32
  let c1_i32_179 : BitVec 32 := 1#32
  let arg21 : BitVec 32 := Scf.iv c0_i32_177 c1_i32_179 k0_t14
  let v349 : BitVec 32 := Scalar.muli c2_i32 arg21
  let c1_i32_187 : BitVec 32 := 1#32
  let v350 : BitVec 32 := Scalar.addi v349 c1_i32_187
  let v376 : Index := Scalar.indexCast v350
  let c0_193 : Index := 0#32
  let c0_194 : Index := 0#32
  ![v376.toNat, 0, 0]
@[reducible] def k0_t15_loop (i : grid0.Coords) : Scf.Loop 32 :=
  let c0_i32_177 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_176 : BitVec 32 := 1#32
  let v327 : BitVec 32 := Scalar.shrui v7 c1_i32_176
  let v328 : BitVec 32 := Scalar.subi v327 c0_i32_177
  let c1_i32_178 : BitVec 32 := 1#32
  let v330 : BitVec 32 := Scalar.divsi v328 c1_i32_178
  let v331 : BitVec 32 := Scalar.muli v330 c1_i32_178
  let v332 : BitVec 32 := Scalar.addi c0_i32_177 v331
  let v329 : BitVec 32 := Scalar.addi c0_i32_177 v328
  let c1_i32_180 : BitVec 32 := 1#32
  ⟨v332, v329, c1_i32_180⟩
def k0_off33 (i : grid0.Coords) (k0_t15 : Fin (k0_t15_loop i).trips) : Fin 3 → Nat :=
  let c2_i32_188 : BitVec 32 := 2#32
  let c0_i32_177 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_176 : BitVec 32 := 1#32
  let v327 : BitVec 32 := Scalar.shrui v7 c1_i32_176
  let v328 : BitVec 32 := Scalar.subi v327 c0_i32_177
  let c1_i32_178 : BitVec 32 := 1#32
  let v330 : BitVec 32 := Scalar.divsi v328 c1_i32_178
  let v331 : BitVec 32 := Scalar.muli v330 c1_i32_178
  let v332 : BitVec 32 := Scalar.addi c0_i32_177 v331
  let c1_i32_180 : BitVec 32 := 1#32
  let arg21 : BitVec 32 := Scf.iv v332 c1_i32_180 k0_t15
  let v351 : BitVec 32 := Scalar.muli c2_i32_188 arg21
  let v352 : Index := Scalar.indexCast v351
  let c0_189 : Index := 0#32
  let c0_190 : Index := 0#32
  ![v352.toNat, 0, 0]
def k0_off34 (i : grid0.Coords) (k0_t15 : Fin (k0_t15_loop i).trips) : Fin 3 → Nat :=
  let c2_i32 : BitVec 32 := 2#32
  let c0_i32_177 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_176 : BitVec 32 := 1#32
  let v327 : BitVec 32 := Scalar.shrui v7 c1_i32_176
  let v328 : BitVec 32 := Scalar.subi v327 c0_i32_177
  let c1_i32_178 : BitVec 32 := 1#32
  let v330 : BitVec 32 := Scalar.divsi v328 c1_i32_178
  let v331 : BitVec 32 := Scalar.muli v330 c1_i32_178
  let v332 : BitVec 32 := Scalar.addi c0_i32_177 v331
  let c1_i32_180 : BitVec 32 := 1#32
  let arg21 : BitVec 32 := Scf.iv v332 c1_i32_180 k0_t15
  let v349 : BitVec 32 := Scalar.muli c2_i32 arg21
  let c1_i32_187 : BitVec 32 := 1#32
  let v350 : BitVec 32 := Scalar.addi v349 c1_i32_187
  let v376 : Index := Scalar.indexCast v350
  let c0_193 : Index := 0#32
  let c0_194 : Index := 0#32
  ![v376.toNat, 0, 0]
def k0_cond7 (i : grid0.Coords) : BitVec 1 :=
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_181 : BitVec 32 := 1#32
  let v335 : BitVec 32 := Scalar.andi v7 c1_i32_181
  let c1_i32_182 : BitVec 32 := 1#32
  let v336 : BitVec 1 := Scalar.cmpi .eq v335 c1_i32_182
  let v337 : BitVec 32 := Scalar.extui v336
  let c0_i32_183 : BitVec 32 := 0#32
  let v338 : BitVec 1 := Scalar.cmpi .ne v337 c0_i32_183
  v338

def k0_off35 (i : grid0.Coords) : Fin 3 → Nat :=
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_187 : BitVec 32 := 1#32
  let v349 : BitVec 32 := Scalar.subi v7 c1_i32_187
  let v350 : Index := Scalar.indexCast v349
  let c0_188 : Index := 0#32
  let c0_189 : Index := 0#32
  ![v350.toNat, 0, 0]
@[reducible] def k0_t16_loop (i : grid0.Coords) : Scf.Loop 32 :=
  let c0_i32_58 : BitVec 32 := 0#32
  let c0_i32_21 : BitVec 32 := 0#32
  let arg1 : BitVec 32 := BitVec.ofNat 32 (i 1).val
  let c1_i32_19 : BitVec 32 := 1#32
  let v48 : BitVec 32 := Scalar.addi arg1 c1_i32_19
  let c256_i32_20 : BitVec 32 := 256#32
  let v49 : BitVec 32 := Scalar.muli v48 c256_i32_20
  let v50 : BitVec 32 := Scalar.addi c0_i32_21 v49
  let c256_i32_22 : BitVec 32 := 256#32
  let v51 : BitVec 1 := Scalar.cmpi .sgt v50 c256_i32_22
  let c8_i32 : BitVec 32 := 8#32
  let c0_i32_56 : BitVec 32 := 0#32
  let v118 : BitVec 32 := Scalar.select v51 c8_i32 c0_i32_56
  let v120 : BitVec 32 := Scalar.subi v118 c0_i32_58
  let c1_i32_59 : BitVec 32 := 1#32
  let v122 : BitVec 32 := Scalar.divsi v120 c1_i32_59
  let v123 : BitVec 32 := Scalar.muli v122 c1_i32_59
  let v124 : BitVec 32 := Scalar.addi c0_i32_58 v123
  let v121 : BitVec 32 := Scalar.addi c0_i32_58 v120
  let c1_i32_61 : BitVec 32 := 1#32
  ⟨v124, v121, c1_i32_61⟩
@[reducible] def k0_t17_loop (i : grid0.Coords) : Scf.Loop 32 :=
  let c0_i32_177 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_176 : BitVec 32 := 1#32
  let v327 : BitVec 32 := Scalar.shrui v7 c1_i32_176
  let v328 : BitVec 32 := Scalar.subi v327 c0_i32_177
  let c1_i32_178 : BitVec 32 := 1#32
  let v330 : BitVec 32 := Scalar.divsi v328 c1_i32_178
  let v331 : BitVec 32 := Scalar.muli v330 c1_i32_178
  let v332 : BitVec 32 := Scalar.addi c0_i32_177 v331
  let c1_i32_179 : BitVec 32 := 1#32
  ⟨c0_i32_177, v332, c1_i32_179⟩
def k0_off36 (i : grid0.Coords) (k0_t17 : Fin (k0_t17_loop i).trips) : Fin 3 → Nat :=
  let c2_i32_188 : BitVec 32 := 2#32
  let c0_i32_177 : BitVec 32 := 0#32
  let c1_i32_179 : BitVec 32 := 1#32
  let arg21 : BitVec 32 := Scf.iv c0_i32_177 c1_i32_179 k0_t17
  let v351 : BitVec 32 := Scalar.muli c2_i32_188 arg21
  let v352 : Index := Scalar.indexCast v351
  let c0_189 : Index := 0#32
  let c0_190 : Index := 0#32
  ![v352.toNat, 0, 0]
def k0_off37 (i : grid0.Coords) (k0_t17 : Fin (k0_t17_loop i).trips) : Fin 3 → Nat :=
  let c2_i32 : BitVec 32 := 2#32
  let c0_i32_177 : BitVec 32 := 0#32
  let c1_i32_179 : BitVec 32 := 1#32
  let arg21 : BitVec 32 := Scf.iv c0_i32_177 c1_i32_179 k0_t17
  let v349 : BitVec 32 := Scalar.muli c2_i32 arg21
  let c1_i32_187 : BitVec 32 := 1#32
  let v350 : BitVec 32 := Scalar.addi v349 c1_i32_187
  let v376 : Index := Scalar.indexCast v350
  let c0_193 : Index := 0#32
  let c0_194 : Index := 0#32
  ![v376.toNat, 0, 0]
@[reducible] def k0_t18_loop (i : grid0.Coords) : Scf.Loop 32 :=
  let c0_i32_177 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_176 : BitVec 32 := 1#32
  let v327 : BitVec 32 := Scalar.shrui v7 c1_i32_176
  let v328 : BitVec 32 := Scalar.subi v327 c0_i32_177
  let c1_i32_178 : BitVec 32 := 1#32
  let v330 : BitVec 32 := Scalar.divsi v328 c1_i32_178
  let v331 : BitVec 32 := Scalar.muli v330 c1_i32_178
  let v332 : BitVec 32 := Scalar.addi c0_i32_177 v331
  let v329 : BitVec 32 := Scalar.addi c0_i32_177 v328
  let c1_i32_180 : BitVec 32 := 1#32
  ⟨v332, v329, c1_i32_180⟩
def k0_off38 (i : grid0.Coords) (k0_t18 : Fin (k0_t18_loop i).trips) : Fin 3 → Nat :=
  let c2_i32_188 : BitVec 32 := 2#32
  let c0_i32_177 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_176 : BitVec 32 := 1#32
  let v327 : BitVec 32 := Scalar.shrui v7 c1_i32_176
  let v328 : BitVec 32 := Scalar.subi v327 c0_i32_177
  let c1_i32_178 : BitVec 32 := 1#32
  let v330 : BitVec 32 := Scalar.divsi v328 c1_i32_178
  let v331 : BitVec 32 := Scalar.muli v330 c1_i32_178
  let v332 : BitVec 32 := Scalar.addi c0_i32_177 v331
  let c1_i32_180 : BitVec 32 := 1#32
  let arg21 : BitVec 32 := Scf.iv v332 c1_i32_180 k0_t18
  let v351 : BitVec 32 := Scalar.muli c2_i32_188 arg21
  let v352 : Index := Scalar.indexCast v351
  let c0_189 : Index := 0#32
  let c0_190 : Index := 0#32
  ![v352.toNat, 0, 0]
def k0_off39 (i : grid0.Coords) (k0_t18 : Fin (k0_t18_loop i).trips) : Fin 3 → Nat :=
  let c2_i32 : BitVec 32 := 2#32
  let c0_i32_177 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_176 : BitVec 32 := 1#32
  let v327 : BitVec 32 := Scalar.shrui v7 c1_i32_176
  let v328 : BitVec 32 := Scalar.subi v327 c0_i32_177
  let c1_i32_178 : BitVec 32 := 1#32
  let v330 : BitVec 32 := Scalar.divsi v328 c1_i32_178
  let v331 : BitVec 32 := Scalar.muli v330 c1_i32_178
  let v332 : BitVec 32 := Scalar.addi c0_i32_177 v331
  let c1_i32_180 : BitVec 32 := 1#32
  let arg21 : BitVec 32 := Scf.iv v332 c1_i32_180 k0_t18
  let v349 : BitVec 32 := Scalar.muli c2_i32 arg21
  let c1_i32_187 : BitVec 32 := 1#32
  let v350 : BitVec 32 := Scalar.addi v349 c1_i32_187
  let v376 : Index := Scalar.indexCast v350
  let c0_193 : Index := 0#32
  let c0_194 : Index := 0#32
  ![v376.toNat, 0, 0]
def k0_cond8 (i : grid0.Coords) : BitVec 1 :=
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_181 : BitVec 32 := 1#32
  let v335 : BitVec 32 := Scalar.andi v7 c1_i32_181
  let c1_i32_182 : BitVec 32 := 1#32
  let v336 : BitVec 1 := Scalar.cmpi .eq v335 c1_i32_182
  let v337 : BitVec 32 := Scalar.extui v336
  let c0_i32_183 : BitVec 32 := 0#32
  let v338 : BitVec 1 := Scalar.cmpi .ne v337 c0_i32_183
  v338

def k0_off40 (i : grid0.Coords) : Fin 3 → Nat :=
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_187 : BitVec 32 := 1#32
  let v349 : BitVec 32 := Scalar.subi v7 c1_i32_187
  let v350 : Index := Scalar.indexCast v349
  let c0_188 : Index := 0#32
  let c0_189 : Index := 0#32
  ![v350.toNat, 0, 0]
@[reducible] def k0_t19_loop (i : grid0.Coords) : Scf.Loop 32 :=
  let c0_i32_64 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_62 : BitVec 32 := 1#32
  let v129 : BitVec 32 := Scalar.shrui v7 c1_i32_62
  let v130 : BitVec 32 := Scalar.subi v129 c0_i32_64
  let c1_i32_65 : BitVec 32 := 1#32
  let v132 : BitVec 32 := Scalar.divsi v130 c1_i32_65
  let v133 : BitVec 32 := Scalar.muli v132 c1_i32_65
  let v134 : BitVec 32 := Scalar.addi c0_i32_64 v133
  let c1_i32_66 : BitVec 32 := 1#32
  ⟨c0_i32_64, v134, c1_i32_66⟩
def k0_off41 (i : grid0.Coords) (k0_t19 : Fin (k0_t19_loop i).trips) : Fin 3 → Nat :=
  let c2_i32_175 : BitVec 32 := 2#32
  let c0_i32_64 : BitVec 32 := 0#32
  let c1_i32_66 : BitVec 32 := 1#32
  let arg18 : BitVec 32 := Scf.iv c0_i32_64 c1_i32_66 k0_t19
  let v322 : BitVec 32 := Scalar.muli c2_i32_175 arg18
  let v323 : Index := Scalar.indexCast v322
  let c0_176 : Index := 0#32
  let c0_177 : Index := 0#32
  ![v323.toNat, 0, 0]
def k0_off42 (i : grid0.Coords) (k0_t19 : Fin (k0_t19_loop i).trips) : Fin 3 → Nat :=
  let c2_i32 : BitVec 32 := 2#32
  let c0_i32_64 : BitVec 32 := 0#32
  let c1_i32_66 : BitVec 32 := 1#32
  let arg18 : BitVec 32 := Scf.iv c0_i32_64 c1_i32_66 k0_t19
  let v320 : BitVec 32 := Scalar.muli c2_i32 arg18
  let c1_i32_174 : BitVec 32 := 1#32
  let v321 : BitVec 32 := Scalar.addi v320 c1_i32_174
  let v347 : Index := Scalar.indexCast v321
  let c0_186 : Index := 0#32
  let c0_187 : Index := 0#32
  ![v347.toNat, 0, 0]
@[reducible] def k0_t20_loop (i : grid0.Coords) : Scf.Loop 32 :=
  let c0_i32_64 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_62 : BitVec 32 := 1#32
  let v129 : BitVec 32 := Scalar.shrui v7 c1_i32_62
  let v130 : BitVec 32 := Scalar.subi v129 c0_i32_64
  let c1_i32_65 : BitVec 32 := 1#32
  let v132 : BitVec 32 := Scalar.divsi v130 c1_i32_65
  let v133 : BitVec 32 := Scalar.muli v132 c1_i32_65
  let v134 : BitVec 32 := Scalar.addi c0_i32_64 v133
  let v131 : BitVec 32 := Scalar.addi c0_i32_64 v130
  let c1_i32_67 : BitVec 32 := 1#32
  ⟨v134, v131, c1_i32_67⟩
def k0_off43 (i : grid0.Coords) (k0_t20 : Fin (k0_t20_loop i).trips) : Fin 3 → Nat :=
  let c2_i32_175 : BitVec 32 := 2#32
  let c0_i32_64 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_62 : BitVec 32 := 1#32
  let v129 : BitVec 32 := Scalar.shrui v7 c1_i32_62
  let v130 : BitVec 32 := Scalar.subi v129 c0_i32_64
  let c1_i32_65 : BitVec 32 := 1#32
  let v132 : BitVec 32 := Scalar.divsi v130 c1_i32_65
  let v133 : BitVec 32 := Scalar.muli v132 c1_i32_65
  let v134 : BitVec 32 := Scalar.addi c0_i32_64 v133
  let c1_i32_67 : BitVec 32 := 1#32
  let arg18 : BitVec 32 := Scf.iv v134 c1_i32_67 k0_t20
  let v322 : BitVec 32 := Scalar.muli c2_i32_175 arg18
  let v323 : Index := Scalar.indexCast v322
  let c0_176 : Index := 0#32
  let c0_177 : Index := 0#32
  ![v323.toNat, 0, 0]
def k0_off44 (i : grid0.Coords) (k0_t20 : Fin (k0_t20_loop i).trips) : Fin 3 → Nat :=
  let c2_i32 : BitVec 32 := 2#32
  let c0_i32_64 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_62 : BitVec 32 := 1#32
  let v129 : BitVec 32 := Scalar.shrui v7 c1_i32_62
  let v130 : BitVec 32 := Scalar.subi v129 c0_i32_64
  let c1_i32_65 : BitVec 32 := 1#32
  let v132 : BitVec 32 := Scalar.divsi v130 c1_i32_65
  let v133 : BitVec 32 := Scalar.muli v132 c1_i32_65
  let v134 : BitVec 32 := Scalar.addi c0_i32_64 v133
  let c1_i32_67 : BitVec 32 := 1#32
  let arg18 : BitVec 32 := Scf.iv v134 c1_i32_67 k0_t20
  let v320 : BitVec 32 := Scalar.muli c2_i32 arg18
  let c1_i32_174 : BitVec 32 := 1#32
  let v321 : BitVec 32 := Scalar.addi v320 c1_i32_174
  let v347 : Index := Scalar.indexCast v321
  let c0_186 : Index := 0#32
  let c0_187 : Index := 0#32
  ![v347.toNat, 0, 0]
def k0_cond9 (i : grid0.Coords) : BitVec 1 :=
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_68 : BitVec 32 := 1#32
  let v135 : BitVec 32 := Scalar.andi v7 c1_i32_68
  let c1_i32_69 : BitVec 32 := 1#32
  let v136 : BitVec 1 := Scalar.cmpi .eq v135 c1_i32_69
  let v137 : BitVec 32 := Scalar.extui v136
  let c0_i32_70 : BitVec 32 := 0#32
  let v138 : BitVec 1 := Scalar.cmpi .ne v137 c0_i32_70
  v138

def k0_off45 (i : grid0.Coords) : Fin 3 → Nat :=
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_174 : BitVec 32 := 1#32
  let v320 : BitVec 32 := Scalar.subi v7 c1_i32_174
  let v321 : Index := Scalar.indexCast v320
  let c0_175 : Index := 0#32
  let c0_176 : Index := 0#32
  ![v321.toNat, 0, 0]
@[reducible] def k0_t21_loop (i : grid0.Coords) : Scf.Loop 32 :=
  let c0_i32_74 : BitVec 32 := 0#32
  let c0_i32_21 : BitVec 32 := 0#32
  let arg1 : BitVec 32 := BitVec.ofNat 32 (i 1).val
  let c1_i32_19 : BitVec 32 := 1#32
  let v48 : BitVec 32 := Scalar.addi arg1 c1_i32_19
  let c256_i32_20 : BitVec 32 := 256#32
  let v49 : BitVec 32 := Scalar.muli v48 c256_i32_20
  let v50 : BitVec 32 := Scalar.addi c0_i32_21 v49
  let c256_i32_22 : BitVec 32 := 256#32
  let v51 : BitVec 1 := Scalar.cmpi .sgt v50 c256_i32_22
  let c8_i32_71 : BitVec 32 := 8#32
  let c0_i32_72 : BitVec 32 := 0#32
  let v139 : BitVec 32 := Scalar.select v51 c8_i32_71 c0_i32_72
  let v141 : BitVec 32 := Scalar.subi v139 c0_i32_74
  let c1_i32_75 : BitVec 32 := 1#32
  let v143 : BitVec 32 := Scalar.divsi v141 c1_i32_75
  let v144 : BitVec 32 := Scalar.muli v143 c1_i32_75
  let v145 : BitVec 32 := Scalar.addi c0_i32_74 v144
  let c1_i32_76 : BitVec 32 := 1#32
  ⟨c0_i32_74, v145, c1_i32_76⟩
@[reducible] def k0_t22_loop (i : grid0.Coords) : Scf.Loop 32 :=
  let c0_i32_177 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_176 : BitVec 32 := 1#32
  let v327 : BitVec 32 := Scalar.shrui v7 c1_i32_176
  let v328 : BitVec 32 := Scalar.subi v327 c0_i32_177
  let c1_i32_178 : BitVec 32 := 1#32
  let v330 : BitVec 32 := Scalar.divsi v328 c1_i32_178
  let v331 : BitVec 32 := Scalar.muli v330 c1_i32_178
  let v332 : BitVec 32 := Scalar.addi c0_i32_177 v331
  let c1_i32_179 : BitVec 32 := 1#32
  ⟨c0_i32_177, v332, c1_i32_179⟩
def k0_off46 (i : grid0.Coords) (k0_t22 : Fin (k0_t22_loop i).trips) : Fin 3 → Nat :=
  let c2_i32_188 : BitVec 32 := 2#32
  let c0_i32_177 : BitVec 32 := 0#32
  let c1_i32_179 : BitVec 32 := 1#32
  let arg21 : BitVec 32 := Scf.iv c0_i32_177 c1_i32_179 k0_t22
  let v351 : BitVec 32 := Scalar.muli c2_i32_188 arg21
  let v352 : Index := Scalar.indexCast v351
  let c0_189 : Index := 0#32
  let c0_190 : Index := 0#32
  ![v352.toNat, 0, 0]
def k0_off47 (i : grid0.Coords) (k0_t22 : Fin (k0_t22_loop i).trips) : Fin 3 → Nat :=
  let c2_i32 : BitVec 32 := 2#32
  let c0_i32_177 : BitVec 32 := 0#32
  let c1_i32_179 : BitVec 32 := 1#32
  let arg21 : BitVec 32 := Scf.iv c0_i32_177 c1_i32_179 k0_t22
  let v349 : BitVec 32 := Scalar.muli c2_i32 arg21
  let c1_i32_187 : BitVec 32 := 1#32
  let v350 : BitVec 32 := Scalar.addi v349 c1_i32_187
  let v376 : Index := Scalar.indexCast v350
  let c0_193 : Index := 0#32
  let c0_194 : Index := 0#32
  ![v376.toNat, 0, 0]
@[reducible] def k0_t23_loop (i : grid0.Coords) : Scf.Loop 32 :=
  let c0_i32_177 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_176 : BitVec 32 := 1#32
  let v327 : BitVec 32 := Scalar.shrui v7 c1_i32_176
  let v328 : BitVec 32 := Scalar.subi v327 c0_i32_177
  let c1_i32_178 : BitVec 32 := 1#32
  let v330 : BitVec 32 := Scalar.divsi v328 c1_i32_178
  let v331 : BitVec 32 := Scalar.muli v330 c1_i32_178
  let v332 : BitVec 32 := Scalar.addi c0_i32_177 v331
  let v329 : BitVec 32 := Scalar.addi c0_i32_177 v328
  let c1_i32_180 : BitVec 32 := 1#32
  ⟨v332, v329, c1_i32_180⟩
def k0_off48 (i : grid0.Coords) (k0_t23 : Fin (k0_t23_loop i).trips) : Fin 3 → Nat :=
  let c2_i32_188 : BitVec 32 := 2#32
  let c0_i32_177 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_176 : BitVec 32 := 1#32
  let v327 : BitVec 32 := Scalar.shrui v7 c1_i32_176
  let v328 : BitVec 32 := Scalar.subi v327 c0_i32_177
  let c1_i32_178 : BitVec 32 := 1#32
  let v330 : BitVec 32 := Scalar.divsi v328 c1_i32_178
  let v331 : BitVec 32 := Scalar.muli v330 c1_i32_178
  let v332 : BitVec 32 := Scalar.addi c0_i32_177 v331
  let c1_i32_180 : BitVec 32 := 1#32
  let arg21 : BitVec 32 := Scf.iv v332 c1_i32_180 k0_t23
  let v351 : BitVec 32 := Scalar.muli c2_i32_188 arg21
  let v352 : Index := Scalar.indexCast v351
  let c0_189 : Index := 0#32
  let c0_190 : Index := 0#32
  ![v352.toNat, 0, 0]
def k0_off49 (i : grid0.Coords) (k0_t23 : Fin (k0_t23_loop i).trips) : Fin 3 → Nat :=
  let c2_i32 : BitVec 32 := 2#32
  let c0_i32_177 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_176 : BitVec 32 := 1#32
  let v327 : BitVec 32 := Scalar.shrui v7 c1_i32_176
  let v328 : BitVec 32 := Scalar.subi v327 c0_i32_177
  let c1_i32_178 : BitVec 32 := 1#32
  let v330 : BitVec 32 := Scalar.divsi v328 c1_i32_178
  let v331 : BitVec 32 := Scalar.muli v330 c1_i32_178
  let v332 : BitVec 32 := Scalar.addi c0_i32_177 v331
  let c1_i32_180 : BitVec 32 := 1#32
  let arg21 : BitVec 32 := Scf.iv v332 c1_i32_180 k0_t23
  let v349 : BitVec 32 := Scalar.muli c2_i32 arg21
  let c1_i32_187 : BitVec 32 := 1#32
  let v350 : BitVec 32 := Scalar.addi v349 c1_i32_187
  let v376 : Index := Scalar.indexCast v350
  let c0_193 : Index := 0#32
  let c0_194 : Index := 0#32
  ![v376.toNat, 0, 0]
def k0_cond10 (i : grid0.Coords) : BitVec 1 :=
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_181 : BitVec 32 := 1#32
  let v335 : BitVec 32 := Scalar.andi v7 c1_i32_181
  let c1_i32_182 : BitVec 32 := 1#32
  let v336 : BitVec 1 := Scalar.cmpi .eq v335 c1_i32_182
  let v337 : BitVec 32 := Scalar.extui v336
  let c0_i32_183 : BitVec 32 := 0#32
  let v338 : BitVec 1 := Scalar.cmpi .ne v337 c0_i32_183
  v338

def k0_off50 (i : grid0.Coords) : Fin 3 → Nat :=
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_187 : BitVec 32 := 1#32
  let v349 : BitVec 32 := Scalar.subi v7 c1_i32_187
  let v350 : Index := Scalar.indexCast v349
  let c0_188 : Index := 0#32
  let c0_189 : Index := 0#32
  ![v350.toNat, 0, 0]
@[reducible] def k0_t24_loop (i : grid0.Coords) : Scf.Loop 32 :=
  let c0_i32_74 : BitVec 32 := 0#32
  let c0_i32_21 : BitVec 32 := 0#32
  let arg1 : BitVec 32 := BitVec.ofNat 32 (i 1).val
  let c1_i32_19 : BitVec 32 := 1#32
  let v48 : BitVec 32 := Scalar.addi arg1 c1_i32_19
  let c256_i32_20 : BitVec 32 := 256#32
  let v49 : BitVec 32 := Scalar.muli v48 c256_i32_20
  let v50 : BitVec 32 := Scalar.addi c0_i32_21 v49
  let c256_i32_22 : BitVec 32 := 256#32
  let v51 : BitVec 1 := Scalar.cmpi .sgt v50 c256_i32_22
  let c8_i32_71 : BitVec 32 := 8#32
  let c0_i32_72 : BitVec 32 := 0#32
  let v139 : BitVec 32 := Scalar.select v51 c8_i32_71 c0_i32_72
  let v141 : BitVec 32 := Scalar.subi v139 c0_i32_74
  let c1_i32_75 : BitVec 32 := 1#32
  let v143 : BitVec 32 := Scalar.divsi v141 c1_i32_75
  let v144 : BitVec 32 := Scalar.muli v143 c1_i32_75
  let v145 : BitVec 32 := Scalar.addi c0_i32_74 v144
  let v142 : BitVec 32 := Scalar.addi c0_i32_74 v141
  let c1_i32_77 : BitVec 32 := 1#32
  ⟨v145, v142, c1_i32_77⟩
@[reducible] def k0_t25_loop (i : grid0.Coords) : Scf.Loop 32 :=
  let c0_i32_177 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_176 : BitVec 32 := 1#32
  let v327 : BitVec 32 := Scalar.shrui v7 c1_i32_176
  let v328 : BitVec 32 := Scalar.subi v327 c0_i32_177
  let c1_i32_178 : BitVec 32 := 1#32
  let v330 : BitVec 32 := Scalar.divsi v328 c1_i32_178
  let v331 : BitVec 32 := Scalar.muli v330 c1_i32_178
  let v332 : BitVec 32 := Scalar.addi c0_i32_177 v331
  let c1_i32_179 : BitVec 32 := 1#32
  ⟨c0_i32_177, v332, c1_i32_179⟩
def k0_off51 (i : grid0.Coords) (k0_t25 : Fin (k0_t25_loop i).trips) : Fin 3 → Nat :=
  let c2_i32_188 : BitVec 32 := 2#32
  let c0_i32_177 : BitVec 32 := 0#32
  let c1_i32_179 : BitVec 32 := 1#32
  let arg21 : BitVec 32 := Scf.iv c0_i32_177 c1_i32_179 k0_t25
  let v351 : BitVec 32 := Scalar.muli c2_i32_188 arg21
  let v352 : Index := Scalar.indexCast v351
  let c0_189 : Index := 0#32
  let c0_190 : Index := 0#32
  ![v352.toNat, 0, 0]
def k0_off52 (i : grid0.Coords) (k0_t25 : Fin (k0_t25_loop i).trips) : Fin 3 → Nat :=
  let c2_i32 : BitVec 32 := 2#32
  let c0_i32_177 : BitVec 32 := 0#32
  let c1_i32_179 : BitVec 32 := 1#32
  let arg21 : BitVec 32 := Scf.iv c0_i32_177 c1_i32_179 k0_t25
  let v349 : BitVec 32 := Scalar.muli c2_i32 arg21
  let c1_i32_187 : BitVec 32 := 1#32
  let v350 : BitVec 32 := Scalar.addi v349 c1_i32_187
  let v376 : Index := Scalar.indexCast v350
  let c0_193 : Index := 0#32
  let c0_194 : Index := 0#32
  ![v376.toNat, 0, 0]
@[reducible] def k0_t26_loop (i : grid0.Coords) : Scf.Loop 32 :=
  let c0_i32_177 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_176 : BitVec 32 := 1#32
  let v327 : BitVec 32 := Scalar.shrui v7 c1_i32_176
  let v328 : BitVec 32 := Scalar.subi v327 c0_i32_177
  let c1_i32_178 : BitVec 32 := 1#32
  let v330 : BitVec 32 := Scalar.divsi v328 c1_i32_178
  let v331 : BitVec 32 := Scalar.muli v330 c1_i32_178
  let v332 : BitVec 32 := Scalar.addi c0_i32_177 v331
  let v329 : BitVec 32 := Scalar.addi c0_i32_177 v328
  let c1_i32_180 : BitVec 32 := 1#32
  ⟨v332, v329, c1_i32_180⟩
def k0_off53 (i : grid0.Coords) (k0_t26 : Fin (k0_t26_loop i).trips) : Fin 3 → Nat :=
  let c2_i32_188 : BitVec 32 := 2#32
  let c0_i32_177 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_176 : BitVec 32 := 1#32
  let v327 : BitVec 32 := Scalar.shrui v7 c1_i32_176
  let v328 : BitVec 32 := Scalar.subi v327 c0_i32_177
  let c1_i32_178 : BitVec 32 := 1#32
  let v330 : BitVec 32 := Scalar.divsi v328 c1_i32_178
  let v331 : BitVec 32 := Scalar.muli v330 c1_i32_178
  let v332 : BitVec 32 := Scalar.addi c0_i32_177 v331
  let c1_i32_180 : BitVec 32 := 1#32
  let arg21 : BitVec 32 := Scf.iv v332 c1_i32_180 k0_t26
  let v351 : BitVec 32 := Scalar.muli c2_i32_188 arg21
  let v352 : Index := Scalar.indexCast v351
  let c0_189 : Index := 0#32
  let c0_190 : Index := 0#32
  ![v352.toNat, 0, 0]
def k0_off54 (i : grid0.Coords) (k0_t26 : Fin (k0_t26_loop i).trips) : Fin 3 → Nat :=
  let c2_i32 : BitVec 32 := 2#32
  let c0_i32_177 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_176 : BitVec 32 := 1#32
  let v327 : BitVec 32 := Scalar.shrui v7 c1_i32_176
  let v328 : BitVec 32 := Scalar.subi v327 c0_i32_177
  let c1_i32_178 : BitVec 32 := 1#32
  let v330 : BitVec 32 := Scalar.divsi v328 c1_i32_178
  let v331 : BitVec 32 := Scalar.muli v330 c1_i32_178
  let v332 : BitVec 32 := Scalar.addi c0_i32_177 v331
  let c1_i32_180 : BitVec 32 := 1#32
  let arg21 : BitVec 32 := Scf.iv v332 c1_i32_180 k0_t26
  let v349 : BitVec 32 := Scalar.muli c2_i32 arg21
  let c1_i32_187 : BitVec 32 := 1#32
  let v350 : BitVec 32 := Scalar.addi v349 c1_i32_187
  let v376 : Index := Scalar.indexCast v350
  let c0_193 : Index := 0#32
  let c0_194 : Index := 0#32
  ![v376.toNat, 0, 0]
def k0_cond11 (i : grid0.Coords) : BitVec 1 :=
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_181 : BitVec 32 := 1#32
  let v335 : BitVec 32 := Scalar.andi v7 c1_i32_181
  let c1_i32_182 : BitVec 32 := 1#32
  let v336 : BitVec 1 := Scalar.cmpi .eq v335 c1_i32_182
  let v337 : BitVec 32 := Scalar.extui v336
  let c0_i32_183 : BitVec 32 := 0#32
  let v338 : BitVec 1 := Scalar.cmpi .ne v337 c0_i32_183
  v338

def k0_off55 (i : grid0.Coords) : Fin 3 → Nat :=
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_187 : BitVec 32 := 1#32
  let v349 : BitVec 32 := Scalar.subi v7 c1_i32_187
  let v350 : Index := Scalar.indexCast v349
  let c0_188 : Index := 0#32
  let c0_189 : Index := 0#32
  ![v350.toNat, 0, 0]
@[reducible] def k0_t27_loop (i : grid0.Coords) : Scf.Loop 32 :=
  let c0_i32_91 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_90 : BitVec 32 := 1#32
  let v179 : BitVec 32 := Scalar.shrui v7 c1_i32_90
  let v180 : BitVec 32 := Scalar.subi v179 c0_i32_91
  let c1_i32_92 : BitVec 32 := 1#32
  let v182 : BitVec 32 := Scalar.divsi v180 c1_i32_92
  let v183 : BitVec 32 := Scalar.muli v182 c1_i32_92
  let v184 : BitVec 32 := Scalar.addi c0_i32_91 v183
  let c1_i32_93 : BitVec 32 := 1#32
  ⟨c0_i32_91, v184, c1_i32_93⟩
def k0_off56 (i : grid0.Coords) (k0_t27 : Fin (k0_t27_loop i).trips) : Fin 3 → Nat :=
  let c2_i32_175 : BitVec 32 := 2#32
  let c0_i32_91 : BitVec 32 := 0#32
  let c1_i32_93 : BitVec 32 := 1#32
  let arg18 : BitVec 32 := Scf.iv c0_i32_91 c1_i32_93 k0_t27
  let v322 : BitVec 32 := Scalar.muli c2_i32_175 arg18
  let v323 : Index := Scalar.indexCast v322
  let c0_176 : Index := 0#32
  let c0_177 : Index := 0#32
  ![v323.toNat, 0, 0]
def k0_mult6 (i : grid0.Coords) (k0_t27 : Fin (k0_t27_loop i).trips) : BitVec 32 :=
  let c2_i32_175 : BitVec 32 := 2#32
  let c0_i32_91 : BitVec 32 := 0#32
  let c1_i32_93 : BitVec 32 := 1#32
  let arg18 : BitVec 32 := Scf.iv c0_i32_91 c1_i32_93 k0_t27
  let v322 : BitVec 32 := Scalar.muli c2_i32_175 arg18
  let c256_i32_181 : BitVec 32 := 256#32
  let v351 : BitVec 32 := Scalar.muli v322 c256_i32_181
  v351
def k0_off57 (i : grid0.Coords) (k0_t27 : Fin (k0_t27_loop i).trips) : Fin 3 → Nat :=
  let c0_182 : Index := 0#32
  let c2_i32_175 : BitVec 32 := 2#32
  let c0_i32_91 : BitVec 32 := 0#32
  let c1_i32_93 : BitVec 32 := 1#32
  let arg18 : BitVec 32 := Scf.iv c0_i32_91 c1_i32_93 k0_t27
  let v322 : BitVec 32 := Scalar.muli c2_i32_175 arg18
  let c256_i32_181 : BitVec 32 := 256#32
  let v351 : BitVec 32 := Scalar.muli v322 c256_i32_181
  let v352 : BitVec 32 := v351
  let v353 : Index := Scalar.indexCast v352
  let c0_183 : Index := 0#32
  ![0, v353.toNat, 0]
def k0_off58 (i : grid0.Coords) (k0_t27 : Fin (k0_t27_loop i).trips) : Fin 3 → Nat :=
  let c2_i32_175 : BitVec 32 := 2#32
  let c0_i32_91 : BitVec 32 := 0#32
  let c1_i32_93 : BitVec 32 := 1#32
  let arg18 : BitVec 32 := Scf.iv c0_i32_91 c1_i32_93 k0_t27
  let v322 : BitVec 32 := Scalar.muli c2_i32_175 arg18
  let v359 : Index := Scalar.indexCast v322
  let c0_185 : Index := 0#32
  let c0_186 : Index := 0#32
  ![v359.toNat, 0, 0]
def k0_mult7 (i : grid0.Coords) (k0_t27 : Fin (k0_t27_loop i).trips) : BitVec 32 :=
  let c2_i32_175 : BitVec 32 := 2#32
  let c0_i32_91 : BitVec 32 := 0#32
  let c1_i32_93 : BitVec 32 := 1#32
  let arg18 : BitVec 32 := Scf.iv c0_i32_91 c1_i32_93 k0_t27
  let v322 : BitVec 32 := Scalar.muli c2_i32_175 arg18
  let c256_i32_187 : BitVec 32 := 256#32
  let v380 : BitVec 32 := Scalar.muli v322 c256_i32_187
  v380
def k0_off59 (i : grid0.Coords) (k0_t27 : Fin (k0_t27_loop i).trips) : Fin 3 → Nat :=
  let c1_188 : Index := 1#32
  let c2_i32_175 : BitVec 32 := 2#32
  let c0_i32_91 : BitVec 32 := 0#32
  let c1_i32_93 : BitVec 32 := 1#32
  let arg18 : BitVec 32 := Scf.iv c0_i32_91 c1_i32_93 k0_t27
  let v322 : BitVec 32 := Scalar.muli c2_i32_175 arg18
  let c256_i32_187 : BitVec 32 := 256#32
  let v380 : BitVec 32 := Scalar.muli v322 c256_i32_187
  let v381 : BitVec 32 := v380
  let v382 : Index := Scalar.indexCast v381
  let c0_189 : Index := 0#32
  ![1, v382.toNat, 0]
def k0_off60 (i : grid0.Coords) (k0_t27 : Fin (k0_t27_loop i).trips) : Fin 3 → Nat :=
  let c2_i32_175 : BitVec 32 := 2#32
  let c0_i32_91 : BitVec 32 := 0#32
  let c1_i32_93 : BitVec 32 := 1#32
  let arg18 : BitVec 32 := Scf.iv c0_i32_91 c1_i32_93 k0_t27
  let v322 : BitVec 32 := Scalar.muli c2_i32_175 arg18
  let v388 : Index := Scalar.indexCast v322
  let c0_191 : Index := 0#32
  let c1024 : Index := 1024#32
  ![v388.toNat, 0, 1024]
def k0_off61 (i : grid0.Coords) (k0_t27 : Fin (k0_t27_loop i).trips) : Fin 3 → Nat :=
  let c2_i32 : BitVec 32 := 2#32
  let c0_i32_91 : BitVec 32 := 0#32
  let c1_i32_93 : BitVec 32 := 1#32
  let arg18 : BitVec 32 := Scf.iv c0_i32_91 c1_i32_93 k0_t27
  let v320 : BitVec 32 := Scalar.muli c2_i32 arg18
  let c1_i32_174 : BitVec 32 := 1#32
  let v321 : BitVec 32 := Scalar.addi v320 c1_i32_174
  let v411 : Index := Scalar.indexCast v321
  let c0_192 : Index := 0#32
  let c0_193 : Index := 0#32
  ![v411.toNat, 0, 0]
def k0_mult8 (i : grid0.Coords) (k0_t27 : Fin (k0_t27_loop i).trips) : BitVec 32 :=
  let c2_i32 : BitVec 32 := 2#32
  let c0_i32_91 : BitVec 32 := 0#32
  let c1_i32_93 : BitVec 32 := 1#32
  let arg18 : BitVec 32 := Scf.iv c0_i32_91 c1_i32_93 k0_t27
  let v320 : BitVec 32 := Scalar.muli c2_i32 arg18
  let c1_i32_174 : BitVec 32 := 1#32
  let v321 : BitVec 32 := Scalar.addi v320 c1_i32_174
  let c256_i32_199 : BitVec 32 := 256#32
  let v439 : BitVec 32 := Scalar.muli v321 c256_i32_199
  v439
def k0_off62 (i : grid0.Coords) (k0_t27 : Fin (k0_t27_loop i).trips) : Fin 3 → Nat :=
  let c0_200 : Index := 0#32
  let c2_i32 : BitVec 32 := 2#32
  let c0_i32_91 : BitVec 32 := 0#32
  let c1_i32_93 : BitVec 32 := 1#32
  let arg18 : BitVec 32 := Scf.iv c0_i32_91 c1_i32_93 k0_t27
  let v320 : BitVec 32 := Scalar.muli c2_i32 arg18
  let c1_i32_174 : BitVec 32 := 1#32
  let v321 : BitVec 32 := Scalar.addi v320 c1_i32_174
  let c256_i32_199 : BitVec 32 := 256#32
  let v439 : BitVec 32 := Scalar.muli v321 c256_i32_199
  let v440 : BitVec 32 := v439
  let v441 : Index := Scalar.indexCast v440
  let c0_201 : Index := 0#32
  ![0, v441.toNat, 0]
def k0_off63 (i : grid0.Coords) (k0_t27 : Fin (k0_t27_loop i).trips) : Fin 3 → Nat :=
  let c2_i32 : BitVec 32 := 2#32
  let c0_i32_91 : BitVec 32 := 0#32
  let c1_i32_93 : BitVec 32 := 1#32
  let arg18 : BitVec 32 := Scf.iv c0_i32_91 c1_i32_93 k0_t27
  let v320 : BitVec 32 := Scalar.muli c2_i32 arg18
  let c1_i32_174 : BitVec 32 := 1#32
  let v321 : BitVec 32 := Scalar.addi v320 c1_i32_174
  let v447 : Index := Scalar.indexCast v321
  let c0_203 : Index := 0#32
  let c0_204 : Index := 0#32
  ![v447.toNat, 0, 0]
def k0_mult9 (i : grid0.Coords) (k0_t27 : Fin (k0_t27_loop i).trips) : BitVec 32 :=
  let c2_i32 : BitVec 32 := 2#32
  let c0_i32_91 : BitVec 32 := 0#32
  let c1_i32_93 : BitVec 32 := 1#32
  let arg18 : BitVec 32 := Scf.iv c0_i32_91 c1_i32_93 k0_t27
  let v320 : BitVec 32 := Scalar.muli c2_i32 arg18
  let c1_i32_174 : BitVec 32 := 1#32
  let v321 : BitVec 32 := Scalar.addi v320 c1_i32_174
  let c256_i32_205 : BitVec 32 := 256#32
  let v468 : BitVec 32 := Scalar.muli v321 c256_i32_205
  v468
def k0_off64 (i : grid0.Coords) (k0_t27 : Fin (k0_t27_loop i).trips) : Fin 3 → Nat :=
  let c1_206 : Index := 1#32
  let c2_i32 : BitVec 32 := 2#32
  let c0_i32_91 : BitVec 32 := 0#32
  let c1_i32_93 : BitVec 32 := 1#32
  let arg18 : BitVec 32 := Scf.iv c0_i32_91 c1_i32_93 k0_t27
  let v320 : BitVec 32 := Scalar.muli c2_i32 arg18
  let c1_i32_174 : BitVec 32 := 1#32
  let v321 : BitVec 32 := Scalar.addi v320 c1_i32_174
  let c256_i32_205 : BitVec 32 := 256#32
  let v468 : BitVec 32 := Scalar.muli v321 c256_i32_205
  let v469 : BitVec 32 := v468
  let v470 : Index := Scalar.indexCast v469
  let c0_207 : Index := 0#32
  ![1, v470.toNat, 0]
def k0_off65 (i : grid0.Coords) (k0_t27 : Fin (k0_t27_loop i).trips) : Fin 3 → Nat :=
  let c2_i32 : BitVec 32 := 2#32
  let c0_i32_91 : BitVec 32 := 0#32
  let c1_i32_93 : BitVec 32 := 1#32
  let arg18 : BitVec 32 := Scf.iv c0_i32_91 c1_i32_93 k0_t27
  let v320 : BitVec 32 := Scalar.muli c2_i32 arg18
  let c1_i32_174 : BitVec 32 := 1#32
  let v321 : BitVec 32 := Scalar.addi v320 c1_i32_174
  let v476 : Index := Scalar.indexCast v321
  let c0_209 : Index := 0#32
  let c1024_210 : Index := 1024#32
  ![v476.toNat, 0, 1024]
@[reducible] def k0_t28_loop (i : grid0.Coords) : Scf.Loop 32 :=
  let c0_i32_91 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_90 : BitVec 32 := 1#32
  let v179 : BitVec 32 := Scalar.shrui v7 c1_i32_90
  let v180 : BitVec 32 := Scalar.subi v179 c0_i32_91
  let c1_i32_92 : BitVec 32 := 1#32
  let v182 : BitVec 32 := Scalar.divsi v180 c1_i32_92
  let v183 : BitVec 32 := Scalar.muli v182 c1_i32_92
  let v184 : BitVec 32 := Scalar.addi c0_i32_91 v183
  let v181 : BitVec 32 := Scalar.addi c0_i32_91 v180
  let c1_i32_94 : BitVec 32 := 1#32
  ⟨v184, v181, c1_i32_94⟩
def k0_off66 (i : grid0.Coords) (k0_t28 : Fin (k0_t28_loop i).trips) : Fin 3 → Nat :=
  let c2_i32_175 : BitVec 32 := 2#32
  let c0_i32_91 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_90 : BitVec 32 := 1#32
  let v179 : BitVec 32 := Scalar.shrui v7 c1_i32_90
  let v180 : BitVec 32 := Scalar.subi v179 c0_i32_91
  let c1_i32_92 : BitVec 32 := 1#32
  let v182 : BitVec 32 := Scalar.divsi v180 c1_i32_92
  let v183 : BitVec 32 := Scalar.muli v182 c1_i32_92
  let v184 : BitVec 32 := Scalar.addi c0_i32_91 v183
  let c1_i32_94 : BitVec 32 := 1#32
  let arg18 : BitVec 32 := Scf.iv v184 c1_i32_94 k0_t28
  let v322 : BitVec 32 := Scalar.muli c2_i32_175 arg18
  let v323 : Index := Scalar.indexCast v322
  let c0_176 : Index := 0#32
  let c0_177 : Index := 0#32
  ![v323.toNat, 0, 0]
def k0_mult10 (i : grid0.Coords) (k0_t28 : Fin (k0_t28_loop i).trips) : BitVec 32 :=
  let c2_i32_175 : BitVec 32 := 2#32
  let c0_i32_91 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_90 : BitVec 32 := 1#32
  let v179 : BitVec 32 := Scalar.shrui v7 c1_i32_90
  let v180 : BitVec 32 := Scalar.subi v179 c0_i32_91
  let c1_i32_92 : BitVec 32 := 1#32
  let v182 : BitVec 32 := Scalar.divsi v180 c1_i32_92
  let v183 : BitVec 32 := Scalar.muli v182 c1_i32_92
  let v184 : BitVec 32 := Scalar.addi c0_i32_91 v183
  let c1_i32_94 : BitVec 32 := 1#32
  let arg18 : BitVec 32 := Scf.iv v184 c1_i32_94 k0_t28
  let v322 : BitVec 32 := Scalar.muli c2_i32_175 arg18
  let c256_i32_181 : BitVec 32 := 256#32
  let v351 : BitVec 32 := Scalar.muli v322 c256_i32_181
  v351
def k0_off67 (i : grid0.Coords) (k0_t28 : Fin (k0_t28_loop i).trips) : Fin 3 → Nat :=
  let c0_182 : Index := 0#32
  let c2_i32_175 : BitVec 32 := 2#32
  let c0_i32_91 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_90 : BitVec 32 := 1#32
  let v179 : BitVec 32 := Scalar.shrui v7 c1_i32_90
  let v180 : BitVec 32 := Scalar.subi v179 c0_i32_91
  let c1_i32_92 : BitVec 32 := 1#32
  let v182 : BitVec 32 := Scalar.divsi v180 c1_i32_92
  let v183 : BitVec 32 := Scalar.muli v182 c1_i32_92
  let v184 : BitVec 32 := Scalar.addi c0_i32_91 v183
  let c1_i32_94 : BitVec 32 := 1#32
  let arg18 : BitVec 32 := Scf.iv v184 c1_i32_94 k0_t28
  let v322 : BitVec 32 := Scalar.muli c2_i32_175 arg18
  let c256_i32_181 : BitVec 32 := 256#32
  let v351 : BitVec 32 := Scalar.muli v322 c256_i32_181
  let v352 : BitVec 32 := v351
  let v353 : Index := Scalar.indexCast v352
  let c0_183 : Index := 0#32
  ![0, v353.toNat, 0]
def k0_off68 (i : grid0.Coords) (k0_t28 : Fin (k0_t28_loop i).trips) : Fin 3 → Nat :=
  let c2_i32_175 : BitVec 32 := 2#32
  let c0_i32_91 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_90 : BitVec 32 := 1#32
  let v179 : BitVec 32 := Scalar.shrui v7 c1_i32_90
  let v180 : BitVec 32 := Scalar.subi v179 c0_i32_91
  let c1_i32_92 : BitVec 32 := 1#32
  let v182 : BitVec 32 := Scalar.divsi v180 c1_i32_92
  let v183 : BitVec 32 := Scalar.muli v182 c1_i32_92
  let v184 : BitVec 32 := Scalar.addi c0_i32_91 v183
  let c1_i32_94 : BitVec 32 := 1#32
  let arg18 : BitVec 32 := Scf.iv v184 c1_i32_94 k0_t28
  let v322 : BitVec 32 := Scalar.muli c2_i32_175 arg18
  let v359 : Index := Scalar.indexCast v322
  let c0_185 : Index := 0#32
  let c0_186 : Index := 0#32
  ![v359.toNat, 0, 0]
def k0_mult11 (i : grid0.Coords) (k0_t28 : Fin (k0_t28_loop i).trips) : BitVec 32 :=
  let c2_i32_175 : BitVec 32 := 2#32
  let c0_i32_91 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_90 : BitVec 32 := 1#32
  let v179 : BitVec 32 := Scalar.shrui v7 c1_i32_90
  let v180 : BitVec 32 := Scalar.subi v179 c0_i32_91
  let c1_i32_92 : BitVec 32 := 1#32
  let v182 : BitVec 32 := Scalar.divsi v180 c1_i32_92
  let v183 : BitVec 32 := Scalar.muli v182 c1_i32_92
  let v184 : BitVec 32 := Scalar.addi c0_i32_91 v183
  let c1_i32_94 : BitVec 32 := 1#32
  let arg18 : BitVec 32 := Scf.iv v184 c1_i32_94 k0_t28
  let v322 : BitVec 32 := Scalar.muli c2_i32_175 arg18
  let c256_i32_187 : BitVec 32 := 256#32
  let v380 : BitVec 32 := Scalar.muli v322 c256_i32_187
  v380
def k0_off69 (i : grid0.Coords) (k0_t28 : Fin (k0_t28_loop i).trips) : Fin 3 → Nat :=
  let c1_188 : Index := 1#32
  let c2_i32_175 : BitVec 32 := 2#32
  let c0_i32_91 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_90 : BitVec 32 := 1#32
  let v179 : BitVec 32 := Scalar.shrui v7 c1_i32_90
  let v180 : BitVec 32 := Scalar.subi v179 c0_i32_91
  let c1_i32_92 : BitVec 32 := 1#32
  let v182 : BitVec 32 := Scalar.divsi v180 c1_i32_92
  let v183 : BitVec 32 := Scalar.muli v182 c1_i32_92
  let v184 : BitVec 32 := Scalar.addi c0_i32_91 v183
  let c1_i32_94 : BitVec 32 := 1#32
  let arg18 : BitVec 32 := Scf.iv v184 c1_i32_94 k0_t28
  let v322 : BitVec 32 := Scalar.muli c2_i32_175 arg18
  let c256_i32_187 : BitVec 32 := 256#32
  let v380 : BitVec 32 := Scalar.muli v322 c256_i32_187
  let v381 : BitVec 32 := v380
  let v382 : Index := Scalar.indexCast v381
  let c0_189 : Index := 0#32
  ![1, v382.toNat, 0]
def k0_off70 (i : grid0.Coords) (k0_t28 : Fin (k0_t28_loop i).trips) : Fin 3 → Nat :=
  let c2_i32_175 : BitVec 32 := 2#32
  let c0_i32_91 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_90 : BitVec 32 := 1#32
  let v179 : BitVec 32 := Scalar.shrui v7 c1_i32_90
  let v180 : BitVec 32 := Scalar.subi v179 c0_i32_91
  let c1_i32_92 : BitVec 32 := 1#32
  let v182 : BitVec 32 := Scalar.divsi v180 c1_i32_92
  let v183 : BitVec 32 := Scalar.muli v182 c1_i32_92
  let v184 : BitVec 32 := Scalar.addi c0_i32_91 v183
  let c1_i32_94 : BitVec 32 := 1#32
  let arg18 : BitVec 32 := Scf.iv v184 c1_i32_94 k0_t28
  let v322 : BitVec 32 := Scalar.muli c2_i32_175 arg18
  let v388 : Index := Scalar.indexCast v322
  let c0_191 : Index := 0#32
  let c1024 : Index := 1024#32
  ![v388.toNat, 0, 1024]
def k0_off71 (i : grid0.Coords) (k0_t28 : Fin (k0_t28_loop i).trips) : Fin 3 → Nat :=
  let c2_i32 : BitVec 32 := 2#32
  let c0_i32_91 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_90 : BitVec 32 := 1#32
  let v179 : BitVec 32 := Scalar.shrui v7 c1_i32_90
  let v180 : BitVec 32 := Scalar.subi v179 c0_i32_91
  let c1_i32_92 : BitVec 32 := 1#32
  let v182 : BitVec 32 := Scalar.divsi v180 c1_i32_92
  let v183 : BitVec 32 := Scalar.muli v182 c1_i32_92
  let v184 : BitVec 32 := Scalar.addi c0_i32_91 v183
  let c1_i32_94 : BitVec 32 := 1#32
  let arg18 : BitVec 32 := Scf.iv v184 c1_i32_94 k0_t28
  let v320 : BitVec 32 := Scalar.muli c2_i32 arg18
  let c1_i32_174 : BitVec 32 := 1#32
  let v321 : BitVec 32 := Scalar.addi v320 c1_i32_174
  let v411 : Index := Scalar.indexCast v321
  let c0_192 : Index := 0#32
  let c0_193 : Index := 0#32
  ![v411.toNat, 0, 0]
def k0_mult12 (i : grid0.Coords) (k0_t28 : Fin (k0_t28_loop i).trips) : BitVec 32 :=
  let c2_i32 : BitVec 32 := 2#32
  let c0_i32_91 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_90 : BitVec 32 := 1#32
  let v179 : BitVec 32 := Scalar.shrui v7 c1_i32_90
  let v180 : BitVec 32 := Scalar.subi v179 c0_i32_91
  let c1_i32_92 : BitVec 32 := 1#32
  let v182 : BitVec 32 := Scalar.divsi v180 c1_i32_92
  let v183 : BitVec 32 := Scalar.muli v182 c1_i32_92
  let v184 : BitVec 32 := Scalar.addi c0_i32_91 v183
  let c1_i32_94 : BitVec 32 := 1#32
  let arg18 : BitVec 32 := Scf.iv v184 c1_i32_94 k0_t28
  let v320 : BitVec 32 := Scalar.muli c2_i32 arg18
  let c1_i32_174 : BitVec 32 := 1#32
  let v321 : BitVec 32 := Scalar.addi v320 c1_i32_174
  let c256_i32_199 : BitVec 32 := 256#32
  let v439 : BitVec 32 := Scalar.muli v321 c256_i32_199
  v439
def k0_off72 (i : grid0.Coords) (k0_t28 : Fin (k0_t28_loop i).trips) : Fin 3 → Nat :=
  let c0_200 : Index := 0#32
  let c2_i32 : BitVec 32 := 2#32
  let c0_i32_91 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_90 : BitVec 32 := 1#32
  let v179 : BitVec 32 := Scalar.shrui v7 c1_i32_90
  let v180 : BitVec 32 := Scalar.subi v179 c0_i32_91
  let c1_i32_92 : BitVec 32 := 1#32
  let v182 : BitVec 32 := Scalar.divsi v180 c1_i32_92
  let v183 : BitVec 32 := Scalar.muli v182 c1_i32_92
  let v184 : BitVec 32 := Scalar.addi c0_i32_91 v183
  let c1_i32_94 : BitVec 32 := 1#32
  let arg18 : BitVec 32 := Scf.iv v184 c1_i32_94 k0_t28
  let v320 : BitVec 32 := Scalar.muli c2_i32 arg18
  let c1_i32_174 : BitVec 32 := 1#32
  let v321 : BitVec 32 := Scalar.addi v320 c1_i32_174
  let c256_i32_199 : BitVec 32 := 256#32
  let v439 : BitVec 32 := Scalar.muli v321 c256_i32_199
  let v440 : BitVec 32 := v439
  let v441 : Index := Scalar.indexCast v440
  let c0_201 : Index := 0#32
  ![0, v441.toNat, 0]
def k0_off73 (i : grid0.Coords) (k0_t28 : Fin (k0_t28_loop i).trips) : Fin 3 → Nat :=
  let c2_i32 : BitVec 32 := 2#32
  let c0_i32_91 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_90 : BitVec 32 := 1#32
  let v179 : BitVec 32 := Scalar.shrui v7 c1_i32_90
  let v180 : BitVec 32 := Scalar.subi v179 c0_i32_91
  let c1_i32_92 : BitVec 32 := 1#32
  let v182 : BitVec 32 := Scalar.divsi v180 c1_i32_92
  let v183 : BitVec 32 := Scalar.muli v182 c1_i32_92
  let v184 : BitVec 32 := Scalar.addi c0_i32_91 v183
  let c1_i32_94 : BitVec 32 := 1#32
  let arg18 : BitVec 32 := Scf.iv v184 c1_i32_94 k0_t28
  let v320 : BitVec 32 := Scalar.muli c2_i32 arg18
  let c1_i32_174 : BitVec 32 := 1#32
  let v321 : BitVec 32 := Scalar.addi v320 c1_i32_174
  let v447 : Index := Scalar.indexCast v321
  let c0_203 : Index := 0#32
  let c0_204 : Index := 0#32
  ![v447.toNat, 0, 0]
def k0_mult13 (i : grid0.Coords) (k0_t28 : Fin (k0_t28_loop i).trips) : BitVec 32 :=
  let c2_i32 : BitVec 32 := 2#32
  let c0_i32_91 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_90 : BitVec 32 := 1#32
  let v179 : BitVec 32 := Scalar.shrui v7 c1_i32_90
  let v180 : BitVec 32 := Scalar.subi v179 c0_i32_91
  let c1_i32_92 : BitVec 32 := 1#32
  let v182 : BitVec 32 := Scalar.divsi v180 c1_i32_92
  let v183 : BitVec 32 := Scalar.muli v182 c1_i32_92
  let v184 : BitVec 32 := Scalar.addi c0_i32_91 v183
  let c1_i32_94 : BitVec 32 := 1#32
  let arg18 : BitVec 32 := Scf.iv v184 c1_i32_94 k0_t28
  let v320 : BitVec 32 := Scalar.muli c2_i32 arg18
  let c1_i32_174 : BitVec 32 := 1#32
  let v321 : BitVec 32 := Scalar.addi v320 c1_i32_174
  let c256_i32_205 : BitVec 32 := 256#32
  let v468 : BitVec 32 := Scalar.muli v321 c256_i32_205
  v468
def k0_off74 (i : grid0.Coords) (k0_t28 : Fin (k0_t28_loop i).trips) : Fin 3 → Nat :=
  let c1_206 : Index := 1#32
  let c2_i32 : BitVec 32 := 2#32
  let c0_i32_91 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_90 : BitVec 32 := 1#32
  let v179 : BitVec 32 := Scalar.shrui v7 c1_i32_90
  let v180 : BitVec 32 := Scalar.subi v179 c0_i32_91
  let c1_i32_92 : BitVec 32 := 1#32
  let v182 : BitVec 32 := Scalar.divsi v180 c1_i32_92
  let v183 : BitVec 32 := Scalar.muli v182 c1_i32_92
  let v184 : BitVec 32 := Scalar.addi c0_i32_91 v183
  let c1_i32_94 : BitVec 32 := 1#32
  let arg18 : BitVec 32 := Scf.iv v184 c1_i32_94 k0_t28
  let v320 : BitVec 32 := Scalar.muli c2_i32 arg18
  let c1_i32_174 : BitVec 32 := 1#32
  let v321 : BitVec 32 := Scalar.addi v320 c1_i32_174
  let c256_i32_205 : BitVec 32 := 256#32
  let v468 : BitVec 32 := Scalar.muli v321 c256_i32_205
  let v469 : BitVec 32 := v468
  let v470 : Index := Scalar.indexCast v469
  let c0_207 : Index := 0#32
  ![1, v470.toNat, 0]
def k0_off75 (i : grid0.Coords) (k0_t28 : Fin (k0_t28_loop i).trips) : Fin 3 → Nat :=
  let c2_i32 : BitVec 32 := 2#32
  let c0_i32_91 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_90 : BitVec 32 := 1#32
  let v179 : BitVec 32 := Scalar.shrui v7 c1_i32_90
  let v180 : BitVec 32 := Scalar.subi v179 c0_i32_91
  let c1_i32_92 : BitVec 32 := 1#32
  let v182 : BitVec 32 := Scalar.divsi v180 c1_i32_92
  let v183 : BitVec 32 := Scalar.muli v182 c1_i32_92
  let v184 : BitVec 32 := Scalar.addi c0_i32_91 v183
  let c1_i32_94 : BitVec 32 := 1#32
  let arg18 : BitVec 32 := Scf.iv v184 c1_i32_94 k0_t28
  let v320 : BitVec 32 := Scalar.muli c2_i32 arg18
  let c1_i32_174 : BitVec 32 := 1#32
  let v321 : BitVec 32 := Scalar.addi v320 c1_i32_174
  let v476 : Index := Scalar.indexCast v321
  let c0_209 : Index := 0#32
  let c1024_210 : Index := 1024#32
  ![v476.toNat, 0, 1024]
def k0_cond12 (i : grid0.Coords) : BitVec 1 :=
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_95 : BitVec 32 := 1#32
  let v187 : BitVec 32 := Scalar.andi v7 c1_i32_95
  let c1_i32_96 : BitVec 32 := 1#32
  let v188 : BitVec 1 := Scalar.cmpi .eq v187 c1_i32_96
  let v189 : BitVec 32 := Scalar.extui v188
  let c0_i32_97 : BitVec 32 := 0#32
  let v190 : BitVec 1 := Scalar.cmpi .ne v189 c0_i32_97
  v190

def k0_off76 (i : grid0.Coords) : Fin 3 → Nat :=
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_174 : BitVec 32 := 1#32
  let v320 : BitVec 32 := Scalar.subi v7 c1_i32_174
  let v321 : Index := Scalar.indexCast v320
  let c0_175 : Index := 0#32
  let c0_176 : Index := 0#32
  ![v321.toNat, 0, 0]
def k0_mult14 (i : grid0.Coords) : BitVec 32 :=
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_174 : BitVec 32 := 1#32
  let v320 : BitVec 32 := Scalar.subi v7 c1_i32_174
  let c256_i32_180 : BitVec 32 := 256#32
  let v348 : BitVec 32 := Scalar.muli v320 c256_i32_180
  v348
def k0_off77 (i : grid0.Coords) : Fin 3 → Nat :=
  let c0_181 : Index := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_174 : BitVec 32 := 1#32
  let v320 : BitVec 32 := Scalar.subi v7 c1_i32_174
  let c256_i32_180 : BitVec 32 := 256#32
  let v348 : BitVec 32 := Scalar.muli v320 c256_i32_180
  let v349 : BitVec 32 := v348
  let v350 : Index := Scalar.indexCast v349
  let c0_182 : Index := 0#32
  ![0, v350.toNat, 0]
def k0_off78 (i : grid0.Coords) : Fin 3 → Nat :=
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_174 : BitVec 32 := 1#32
  let v320 : BitVec 32 := Scalar.subi v7 c1_i32_174
  let v356 : Index := Scalar.indexCast v320
  let c0_184 : Index := 0#32
  let c0_185 : Index := 0#32
  ![v356.toNat, 0, 0]
def k0_mult15 (i : grid0.Coords) : BitVec 32 :=
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_174 : BitVec 32 := 1#32
  let v320 : BitVec 32 := Scalar.subi v7 c1_i32_174
  let c256_i32_186 : BitVec 32 := 256#32
  let v377 : BitVec 32 := Scalar.muli v320 c256_i32_186
  v377
def k0_off79 (i : grid0.Coords) : Fin 3 → Nat :=
  let c1_187 : Index := 1#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_174 : BitVec 32 := 1#32
  let v320 : BitVec 32 := Scalar.subi v7 c1_i32_174
  let c256_i32_186 : BitVec 32 := 256#32
  let v377 : BitVec 32 := Scalar.muli v320 c256_i32_186
  let v378 : BitVec 32 := v377
  let v379 : Index := Scalar.indexCast v378
  let c0_188 : Index := 0#32
  ![1, v379.toNat, 0]
def k0_off80 (i : grid0.Coords) : Fin 3 → Nat :=
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_174 : BitVec 32 := 1#32
  let v320 : BitVec 32 := Scalar.subi v7 c1_i32_174
  let v385 : Index := Scalar.indexCast v320
  let c0_190 : Index := 0#32
  let c1024 : Index := 1024#32
  ![v385.toNat, 0, 1024]
@[reducible] def k0_t29_loop (i : grid0.Coords) : Scf.Loop 32 :=
  let c0_i32_103 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_102 : BitVec 32 := 1#32
  let v199 : BitVec 32 := Scalar.shrui v7 c1_i32_102
  let v200 : BitVec 32 := Scalar.subi v199 c0_i32_103
  let c1_i32_104 : BitVec 32 := 1#32
  let v202 : BitVec 32 := Scalar.divsi v200 c1_i32_104
  let v203 : BitVec 32 := Scalar.muli v202 c1_i32_104
  let v204 : BitVec 32 := Scalar.addi c0_i32_103 v203
  let c1_i32_105 : BitVec 32 := 1#32
  ⟨c0_i32_103, v204, c1_i32_105⟩
def k0_off81 (i : grid0.Coords) (k0_t29 : Fin (k0_t29_loop i).trips) : Fin 3 → Nat :=
  let c2_i32_175 : BitVec 32 := 2#32
  let c0_i32_103 : BitVec 32 := 0#32
  let c1_i32_105 : BitVec 32 := 1#32
  let arg18 : BitVec 32 := Scf.iv c0_i32_103 c1_i32_105 k0_t29
  let v322 : BitVec 32 := Scalar.muli c2_i32_175 arg18
  let v323 : Index := Scalar.indexCast v322
  let c0_176 : Index := 0#32
  let c0_177 : Index := 0#32
  ![v323.toNat, 0, 0]
def k0_off82 (i : grid0.Coords) (k0_t29 : Fin (k0_t29_loop i).trips) : Fin 3 → Nat :=
  let c2_i32_175 : BitVec 32 := 2#32
  let c0_i32_103 : BitVec 32 := 0#32
  let c1_i32_105 : BitVec 32 := 1#32
  let arg18 : BitVec 32 := Scf.iv c0_i32_103 c1_i32_105 k0_t29
  let v322 : BitVec 32 := Scalar.muli c2_i32_175 arg18
  let v329 : Index := Scalar.indexCast v322
  let c0_178 : Index := 0#32
  let c0_179 : Index := 0#32
  ![v329.toNat, 0, 0]
def k0_off83 (i : grid0.Coords) (k0_t29 : Fin (k0_t29_loop i).trips) : Fin 3 → Nat :=
  let c2_i32_175 : BitVec 32 := 2#32
  let c0_i32_103 : BitVec 32 := 0#32
  let c1_i32_105 : BitVec 32 := 1#32
  let arg18 : BitVec 32 := Scf.iv c0_i32_103 c1_i32_105 k0_t29
  let v322 : BitVec 32 := Scalar.muli c2_i32_175 arg18
  let v341 : Index := Scalar.indexCast v322
  let c64_187 : Index := 64#32
  let c0_188 : Index := 0#32
  ![v341.toNat, 64, 0]
def k0_off84 (i : grid0.Coords) (k0_t29 : Fin (k0_t29_loop i).trips) : Fin 3 → Nat :=
  let c2_i32 : BitVec 32 := 2#32
  let c0_i32_103 : BitVec 32 := 0#32
  let c1_i32_105 : BitVec 32 := 1#32
  let arg18 : BitVec 32 := Scf.iv c0_i32_103 c1_i32_105 k0_t29
  let v320 : BitVec 32 := Scalar.muli c2_i32 arg18
  let c1_i32_174 : BitVec 32 := 1#32
  let v321 : BitVec 32 := Scalar.addi v320 c1_i32_174
  let v371 : Index := Scalar.indexCast v321
  let c0_196 : Index := 0#32
  let c0_197 : Index := 0#32
  ![v371.toNat, 0, 0]
def k0_off85 (i : grid0.Coords) (k0_t29 : Fin (k0_t29_loop i).trips) : Fin 3 → Nat :=
  let c2_i32 : BitVec 32 := 2#32
  let c0_i32_103 : BitVec 32 := 0#32
  let c1_i32_105 : BitVec 32 := 1#32
  let arg18 : BitVec 32 := Scf.iv c0_i32_103 c1_i32_105 k0_t29
  let v320 : BitVec 32 := Scalar.muli c2_i32 arg18
  let c1_i32_174 : BitVec 32 := 1#32
  let v321 : BitVec 32 := Scalar.addi v320 c1_i32_174
  let v377 : Index := Scalar.indexCast v321
  let c0_198 : Index := 0#32
  let c0_199 : Index := 0#32
  ![v377.toNat, 0, 0]
def k0_off86 (i : grid0.Coords) (k0_t29 : Fin (k0_t29_loop i).trips) : Fin 3 → Nat :=
  let c2_i32 : BitVec 32 := 2#32
  let c0_i32_103 : BitVec 32 := 0#32
  let c1_i32_105 : BitVec 32 := 1#32
  let arg18 : BitVec 32 := Scf.iv c0_i32_103 c1_i32_105 k0_t29
  let v320 : BitVec 32 := Scalar.muli c2_i32 arg18
  let c1_i32_174 : BitVec 32 := 1#32
  let v321 : BitVec 32 := Scalar.addi v320 c1_i32_174
  let v389 : Index := Scalar.indexCast v321
  let c64_207 : Index := 64#32
  let c0_208 : Index := 0#32
  ![v389.toNat, 64, 0]
@[reducible] def k0_t30_loop (i : grid0.Coords) : Scf.Loop 32 :=
  let c0_i32_103 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_102 : BitVec 32 := 1#32
  let v199 : BitVec 32 := Scalar.shrui v7 c1_i32_102
  let v200 : BitVec 32 := Scalar.subi v199 c0_i32_103
  let c1_i32_104 : BitVec 32 := 1#32
  let v202 : BitVec 32 := Scalar.divsi v200 c1_i32_104
  let v203 : BitVec 32 := Scalar.muli v202 c1_i32_104
  let v204 : BitVec 32 := Scalar.addi c0_i32_103 v203
  let v201 : BitVec 32 := Scalar.addi c0_i32_103 v200
  let c1_i32_106 : BitVec 32 := 1#32
  ⟨v204, v201, c1_i32_106⟩
def k0_off87 (i : grid0.Coords) (k0_t30 : Fin (k0_t30_loop i).trips) : Fin 3 → Nat :=
  let c2_i32_175 : BitVec 32 := 2#32
  let c0_i32_103 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_102 : BitVec 32 := 1#32
  let v199 : BitVec 32 := Scalar.shrui v7 c1_i32_102
  let v200 : BitVec 32 := Scalar.subi v199 c0_i32_103
  let c1_i32_104 : BitVec 32 := 1#32
  let v202 : BitVec 32 := Scalar.divsi v200 c1_i32_104
  let v203 : BitVec 32 := Scalar.muli v202 c1_i32_104
  let v204 : BitVec 32 := Scalar.addi c0_i32_103 v203
  let c1_i32_106 : BitVec 32 := 1#32
  let arg18 : BitVec 32 := Scf.iv v204 c1_i32_106 k0_t30
  let v322 : BitVec 32 := Scalar.muli c2_i32_175 arg18
  let v323 : Index := Scalar.indexCast v322
  let c0_176 : Index := 0#32
  let c0_177 : Index := 0#32
  ![v323.toNat, 0, 0]
def k0_off88 (i : grid0.Coords) (k0_t30 : Fin (k0_t30_loop i).trips) : Fin 3 → Nat :=
  let c2_i32_175 : BitVec 32 := 2#32
  let c0_i32_103 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_102 : BitVec 32 := 1#32
  let v199 : BitVec 32 := Scalar.shrui v7 c1_i32_102
  let v200 : BitVec 32 := Scalar.subi v199 c0_i32_103
  let c1_i32_104 : BitVec 32 := 1#32
  let v202 : BitVec 32 := Scalar.divsi v200 c1_i32_104
  let v203 : BitVec 32 := Scalar.muli v202 c1_i32_104
  let v204 : BitVec 32 := Scalar.addi c0_i32_103 v203
  let c1_i32_106 : BitVec 32 := 1#32
  let arg18 : BitVec 32 := Scf.iv v204 c1_i32_106 k0_t30
  let v322 : BitVec 32 := Scalar.muli c2_i32_175 arg18
  let v329 : Index := Scalar.indexCast v322
  let c0_178 : Index := 0#32
  let c0_179 : Index := 0#32
  ![v329.toNat, 0, 0]
def k0_off89 (i : grid0.Coords) (k0_t30 : Fin (k0_t30_loop i).trips) : Fin 3 → Nat :=
  let c2_i32_175 : BitVec 32 := 2#32
  let c0_i32_103 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_102 : BitVec 32 := 1#32
  let v199 : BitVec 32 := Scalar.shrui v7 c1_i32_102
  let v200 : BitVec 32 := Scalar.subi v199 c0_i32_103
  let c1_i32_104 : BitVec 32 := 1#32
  let v202 : BitVec 32 := Scalar.divsi v200 c1_i32_104
  let v203 : BitVec 32 := Scalar.muli v202 c1_i32_104
  let v204 : BitVec 32 := Scalar.addi c0_i32_103 v203
  let c1_i32_106 : BitVec 32 := 1#32
  let arg18 : BitVec 32 := Scf.iv v204 c1_i32_106 k0_t30
  let v322 : BitVec 32 := Scalar.muli c2_i32_175 arg18
  let v341 : Index := Scalar.indexCast v322
  let c64_187 : Index := 64#32
  let c0_188 : Index := 0#32
  ![v341.toNat, 64, 0]
def k0_off90 (i : grid0.Coords) (k0_t30 : Fin (k0_t30_loop i).trips) : Fin 3 → Nat :=
  let c2_i32 : BitVec 32 := 2#32
  let c0_i32_103 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_102 : BitVec 32 := 1#32
  let v199 : BitVec 32 := Scalar.shrui v7 c1_i32_102
  let v200 : BitVec 32 := Scalar.subi v199 c0_i32_103
  let c1_i32_104 : BitVec 32 := 1#32
  let v202 : BitVec 32 := Scalar.divsi v200 c1_i32_104
  let v203 : BitVec 32 := Scalar.muli v202 c1_i32_104
  let v204 : BitVec 32 := Scalar.addi c0_i32_103 v203
  let c1_i32_106 : BitVec 32 := 1#32
  let arg18 : BitVec 32 := Scf.iv v204 c1_i32_106 k0_t30
  let v320 : BitVec 32 := Scalar.muli c2_i32 arg18
  let c1_i32_174 : BitVec 32 := 1#32
  let v321 : BitVec 32 := Scalar.addi v320 c1_i32_174
  let v371 : Index := Scalar.indexCast v321
  let c0_196 : Index := 0#32
  let c0_197 : Index := 0#32
  ![v371.toNat, 0, 0]
def k0_off91 (i : grid0.Coords) (k0_t30 : Fin (k0_t30_loop i).trips) : Fin 3 → Nat :=
  let c2_i32 : BitVec 32 := 2#32
  let c0_i32_103 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_102 : BitVec 32 := 1#32
  let v199 : BitVec 32 := Scalar.shrui v7 c1_i32_102
  let v200 : BitVec 32 := Scalar.subi v199 c0_i32_103
  let c1_i32_104 : BitVec 32 := 1#32
  let v202 : BitVec 32 := Scalar.divsi v200 c1_i32_104
  let v203 : BitVec 32 := Scalar.muli v202 c1_i32_104
  let v204 : BitVec 32 := Scalar.addi c0_i32_103 v203
  let c1_i32_106 : BitVec 32 := 1#32
  let arg18 : BitVec 32 := Scf.iv v204 c1_i32_106 k0_t30
  let v320 : BitVec 32 := Scalar.muli c2_i32 arg18
  let c1_i32_174 : BitVec 32 := 1#32
  let v321 : BitVec 32 := Scalar.addi v320 c1_i32_174
  let v377 : Index := Scalar.indexCast v321
  let c0_198 : Index := 0#32
  let c0_199 : Index := 0#32
  ![v377.toNat, 0, 0]
def k0_off92 (i : grid0.Coords) (k0_t30 : Fin (k0_t30_loop i).trips) : Fin 3 → Nat :=
  let c2_i32 : BitVec 32 := 2#32
  let c0_i32_103 : BitVec 32 := 0#32
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_102 : BitVec 32 := 1#32
  let v199 : BitVec 32 := Scalar.shrui v7 c1_i32_102
  let v200 : BitVec 32 := Scalar.subi v199 c0_i32_103
  let c1_i32_104 : BitVec 32 := 1#32
  let v202 : BitVec 32 := Scalar.divsi v200 c1_i32_104
  let v203 : BitVec 32 := Scalar.muli v202 c1_i32_104
  let v204 : BitVec 32 := Scalar.addi c0_i32_103 v203
  let c1_i32_106 : BitVec 32 := 1#32
  let arg18 : BitVec 32 := Scf.iv v204 c1_i32_106 k0_t30
  let v320 : BitVec 32 := Scalar.muli c2_i32 arg18
  let c1_i32_174 : BitVec 32 := 1#32
  let v321 : BitVec 32 := Scalar.addi v320 c1_i32_174
  let v389 : Index := Scalar.indexCast v321
  let c64_207 : Index := 64#32
  let c0_208 : Index := 0#32
  ![v389.toNat, 64, 0]
def k0_cond13 (i : grid0.Coords) : BitVec 1 :=
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_107 : BitVec 32 := 1#32
  let v207 : BitVec 32 := Scalar.andi v7 c1_i32_107
  let c1_i32_108 : BitVec 32 := 1#32
  let v208 : BitVec 1 := Scalar.cmpi .eq v207 c1_i32_108
  let v209 : BitVec 32 := Scalar.extui v208
  let c0_i32_109 : BitVec 32 := 0#32
  let v210 : BitVec 1 := Scalar.cmpi .ne v209 c0_i32_109
  v210

def k0_off93 (i : grid0.Coords) : Fin 3 → Nat :=
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_174 : BitVec 32 := 1#32
  let v320 : BitVec 32 := Scalar.subi v7 c1_i32_174
  let v321 : Index := Scalar.indexCast v320
  let c0_175 : Index := 0#32
  let c0_176 : Index := 0#32
  ![v321.toNat, 0, 0]
def k0_off94 (i : grid0.Coords) : Fin 3 → Nat :=
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_174 : BitVec 32 := 1#32
  let v320 : BitVec 32 := Scalar.subi v7 c1_i32_174
  let v327 : Index := Scalar.indexCast v320
  let c0_177 : Index := 0#32
  let c0_178 : Index := 0#32
  ![v327.toNat, 0, 0]
def k0_off95 (i : grid0.Coords) : Fin 3 → Nat :=
  let c0_i32_1 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let v5 : BitVec 32 := Scalar.addi c0_i32_1 v4
  let c255_i32 : BitVec 32 := 255#32
  let v6 : BitVec 32 := Scalar.addi v5 c255_i32
  let c256_i32_2 : BitVec 32 := 256#32
  let v7 : BitVec 32 := Scalar.divsi v6 c256_i32_2
  let c1_i32_174 : BitVec 32 := 1#32
  let v320 : BitVec 32 := Scalar.subi v7 c1_i32_174
  let v339 : Index := Scalar.indexCast v320
  let c64_186 : Index := 64#32
  let c0_187 : Index := 0#32
  ![v339.toNat, 64, 0]
def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel3.lean ====
abbrev S16x2048x1024 : Shape := ⟨3, ![16, 2048, 1024]⟩
abbrev S1x1024 : Shape := ⟨2, ![1, 1024]⟩
abbrev S1x1024x3912 : Shape := ⟨3, ![1, 1024, 3912]⟩
abbrev S1x512 : Shape := ⟨2, ![1, 512]⟩
abbrev S1024x3912 : Shape := ⟨2, ![1024, 3912]⟩
abbrev S1024x512 : Shape := ⟨2, ![1024, 512]⟩
abbrev S1024x128 : Shape := ⟨2, ![1024, 128]⟩
abbrev S1024x64 : Shape := ⟨2, ![1024, 64]⟩
abbrev S1024x8 : Shape := ⟨2, ![1024, 8]⟩
abbrev S_ : Shape := ⟨0, ![]⟩
abbrev S1024x16 : Shape := ⟨2, ![1024, 16]⟩
abbrev S1024x40 : Shape := ⟨2, ![1024, 40]⟩
abbrev S1024x3072 : Shape := ⟨2, ![1024, 3072]⟩
abbrev S1024x1024 : Shape := ⟨2, ![1024, 1024]⟩
abbrev S1024 : Shape := ⟨1, ![1024]⟩
abbrev S512 : Shape := ⟨1, ![512]⟩
abbrev S16x4x128x128 : Shape := ⟨4, ![16, 4, 128, 128]⟩
abbrev S32768x1024 : Shape := ⟨2, ![32768, 1024]⟩
abbrev S2048 : Shape := ⟨1, ![2048]⟩
abbrev S1x2048 : Shape := ⟨2, ![1, 2048]⟩
abbrev S2048x1 : Shape := ⟨2, ![2048, 1]⟩
abbrev S64 : Shape := ⟨1, ![64]⟩
abbrev S1x64 : Shape := ⟨2, ![1, 64]⟩
abbrev S2048x64 : Shape := ⟨2, ![2048, 64]⟩
abbrev S2048x128 : Shape := ⟨2, ![2048, 128]⟩
abbrev S8 : Shape := ⟨1, ![8]⟩
abbrev S1x8 : Shape := ⟨2, ![1, 8]⟩
abbrev S2048x8 : Shape := ⟨2, ![2048, 8]⟩
abbrev S2048x48 : Shape := ⟨2, ![2048, 48]⟩
abbrev S2048x56 : Shape := ⟨2, ![2048, 56]⟩
abbrev S4 : Shape := ⟨1, ![4]⟩
abbrev S4x1x1 : Shape := ⟨3, ![4, 1, 1]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S4x256x256 : Shape := ⟨3, ![4, 256, 256]⟩
abbrev S1x256x1 : Shape := ⟨3, ![1, 256, 1]⟩
abbrev S4x256x1 : Shape := ⟨3, ![4, 256, 1]⟩
abbrev S4x256x128 : Shape := ⟨3, ![4, 256, 128]⟩
abbrev S4x1x128 : Shape := ⟨3, ![4, 1, 128]⟩
abbrev S32768x512 : Shape := ⟨2, ![32768, 512]⟩
abbrev S128x512x256 : Shape := ⟨3, ![128, 512, 256]⟩
abbrev S32768x128 : Shape := ⟨2, ![32768, 128]⟩
abbrev S32768x64 : Shape := ⟨2, ![32768, 64]⟩
abbrev S128x8x256 : Shape := ⟨3, ![128, 8, 256]⟩
abbrev S512x1024 : Shape := ⟨2, ![512, 1024]⟩
abbrev S512x128 : Shape := ⟨2, ![512, 128]⟩
abbrev S1x4x128x128 : Shape := ⟨4, ![1, 4, 128, 128]⟩
abbrev S512x512 : Shape := ⟨2, ![512, 512]⟩
abbrev S2x512x256 : Shape := ⟨3, ![2, 512, 256]⟩
abbrev S512x64 : Shape := ⟨2, ![512, 64]⟩
abbrev S2x8x256 : Shape := ⟨3, ![2, 8, 256]⟩
abbrev S4x128x128 : Shape := ⟨3, ![4, 128, 128]⟩
abbrev S512x1 : Shape := ⟨2, ![512, 1]⟩
abbrev S256x128 : Shape := ⟨2, ![256, 128]⟩
abbrev S1x128x128 : Shape := ⟨3, ![1, 128, 128]⟩
abbrev S128x128 : Shape := ⟨2, ![128, 128]⟩
abbrev S1x256x128 : Shape := ⟨3, ![1, 256, 128]⟩
abbrev S128x256 : Shape := ⟨2, ![128, 256]⟩
abbrev S1x1x128 : Shape := ⟨3, ![1, 1, 128]⟩
abbrev S1x128 : Shape := ⟨2, ![1, 128]⟩
abbrev S128x512 : Shape := ⟨2, ![128, 512]⟩
abbrev S1x128x256 : Shape := ⟨3, ![1, 128, 256]⟩
abbrev S512x8 : Shape := ⟨2, ![512, 8]⟩
abbrev S8x512 : Shape := ⟨2, ![8, 512]⟩
abbrev S8x256 : Shape := ⟨2, ![8, 256]⟩
abbrev S1x8x256 : Shape := ⟨3, ![1, 8, 256]⟩

abbrev nBuf : Space → Nat
  | .hbm => 189
  | .vmem => 41
  | .smem => 0
  | _ => 0

abbrev hbmTy0_0 (i : Nat) : BufTy := match i % 128 with
  | 0 => ⟨S16x2048x1024, .f32⟩
  | 1 => ⟨S1x1024, .f32⟩
  | 2 => ⟨S1x1024x3912, .f32⟩
  | 3 => ⟨S1x512, .f32⟩
  | 4 => ⟨S1024x3912, .f32⟩
  | 5 => ⟨S1024x512, .f32⟩
  | 6 => ⟨S1024x512, .f32⟩
  | 7 => ⟨S1024x512, .f32⟩
  | 8 => ⟨S1024x512, .f32⟩
  | 9 => ⟨S1024x512, .f32⟩
  | 10 => ⟨S1024x128, .f32⟩
  | 11 => ⟨S1024x128, .f32⟩
  | 12 => ⟨S1024x512, .f32⟩
  | 13 => ⟨S1024x512, .f32⟩
  | 14 => ⟨S1024x64, .f32⟩
  | 15 => ⟨S1024x8, .f32⟩
  | 16 => ⟨S_, .f32⟩
  | 17 => ⟨S1024x16, .f32⟩
  | 18 => ⟨S_, .f32⟩
  | 19 => ⟨S1024x40, .f32⟩
  | 20 => ⟨S_, .f32⟩
  | 21 => ⟨S1024x128, .f32⟩
  | 22 => ⟨S1024x3072, .f32⟩
  | 23 => ⟨S1024x3072, .bf16⟩
  | 24 => ⟨S1024x1024, .f32⟩
  | 25 => ⟨S1024, .f32⟩
  | 26 => ⟨S1x1024, .f32⟩
  | 27 => ⟨S512, .f32⟩
  | 28 => ⟨S1x512, .f32⟩
  | 29 => ⟨S_, .f32⟩
  | 30 => ⟨S16x4x128x128, .f32⟩
  | 31 => ⟨S32768x1024, .f32⟩
  | 32 => ⟨S2048, .i32⟩
  | 33 => ⟨S1x2048, .i32⟩
  | 34 => ⟨S1x2048, .i32⟩
  | 35 => ⟨S2048, .i32⟩
  | 36 => ⟨S_, .i32⟩
  | 37 => ⟨S2048, .i32⟩
  | 38 => ⟨S2048, .i32⟩
  | 39 => ⟨S2048, .f32⟩
  | 40 => ⟨S2048x1, .f32⟩
  | 41 => ⟨S64, .f32⟩
  | 42 => ⟨S64, .f32⟩
  | 43 => ⟨S_, .f32⟩
  | 44 => ⟨S64, .f32⟩
  | 45 => ⟨S64, .f32⟩
  | 46 => ⟨S_, .f32⟩
  | 47 => ⟨S64, .f32⟩
  | 48 => ⟨S64, .f32⟩
  | 49 => ⟨S1x64, .f32⟩
  | 50 => ⟨S2048x64, .f32⟩
  | 51 => ⟨S2048x64, .f32⟩
  | 52 => ⟨S2048x64, .f32⟩
  | 53 => ⟨S2048x64, .f32⟩
  | 54 => ⟨S2048x64, .f32⟩
  | 55 => ⟨S2048x128, .f32⟩
  | 56 => ⟨S2048x64, .f32⟩
  | 57 => ⟨S2048x64, .f32⟩
  | 58 => ⟨S2048x64, .f32⟩
  | 59 => ⟨S2048x128, .f32⟩
  | 60 => ⟨S8, .f32⟩
  | 61 => ⟨S8, .f32⟩
  | 62 => ⟨S_, .f32⟩
  | 63 => ⟨S8, .f32⟩
  | 64 => ⟨S8, .f32⟩
  | 65 => ⟨S_, .f32⟩
  | 66 => ⟨S8, .f32⟩
  | 67 => ⟨S8, .f32⟩
  | 68 => ⟨S1x8, .f32⟩
  | 69 => ⟨S2048x8, .f32⟩
  | 70 => ⟨S2048x8, .f32⟩
  | 71 => ⟨S2048x8, .f32⟩
  | 72 => ⟨S2048x8, .f32⟩
  | 73 => ⟨S2048x8, .f32⟩
  | 74 => ⟨S_, .f32⟩
  | 75 => ⟨S2048x48, .f32⟩
  | 76 => ⟨S2048x64, .f32⟩
  | 77 => ⟨S2048x8, .f32⟩
  | 78 => ⟨S2048x8, .f32⟩
  | 79 => ⟨S_, .f32⟩
  | 80 => ⟨S2048x56, .f32⟩
  | 81 => ⟨S2048x64, .f32⟩
  | 82 => ⟨S_, .f32⟩
  | 83 => ⟨S2048x8, .f32⟩
  | 84 => ⟨S2048x8, .f32⟩
  | 85 => ⟨S_, .f32⟩
  | 86 => ⟨S2048x48, .f32⟩
  | 87 => ⟨S2048x64, .f32⟩
  | 88 => ⟨S2048x128, .f32⟩
  | 89 => ⟨S2048x128, .f32⟩
  | 90 => ⟨S2048x128, .f32⟩
  | 91 => ⟨S4, .f32⟩
  | 92 => ⟨S_, .f32⟩
  | 93 => ⟨S4, .f32⟩
  | 94 => ⟨S4, .f32⟩
  | 95 => ⟨S_, .f32⟩
  | 96 => ⟨S4, .f32⟩
  | 97 => ⟨S4, .f32⟩
  | 98 => ⟨S4, .f32⟩
  | 99 => ⟨S4, .f32⟩
  | 100 => ⟨S4, .f32⟩
  | 101 => ⟨S4x1x1, .f32⟩
  | 102 => ⟨S256, .f32⟩
  | 103 => ⟨S256x1, .f32⟩
  | 104 => ⟨S1x256, .f32⟩
  | 105 => ⟨S256x256, .f32⟩
  | 106 => ⟨S256x256, .f32⟩
  | 107 => ⟨S256x256, .f32⟩
  | 108 => ⟨S256, .i32⟩
  | 109 => ⟨S_, .i32⟩
  | 110 => ⟨S_, .i32⟩
  | 111 => ⟨S256, .i32⟩
  | 112 => ⟨S256, .i32⟩
  | 113 => ⟨S256, .i32⟩
  | 114 => ⟨S_, .i32⟩
  | 115 => ⟨S256, .i32⟩
  | 116 => ⟨S256, .i1⟩
  | 117 => ⟨S256, .i32⟩
  | 118 => ⟨S256, .i32⟩
  | 119 => ⟨S_, .i32⟩
  | 120 => ⟨S256, .i32⟩
  | 121 => ⟨S256, .i1⟩
  | 122 => ⟨S256, .i1⟩
  | 123 => ⟨S_, .i32⟩
  | 124 => ⟨S256, .i32⟩
  | 125 => ⟨S256, .i32⟩
  | 126 => ⟨S256, .i32⟩
  | 127 => ⟨S256x1, .i32⟩
  | _ => ⟨S16x2048x1024, .f32⟩

abbrev hbmTy0_1 (i : Nat) : BufTy := match i % 128 with
  | 0 => ⟨S1x256, .i32⟩
  | 1 => ⟨S256x256, .i32⟩
  | 2 => ⟨S256x256, .i32⟩
  | 3 => ⟨S256x256, .i1⟩
  | 4 => ⟨S1x256, .i32⟩
  | 5 => ⟨S256x1, .i32⟩
  | 6 => ⟨S256x256, .i32⟩
  | 7 => ⟨S256x256, .i32⟩
  | 8 => ⟨S256x256, .i1⟩
  | 9 => ⟨S1x256x256, .i1⟩
  | 10 => ⟨S256x256, .f32⟩
  | 11 => ⟨S1x256x256, .f32⟩
  | 12 => ⟨S4x256x256, .f32⟩
  | 13 => ⟨S4x256x256, .f32⟩
  | 14 => ⟨S4x256x256, .f32⟩
  | 15 => ⟨S4x256x256, .f32⟩
  | 16 => ⟨S1x256x256, .i1⟩
  | 17 => ⟨S1x256x256, .f32⟩
  | 18 => ⟨S4x256x256, .f32⟩
  | 19 => ⟨S4x256x256, .f32⟩
  | 20 => ⟨S4x256x256, .f32⟩
  | 21 => ⟨S4x256x256, .f32⟩
  | 22 => ⟨S_, .f32⟩
  | 23 => ⟨S_, .f32⟩
  | 24 => ⟨S4x256x256, .i1⟩
  | 25 => ⟨S4x256x256, .f32⟩
  | 26 => ⟨S4x256x256, .f32⟩
  | 27 => ⟨S4x256x256, .i1⟩
  | 28 => ⟨S4x256x256, .f32⟩
  | 29 => ⟨S_, .f32⟩
  | 30 => ⟨S256, .f32⟩
  | 31 => ⟨S256, .f32⟩
  | 32 => ⟨S1x256x1, .f32⟩
  | 33 => ⟨S4x256x1, .f32⟩
  | 34 => ⟨S4x256x1, .f32⟩
  | 35 => ⟨S4x256x1, .f32⟩
  | 36 => ⟨S4x256x1, .f32⟩
  | 37 => ⟨S4x256x128, .f32⟩
  | 38 => ⟨S_, .f32⟩
  | 39 => ⟨S256, .f32⟩
  | 40 => ⟨S256, .f32⟩
  | 41 => ⟨S1x256x1, .f32⟩
  | 42 => ⟨S4x256x1, .f32⟩
  | 43 => ⟨S4x256x1, .f32⟩
  | 44 => ⟨S4x256x1, .f32⟩
  | 45 => ⟨S4x256x1, .f32⟩
  | 46 => ⟨S4x256x128, .f32⟩
  | 47 => ⟨S_, .f32⟩
  | 48 => ⟨S4x1x1, .f32⟩
  | 49 => ⟨S4x1x1, .f32⟩
  | 50 => ⟨S4x1x1, .f32⟩
  | 51 => ⟨S4x1x128, .f32⟩
  | 52 => ⟨S32768x512, .bf16⟩
  | 53 => ⟨S16x4x128x128, .f32⟩
  | 54 => ⟨S128x512x256, .bf16⟩
  | 55 => ⟨S32768x128, .f32⟩
  | 56 => ⟨S32768x128, .f32⟩
  | 57 => ⟨S128x512x256, .bf16⟩
  | 58 => ⟨S128x512x256, .f32⟩
  | 59 => ⟨S32768x64, .f32⟩
  | 60 => ⟨S128x8x256, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1024x1024, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S1x4x128x128, .f32⟩
  | .local _ .vmem, ⟨16, _⟩ => ⟨S1x4x128x128, .f32⟩
  | .local _ .vmem, ⟨17, _⟩ => ⟨S4x256x256, .f32⟩
  | .local _ .vmem, ⟨18, _⟩ => ⟨S4x256x128, .f32⟩
  | .local _ .vmem, ⟨19, _⟩ => ⟨S4x256x128, .f32⟩
  | .local _ .vmem, ⟨20, _⟩ => ⟨S4x1x128, .f32⟩
  | .local _ .vmem, ⟨21, _⟩ => ⟨S1x512, .f32⟩
  | .local _ .vmem, ⟨22, _⟩ => ⟨S512x512, .bf16⟩
  | .local _ .vmem, ⟨23, _⟩ => ⟨S512x512, .bf16⟩
  | .local _ .vmem, ⟨24, _⟩ => ⟨S1x4x128x128, .f32⟩
  | .local _ .vmem, ⟨25, _⟩ => ⟨S1x4x128x128, .f32⟩
  | .local _ .vmem, ⟨26, _⟩ => ⟨S2x512x256, .bf16⟩
  | .local _ .vmem, ⟨27, _⟩ => ⟨S2x512x256, .bf16⟩
  | .local _ .vmem, ⟨28, _⟩ => ⟨S512x128, .f32⟩
  | .local _ .vmem, ⟨29, _⟩ => ⟨S512x128, .f32⟩
  | .local _ .vmem, ⟨30, _⟩ => ⟨S512x128, .f32⟩
  | .local _ .vmem, ⟨31, _⟩ => ⟨S512x128, .f32⟩
  | .local _ .vmem, ⟨32, _⟩ => ⟨S2x512x256, .bf16⟩
  | .local _ .vmem, ⟨33, _⟩ => ⟨S2x512x256, .bf16⟩
  | .local _ .vmem, ⟨34, _⟩ => ⟨S2x512x256, .f32⟩
  | .local _ .vmem, ⟨35, _⟩ => ⟨S2x512x256, .f32⟩
  | .local _ .vmem, ⟨36, _⟩ => ⟨S512x64, .f32⟩
  | .local _ .vmem, ⟨37, _⟩ => ⟨S512x64, .f32⟩
  | .local _ .vmem, ⟨38, _⟩ => ⟨S2x8x256, .f32⟩
  | .local _ .vmem, ⟨39, _⟩ => ⟨S2x8x256, .f32⟩
  | .local _ .vmem, ⟨40, _⟩ => ⟨S4x128x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_5 : Ref sig .tc := ⟨.hbm, 62, rfl⟩
abbrev main_v51 : Ref sig .tc := ⟨.hbm, 63, rfl⟩
abbrev main_v52 : Ref sig .tc := ⟨.hbm, 64, rfl⟩
abbrev main_cst_6 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_7 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_8 : Ref sig .tc := ⟨.hbm, 79, rfl⟩
abbrev main_v65 : Ref sig .tc := ⟨.hbm, 80, rfl⟩
abbrev main_v66 : Ref sig .tc := ⟨.hbm, 81, rfl⟩
abbrev main_cst_9 : Ref sig .tc := ⟨.hbm, 82, rfl⟩
abbrev main_v67 : Ref sig .tc := ⟨.hbm, 83, rfl⟩
abbrev main_v68 : Ref sig .tc := ⟨.hbm, 84, rfl⟩
abbrev main_cst_10 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_11 : Ref sig .tc := ⟨.hbm, 92, rfl⟩
abbrev main_v75 : Ref sig .tc := ⟨.hbm, 93, rfl⟩
abbrev main_v76 : Ref sig .tc := ⟨.hbm, 94, rfl⟩
abbrev main_cst_12 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_c_13 : Ref sig .tc := ⟨.hbm, 109, rfl⟩
abbrev main_call0_v0 : Ref sig .tc := ⟨.hbm, 110, rfl⟩
abbrev main_call0_v1 : Ref sig .tc := ⟨.hbm, 111, rfl⟩
abbrev main_call0_v2 : Ref sig .tc := ⟨.hbm, 112, rfl⟩
abbrev main_call0_v3 : Ref sig .tc := ⟨.hbm, 113, rfl⟩
abbrev main_call0_v4 : Ref sig .tc := ⟨.hbm, 114, rfl⟩
abbrev main_call0_v5 : Ref sig .tc := ⟨.hbm, 115, rfl⟩
abbrev main_call0_v6 : Ref sig .tc := ⟨.hbm, 116, rfl⟩
abbrev main_call0_v7 : Ref sig .tc := ⟨.hbm, 117, rfl⟩
abbrev main_call0_v8 : Ref sig .tc := ⟨.hbm, 118, rfl⟩
abbrev main_call0_c : Ref sig .tc := ⟨.hbm, 119, rfl⟩
abbrev main_call0_v9 : Ref sig .tc := ⟨.hbm, 120, rfl⟩
abbrev main_call0_v10 : Ref sig .tc := ⟨.hbm, 121, rfl⟩
abbrev main_call0_v11 : Ref sig .tc := ⟨.hbm, 122, rfl⟩
abbrev main_call0_c_0 : Ref sig .tc := ⟨.hbm, 123, rfl⟩
abbrev main_call0_v12 : Ref sig .tc := ⟨.hbm, 124, rfl⟩
abbrev main_call0_v13 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_cst_14 : Ref sig .tc := ⟨.hbm, 150, rfl⟩
abbrev main_call1_v0 : Ref sig .tc := ⟨.hbm, 151, rfl⟩
abbrev main_call1_v1 : Ref sig .tc := ⟨.hbm, 152, rfl⟩
abbrev main_call1_v2 : Ref sig .tc := ⟨.hbm, 153, rfl⟩
abbrev main_v114 : Ref sig .tc := ⟨.hbm, 154, rfl⟩
abbrev main_call2_v0 : Ref sig .tc := ⟨.hbm, 155, rfl⟩
abbrev main_v115 : Ref sig .tc := ⟨.hbm, 156, rfl⟩
abbrev main_cst_15 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_cst_16 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_cst_17 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136_0 : Ref sig .tc := ⟨.hbm, 180, rfl⟩
abbrev main_v136_1 : Ref sig .tc := ⟨.hbm, 181, rfl⟩
abbrev main_v136_2 : Ref sig .tc := ⟨.hbm, 182, rfl⟩
abbrev main_v136_3 : Ref sig .tc := ⟨.hbm, 183, rfl⟩
abbrev main_v136_4 : Ref sig .tc := ⟨.hbm, 184, rfl⟩
abbrev main_v136_5 : Ref sig .tc := ⟨.hbm, 185, rfl⟩
abbrev main_v136_6 : Ref sig .tc := ⟨.hbm, 186, rfl⟩
abbrev main_v136_7 : Ref sig .tc := ⟨.hbm, 187, rfl⟩
abbrev main_v136_8 : Ref sig .tc := ⟨.hbm, 188, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_stg22_1 : Ref sig .tc := ⟨.vmem, 37, rfl⟩
abbrev cc0_stg23_0 : Ref sig .tc := ⟨.vmem, 38, rfl⟩
abbrev cc0_stg23_1 : Ref sig .tc := ⟨.vmem, 39, rfl⟩
abbrev cc0_scratch0 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35
abbrev cc0_sem22_0 : DmaSem sig := 36
abbrev cc0_sem22_1 : DmaSem sig := 37
abbrev cc0_sem23_0 : DmaSem sig := 38
abbrev cc0_sem23_1 : DmaSem sig := 39

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c4_i32_269 : BitVec 32 := 4#32
  let c0_i32_270 : BitVec 32 := 0#32
  let v529 : BitVec 1 := Scalar.cmpi .eq c4_i32_269 c0_i32_270
  let c1_i32_271 : BitVec 32 := 1#32
  let v530 : BitVec 32 := Scalar.select v529 c1_i32_271 c4_i32_269
  let v531 : BitVec 32 := Scalar.remsi arg0 v530
  let c0_i32_273 : BitVec 32 := 0#32
  let v533 : BitVec 1 := Scalar.cmpi .slt v531 c0_i32_273
  let c0_i32_274 : BitVec 32 := 0#32
  let v534 : BitVec 1 := Scalar.cmpi .slt v530 c0_i32_274
  let v535 : BitVec 1 := Scalar.xori v533 v534
  let c0_i32_272 : BitVec 32 := 0#32
  let v532 : BitVec 1 := Scalar.cmpi .ne v531 c0_i32_272
  let v536 : BitVec 1 := Scalar.andi v535 v532
  let v537 : BitVec 32 := Scalar.addi v531 v530
  let v538 : BitVec 32 := Scalar.select v536 v537 v531
  let c3_i32 : BitVec 32 := 3#32
  let v539 : BitVec 1 := Scalar.cmpi .eq v538 c3_i32
  let v540 : BitVec 32 := Scalar.extui v539
  let c0_i32_275 : BitVec 32 := 0#32
  let v541 : BitVec 1 := Scalar.cmpi .ne v540 c0_i32_275
  v541

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x256x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x4x128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S2x512x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S2x512x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x64 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S2x8x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== Reference3Ideal.lean ====
abbrev S16x2048x1024 : Shape := ⟨3, ![16, 2048, 1024]⟩
abbrev S1x1024 : Shape := ⟨2, ![1, 1024]⟩
abbrev S1x1024x3912 : Shape := ⟨3, ![1, 1024, 3912]⟩
abbrev S1x512 : Shape := ⟨2, ![1, 512]⟩
abbrev S2048 : Shape := ⟨1, ![2048]⟩
abbrev S_ : Shape := ⟨0, ![]⟩
abbrev S16x4x128x128 : Shape := ⟨4, ![16, 4, 128, 128]⟩
abbrev S1024 : Shape := ⟨1, ![1024]⟩
abbrev S1024x3912 : Shape := ⟨2, ![1024, 3912]⟩
abbrev S512 : Shape := ⟨1, ![512]⟩
abbrev S16x2048 : Shape := ⟨2, ![16, 2048]⟩
abbrev S16x2048x1 : Shape := ⟨3, ![16, 2048, 1]⟩
abbrev S1x1x1024 : Shape := ⟨3, ![1, 1, 1024]⟩
abbrev S16x2048x3912 : Shape := ⟨3, ![16, 2048, 3912]⟩
abbrev S16x2048x512 : Shape := ⟨3, ![16, 2048, 512]⟩
abbrev S16x2048x128 : Shape := ⟨3, ![16, 2048, 128]⟩
abbrev S16x2048x64 : Shape := ⟨3, ![16, 2048, 64]⟩
abbrev S16x2048x8 : Shape := ⟨3, ![16, 2048, 8]⟩
abbrev S16x2048x4x128 : Shape := ⟨4, ![16, 2048, 4, 128]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S16x2048x4x64 : Shape := ⟨4, ![16, 2048, 4, 64]⟩
abbrev S16x2048x4x0 : Shape := ⟨4, ![16, 2048, 4, 0]⟩
abbrev S4 : Shape := ⟨1, ![4]⟩
abbrev S4x1x1 : Shape := ⟨3, ![4, 1, 1]⟩
abbrev S64x1 : Shape := ⟨2, ![64, 1]⟩
abbrev S64x64 : Shape := ⟨2, ![64, 64]⟩
abbrev S1x64x64 : Shape := ⟨3, ![1, 64, 64]⟩
abbrev S4x64x64 : Shape := ⟨3, ![4, 64, 64]⟩
abbrev S1x4 : Shape := ⟨2, ![1, 4]⟩
abbrev S64x4 : Shape := ⟨2, ![64, 4]⟩
abbrev S16x32x64x4x128 : Shape := ⟨5, ![16, 32, 64, 4, 128]⟩
abbrev S16x32x4x64x64 : Shape := ⟨5, ![16, 32, 4, 64, 64]⟩
abbrev S1x1x4x64x64 : Shape := ⟨5, ![1, 1, 4, 64, 64]⟩
abbrev S16x32x4x128x64 : Shape := ⟨5, ![16, 32, 4, 128, 64]⟩
abbrev S64x4x1 : Shape := ⟨3, ![64, 4, 1]⟩
abbrev S1x1x64x4x1 : Shape := ⟨5, ![1, 1, 64, 4, 1]⟩
abbrev S32x16x4x128x128 : Shape := ⟨5, ![32, 16, 4, 128, 128]⟩
abbrev S1x4x1x1 : Shape := ⟨4, ![1, 4, 1, 1]⟩
abbrev S1x16x4x128x128 : Shape := ⟨5, ![1, 16, 4, 128, 128]⟩
abbrev S16x16x4x128x128 : Shape := ⟨5, ![16, 16, 4, 128, 128]⟩
abbrev S4x128 : Shape := ⟨2, ![4, 128]⟩
abbrev S16x2048x4 : Shape := ⟨3, ![16, 2048, 4]⟩
abbrev S16x2048x4x1 : Shape := ⟨4, ![16, 2048, 4, 1]⟩
abbrev S1x1x4x128 : Shape := ⟨4, ![1, 1, 4, 128]⟩
abbrev S16x2048x8x64 : Shape := ⟨4, ![16, 2048, 8, 64]⟩
abbrev S8 : Shape := ⟨1, ![8]⟩
abbrev S1x8 : Shape := ⟨2, ![1, 8]⟩
abbrev S2048x8 : Shape := ⟨2, ![2048, 8]⟩
abbrev S1x2048x1x8 : Shape := ⟨4, ![1, 2048, 1, 8]⟩
abbrev S16x2048x8x8 : Shape := ⟨4, ![16, 2048, 8, 8]⟩
abbrev S16x2048x8x48 : Shape := ⟨4, ![16, 2048, 8, 48]⟩
abbrev S16x2048x2x64 : Shape := ⟨4, ![16, 2048, 2, 64]⟩
abbrev S16x2048x2x8 : Shape := ⟨4, ![16, 2048, 2, 8]⟩
abbrev S16x2048x2x48 : Shape := ⟨4, ![16, 2048, 2, 48]⟩
abbrev S16x2048x1x64 : Shape := ⟨4, ![16, 2048, 1, 64]⟩
abbrev S16x2048x1x8 : Shape := ⟨4, ![16, 2048, 1, 8]⟩
abbrev S16x2048x1x48 : Shape := ⟨4, ![16, 2048, 1, 48]⟩
abbrev S16x8x256x512 : Shape := ⟨4, ![16, 8, 256, 512]⟩
abbrev S16x8x512x256 : Shape := ⟨4, ![16, 8, 512, 256]⟩
abbrev S128x512x256 : Shape := ⟨3, ![128, 512, 256]⟩
abbrev S32768x128 : Shape := ⟨2, ![32768, 128]⟩
abbrev S32768x64 : Shape := ⟨2, ![32768, 64]⟩
abbrev S16x8x256x8 : Shape := ⟨4, ![16, 8, 256, 8]⟩
abbrev S16x8x8x256 : Shape := ⟨4, ![16, 8, 8, 256]⟩
abbrev S128x8x256 : Shape := ⟨3, ![128, 8, 256]⟩

abbrev nBuf : Space → Nat
  | .hbm => 598
  | .vmem => 0
  | .smem => 0
  | _ => 0

abbrev hbmTy0_0 (i : Nat) : BufTy := match i % 128 with
  | 0 => ⟨S16x2048x1024, .f32⟩
  | 1 => ⟨S1x1024, .f32⟩
  | 2 => ⟨S1x1024x3912, .f32⟩
  | 3 => ⟨S1x512, .f32⟩
  | 4 => ⟨S2048, .i32⟩
  | 5 => ⟨S_, .f32⟩
  | 6 => ⟨S16x4x128x128, .f32⟩
  | 7 => ⟨S1024, .f32⟩
  | 8 => ⟨S1024x3912, .f32⟩
  | 9 => ⟨S512, .f32⟩
  | 10 => ⟨S16x2048x1024, .f32⟩
  | 11 => ⟨S_, .f32⟩
  | 12 => ⟨S16x2048, .f32⟩
  | 13 => ⟨S16x2048x1, .f32⟩
  | 14 => ⟨S_, .f32⟩
  | 15 => ⟨S16x2048x1, .f32⟩
  | 16 => ⟨S16x2048x1, .f32⟩
  | 17 => ⟨S_, .f32⟩
  | 18 => ⟨S16x2048x1, .f32⟩
  | 19 => ⟨S16x2048x1, .f32⟩
  | 20 => ⟨S16x2048x1, .f32⟩
  | 21 => ⟨S16x2048x1024, .f32⟩
  | 22 => ⟨S16x2048x1024, .f32⟩
  | 23 => ⟨S1x1x1024, .f32⟩
  | 24 => ⟨S16x2048x1024, .f32⟩
  | 25 => ⟨S16x2048x1024, .f32⟩
  | 26 => ⟨S16x2048x3912, .f32⟩
  | 27 => ⟨S16x2048x512, .f32⟩
  | 28 => ⟨S16x2048x512, .f32⟩
  | 29 => ⟨S16x2048x512, .f32⟩
  | 30 => ⟨S16x2048x512, .f32⟩
  | 31 => ⟨S16x2048x512, .f32⟩
  | 32 => ⟨S16x2048x128, .f32⟩
  | 33 => ⟨S16x2048x128, .f32⟩
  | 34 => ⟨S16x2048x512, .f32⟩
  | 35 => ⟨S16x2048x512, .f32⟩
  | 36 => ⟨S16x2048x64, .f32⟩
  | 37 => ⟨S16x2048x8, .f32⟩
  | 38 => ⟨S16x2048x4x128, .f32⟩
  | 39 => ⟨S64, .f32⟩
  | 40 => ⟨S64, .f32⟩
  | 41 => ⟨S_, .f32⟩
  | 42 => ⟨S64, .f32⟩
  | 43 => ⟨S64, .f32⟩
  | 44 => ⟨S_, .f32⟩
  | 45 => ⟨S64, .f32⟩
  | 46 => ⟨S64, .f32⟩
  | 47 => ⟨S2048, .f32⟩
  | 48 => ⟨S2048x1, .f32⟩
  | 49 => ⟨S1x64, .f32⟩
  | 50 => ⟨S2048x64, .f32⟩
  | 51 => ⟨S2048x64, .f32⟩
  | 52 => ⟨S2048x64, .f32⟩
  | 53 => ⟨S2048x64, .f32⟩
  | 54 => ⟨S1x2048x1x64, .f32⟩
  | 55 => ⟨S2048x64, .f32⟩
  | 56 => ⟨S1x2048x1x64, .f32⟩
  | 57 => ⟨S16x2048x4x64, .f32⟩
  | 58 => ⟨S16x2048x4x64, .f32⟩
  | 59 => ⟨S16x2048x4x64, .f32⟩
  | 60 => ⟨S16x2048x4x64, .f32⟩
  | 61 => ⟨S16x2048x4x64, .f32⟩
  | 62 => ⟨S16x2048x4x64, .f32⟩
  | 63 => ⟨S16x2048x4x64, .f32⟩
  | 64 => ⟨S16x2048x4x64, .f32⟩
  | 65 => ⟨S16x2048x4x64, .f32⟩
  | 66 => ⟨S16x2048x4x64, .f32⟩
  | 67 => ⟨S16x2048x4x64, .f32⟩
  | 68 => ⟨S16x2048x4x64, .f32⟩
  | 69 => ⟨S16x2048x4x0, .f32⟩
  | 70 => ⟨S16x2048x4x128, .f32⟩
  | 71 => ⟨S16x2048x4x128, .f32⟩
  | 72 => ⟨S64, .f32⟩
  | 73 => ⟨S64, .f32⟩
  | 74 => ⟨S_, .f32⟩
  | 75 => ⟨S64, .f32⟩
  | 76 => ⟨S64, .f32⟩
  | 77 => ⟨S_, .f32⟩
  | 78 => ⟨S64, .f32⟩
  | 79 => ⟨S64, .f32⟩
  | 80 => ⟨S2048, .f32⟩
  | 81 => ⟨S2048x1, .f32⟩
  | 82 => ⟨S1x64, .f32⟩
  | 83 => ⟨S2048x64, .f32⟩
  | 84 => ⟨S2048x64, .f32⟩
  | 85 => ⟨S2048x64, .f32⟩
  | 86 => ⟨S2048x64, .f32⟩
  | 87 => ⟨S1x2048x1x64, .f32⟩
  | 88 => ⟨S2048x64, .f32⟩
  | 89 => ⟨S1x2048x1x64, .f32⟩
  | 90 => ⟨S16x2048x4x64, .f32⟩
  | 91 => ⟨S16x2048x4x64, .f32⟩
  | 92 => ⟨S16x2048x4x64, .f32⟩
  | 93 => ⟨S16x2048x4x64, .f32⟩
  | 94 => ⟨S16x2048x4x64, .f32⟩
  | 95 => ⟨S16x2048x4x64, .f32⟩
  | 96 => ⟨S16x2048x4x64, .f32⟩
  | 97 => ⟨S16x2048x4x64, .f32⟩
  | 98 => ⟨S16x2048x4x64, .f32⟩
  | 99 => ⟨S16x2048x4x64, .f32⟩
  | 100 => ⟨S16x2048x4x64, .f32⟩
  | 101 => ⟨S16x2048x4x64, .f32⟩
  | 102 => ⟨S16x2048x4x0, .f32⟩
  | 103 => ⟨S16x2048x4x128, .f32⟩
  | 104 => ⟨S_, .f32⟩
  | 105 => ⟨S16x2048x4x128, .f32⟩
  | 106 => ⟨S16x2048x4x128, .f32⟩
  | 107 => ⟨S16x2048x4x128, .f32⟩
  | 108 => ⟨S4, .f32⟩
  | 109 => ⟨S_, .f32⟩
  | 110 => ⟨S4, .f32⟩
  | 111 => ⟨S4, .f32⟩
  | 112 => ⟨S_, .f32⟩
  | 113 => ⟨S4, .f32⟩
  | 114 => ⟨S4, .f32⟩
  | 115 => ⟨S4, .f32⟩
  | 116 => ⟨S4, .f32⟩
  | 117 => ⟨S4, .f32⟩
  | 118 => ⟨S64, .f32⟩
  | 119 => ⟨S4x1x1, .f32⟩
  | 120 => ⟨S64x1, .f32⟩
  | 121 => ⟨S1x64, .f32⟩
  | 122 => ⟨S64x64, .f32⟩
  | 123 => ⟨S64x64, .f32⟩
  | 124 => ⟨S64x64, .f32⟩
  | 125 => ⟨S64x64, .f32⟩
  | 126 => ⟨S1x64x64, .f32⟩
  | 127 => ⟨S4x64x64, .f32⟩
  | _ => ⟨S16x2048x1024, .f32⟩

abbrev hbmTy0_1 (i : Nat) : BufTy := match i % 128 with
  | 0 => ⟨S4x64x64, .f32⟩
  | 1 => ⟨S4x64x64, .f32⟩
  | 2 => ⟨S4x64x64, .f32⟩
  | 3 => ⟨S1x4, .f32⟩
  | 4 => ⟨S_, .f32⟩
  | 5 => ⟨S64, .f32⟩
  | 6 => ⟨S64, .f32⟩
  | 7 => ⟨S64x1, .f32⟩
  | 8 => ⟨S64x4, .f32⟩
  | 9 => ⟨S64x4, .f32⟩
  | 10 => ⟨S64x4, .f32⟩
  | 11 => ⟨S64x4, .f32⟩
  | 12 => ⟨S1x4, .f32⟩
  | 13 => ⟨S_, .f32⟩
  | 14 => ⟨S64, .f32⟩
  | 15 => ⟨S64, .f32⟩
  | 16 => ⟨S64x1, .f32⟩
  | 17 => ⟨S64x4, .f32⟩
  | 18 => ⟨S64x4, .f32⟩
  | 19 => ⟨S64x4, .f32⟩
  | 20 => ⟨S64x4, .f32⟩
  | 21 => ⟨S_, .f32⟩
  | 22 => ⟨S4, .f32⟩
  | 23 => ⟨S4, .f32⟩
  | 24 => ⟨S4, .f32⟩
  | 25 => ⟨S16x32x64x4x128, .f32⟩
  | 26 => ⟨S16x32x64x4x128, .f32⟩
  | 27 => ⟨S16x32x64x4x128, .f32⟩
  | 28 => ⟨S16x32x4x64x64, .f32⟩
  | 29 => ⟨S1x1x4x64x64, .f32⟩
  | 30 => ⟨S16x32x4x64x64, .f32⟩
  | 31 => ⟨S16x32x4x64x64, .f32⟩
  | 32 => ⟨S16x32x4x128x64, .f32⟩
  | 33 => ⟨S16x32x64x4x128, .f32⟩
  | 34 => ⟨S64x4x1, .f32⟩
  | 35 => ⟨S1x1x64x4x1, .f32⟩
  | 36 => ⟨S16x32x64x4x128, .f32⟩
  | 37 => ⟨S16x32x64x4x128, .f32⟩
  | 38 => ⟨S32x16x4x128x128, .f32⟩
  | 39 => ⟨S1x4x1x1, .f32⟩
  | 40 => ⟨S16x4x128x128, .f32⟩
  | 41 => ⟨S16x4x128x128, .f32⟩
  | 42 => ⟨S1x16x4x128x128, .f32⟩
  | 43 => ⟨S16x4x128x128, .f32⟩
  | 44 => ⟨S16x4x128x128, .f32⟩
  | 45 => ⟨S1x4x1x1, .f32⟩
  | 46 => ⟨S16x4x128x128, .f32⟩
  | 47 => ⟨S16x4x128x128, .f32⟩
  | 48 => ⟨S1x16x4x128x128, .f32⟩
  | 49 => ⟨S16x4x128x128, .f32⟩
  | 50 => ⟨S16x4x128x128, .f32⟩
  | 51 => ⟨S1x4x1x1, .f32⟩
  | 52 => ⟨S16x4x128x128, .f32⟩
  | 53 => ⟨S16x4x128x128, .f32⟩
  | 54 => ⟨S1x16x4x128x128, .f32⟩
  | 55 => ⟨S16x4x128x128, .f32⟩
  | 56 => ⟨S16x4x128x128, .f32⟩
  | 57 => ⟨S1x4x1x1, .f32⟩
  | 58 => ⟨S16x4x128x128, .f32⟩
  | 59 => ⟨S16x4x128x128, .f32⟩
  | 60 => ⟨S1x16x4x128x128, .f32⟩
  | 61 => ⟨S16x4x128x128, .f32⟩
  | 62 => ⟨S16x4x128x128, .f32⟩
  | 63 => ⟨S1x4x1x1, .f32⟩
  | 64 => ⟨S16x4x128x128, .f32⟩
  | 65 => ⟨S16x4x128x128, .f32⟩
  | 66 => ⟨S1x16x4x128x128, .f32⟩
  | 67 => ⟨S16x4x128x128, .f32⟩
  | 68 => ⟨S16x4x128x128, .f32⟩
  | 69 => ⟨S1x4x1x1, .f32⟩
  | 70 => ⟨S16x4x128x128, .f32⟩
  | 71 => ⟨S16x4x128x128, .f32⟩
  | 72 => ⟨S1x16x4x128x128, .f32⟩
  | 73 => ⟨S16x4x128x128, .f32⟩
  | 74 => ⟨S16x4x128x128, .f32⟩
  | 75 => ⟨S1x4x1x1, .f32⟩
  | 76 => ⟨S16x4x128x128, .f32⟩
  | 77 => ⟨S16x4x128x128, .f32⟩
  | 78 => ⟨S1x16x4x128x128, .f32⟩
  | 79 => ⟨S16x4x128x128, .f32⟩
  | 80 => ⟨S16x4x128x128, .f32⟩
  | 81 => ⟨S1x4x1x1, .f32⟩
  | 82 => ⟨S16x4x128x128, .f32⟩
  | 83 => ⟨S16x4x128x128, .f32⟩
  | 84 => ⟨S1x16x4x128x128, .f32⟩
  | 85 => ⟨S16x4x128x128, .f32⟩
  | 86 => ⟨S16x4x128x128, .f32⟩
  | 87 => ⟨S1x4x1x1, .f32⟩
  | 88 => ⟨S16x4x128x128, .f32⟩
  | 89 => ⟨S16x4x128x128, .f32⟩
  | 90 => ⟨S1x16x4x128x128, .f32⟩
  | 91 => ⟨S16x4x128x128, .f32⟩
  | 92 => ⟨S16x4x128x128, .f32⟩
  | 93 => ⟨S1x4x1x1, .f32⟩
  | 94 => ⟨S16x4x128x128, .f32⟩
  | 95 => ⟨S16x4x128x128, .f32⟩
  | 96 => ⟨S1x16x4x128x128, .f32⟩
  | 97 => ⟨S16x4x128x128, .f32⟩
  | 98 => ⟨S16x4x128x128, .f32⟩
  | 99 => ⟨S1x4x1x1, .f32⟩
  | 100 => ⟨S16x4x128x128, .f32⟩
  | 101 => ⟨S16x4x128x128, .f32⟩
  | 102 => ⟨S1x16x4x128x128, .f32⟩
  | 103 => ⟨S16x4x128x128, .f32⟩
  | 104 => ⟨S16x4x128x128, .f32⟩
  | 105 => ⟨S1x4x1x1, .f32⟩
  | 106 => ⟨S16x4x128x128, .f32⟩
  | 107 => ⟨S16x4x128x128, .f32⟩
  | 108 => ⟨S1x16x4x128x128, .f32⟩
  | 109 => ⟨S16x4x128x128, .f32⟩
  | 110 => ⟨S16x4x128x128, .f32⟩
  | 111 => ⟨S1x4x1x1, .f32⟩
  | 112 => ⟨S16x4x128x128, .f32⟩
  | 113 => ⟨S16x4x128x128, .f32⟩
  | 114 => ⟨S1x16x4x128x128, .f32⟩
  | 115 => ⟨S16x4x128x128, .f32⟩
  | 116 => ⟨S16x4x128x128, .f32⟩
  | 117 => ⟨S1x4x1x1, .f32⟩
  | 118 => ⟨S16x4x128x128, .f32⟩
  | 119 => ⟨S16x4x128x128, .f32⟩
  | 120 => ⟨S1x16x4x128x128, .f32⟩
  | 121 => ⟨S16x4x128x128, .f32⟩
  | 122 => ⟨S16x4x128x128, .f32⟩
  | 123 => ⟨S1x4x1x1, .f32⟩
  | 124 => ⟨S16x4x128x128, .f32⟩
  | 125 => ⟨S16x4x128x128, .f32⟩
  | 126 => ⟨S1x16x4x128x128, .f32⟩
  | 127 => ⟨S16x4x128x128, .f32⟩
  | _ => ⟨S16x2048x1024, .f32⟩

abbrev hbmTy0_2 (i : Nat) : BufTy := match i % 128 with
  | 0 => ⟨S16x4x128x128, .f32⟩
  | 1 => ⟨S1x4x1x1, .f32⟩
  | 2 => ⟨S16x4x128x128, .f32⟩
  | 3 => ⟨S16x4x128x128, .f32⟩
  | 4 => ⟨S1x16x4x128x128, .f32⟩
  | 5 => ⟨S16x4x128x128, .f32⟩
  | 6 => ⟨S16x4x128x128, .f32⟩
  | 7 => ⟨S1x4x1x1, .f32⟩
  | 8 => ⟨S16x4x128x128, .f32⟩
  | 9 => ⟨S16x4x128x128, .f32⟩
  | 10 => ⟨S1x16x4x128x128, .f32⟩
  | 11 => ⟨S16x4x128x128, .f32⟩
  | 12 => ⟨S16x4x128x128, .f32⟩
  | 13 => ⟨S1x4x1x1, .f32⟩
  | 14 => ⟨S16x4x128x128, .f32⟩
  | 15 => ⟨S16x4x128x128, .f32⟩
  | 16 => ⟨S1x16x4x128x128, .f32⟩
  | 17 => ⟨S16x4x128x128, .f32⟩
  | 18 => ⟨S16x4x128x128, .f32⟩
  | 19 => ⟨S1x4x1x1, .f32⟩
  | 20 => ⟨S16x4x128x128, .f32⟩
  | 21 => ⟨S16x4x128x128, .f32⟩
  | 22 => ⟨S1x16x4x128x128, .f32⟩
  | 23 => ⟨S16x4x128x128, .f32⟩
  | 24 => ⟨S16x4x128x128, .f32⟩
  | 25 => ⟨S1x4x1x1, .f32⟩
  | 26 => ⟨S16x4x128x128, .f32⟩
  | 27 => ⟨S16x4x128x128, .f32⟩
  | 28 => ⟨S1x16x4x128x128, .f32⟩
  | 29 => ⟨S16x4x128x128, .f32⟩
  | 30 => ⟨S16x4x128x128, .f32⟩
  | 31 => ⟨S1x4x1x1, .f32⟩
  | 32 => ⟨S16x4x128x128, .f32⟩
  | 33 => ⟨S16x4x128x128, .f32⟩
  | 34 => ⟨S1x16x4x128x128, .f32⟩
  | 35 => ⟨S16x4x128x128, .f32⟩
  | 36 => ⟨S16x4x128x128, .f32⟩
  | 37 => ⟨S1x4x1x1, .f32⟩
  | 38 => ⟨S16x4x128x128, .f32⟩
  | 39 => ⟨S16x4x128x128, .f32⟩
  | 40 => ⟨S1x16x4x128x128, .f32⟩
  | 41 => ⟨S16x4x128x128, .f32⟩
  | 42 => ⟨S16x4x128x128, .f32⟩
  | 43 => ⟨S1x4x1x1, .f32⟩
  | 44 => ⟨S16x4x128x128, .f32⟩
  | 45 => ⟨S16x4x128x128, .f32⟩
  | 46 => ⟨S1x16x4x128x128, .f32⟩
  | 47 => ⟨S16x4x128x128, .f32⟩
  | 48 => ⟨S16x4x128x128, .f32⟩
  | 49 => ⟨S1x4x1x1, .f32⟩
  | 50 => ⟨S16x4x128x128, .f32⟩
  | 51 => ⟨S16x4x128x128, .f32⟩
  | 52 => ⟨S1x16x4x128x128, .f32⟩
  | 53 => ⟨S16x4x128x128, .f32⟩
  | 54 => ⟨S16x4x128x128, .f32⟩
  | 55 => ⟨S1x4x1x1, .f32⟩
  | 56 => ⟨S16x4x128x128, .f32⟩
  | 57 => ⟨S16x4x128x128, .f32⟩
  | 58 => ⟨S1x16x4x128x128, .f32⟩
  | 59 => ⟨S16x4x128x128, .f32⟩
  | 60 => ⟨S16x4x128x128, .f32⟩
  | 61 => ⟨S1x4x1x1, .f32⟩
  | 62 => ⟨S16x4x128x128, .f32⟩
  | 63 => ⟨S16x4x128x128, .f32⟩
  | 64 => ⟨S1x16x4x128x128, .f32⟩
  | 65 => ⟨S16x4x128x128, .f32⟩
  | 66 => ⟨S16x4x128x128, .f32⟩
  | 67 => ⟨S1x4x1x1, .f32⟩
  | 68 => ⟨S16x4x128x128, .f32⟩
  | 69 => ⟨S16x4x128x128, .f32⟩
  | 70 => ⟨S1x16x4x128x128, .f32⟩
  | 71 => ⟨S16x4x128x128, .f32⟩
  | 72 => ⟨S16x4x128x128, .f32⟩
  | 73 => ⟨S1x4x1x1, .f32⟩
  | 74 => ⟨S16x4x128x128, .f32⟩
  | 75 => ⟨S16x4x128x128, .f32⟩
  | 76 => ⟨S1x16x4x128x128, .f32⟩
  | 77 => ⟨S16x4x128x128, .f32⟩
  | 78 => ⟨S16x4x128x128, .f32⟩
  | 79 => ⟨S1x4x1x1, .f32⟩
  | 80 => ⟨S16x4x128x128, .f32⟩
  | 81 => ⟨S16x4x128x128, .f32⟩
  | 82 => ⟨S1x16x4x128x128, .f32⟩
  | 83 => ⟨S16x4x128x128, .f32⟩
  | 84 => ⟨S16x4x128x128, .f32⟩
  | 85 => ⟨S1x4x1x1, .f32⟩
  | 86 => ⟨S16x4x128x128, .f32⟩
  | 87 => ⟨S16x4x128x128, .f32⟩
  | 88 => ⟨S1x16x4x128x128, .f32⟩
  | 89 => ⟨S16x4x128x128, .f32⟩
  | 90 => ⟨S16x4x128x128, .f32⟩
  | 91 => ⟨S1x4x1x1, .f32⟩
  | 92 => ⟨S16x4x128x128, .f32⟩
  | 93 => ⟨S16x4x128x128, .f32⟩
  | 94 => ⟨S1x16x4x128x128, .f32⟩
  | 95 => ⟨S16x4x128x128, .f32⟩
  | 96 => ⟨S16x4x128x128, .f32⟩
  | 97 => ⟨S1x4x1x1, .f32⟩
  | 98 => ⟨S16x4x128x128, .f32⟩
  | 99 => ⟨S16x4x128x128, .f32⟩
  | 100 => ⟨S1x16x4x128x128, .f32⟩
  | 101 => ⟨S16x4x128x128, .f32⟩
  | 102 => ⟨S16x4x128x128, .f32⟩
  | 103 => ⟨S1x16x4x128x128, .f32⟩
  | 104 => ⟨S1x16x4x128x128, .f32⟩
  | 105 => ⟨S1x16x4x128x128, .f32⟩
  | 106 => ⟨S1x16x4x128x128, .f32⟩
  | 107 => ⟨S1x16x4x128x128, .f32⟩
  | 108 => ⟨S1x16x4x128x128, .f32⟩
  | 109 => ⟨S1x16x4x128x128, .f32⟩
  | 110 => ⟨S1x16x4x128x128, .f32⟩
  | 111 => ⟨S1x16x4x128x128, .f32⟩
  | 112 => ⟨S1x16x4x128x128, .f32⟩
  | 113 => ⟨S1x16x4x128x128, .f32⟩
  | 114 => ⟨S1x16x4x128x128, .f32⟩
  | 115 => ⟨S1x16x4x128x128, .f32⟩
  | 116 => ⟨S1x16x4x128x128, .f32⟩
  | 117 => ⟨S1x16x4x128x128, .f32⟩
  | 118 => ⟨S1x16x4x128x128, .f32⟩
  | 119 => ⟨S1x16x4x128x128, .f32⟩
  | 120 => ⟨S1x16x4x128x128, .f32⟩
  | 121 => ⟨S1x16x4x128x128, .f32⟩
  | 122 => ⟨S1x16x4x128x128, .f32⟩
  | 123 => ⟨S1x16x4x128x128, .f32⟩
  | 124 => ⟨S1x16x4x128x128, .f32⟩
  | 125 => ⟨S1x16x4x128x128, .f32⟩
  | 126 => ⟨S1x16x4x128x128, .f32⟩
  | 127 => ⟨S1x16x4x128x128, .f32⟩
  | _ => ⟨S16x2048x1024, .f32⟩

abbrev hbmTy0_3 (i : Nat) : BufTy := match i % 128 with
  | 0 => ⟨S1x16x4x128x128, .f32⟩
  | 1 => ⟨S1x16x4x128x128, .f32⟩
  | 2 => ⟨S1x16x4x128x128, .f32⟩
  | 3 => ⟨S1x16x4x128x128, .f32⟩
  | 4 => ⟨S1x16x4x128x128, .f32⟩
  | 5 => ⟨S1x16x4x128x128, .f32⟩
  | 6 => ⟨S1x16x4x128x128, .f32⟩
  | 7 => ⟨S16x16x4x128x128, .f32⟩
  | 8 => ⟨S16x16x4x128x128, .f32⟩
  | 9 => ⟨S32x16x4x128x128, .f32⟩
  | 10 => ⟨S64x4x1, .f32⟩
  | 11 => ⟨S1x1x64x4x1, .f32⟩
  | 12 => ⟨S16x32x64x4x128, .f32⟩
  | 13 => ⟨S16x32x64x4x128, .f32⟩
  | 14 => ⟨S16x32x4x128x64, .f32⟩
  | 15 => ⟨S16x32x64x4x128, .f32⟩
  | 16 => ⟨S16x32x64x4x128, .f32⟩
  | 17 => ⟨S16x2048x4x128, .f32⟩
  | 18 => ⟨S4x128, .f32⟩
  | 19 => ⟨S16x2048x4x128, .f32⟩
  | 20 => ⟨S_, .f32⟩
  | 21 => ⟨S16x2048x4, .f32⟩
  | 22 => ⟨S16x2048x4x1, .f32⟩
  | 23 => ⟨S_, .f32⟩
  | 24 => ⟨S16x2048x4x1, .f32⟩
  | 25 => ⟨S16x2048x4x1, .f32⟩
  | 26 => ⟨S_, .f32⟩
  | 27 => ⟨S16x2048x4x1, .f32⟩
  | 28 => ⟨S16x2048x4x1, .f32⟩
  | 29 => ⟨S16x2048x4x1, .f32⟩
  | 30 => ⟨S16x2048x4x128, .f32⟩
  | 31 => ⟨S16x2048x4x128, .f32⟩
  | 32 => ⟨S1x1x4x128, .f32⟩
  | 33 => ⟨S16x2048x4x128, .f32⟩
  | 34 => ⟨S16x2048x4x128, .f32⟩
  | 35 => ⟨S16x2048x512, .f32⟩
  | 36 => ⟨S16x2048x512, .f32⟩
  | 37 => ⟨S16x2048x512, .f32⟩
  | 38 => ⟨S_, .f32⟩
  | 39 => ⟨S16x2048x512, .f32⟩
  | 40 => ⟨S16x2048x512, .f32⟩
  | 41 => ⟨S_, .f32⟩
  | 42 => ⟨S16x2048x512, .f32⟩
  | 43 => ⟨S16x2048x512, .f32⟩
  | 44 => ⟨S16x2048x512, .f32⟩
  | 45 => ⟨S16x2048x512, .f32⟩
  | 46 => ⟨S16x2048x8x64, .f32⟩
  | 47 => ⟨S8, .f32⟩
  | 48 => ⟨S8, .f32⟩
  | 49 => ⟨S_, .f32⟩
  | 50 => ⟨S8, .f32⟩
  | 51 => ⟨S8, .f32⟩
  | 52 => ⟨S_, .f32⟩
  | 53 => ⟨S8, .f32⟩
  | 54 => ⟨S8, .f32⟩
  | 55 => ⟨S2048, .f32⟩
  | 56 => ⟨S2048x1, .f32⟩
  | 57 => ⟨S1x8, .f32⟩
  | 58 => ⟨S2048x8, .f32⟩
  | 59 => ⟨S2048x8, .f32⟩
  | 60 => ⟨S2048x8, .f32⟩
  | 61 => ⟨S2048x8, .f32⟩
  | 62 => ⟨S1x2048x1x8, .f32⟩
  | 63 => ⟨S2048x8, .f32⟩
  | 64 => ⟨S1x2048x1x8, .f32⟩
  | 65 => ⟨S16x2048x8x8, .f32⟩
  | 66 => ⟨S16x2048x8x8, .f32⟩
  | 67 => ⟨S16x2048x8x8, .f32⟩
  | 68 => ⟨S16x2048x8x8, .f32⟩
  | 69 => ⟨S16x2048x8x8, .f32⟩
  | 70 => ⟨S16x2048x8x8, .f32⟩
  | 71 => ⟨S16x2048x8x8, .f32⟩
  | 72 => ⟨S16x2048x8x8, .f32⟩
  | 73 => ⟨S16x2048x8x8, .f32⟩
  | 74 => ⟨S16x2048x8x8, .f32⟩
  | 75 => ⟨S16x2048x8x8, .f32⟩
  | 76 => ⟨S16x2048x8x8, .f32⟩
  | 77 => ⟨S16x2048x8x48, .f32⟩
  | 78 => ⟨S16x2048x8x64, .f32⟩
  | 79 => ⟨S16x2048x2x64, .f32⟩
  | 80 => ⟨S8, .f32⟩
  | 81 => ⟨S8, .f32⟩
  | 82 => ⟨S_, .f32⟩
  | 83 => ⟨S8, .f32⟩
  | 84 => ⟨S8, .f32⟩
  | 85 => ⟨S_, .f32⟩
  | 86 => ⟨S8, .f32⟩
  | 87 => ⟨S8, .f32⟩
  | 88 => ⟨S2048, .f32⟩
  | 89 => ⟨S2048x1, .f32⟩
  | 90 => ⟨S1x8, .f32⟩
  | 91 => ⟨S2048x8, .f32⟩
  | 92 => ⟨S2048x8, .f32⟩
  | 93 => ⟨S2048x8, .f32⟩
  | 94 => ⟨S2048x8, .f32⟩
  | 95 => ⟨S1x2048x1x8, .f32⟩
  | 96 => ⟨S2048x8, .f32⟩
  | 97 => ⟨S1x2048x1x8, .f32⟩
  | 98 => ⟨S16x2048x2x8, .f32⟩
  | 99 => ⟨S16x2048x2x8, .f32⟩
  | 100 => ⟨S16x2048x2x8, .f32⟩
  | 101 => ⟨S16x2048x2x8, .f32⟩
  | 102 => ⟨S16x2048x2x8, .f32⟩
  | 103 => ⟨S16x2048x2x8, .f32⟩
  | 104 => ⟨S16x2048x2x8, .f32⟩
  | 105 => ⟨S16x2048x2x8, .f32⟩
  | 106 => ⟨S16x2048x2x8, .f32⟩
  | 107 => ⟨S16x2048x2x8, .f32⟩
  | 108 => ⟨S16x2048x2x8, .f32⟩
  | 109 => ⟨S16x2048x2x8, .f32⟩
  | 110 => ⟨S16x2048x2x48, .f32⟩
  | 111 => ⟨S16x2048x2x64, .f32⟩
  | 112 => ⟨S16x2048x2x64, .f32⟩
  | 113 => ⟨S16x2048x8x64, .f32⟩
  | 114 => ⟨S8, .f32⟩
  | 115 => ⟨S8, .f32⟩
  | 116 => ⟨S_, .f32⟩
  | 117 => ⟨S8, .f32⟩
  | 118 => ⟨S8, .f32⟩
  | 119 => ⟨S_, .f32⟩
  | 120 => ⟨S8, .f32⟩
  | 121 => ⟨S8, .f32⟩
  | 122 => ⟨S2048, .f32⟩
  | 123 => ⟨S2048x1, .f32⟩
  | 124 => ⟨S1x8, .f32⟩
  | 125 => ⟨S2048x8, .f32⟩
  | 126 => ⟨S2048x8, .f32⟩
  | 127 => ⟨S2048x8, .f32⟩
  | _ => ⟨S16x2048x1024, .f32⟩

abbrev hbmTy0_4 (i : Nat) : BufTy := match i % 128 with
  | 0 => ⟨S2048x8, .f32⟩
  | 1 => ⟨S1x2048x1x8, .f32⟩
  | 2 => ⟨S2048x8, .f32⟩
  | 3 => ⟨S1x2048x1x8, .f32⟩
  | 4 => ⟨S16x2048x8x8, .f32⟩
  | 5 => ⟨S16x2048x8x8, .f32⟩
  | 6 => ⟨S16x2048x8x8, .f32⟩
  | 7 => ⟨S16x2048x8x8, .f32⟩
  | 8 => ⟨S16x2048x8x8, .f32⟩
  | 9 => ⟨S16x2048x8x8, .f32⟩
  | 10 => ⟨S16x2048x8x8, .f32⟩
  | 11 => ⟨S16x2048x8x8, .f32⟩
  | 12 => ⟨S16x2048x8x8, .f32⟩
  | 13 => ⟨S16x2048x8x8, .f32⟩
  | 14 => ⟨S16x2048x8x8, .f32⟩
  | 15 => ⟨S16x2048x8x8, .f32⟩
  | 16 => ⟨S16x2048x8x48, .f32⟩
  | 17 => ⟨S16x2048x8x64, .f32⟩
  | 18 => ⟨S16x2048x1x64, .f32⟩
  | 19 => ⟨S8, .f32⟩
  | 20 => ⟨S8, .f32⟩
  | 21 => ⟨S_, .f32⟩
  | 22 => ⟨S8, .f32⟩
  | 23 => ⟨S8, .f32⟩
  | 24 => ⟨S_, .f32⟩
  | 25 => ⟨S8, .f32⟩
  | 26 => ⟨S8, .f32⟩
  | 27 => ⟨S2048, .f32⟩
  | 28 => ⟨S2048x1, .f32⟩
  | 29 => ⟨S1x8, .f32⟩
  | 30 => ⟨S2048x8, .f32⟩
  | 31 => ⟨S2048x8, .f32⟩
  | 32 => ⟨S2048x8, .f32⟩
  | 33 => ⟨S2048x8, .f32⟩
  | 34 => ⟨S1x2048x1x8, .f32⟩
  | 35 => ⟨S2048x8, .f32⟩
  | 36 => ⟨S1x2048x1x8, .f32⟩
  | 37 => ⟨S16x2048x1x8, .f32⟩
  | 38 => ⟨S16x2048x1x8, .f32⟩
  | 39 => ⟨S16x2048x1x8, .f32⟩
  | 40 => ⟨S16x2048x1x8, .f32⟩
  | 41 => ⟨S16x2048x1x8, .f32⟩
  | 42 => ⟨S16x2048x1x8, .f32⟩
  | 43 => ⟨S16x2048x1x8, .f32⟩
  | 44 => ⟨S16x2048x1x8, .f32⟩
  | 45 => ⟨S16x2048x1x8, .f32⟩
  | 46 => ⟨S16x2048x1x8, .f32⟩
  | 47 => ⟨S16x2048x1x8, .f32⟩
  | 48 => ⟨S16x2048x1x8, .f32⟩
  | 49 => ⟨S16x2048x1x48, .f32⟩
  | 50 => ⟨S16x2048x1x64, .f32⟩
  | 51 => ⟨S16x2048x64, .f32⟩
  | 52 => ⟨S_, .f32⟩
  | 53 => ⟨S16x2048x8, .f32⟩
  | 54 => ⟨S16x2048x8, .f32⟩
  | 55 => ⟨S16x2048x512, .f32⟩
  | 56 => ⟨S16x2048x512, .f32⟩
  | 57 => ⟨S_, .f32⟩
  | 58 => ⟨S16x2048x512, .f32⟩
  | 59 => ⟨S16x2048x512, .f32⟩
  | 60 => ⟨S_, .f32⟩
  | 61 => ⟨S16x2048x512, .f32⟩
  | 62 => ⟨S16x2048x512, .f32⟩
  | 63 => ⟨S16x2048x512, .f32⟩
  | 64 => ⟨S_, .f32⟩
  | 65 => ⟨S16x2048x8x64, .f32⟩
  | 66 => ⟨S16x2048x8x64, .f32⟩
  | 67 => ⟨S16x2048x512, .f32⟩
  | 68 => ⟨S16x8x256x512, .f32⟩
  | 69 => ⟨S16x8x512x256, .f32⟩
  | 70 => ⟨S128x512x256, .f32⟩
  | 71 => ⟨S128x512x256, .bf16⟩
  | 72 => ⟨S32768x128, .f32⟩
  | 73 => ⟨S32768x128, .f32⟩
  | 74 => ⟨S16x8x256x512, .f32⟩
  | 75 => ⟨S16x8x512x256, .f32⟩
  | 76 => ⟨S128x512x256, .f32⟩
  | 77 => ⟨S128x512x256, .bf16⟩
  | 78 => ⟨S16x2048x512, .f32⟩
  | 79 => ⟨S16x8x256x512, .f32⟩
  | 80 => ⟨S16x8x512x256, .f32⟩
  | 81 => ⟨S128x512x256, .f32⟩
  | 82 => ⟨S32768x64, .f32⟩
  | 83 => ⟨S16x8x256x8, .f32⟩
  | 84 => ⟨S16x8x8x256, .f32⟩
  | 85 => ⟨S128x8x256, .f32⟩
  | _ => ⟨S16x2048x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_cst_5 : Ref sig .tc := ⟨.hbm, 74, rfl⟩
abbrev main_v64 : Ref sig .tc := ⟨.hbm, 75, rfl⟩
abbrev main_v65 : Ref sig .tc := ⟨.hbm, 76, rfl⟩
abbrev main_cst_6 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_cst_7 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_cst_8 : Ref sig .tc := ⟨.hbm, 109, rfl⟩
abbrev main_v96 : Ref sig .tc := ⟨.hbm, 110, rfl⟩
abbrev main_v97 : Ref sig .tc := ⟨.hbm, 111, rfl⟩
abbrev main_cst_9 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_cst_10 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_cst_11 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_cst_12 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩
abbrev main_v183 : Ref sig .tc := ⟨.hbm, 201, rfl⟩
abbrev main_v184 : Ref sig .tc := ⟨.hbm, 202, rfl⟩
abbrev main_v185 : Ref sig .tc := ⟨.hbm, 203, rfl⟩
abbrev main_v186 : Ref sig .tc := ⟨.hbm, 204, rfl⟩
abbrev main_v187 : Ref sig .tc := ⟨.hbm, 205, rfl⟩
abbrev main_v188 : Ref sig .tc := ⟨.hbm, 206, rfl⟩
abbrev main_v189 : Ref sig .tc := ⟨.hbm, 207, rfl⟩
abbrev main_v190 : Ref sig .tc := ⟨.hbm, 208, rfl⟩
abbrev main_v191 : Ref sig .tc := ⟨.hbm, 209, rfl⟩
abbrev main_v192 : Ref sig .tc := ⟨.hbm, 210, rfl⟩
abbrev main_v193 : Ref sig .tc := ⟨.hbm, 211, rfl⟩
abbrev main_v194 : Ref sig .tc := ⟨.hbm, 212, rfl⟩
abbrev main_v195 : Ref sig .tc := ⟨.hbm, 213, rfl⟩
abbrev main_v196 : Ref sig .tc := ⟨.hbm, 214, rfl⟩
abbrev main_v197 : Ref sig .tc := ⟨.hbm, 215, rfl⟩
abbrev main_v198 : Ref sig .tc := ⟨.hbm, 216, rfl⟩
abbrev main_v199 : Ref sig .tc := ⟨.hbm, 217, rfl⟩
abbrev main_v200 : Ref sig .tc := ⟨.hbm, 218, rfl⟩
abbrev main_v201 : Ref sig .tc := ⟨.hbm, 219, rfl⟩
abbrev main_v202 : Ref sig .tc := ⟨.hbm, 220, rfl⟩
abbrev main_v203 : Ref sig .tc := ⟨.hbm, 221, rfl⟩
abbrev main_v204 : Ref sig .tc := ⟨.hbm, 222, rfl⟩
abbrev main_v205 : Ref sig .tc := ⟨.hbm, 223, rfl⟩
abbrev main_v206 : Ref sig .tc := ⟨.hbm, 224, rfl⟩
abbrev main_v207 : Ref sig .tc := ⟨.hbm, 225, rfl⟩
abbrev main_v208 : Ref sig .tc := ⟨.hbm, 226, rfl⟩
abbrev main_v209 : Ref sig .tc := ⟨.hbm, 227, rfl⟩
abbrev main_v210 : Ref sig .tc := ⟨.hbm, 228, rfl⟩
abbrev main_v211 : Ref sig .tc := ⟨.hbm, 229, rfl⟩
abbrev main_v212 : Ref sig .tc := ⟨.hbm, 230, rfl⟩
abbrev main_v213 : Ref sig .tc := ⟨.hbm, 231, rfl⟩
abbrev main_v214 : Ref sig .tc := ⟨.hbm, 232, rfl⟩
abbrev main_v215 : Ref sig .tc := ⟨.hbm, 233, rfl⟩
abbrev main_v216 : Ref sig .tc := ⟨.hbm, 234, rfl⟩
abbrev main_v217 : Ref sig .tc := ⟨.hbm, 235, rfl⟩
abbrev main_v218 : Ref sig .tc := ⟨.hbm, 236, rfl⟩
abbrev main_v219 : Ref sig .tc := ⟨.hbm, 237, rfl⟩
abbrev main_v220 : Ref sig .tc := ⟨.hbm, 238, rfl⟩
abbrev main_v221 : Ref sig .tc := ⟨.hbm, 239, rfl⟩
abbrev main_v222 : Ref sig .tc := ⟨.hbm, 240, rfl⟩
abbrev main_v223 : Ref sig .tc := ⟨.hbm, 241, rfl⟩
abbrev main_v224 : Ref sig .tc := ⟨.hbm, 242, rfl⟩
abbrev main_v225 : Ref sig .tc := ⟨.hbm, 243, rfl⟩
abbrev main_v226 : Ref sig .tc := ⟨.hbm, 244, rfl⟩
abbrev main_v227 : Ref sig .tc := ⟨.hbm, 245, rfl⟩
abbrev main_v228 : Ref sig .tc := ⟨.hbm, 246, rfl⟩
abbrev main_v229 : Ref sig .tc := ⟨.hbm, 247, rfl⟩
abbrev main_v230 : Ref sig .tc := ⟨.hbm, 248, rfl⟩
abbrev main_v231 : Ref sig .tc := ⟨.hbm, 249, rfl⟩
abbrev main_v232 : Ref sig .tc := ⟨.hbm, 250, rfl⟩
abbrev main_v233 : Ref sig .tc := ⟨.hbm, 251, rfl⟩
abbrev main_v234 : Ref sig .tc := ⟨.hbm, 252, rfl⟩
abbrev main_v235 : Ref sig .tc := ⟨.hbm, 253, rfl⟩
abbrev main_v236 : Ref sig .tc := ⟨.hbm, 254, rfl⟩
abbrev main_v237 : Ref sig .tc := ⟨.hbm, 255, rfl⟩
abbrev main_v238 : Ref sig .tc := ⟨.hbm, 256, rfl⟩
abbrev main_v239 : Ref sig .tc := ⟨.hbm, 257, rfl⟩
abbrev main_v240 : Ref sig .tc := ⟨.hbm, 258, rfl⟩
abbrev main_v241 : Ref sig .tc := ⟨.hbm, 259, rfl⟩
abbrev main_v242 : Ref sig .tc := ⟨.hbm, 260, rfl⟩
abbrev main_v243 : Ref sig .tc := ⟨.hbm, 261, rfl⟩
abbrev main_v244 : Ref sig .tc := ⟨.hbm, 262, rfl⟩
abbrev main_v245 : Ref sig .tc := ⟨.hbm, 263, rfl⟩
abbrev main_v246 : Ref sig .tc := ⟨.hbm, 264, rfl⟩
abbrev main_v247 : Ref sig .tc := ⟨.hbm, 265, rfl⟩
abbrev main_v248 : Ref sig .tc := ⟨.hbm, 266, rfl⟩
abbrev main_v249 : Ref sig .tc := ⟨.hbm, 267, rfl⟩
abbrev main_v250 : Ref sig .tc := ⟨.hbm, 268, rfl⟩
abbrev main_v251 : Ref sig .tc := ⟨.hbm, 269, rfl⟩
abbrev main_v252 : Ref sig .tc := ⟨.hbm, 270, rfl⟩
abbrev main_v253 : Ref sig .tc := ⟨.hbm, 271, rfl⟩
abbrev main_v254 : Ref sig .tc := ⟨.hbm, 272, rfl⟩
abbrev main_v255 : Ref sig .tc := ⟨.hbm, 273, rfl⟩
abbrev main_v256 : Ref sig .tc := ⟨.hbm, 274, rfl⟩
abbrev main_v257 : Ref sig .tc := ⟨.hbm, 275, rfl⟩
abbrev main_v258 : Ref sig .tc := ⟨.hbm, 276, rfl⟩
abbrev main_v259 : Ref sig .tc := ⟨.hbm, 277, rfl⟩
abbrev main_v260 : Ref sig .tc := ⟨.hbm, 278, rfl⟩
abbrev main_v261 : Ref sig .tc := ⟨.hbm, 279, rfl⟩
abbrev main_v262 : Ref sig .tc := ⟨.hbm, 280, rfl⟩
abbrev main_v263 : Ref sig .tc := ⟨.hbm, 281, rfl⟩
abbrev main_v264 : Ref sig .tc := ⟨.hbm, 282, rfl⟩
abbrev main_v265 : Ref sig .tc := ⟨.hbm, 283, rfl⟩
abbrev main_v266 : Ref sig .tc := ⟨.hbm, 284, rfl⟩
abbrev main_v267 : Ref sig .tc := ⟨.hbm, 285, rfl⟩
abbrev main_v268 : Ref sig .tc := ⟨.hbm, 286, rfl⟩
abbrev main_v269 : Ref sig .tc := ⟨.hbm, 287, rfl⟩
abbrev main_v270 : Ref sig .tc := ⟨.hbm, 288, rfl⟩
abbrev main_v271 : Ref sig .tc := ⟨.hbm, 289, rfl⟩
abbrev main_v272 : Ref sig .tc := ⟨.hbm, 290, rfl⟩
abbrev main_v273 : Ref sig .tc := ⟨.hbm, 291, rfl⟩
abbrev main_v274 : Ref sig .tc := ⟨.hbm, 292, rfl⟩
abbrev main_v275 : Ref sig .tc := ⟨.hbm, 293, rfl⟩
abbrev main_v276 : Ref sig .tc := ⟨.hbm, 294, rfl⟩
abbrev main_v277 : Ref sig .tc := ⟨.hbm, 295, rfl⟩
abbrev main_v278 : Ref sig .tc := ⟨.hbm, 296, rfl⟩
abbrev main_v279 : Ref sig .tc := ⟨.hbm, 297, rfl⟩
abbrev main_v280 : Ref sig .tc := ⟨.hbm, 298, rfl⟩
abbrev main_v281 : Ref sig .tc := ⟨.hbm, 299, rfl⟩
abbrev main_v282 : Ref sig .tc := ⟨.hbm, 300, rfl⟩
abbrev main_v283 : Ref sig .tc := ⟨.hbm, 301, rfl⟩
abbrev main_v284 : Ref sig .tc := ⟨.hbm, 302, rfl⟩
abbrev main_v285 : Ref sig .tc := ⟨.hbm, 303, rfl⟩
abbrev main_v286 : Ref sig .tc := ⟨.hbm, 304, rfl⟩
abbrev main_v287 : Ref sig .tc := ⟨.hbm, 305, rfl⟩
abbrev main_v288 : Ref sig .tc := ⟨.hbm, 306, rfl⟩
abbrev main_v289 : Ref sig .tc := ⟨.hbm, 307, rfl⟩
abbrev main_v290 : Ref sig .tc := ⟨.hbm, 308, rfl⟩
abbrev main_v291 : Ref sig .tc := ⟨.hbm, 309, rfl⟩
abbrev main_v292 : Ref sig .tc := ⟨.hbm, 310, rfl⟩
abbrev main_v293 : Ref sig .tc := ⟨.hbm, 311, rfl⟩
abbrev main_v294 : Ref sig .tc := ⟨.hbm, 312, rfl⟩
abbrev main_v295 : Ref sig .tc := ⟨.hbm, 313, rfl⟩
abbrev main_v296 : Ref sig .tc := ⟨.hbm, 314, rfl⟩
abbrev main_v297 : Ref sig .tc := ⟨.hbm, 315, rfl⟩
abbrev main_v298 : Ref sig .tc := ⟨.hbm, 316, rfl⟩
abbrev main_v299 : Ref sig .tc := ⟨.hbm, 317, rfl⟩
abbrev main_v300 : Ref sig .tc := ⟨.hbm, 318, rfl⟩
abbrev main_v301 : Ref sig .tc := ⟨.hbm, 319, rfl⟩
abbrev main_v302 : Ref sig .tc := ⟨.hbm, 320, rfl⟩
abbrev main_v303 : Ref sig .tc := ⟨.hbm, 321, rfl⟩
abbrev main_v304 : Ref sig .tc := ⟨.hbm, 322, rfl⟩
abbrev main_v305 : Ref sig .tc := ⟨.hbm, 323, rfl⟩
abbrev main_v306 : Ref sig .tc := ⟨.hbm, 324, rfl⟩
abbrev main_v307 : Ref sig .tc := ⟨.hbm, 325, rfl⟩
abbrev main_v308 : Ref sig .tc := ⟨.hbm, 326, rfl⟩
abbrev main_v309 : Ref sig .tc := ⟨.hbm, 327, rfl⟩
abbrev main_v310 : Ref sig .tc := ⟨.hbm, 328, rfl⟩
abbrev main_v311 : Ref sig .tc := ⟨.hbm, 329, rfl⟩
abbrev main_v312 : Ref sig .tc := ⟨.hbm, 330, rfl⟩
abbrev main_v313 : Ref sig .tc := ⟨.hbm, 331, rfl⟩
abbrev main_v314 : Ref sig .tc := ⟨.hbm, 332, rfl⟩
abbrev main_v315 : Ref sig .tc := ⟨.hbm, 333, rfl⟩
abbrev main_v316 : Ref sig .tc := ⟨.hbm, 334, rfl⟩
abbrev main_v317 : Ref sig .tc := ⟨.hbm, 335, rfl⟩
abbrev main_v318 : Ref sig .tc := ⟨.hbm, 336, rfl⟩
abbrev main_v319 : Ref sig .tc := ⟨.hbm, 337, rfl⟩
abbrev main_v320 : Ref sig .tc := ⟨.hbm, 338, rfl⟩
abbrev main_v321 : Ref sig .tc := ⟨.hbm, 339, rfl⟩
abbrev main_v322 : Ref sig .tc := ⟨.hbm, 340, rfl⟩
abbrev main_v323 : Ref sig .tc := ⟨.hbm, 341, rfl⟩
abbrev main_v324 : Ref sig .tc := ⟨.hbm, 342, rfl⟩
abbrev main_v325 : Ref sig .tc := ⟨.hbm, 343, rfl⟩
abbrev main_v326 : Ref sig .tc := ⟨.hbm, 344, rfl⟩
abbrev main_v327 : Ref sig .tc := ⟨.hbm, 345, rfl⟩
abbrev main_v328 : Ref sig .tc := ⟨.hbm, 346, rfl⟩
abbrev main_v329 : Ref sig .tc := ⟨.hbm, 347, rfl⟩
abbrev main_v330 : Ref sig .tc := ⟨.hbm, 348, rfl⟩
abbrev main_v331 : Ref sig .tc := ⟨.hbm, 349, rfl⟩
abbrev main_v332 : Ref sig .tc := ⟨.hbm, 350, rfl⟩
abbrev main_v333 : Ref sig .tc := ⟨.hbm, 351, rfl⟩
abbrev main_v334 : Ref sig .tc := ⟨.hbm, 352, rfl⟩
abbrev main_v335 : Ref sig .tc := ⟨.hbm, 353, rfl⟩
abbrev main_v336 : Ref sig .tc := ⟨.hbm, 354, rfl⟩
abbrev main_v337 : Ref sig .tc := ⟨.hbm, 355, rfl⟩
abbrev main_v338 : Ref sig .tc := ⟨.hbm, 356, rfl⟩
abbrev main_v339 : Ref sig .tc := ⟨.hbm, 357, rfl⟩
abbrev main_v340 : Ref sig .tc := ⟨.hbm, 358, rfl⟩
abbrev main_v341 : Ref sig .tc := ⟨.hbm, 359, rfl⟩
abbrev main_v342 : Ref sig .tc := ⟨.hbm, 360, rfl⟩
abbrev main_v343 : Ref sig .tc := ⟨.hbm, 361, rfl⟩
abbrev main_v344 : Ref sig .tc := ⟨.hbm, 362, rfl⟩
abbrev main_v345 : Ref sig .tc := ⟨.hbm, 363, rfl⟩
abbrev main_v346 : Ref sig .tc := ⟨.hbm, 364, rfl⟩
abbrev main_v347 : Ref sig .tc := ⟨.hbm, 365, rfl⟩
abbrev main_v348 : Ref sig .tc := ⟨.hbm, 366, rfl⟩
abbrev main_v349 : Ref sig .tc := ⟨.hbm, 367, rfl⟩
abbrev main_v350 : Ref sig .tc := ⟨.hbm, 368, rfl⟩
abbrev main_v351 : Ref sig .tc := ⟨.hbm, 369, rfl⟩
abbrev main_v352 : Ref sig .tc := ⟨.hbm, 370, rfl⟩
abbrev main_v353 : Ref sig .tc := ⟨.hbm, 371, rfl⟩
abbrev main_v354 : Ref sig .tc := ⟨.hbm, 372, rfl⟩
abbrev main_v355 : Ref sig .tc := ⟨.hbm, 373, rfl⟩
abbrev main_v356 : Ref sig .tc := ⟨.hbm, 374, rfl⟩
abbrev main_v357 : Ref sig .tc := ⟨.hbm, 375, rfl⟩
abbrev main_v358 : Ref sig .tc := ⟨.hbm, 376, rfl⟩
abbrev main_v359 : Ref sig .tc := ⟨.hbm, 377, rfl⟩
abbrev main_v360 : Ref sig .tc := ⟨.hbm, 378, rfl⟩
abbrev main_v361 : Ref sig .tc := ⟨.hbm, 379, rfl⟩
abbrev main_v362 : Ref sig .tc := ⟨.hbm, 380, rfl⟩
abbrev main_v363 : Ref sig .tc := ⟨.hbm, 381, rfl⟩
abbrev main_v364 : Ref sig .tc := ⟨.hbm, 382, rfl⟩
abbrev main_v365 : Ref sig .tc := ⟨.hbm, 383, rfl⟩
abbrev main_v366 : Ref sig .tc := ⟨.hbm, 384, rfl⟩
abbrev main_v367 : Ref sig .tc := ⟨.hbm, 385, rfl⟩
abbrev main_v368 : Ref sig .tc := ⟨.hbm, 386, rfl⟩
abbrev main_v369 : Ref sig .tc := ⟨.hbm, 387, rfl⟩
abbrev main_v370 : Ref sig .tc := ⟨.hbm, 388, rfl⟩
abbrev main_v371 : Ref sig .tc := ⟨.hbm, 389, rfl⟩
abbrev main_v372 : Ref sig .tc := ⟨.hbm, 390, rfl⟩
abbrev main_v373 : Ref sig .tc := ⟨.hbm, 391, rfl⟩
abbrev main_v374 : Ref sig .tc := ⟨.hbm, 392, rfl⟩
abbrev main_v375 : Ref sig .tc := ⟨.hbm, 393, rfl⟩
abbrev main_v376 : Ref sig .tc := ⟨.hbm, 394, rfl⟩
abbrev main_v377 : Ref sig .tc := ⟨.hbm, 395, rfl⟩
abbrev main_v378 : Ref sig .tc := ⟨.hbm, 396, rfl⟩
abbrev main_v379 : Ref sig .tc := ⟨.hbm, 397, rfl⟩
abbrev main_v380 : Ref sig .tc := ⟨.hbm, 398, rfl⟩
abbrev main_v381 : Ref sig .tc := ⟨.hbm, 399, rfl⟩
abbrev main_v382 : Ref sig .tc := ⟨.hbm, 400, rfl⟩
abbrev main_v383 : Ref sig .tc := ⟨.hbm, 401, rfl⟩
abbrev main_v384 : Ref sig .tc := ⟨.hbm, 402, rfl⟩
abbrev main_v385 : Ref sig .tc := ⟨.hbm, 403, rfl⟩
abbrev main_cst_13 : Ref sig .tc := ⟨.hbm, 404, rfl⟩
abbrev main_v386 : Ref sig .tc := ⟨.hbm, 405, rfl⟩
abbrev main_v387 : Ref sig .tc := ⟨.hbm, 406, rfl⟩
abbrev main_cst_14 : Ref sig .tc := ⟨.hbm, 407, rfl⟩
abbrev main_v388 : Ref sig .tc := ⟨.hbm, 408, rfl⟩
abbrev main_v389 : Ref sig .tc := ⟨.hbm, 409, rfl⟩
abbrev main_cst_15 : Ref sig .tc := ⟨.hbm, 410, rfl⟩
abbrev main_v390 : Ref sig .tc := ⟨.hbm, 411, rfl⟩
abbrev main_v391 : Ref sig .tc := ⟨.hbm, 412, rfl⟩
abbrev main_v392 : Ref sig .tc := ⟨.hbm, 413, rfl⟩
abbrev main_v393 : Ref sig .tc := ⟨.hbm, 414, rfl⟩
abbrev main_v394 : Ref sig .tc := ⟨.hbm, 415, rfl⟩
abbrev main_v395 : Ref sig .tc := ⟨.hbm, 416, rfl⟩
abbrev main_v396 : Ref sig .tc := ⟨.hbm, 417, rfl⟩
abbrev main_v397 : Ref sig .tc := ⟨.hbm, 418, rfl⟩
abbrev main_v398 : Ref sig .tc := ⟨.hbm, 419, rfl⟩
abbrev main_call0_v0 : Ref sig .tc := ⟨.hbm, 420, rfl⟩
abbrev main_call0_v1 : Ref sig .tc := ⟨.hbm, 421, rfl⟩
abbrev main_call0_cst : Ref sig .tc := ⟨.hbm, 422, rfl⟩
abbrev main_call0_v2 : Ref sig .tc := ⟨.hbm, 423, rfl⟩
abbrev main_call0_v3 : Ref sig .tc := ⟨.hbm, 424, rfl⟩
abbrev main_call0_cst_0 : Ref sig .tc := ⟨.hbm, 425, rfl⟩
abbrev main_call0_v4 : Ref sig .tc := ⟨.hbm, 426, rfl⟩
abbrev main_call0_v5 : Ref sig .tc := ⟨.hbm, 427, rfl⟩
abbrev main_v399 : Ref sig .tc := ⟨.hbm, 428, rfl⟩
abbrev main_v400 : Ref sig .tc := ⟨.hbm, 429, rfl⟩
abbrev main_v401 : Ref sig .tc := ⟨.hbm, 430, rfl⟩
abbrev main_v402 : Ref sig .tc := ⟨.hbm, 431, rfl⟩
abbrev main_v403 : Ref sig .tc := ⟨.hbm, 432, rfl⟩
abbrev main_cst_16 : Ref sig .tc := ⟨.hbm, 433, rfl⟩
abbrev main_v404 : Ref sig .tc := ⟨.hbm, 434, rfl⟩
abbrev main_v405 : Ref sig .tc := ⟨.hbm, 435, rfl⟩
abbrev main_cst_17 : Ref sig .tc := ⟨.hbm, 436, rfl⟩
abbrev main_v406 : Ref sig .tc := ⟨.hbm, 437, rfl⟩
abbrev main_v407 : Ref sig .tc := ⟨.hbm, 438, rfl⟩
abbrev main_v408 : Ref sig .tc := ⟨.hbm, 439, rfl⟩
abbrev main_v409 : Ref sig .tc := ⟨.hbm, 440, rfl⟩
abbrev main_v410 : Ref sig .tc := ⟨.hbm, 441, rfl⟩
abbrev main_v411 : Ref sig .tc := ⟨.hbm, 442, rfl⟩
abbrev main_v412 : Ref sig .tc := ⟨.hbm, 443, rfl⟩
abbrev main_v413 : Ref sig .tc := ⟨.hbm, 444, rfl⟩
abbrev main_v414 : Ref sig .tc := ⟨.hbm, 445, rfl⟩
abbrev main_v415 : Ref sig .tc := ⟨.hbm, 446, rfl⟩
abbrev main_v416 : Ref sig .tc := ⟨.hbm, 447, rfl⟩
abbrev main_v417 : Ref sig .tc := ⟨.hbm, 448, rfl⟩
abbrev main_v418 : Ref sig .tc := ⟨.hbm, 449, rfl⟩
abbrev main_v419 : Ref sig .tc := ⟨.hbm, 450, rfl⟩
abbrev main_v420 : Ref sig .tc := ⟨.hbm, 451, rfl⟩
abbrev main_v421 : Ref sig .tc := ⟨.hbm, 452, rfl⟩
abbrev main_v422 : Ref sig .tc := ⟨.hbm, 453, rfl⟩
abbrev main_v423 : Ref sig .tc := ⟨.hbm, 454, rfl⟩
abbrev main_v424 : Ref sig .tc := ⟨.hbm, 455, rfl⟩
abbrev main_v425 : Ref sig .tc := ⟨.hbm, 456, rfl⟩
abbrev main_v426 : Ref sig .tc := ⟨.hbm, 457, rfl⟩
abbrev main_v427 : Ref sig .tc := ⟨.hbm, 458, rfl⟩
abbrev main_v428 : Ref sig .tc := ⟨.hbm, 459, rfl⟩
abbrev main_v429 : Ref sig .tc := ⟨.hbm, 460, rfl⟩
abbrev main_v430 : Ref sig .tc := ⟨.hbm, 461, rfl⟩
abbrev main_v431 : Ref sig .tc := ⟨.hbm, 462, rfl⟩
abbrev main_v432 : Ref sig .tc := ⟨.hbm, 463, rfl⟩
abbrev main_v433 : Ref sig .tc := ⟨.hbm, 464, rfl⟩
abbrev main_v434 : Ref sig .tc := ⟨.hbm, 465, rfl⟩
abbrev main_cst_18 : Ref sig .tc := ⟨.hbm, 466, rfl⟩
abbrev main_v435 : Ref sig .tc := ⟨.hbm, 467, rfl⟩
abbrev main_v436 : Ref sig .tc := ⟨.hbm, 468, rfl⟩
abbrev main_cst_19 : Ref sig .tc := ⟨.hbm, 469, rfl⟩
abbrev main_v437 : Ref sig .tc := ⟨.hbm, 470, rfl⟩
abbrev main_v438 : Ref sig .tc := ⟨.hbm, 471, rfl⟩
abbrev main_v439 : Ref sig .tc := ⟨.hbm, 472, rfl⟩
abbrev main_v440 : Ref sig .tc := ⟨.hbm, 473, rfl⟩
abbrev main_v441 : Ref sig .tc := ⟨.hbm, 474, rfl⟩
abbrev main_v442 : Ref sig .tc := ⟨.hbm, 475, rfl⟩
abbrev main_v443 : Ref sig .tc := ⟨.hbm, 476, rfl⟩
abbrev main_v444 : Ref sig .tc := ⟨.hbm, 477, rfl⟩
abbrev main_v445 : Ref sig .tc := ⟨.hbm, 478, rfl⟩
abbrev main_v446 : Ref sig .tc := ⟨.hbm, 479, rfl⟩
abbrev main_v447 : Ref sig .tc := ⟨.hbm, 480, rfl⟩
abbrev main_v448 : Ref sig .tc := ⟨.hbm, 481, rfl⟩
abbrev main_v449 : Ref sig .tc := ⟨.hbm, 482, rfl⟩
abbrev main_v450 : Ref sig .tc := ⟨.hbm, 483, rfl⟩
abbrev main_v451 : Ref sig .tc := ⟨.hbm, 484, rfl⟩
abbrev main_v452 : Ref sig .tc := ⟨.hbm, 485, rfl⟩
abbrev main_v453 : Ref sig .tc := ⟨.hbm, 486, rfl⟩
abbrev main_v454 : Ref sig .tc := ⟨.hbm, 487, rfl⟩
abbrev main_v455 : Ref sig .tc := ⟨.hbm, 488, rfl⟩
abbrev main_v456 : Ref sig .tc := ⟨.hbm, 489, rfl⟩
abbrev main_v457 : Ref sig .tc := ⟨.hbm, 490, rfl⟩
abbrev main_v458 : Ref sig .tc := ⟨.hbm, 491, rfl⟩
abbrev main_v459 : Ref sig .tc := ⟨.hbm, 492, rfl⟩
abbrev main_v460 : Ref sig .tc := ⟨.hbm, 493, rfl⟩
abbrev main_v461 : Ref sig .tc := ⟨.hbm, 494, rfl⟩
abbrev main_v462 : Ref sig .tc := ⟨.hbm, 495, rfl⟩
abbrev main_v463 : Ref sig .tc := ⟨.hbm, 496, rfl⟩
abbrev main_v464 : Ref sig .tc := ⟨.hbm, 497, rfl⟩
abbrev main_v465 : Ref sig .tc := ⟨.hbm, 498, rfl⟩
abbrev main_v466 : Ref sig .tc := ⟨.hbm, 499, rfl⟩
abbrev main_cst_20 : Ref sig .tc := ⟨.hbm, 500, rfl⟩
abbrev main_v467 : Ref sig .tc := ⟨.hbm, 501, rfl⟩
abbrev main_v468 : Ref sig .tc := ⟨.hbm, 502, rfl⟩
abbrev main_cst_21 : Ref sig .tc := ⟨.hbm, 503, rfl⟩
abbrev main_v469 : Ref sig .tc := ⟨.hbm, 504, rfl⟩
abbrev main_v470 : Ref sig .tc := ⟨.hbm, 505, rfl⟩
abbrev main_v471 : Ref sig .tc := ⟨.hbm, 506, rfl⟩
abbrev main_v472 : Ref sig .tc := ⟨.hbm, 507, rfl⟩
abbrev main_v473 : Ref sig .tc := ⟨.hbm, 508, rfl⟩
abbrev main_v474 : Ref sig .tc := ⟨.hbm, 509, rfl⟩
abbrev main_v475 : Ref sig .tc := ⟨.hbm, 510, rfl⟩
abbrev main_v476 : Ref sig .tc := ⟨.hbm, 511, rfl⟩
abbrev main_v477 : Ref sig .tc := ⟨.hbm, 512, rfl⟩
abbrev main_v478 : Ref sig .tc := ⟨.hbm, 513, rfl⟩
abbrev main_v479 : Ref sig .tc := ⟨.hbm, 514, rfl⟩
abbrev main_v480 : Ref sig .tc := ⟨.hbm, 515, rfl⟩
abbrev main_v481 : Ref sig .tc := ⟨.hbm, 516, rfl⟩
abbrev main_v482 : Ref sig .tc := ⟨.hbm, 517, rfl⟩
abbrev main_v483 : Ref sig .tc := ⟨.hbm, 518, rfl⟩
abbrev main_v484 : Ref sig .tc := ⟨.hbm, 519, rfl⟩
abbrev main_v485 : Ref sig .tc := ⟨.hbm, 520, rfl⟩
abbrev main_v486 : Ref sig .tc := ⟨.hbm, 521, rfl⟩
abbrev main_v487 : Ref sig .tc := ⟨.hbm, 522, rfl⟩
abbrev main_v488 : Ref sig .tc := ⟨.hbm, 523, rfl⟩
abbrev main_v489 : Ref sig .tc := ⟨.hbm, 524, rfl⟩
abbrev main_v490 : Ref sig .tc := ⟨.hbm, 525, rfl⟩
abbrev main_v491 : Ref sig .tc := ⟨.hbm, 526, rfl⟩
abbrev main_v492 : Ref sig .tc := ⟨.hbm, 527, rfl⟩
abbrev main_v493 : Ref sig .tc := ⟨.hbm, 528, rfl⟩
abbrev main_v494 : Ref sig .tc := ⟨.hbm, 529, rfl⟩
abbrev main_v495 : Ref sig .tc := ⟨.hbm, 530, rfl⟩
abbrev main_v496 : Ref sig .tc := ⟨.hbm, 531, rfl⟩
abbrev main_v497 : Ref sig .tc := ⟨.hbm, 532, rfl⟩
abbrev main_cst_22 : Ref sig .tc := ⟨.hbm, 533, rfl⟩
abbrev main_v498 : Ref sig .tc := ⟨.hbm, 534, rfl⟩
abbrev main_v499 : Ref sig .tc := ⟨.hbm, 535, rfl⟩
abbrev main_cst_23 : Ref sig .tc := ⟨.hbm, 536, rfl⟩
abbrev main_v500 : Ref sig .tc := ⟨.hbm, 537, rfl⟩
abbrev main_v501 : Ref sig .tc := ⟨.hbm, 538, rfl⟩
abbrev main_v502 : Ref sig .tc := ⟨.hbm, 539, rfl⟩
abbrev main_v503 : Ref sig .tc := ⟨.hbm, 540, rfl⟩
abbrev main_v504 : Ref sig .tc := ⟨.hbm, 541, rfl⟩
abbrev main_v505 : Ref sig .tc := ⟨.hbm, 542, rfl⟩
abbrev main_v506 : Ref sig .tc := ⟨.hbm, 543, rfl⟩
abbrev main_v507 : Ref sig .tc := ⟨.hbm, 544, rfl⟩
abbrev main_v508 : Ref sig .tc := ⟨.hbm, 545, rfl⟩
abbrev main_v509 : Ref sig .tc := ⟨.hbm, 546, rfl⟩
abbrev main_v510 : Ref sig .tc := ⟨.hbm, 547, rfl⟩
abbrev main_v511 : Ref sig .tc := ⟨.hbm, 548, rfl⟩
abbrev main_v512 : Ref sig .tc := ⟨.hbm, 549, rfl⟩
abbrev main_v513 : Ref sig .tc := ⟨.hbm, 550, rfl⟩
abbrev main_v514 : Ref sig .tc := ⟨.hbm, 551, rfl⟩
abbrev main_v515 : Ref sig .tc := ⟨.hbm, 552, rfl⟩
abbrev main_v516 : Ref sig .tc := ⟨.hbm, 553, rfl⟩
abbrev main_v517 : Ref sig .tc := ⟨.hbm, 554, rfl⟩
abbrev main_v518 : Ref sig .tc := ⟨.hbm, 555, rfl⟩
abbrev main_v519 : Ref sig .tc := ⟨.hbm, 556, rfl⟩
abbrev main_v520 : Ref sig .tc := ⟨.hbm, 557, rfl⟩
abbrev main_v521 : Ref sig .tc := ⟨.hbm, 558, rfl⟩
abbrev main_v522 : Ref sig .tc := ⟨.hbm, 559, rfl⟩
abbrev main_v523 : Ref sig .tc := ⟨.hbm, 560, rfl⟩
abbrev main_v524 : Ref sig .tc := ⟨.hbm, 561, rfl⟩
abbrev main_v525 : Ref sig .tc := ⟨.hbm, 562, rfl⟩
abbrev main_v526 : Ref sig .tc := ⟨.hbm, 563, rfl⟩
abbrev main_cst_24 : Ref sig .tc := ⟨.hbm, 564, rfl⟩
abbrev main_v527 : Ref sig .tc := ⟨.hbm, 565, rfl⟩
abbrev main_v528 : Ref sig .tc := ⟨.hbm, 566, rfl⟩
abbrev main_call1_v0 : Ref sig .tc := ⟨.hbm, 567, rfl⟩
abbrev main_call1_v1 : Ref sig .tc := ⟨.hbm, 568, rfl⟩
abbrev main_call1_cst : Ref sig .tc := ⟨.hbm, 569, rfl⟩
abbrev main_call1_v2 : Ref sig .tc := ⟨.hbm, 570, rfl⟩
abbrev main_call1_v3 : Ref sig .tc := ⟨.hbm, 571, rfl⟩
abbrev main_call1_cst_0 : Ref sig .tc := ⟨.hbm, 572, rfl⟩
abbrev main_call1_v4 : Ref sig .tc := ⟨.hbm, 573, rfl⟩
abbrev main_call1_v5 : Ref sig .tc := ⟨.hbm, 574, rfl⟩
abbrev main_v529 : Ref sig .tc := ⟨.hbm, 575, rfl⟩
abbrev main_cst_25 : Ref sig .tc := ⟨.hbm, 576, rfl⟩
abbrev main_v530 : Ref sig .tc := ⟨.hbm, 577, rfl⟩
abbrev main_v531 : Ref sig .tc := ⟨.hbm, 578, rfl⟩
abbrev main_v532 : Ref sig .tc := ⟨.hbm, 579, rfl⟩
abbrev main_v533 : Ref sig .tc := ⟨.hbm, 580, rfl⟩
abbrev main_v534 : Ref sig .tc := ⟨.hbm, 581, rfl⟩
abbrev main_v535 : Ref sig .tc := ⟨.hbm, 582, rfl⟩
abbrev main_v536 : Ref sig .tc := ⟨.hbm, 583, rfl⟩
abbrev main_v537 : Ref sig .tc := ⟨.hbm, 584, rfl⟩
abbrev main_v538 : Ref sig .tc := ⟨.hbm, 585, rfl⟩
abbrev main_v539 : Ref sig .tc := ⟨.hbm, 586, rfl⟩
abbrev main_v540 : Ref sig .tc := ⟨.hbm, 587, rfl⟩
abbrev main_v541 : Ref sig .tc := ⟨.hbm, 588, rfl⟩
abbrev main_v542 : Ref sig .tc := ⟨.hbm, 589, rfl⟩
abbrev main_v543 : Ref sig .tc := ⟨.hbm, 590, rfl⟩
abbrev main_v544 : Ref sig .tc := ⟨.hbm, 591, rfl⟩
abbrev main_v545 : Ref sig .tc := ⟨.hbm, 592, rfl⟩
abbrev main_v546 : Ref sig .tc := ⟨.hbm, 593, rfl⟩
abbrev main_v547 : Ref sig .tc := ⟨.hbm, 594, rfl⟩
abbrev main_v548 : Ref sig .tc := ⟨.hbm, 595, rfl⟩
abbrev main_v549 : Ref sig .tc := ⟨.hbm, 596, rfl⟩
abbrev main_v550 : Ref sig .tc := ⟨.hbm, 597, rfl⟩

abbrev nD : Nat := 1
abbrev τ : Topo := Topo.v7x

variable {F : FTy → Type} [FloatOps F]
-- ==== Kernel4.lean ====
abbrev S16x2048x1024 : Shape := ⟨3, ![16, 2048, 1024]⟩
abbrev S32768x512 : Shape := ⟨2, ![32768, 512]⟩
abbrev S128x512x256 : Shape := ⟨3, ![128, 512, 256]⟩
abbrev S1x1024x1024 : Shape := ⟨3, ![1, 1024, 1024]⟩
abbrev S1024 : Shape := ⟨1, ![1024]⟩
abbrev S1024x1024 : Shape := ⟨2, ![1024, 1024]⟩
abbrev S1x1024 : Shape := ⟨2, ![1, 1024]⟩
abbrev S32768x1024 : Shape := ⟨2, ![32768, 1024]⟩
abbrev S1024x512 : Shape := ⟨2, ![1024, 512]⟩
abbrev S4x512x256 : Shape := ⟨3, ![4, 512, 256]⟩
abbrev S1x512x256 : Shape := ⟨3, ![1, 512, 256]⟩
abbrev S512x256 : Shape := ⟨2, ![512, 256]⟩
abbrev S512x1024 : Shape := ⟨2, ![512, 1024]⟩
abbrev S1024x1 : Shape := ⟨2, ![1024, 1]⟩

abbrev nBuf : Space → Nat
  | .hbm => 10
  | .vmem => 10
  | .smem => 0
  | _ => 0

abbrev bufTy : (tb : Table) → Fin (tcTables nBuf tb) → BufTy
  | .hbm, ⟨0, _⟩ => ⟨S16x2048x1024, .f32⟩
  | .hbm, ⟨1, _⟩ => ⟨S32768x512, .bf16⟩
  | .hbm, ⟨2, _⟩ => ⟨S128x512x256, .bf16⟩
  | .hbm, ⟨3, _⟩ => ⟨S1x1024x1024, .f32⟩
  | .hbm, ⟨4, _⟩ => ⟨S1024, .f32⟩
  | .hbm, ⟨5, _⟩ => ⟨S1024x1024, .f32⟩
  | .hbm, ⟨6, _⟩ => ⟨S1024x1024, .bf16⟩
  | .hbm, ⟨7, _⟩ => ⟨S1x1024, .f32⟩
  | .hbm, ⟨8, _⟩ => ⟨S32768x1024, .f32⟩
  | .hbm, ⟨9, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S4x512x256, .bf16⟩
  | .local _ .vmem, ⟨5, _⟩ => ⟨S4x512x256, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S16x2048x1024 : Shape := ⟨3, ![16, 2048, 1024]⟩
abbrev S32768x512 : Shape := ⟨2, ![32768, 512]⟩
abbrev S128x512x256 : Shape := ⟨3, ![128, 512, 256]⟩
abbrev S1x1024x1024 : Shape := ⟨3, ![1, 1024, 1024]⟩
abbrev S1024 : Shape := ⟨1, ![1024]⟩
abbrev S16x2048x512 : Shape := ⟨3, ![16, 2048, 512]⟩
abbrev S16x8x512x256 : Shape := ⟨4, ![16, 8, 512, 256]⟩
abbrev S16x8x256x512 : Shape := ⟨4, ![16, 8, 256, 512]⟩
abbrev S1024x1024 : Shape := ⟨2, ![1024, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S32768x1024 : Shape := ⟨2, ![32768, 1024]⟩

abbrev nBuf : Space → Nat
  | .hbm => 32
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S32768x512, .bf16⟩
  | .hbm, ⟨2, _⟩ => ⟨S128x512x256, .bf16⟩
  | .hbm, ⟨3, _⟩ => ⟨S1x1024x1024, .f32⟩
  | .hbm, ⟨4, _⟩ => ⟨S1024, .f32⟩
  | .hbm, ⟨5, _⟩ => ⟨S32768x512, .f32⟩
  | .hbm, ⟨6, _⟩ => ⟨S16x2048x512, .f32⟩
  | .hbm, ⟨7, _⟩ => ⟨S128x512x256, .f32⟩
  | .hbm, ⟨8, _⟩ => ⟨S16x8x512x256, .f32⟩
  | .hbm, ⟨9, _⟩ => ⟨S16x8x256x512, .f32⟩
  | .hbm, ⟨10, _⟩ => ⟨S16x2048x512, .f32⟩
  | .hbm, ⟨11, _⟩ => ⟨S16x2048x1024, .f32⟩
  | .hbm, ⟨12, _⟩ => ⟨S1024x1024, .f32⟩
  | .hbm, ⟨13, _⟩ => ⟨S16x2048x1024, .f32⟩
  | .hbm, ⟨14, _⟩ => ⟨S16x2048x1024, .f32⟩
  | .hbm, ⟨15, _⟩ => ⟨S16x2048x1024, .f32⟩
  | .hbm, ⟨16, _⟩ => ⟨S_, .f32⟩
  | .hbm, ⟨17, _⟩ => ⟨S16x2048, .f32⟩
  | .hbm, ⟨18, _⟩ => ⟨S16x2048x1, .f32⟩
  | .hbm, ⟨19, _⟩ => ⟨S_, .f32⟩
  | .hbm, ⟨20, _⟩ => ⟨S16x2048x1, .f32⟩
  | .hbm, ⟨21, _⟩ => ⟨S16x2048x1, .f32⟩
  | .hbm, ⟨22, _⟩ => ⟨S_, .f32⟩
  | .hbm, ⟨23, _⟩ => ⟨S16x2048x1, .f32⟩
  | .hbm, ⟨24, _⟩ => ⟨S16x2048x1, .f32⟩
  | .hbm, ⟨25, _⟩ => ⟨S16x2048x1, .f32⟩
  | .hbm, ⟨26, _⟩ => ⟨S16x2048x1024, .f32⟩
  | .hbm, ⟨27, _⟩ => ⟨S16x2048x1024, .f32⟩
  | .hbm, ⟨28, _⟩ => ⟨S1x1x1024, .f32⟩
  | .hbm, ⟨29, _⟩ => ⟨S16x2048x1024, .f32⟩
  | .hbm, ⟨30, _⟩ => ⟨S16x2048x1024, .f32⟩
  | .hbm, ⟨31, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel5.lean ====
abbrev S8x64x1024 : Shape := ⟨3, ![8, 64, 1024]⟩
abbrev S512x512 : Shape := ⟨2, ![512, 512]⟩
abbrev S8x512x64 : Shape := ⟨3, ![8, 512, 64]⟩
abbrev S1x1024x1024 : Shape := ⟨3, ![1, 1024, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S1x512x64 : Shape := ⟨3, ![1, 512, 64]⟩
abbrev S512x64 : Shape := ⟨2, ![512, 64]⟩
abbrev S512 : Shape := ⟨1, ![512]⟩
abbrev S512x1 : Shape := ⟨2, ![512, 1]⟩

abbrev nBuf : Space → Nat
  | .hbm => 10
  | .vmem => 6
  | .smem => 0
  | _ => 0

abbrev bufTy : (tb : Table) → Fin (tcTables nBuf tb) → BufTy
  | .hbm, ⟨0, _⟩ => ⟨S8x64x1024, .f32⟩
  | .hbm, ⟨1, _⟩ => ⟨S512x512, .bf16⟩
  | .hbm, ⟨2, _⟩ => ⟨S8x512x64, .bf16⟩
  | .hbm, ⟨3, _⟩ => ⟨S1x1024x1024, .f32⟩
  | .hbm, ⟨4, _⟩ => ⟨S1024, .f32⟩
  | .hbm, ⟨5, _⟩ => ⟨S1024x1024, .f32⟩
  | .hbm, ⟨6, _⟩ => ⟨S1024x1024, .bf16⟩
  | .hbm, ⟨7, _⟩ => ⟨S1x1024, .f32⟩
  | .hbm, ⟨8, _⟩ => ⟨S512x1024, .f32⟩
  | .hbm, ⟨9, _⟩ => ⟨S512x1024, .f32⟩
  | .local _ .vmem, ⟨0, _⟩ => ⟨S512x1024, .f32⟩
  | .local _ .vmem, ⟨1, _⟩ => ⟨S512x512, .bf16⟩
  | .local _ .vmem, ⟨2, _⟩ => ⟨S8x512x64, .bf16⟩
  | .local _ .vmem, ⟨3, _⟩ => ⟨S1024x1024, .bf16⟩
  | .local _ .vmem, ⟨4, _⟩ => ⟨S1x1024, .f32⟩
  | .local _ .vmem, ⟨5, _⟩ => ⟨S512x1024, .f32⟩
  | _, _ => ⟨S8x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x512x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== Reference5Ideal.lean ====
abbrev S8x64x1024 : Shape := ⟨3, ![8, 64, 1024]⟩
abbrev S512x512 : Shape := ⟨2, ![512, 512]⟩
abbrev S8x512x64 : Shape := ⟨3, ![8, 512, 64]⟩
abbrev S1x1024x1024 : Shape := ⟨3, ![1, 1024, 1024]⟩
abbrev S1024 : Shape := ⟨1, ![1024]⟩
abbrev S8x64x512 : Shape := ⟨3, ![8, 64, 512]⟩
abbrev S1024x1024 : Shape := ⟨2, ![1024, 1024]⟩
abbrev S_ : Shape := ⟨0, ![]⟩
abbrev S8x64 : Shape := ⟨2, ![8, 64]⟩
abbrev S8x64x1 : Shape := ⟨3, ![8, 64, 1]⟩
abbrev S1x1x1024 : Shape := ⟨3, ![1, 1, 1024]⟩
abbrev S512x1024 : Shape := ⟨2, ![512, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8x64x1024, .f32⟩
  | .hbm, ⟨1, _⟩ => ⟨S512x512, .bf16⟩
  | .hbm, ⟨2, _⟩ => ⟨S8x512x64, .bf16⟩
  | .hbm, ⟨3, _⟩ => ⟨S1x1024x1024, .f32⟩
  | .hbm, ⟨4, _⟩ => ⟨S1024, .f32⟩
  | .hbm, ⟨5, _⟩ => ⟨S512x512, .f32⟩
  | .hbm, ⟨6, _⟩ => ⟨S8x64x512, .f32⟩
  | .hbm, ⟨7, _⟩ => ⟨S8x512x64, .f32⟩
  | .hbm, ⟨8, _⟩ => ⟨S8x64x512, .f32⟩
  | .hbm, ⟨9, _⟩ => ⟨S8x64x1024, .f32⟩
  | .hbm, ⟨10, _⟩ => ⟨S1024x1024, .f32⟩
  | .hbm, ⟨11, _⟩ => ⟨S8x64x1024, .f32⟩
  | .hbm, ⟨12, _⟩ => ⟨S8x64x1024, .f32⟩
  | .hbm, ⟨13, _⟩ => ⟨S8x64x1024, .f32⟩
  | .hbm, ⟨14, _⟩ => ⟨S_, .f32⟩
  | .hbm, ⟨15, _⟩ => ⟨S8x64, .f32⟩
  | .hbm, ⟨16, _⟩ => ⟨S8x64x1, .f32⟩
  | .hbm, ⟨17, _⟩ => ⟨S_, .f32⟩
  | .hbm, ⟨18, _⟩ => ⟨S8x64x1, .f32⟩
  | .hbm, ⟨19, _⟩ => ⟨S8x64x1, .f32⟩
  | .hbm, ⟨20, _⟩ => ⟨S_, .f32⟩
  | .hbm, ⟨21, _⟩ => ⟨S8x64x1, .f32⟩
  | .hbm, ⟨22, _⟩ => ⟨S8x64x1, .f32⟩
  | .hbm, ⟨23, _⟩ => ⟨S8x64x1, .f32⟩
  | .hbm, ⟨24, _⟩ => ⟨S8x64x1024, .f32⟩
  | .hbm, ⟨25, _⟩ => ⟨S8x64x1024, .f32⟩
  | .hbm, ⟨26, _⟩ => ⟨S1x1x1024, .f32⟩
  | .hbm, ⟨27, _⟩ => ⟨S8x64x1024, .f32⟩
  | .hbm, ⟨28, _⟩ => ⟨S8x64x1024, .f32⟩
  | .hbm, ⟨29, _⟩ => ⟨S512x1024, .f32⟩
  | _, _ => ⟨S8x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Proof.Dsa.Keeps.lean ====
/-
  Programs that keep what they are given. An assertion `R` that owns some buffers at SOME contents each is
  kept by a program when, started from `R`, the program runs without fault and ends in `R` again, whatever it
  returns. A load and a store keep `R` when `R` owns the buffer they address; sequencing, branching and counted
  loops keep what their pieces keep. A frame of a kernel needs no more than this of its body: nothing is said of
  the values stored.
-/
module

public import proofs.«01_k».proof.Defs
public import proofs.«01_k».proof.Proof.Gen.Kernel
public import proofs.«01_k».proof.Proof.Gen.Kernel.Skeleton
public import Idealize.ShloMosaic.Lib.Tactic
public import Idealize.ShloMosaic.Lib.Pipeline.Frame

@[expose] public section

noncomputable section

namespace Cert.Proof.Dsa

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- Memref `M`'s elements on core `c`, held at some contents. -/
abbrev some' (c : Dev nD) {sp : Space} {S : Shape} {e : EltTy} (M : Memref sig .tc sp S e) : sProp 𝕄 :=
  iprop(∃ d, owns (c : Thread nD τ) M fullShare d)

/-- `R` owns `M`'s buffer at some contents, and takes it back at any. -/
def Has (c : Dev nD) (R : sProp 𝕄) {sp : Space} {S : Shape} {e : EltTy} (M : Memref sig .tc sp S e) : Prop :=
  R ⊢ iprop(some' (F := F) c M ∗ (some' (F := F) c M -∗ R))

theorem has_self {c : Dev nD} {sp : Space} {S : Shape} {e : EltTy} (M : Memref sig .tc sp S e) : Has (F := F) c (some' c M) M := by
  unfold Has
  iintro H
  isplitl [H]
  · iexact H
  iintro H
  iexact H

theorem has_left {c : Dev nD} {A B : sProp 𝕄} {sp : Space} {S : Shape} {e : EltTy} {M : Memref sig .tc sp S e} (h : Has (F := F) c A M) :
    Has (F := F) c iprop(A ∗ B) M := by
  unfold Has at *
  iintro ⟨HA, HB⟩
  ihave H := h $$ HA
  icases H with ⟨H, Hk⟩
  isplitl [H]
  · iexact H
  iintro H
  isplitl [H Hk]
  · iapply Hk
    iexact H
  iexact HB

theorem has_right {c : Dev nD} {A B : sProp 𝕄} {sp : Space} {S : Shape} {e : EltTy} {M : Memref sig .tc sp S e} (h : Has (F := F) c B M) :
    Has (F := F) c iprop(A ∗ B) M := by
  unfold Has at *
  iintro ⟨HA, HB⟩
  ihave H := h $$ HB
  icases H with ⟨H, Hk⟩
  isplitl [H]
  · iexact H
  iintro H
  isplitl [HA]
  · iexact HA
  iapply Hk
  iexact H

/-- The program `p` keeps `R`: run from `R` it ends in `R`. -/
def Keeps (c : Dev nD) (R : sProp 𝕄) {α : Type} (p : Prog (TpuEff nD τ sig (Elt F) Λ₀ .tc) α) : Prop :=
  R ⊢ wp frame (wpE (defs₀ (F := F)) Variants.none c none) Set.univ p fun _ => R

theorem keeps_pure {c : Dev nD} {R : sProp 𝕄} {α : Type} (a : α) : Keeps (F := F) c R (pure a) := by
  show R ⊢ wp frame (wpE (defs₀ (F := F)) Variants.none c none) Set.univ (.ret a) fun _ => R
  rw [wp_ret]
  iintro H
  imodintro
  iexact H

theorem keeps_bind {c : Dev nD} {R : sProp 𝕄} {α β : Type} {p : Prog (TpuEff nD τ sig (Elt F) Λ₀ .tc) α} {k : α → Prog (TpuEff nD τ sig (Elt F) Λ₀ .tc) β}
    (hp : Keeps c R p) (hk : ∀ a, Keeps c R (k a)) : Keeps c R (p >>= k) := by
  unfold Keeps at *
  rw [wp_bind]
  exact hp.trans (wp_mono _ _ _ fun a => hk a)

theorem keeps_dite {c : Dev nD} {R : sProp 𝕄} {α : Type} {P : Prop} [Decidable P] {p : P → Prog (TpuEff nD τ sig (Elt F) Λ₀ .tc) α} {q : ¬ P → Prog (TpuEff nD τ sig (Elt F) Λ₀ .tc) α}
    (hp : ∀ h, Keeps c R (p h)) (hq : ∀ h, Keeps c R (q h)) : Keeps c R (dite P p q) := by
  by_cases h : P
  · rw [dif_pos h]; exact hp h
  · rw [dif_neg h]; exact hq h

theorem keeps_load {c : Dev nD} {R : sProp 𝕄} {cs : CoreSpace} {S : Shape} {e : EltTy} {m : Memref sig .tc cs S e} {r : LoadRect S} {hl : m.view.LoadsAt r}
    (h : Has c R m) : Keeps (F := F) c R (Prog.lift (.load m r hl)) := by
  unfold Keeps
  show R ⊢ wp frame (wpE (defs₀ (F := F)) Variants.none c none) Set.univ (.op (.load m r hl) .ret) fun _ => R
  refine (show R ⊢ _ from h).trans ?_
  unfold some' owns
  iintro ⟨⟨%d, %f, -, Hm⟩, Hk⟩
  iapply (wp_load Variants.none (c : Thread nD τ) none Set.univ (m := m) (r := r) (S := m.view.set) (m.view.setOn_subset_set _)) $$ Hm
  iintro Hm
  rw [wp_ret]
  imodintro
  iapply Hk
  iexists _, f
  isplitr; swap; · iexact Hm
  ipureintro; rfl

theorem keeps_store {c : Dev nD} {R : sProp 𝕄} {cs : CoreSpace} {S : Shape} {e : EltTy} {m : Memref sig .tc cs S e} {r : Rect S} {w : r.shape.Idx → Elt F e}
    {Mk : Finset r.shape.Idx} {hx : (m.access r).Stores Mk} {hm : Mk = Finset.univ ∨ ∀ a, r.stride a = 1}
    (h : Has c R m) : Keeps (F := F) c R (Prog.lift (.store m r w Mk hx hm)) := by
  unfold Keeps
  show R ⊢ wp frame (wpE (defs₀ (F := F)) Variants.none c none) Set.univ (.op (.store m r w Mk hx hm) .ret) fun _ => R
  refine (show R ⊢ _ from h).trans ?_
  unfold some' owns
  iintro ⟨⟨%d, %f, -, Hm⟩, Hk⟩
  iapply (wp_store Variants.none (c : Thread nD τ) none Set.univ (m := m) (r := r) (w := w) (Mk := Mk) (hx := hx) (hm := hm)
    (S := m.view.set) (((m.access r).setOn_subset_set Mk).trans (m.view.set_slice_subset r))) $$ Hm
  iintro Hm
  rw [wp_ret]
  imodintro
  iapply Hk
  iexists _, _
  isplitr; swap; · iexact Hm
  ipureintro; rfl

theorem keeps_for {c : Dev nD} {R : sProp 𝕄} {σ : Type} {w : Nat} {l : Scf.Loop w} {hok : l.OK} {init : σ}
    {body : Fin l.trips → σ → Prog (TpuEff nD τ sig (Elt F) Λ₀ .tc) σ} (h : ∀ k a, Keeps c R (body k a)) :
    Keeps (F := F) c R (Scf.Loop.for l hok init body) := by
  unfold Keeps
  refine BIBase.Entails.trans ?_ (Scf.wp_for frame (wpE (defs₀ (F := F)) Variants.none c none) Set.univ l.lb l.ub l.st hok init body
    (fun _ _ => R) (fun k a => h k a))
  iintro H
  isplitl [H]
  · iexact H
  iintro %a H
  iexact H

end Cert.Proof.Dsa

end
-- ==== Proof.Dsa.Leaves.lean ====
/-
  The straight-line parts of the sparse attention kernel's body keep the buffers they are given.
-/
module

public import proofs.«01_k».proof.Proof.Dsa.Keeps

@[expose] public section

set_option maxRecDepth 65536

noncomputable section

namespace Cert.Proof.Dsa

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- `R` owns every buffer the kernel's body is called with: its windows and its scratch. -/
structure Owns (c : Dev nD) (R : sProp 𝕄) (arg2 : Memref sig .tc .vmem S1x512x256 .bf16) (arg3 : Memref sig .tc .vmem S1x512x256 .f32) (arg4 : Memref sig .tc .vmem S1x8x256 .f32) (arg5 : Memref sig .tc .vmem S1x512x256 .bf16) (arg6 : Memref sig .tc .vmem S2048x128 .f32) (arg7 : Memref sig .tc .vmem S2048x128 .f32) (arg8 : Memref sig .tc .vmem S2048x64 .f32) (arg9 : Memref sig .tc .vmem S1x512x256 .bf16) (arg10 : Memref sig .tc .vmem S2x2048x64 .bf16) (arg11 : Memref sig .tc .vmem S8x128x256 .bf16) (arg12 : Memref sig .tc .vmem S2048x64 .f32) (arg13 : Memref sig .tc .vmem S8x256x256 .i32) (arg14 : Memref sig .tc .vmem S8x256x256 .bf16) (arg15 : Memref sig .tc .vmem S8x256x256 .bf16) (arg16 : Memref sig .tc .vmem S8x256x2048 .f32) (arg17 : Memref sig .tc .vmem S2x64x1024 .f32) : Prop where
  h2 : Has (F := F) c R arg2
  h3 : Has (F := F) c R arg3
  h4 : Has (F := F) c R arg4
  h5 : Has (F := F) c R arg5
  h6 : Has (F := F) c R arg6
  h7 : Has (F := F) c R arg7
  h8 : Has (F := F) c R arg8
  h9 : Has (F := F) c R arg9
  h10 : Has (F := F) c R arg10
  h11 : Has (F := F) c R arg11
  h12 : Has (F := F) c R arg12
  h13 : Has (F := F) c R arg13
  h14 : Has (F := F) c R arg14
  h15 : Has (F := F) c R arg15
  h16 : Has (F := F) c R arg16
  h17 : Has (F := F) c R arg17

variable {arg2 : Memref sig .tc .vmem S1x512x256 .bf16} {harg2 : arg2.IsWhole} {arg3 : Memref sig .tc .vmem S1x512x256 .f32} {harg3 : arg3.IsWhole} {arg4 : Memref sig .tc .vmem S1x8x256 .f32} {harg4 : arg4.IsWhole} {arg5 : Memref sig .tc .vmem S1x512x256 .bf16} {harg5 : arg5.IsWhole} {arg6 : Memref sig .tc .vmem S2048x128 .f32} {harg6 : arg6.IsWhole} {arg7 : Memref sig .tc .vmem S2048x128 .f32} {harg7 : arg7.IsWhole} {arg8 : Memref sig .tc .vmem S2048x64 .f32} {harg8 : arg8.IsWhole} {arg9 : Memref sig .tc .vmem S1x512x256 .bf16} {harg9 : arg9.IsWhole} {arg10 : Memref sig .tc .vmem S2x2048x64 .bf16} {harg10 : arg10.IsWhole} {arg11 : Memref sig .tc .vmem S8x128x256 .bf16} {harg11 : arg11.IsWhole} {arg12 : Memref sig .tc .vmem S2048x64 .f32} {harg12 : arg12.IsWhole} {arg13 : Memref sig .tc .vmem S8x256x256 .i32} {harg13 : arg13.IsWhole} {arg14 : Memref sig .tc .vmem S8x256x256 .bf16} {harg14 : arg14.IsWhole} {arg15 : Memref sig .tc .vmem S8x256x256 .bf16} {harg15 : arg15.IsWhole} {arg16 : Memref sig .tc .vmem S8x256x2048 .f32} {harg16 : arg16.IsWhole} {arg17 : Memref sig .tc .vmem S2x64x1024 .f32} {harg17 : arg17.IsWhole}

theorem keeps_k0_part1 {c : Dev nD} {R : sProp 𝕄} {i : grid0.Coords} (H : Owns (F := F) c R arg2 arg3 arg4 arg5 arg6 arg7 arg8 arg9 arg10 arg11 arg12 arg13 arg14 arg15 arg16 arg17) :
    Keeps (F := F) c R (k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 ) := by
  have H' := H
  rw [Gen.k0_part1_eq_skeleton]
  unfold Gen.k0_part1_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | split

theorem keeps_k0_part2 {c : Dev nD} {R : sProp 𝕄} {i : grid0.Coords} (H : Owns (F := F) c R arg2 arg3 arg4 arg5 arg6 arg7 arg8 arg9 arg10 arg11 arg12 arg13 arg14 arg15 arg16 arg17) : ∀ v348,
    Keeps (F := F) c R (k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v348) := by
  have H' := H
  intro v348
  rw [Gen.k0_part2_eq_skeleton]
  unfold Gen.k0_part2_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | split

theorem keeps_k0_part3 {c : Dev nD} {R : sProp 𝕄} {i : grid0.Coords} (H : Owns (F := F) c R arg2 arg3 arg4 arg5 arg6 arg7 arg8 arg9 arg10 arg11 arg12 arg13 arg14 arg15 arg16 arg17) : ∀ v14 v15 v26 v37 c0_i32_12 c1_i32_14 k0_t1,
    Keeps (F := F) c R (k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v14 v15 v26 v37 c0_i32_12 c1_i32_14 k0_t1) := by
  have H' := H
  intro v14 v15 v26 v37 c0_i32_12 c1_i32_14 k0_t1
  rw [Gen.k0_part3_eq_skeleton]
  unfold Gen.k0_part3_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | split

theorem keeps_k0_part4 {c : Dev nD} {R : sProp 𝕄} {i : grid0.Coords} (H : Owns (F := F) c R arg2 arg3 arg4 arg5 arg6 arg7 arg8 arg9 arg10 arg11 arg12 arg13 arg14 arg15 arg16 arg17) : ∀ v14 v15 v26 v37 k0_t1 v321 v322 v361 v363 c2147483647_i32,
    Keeps (F := F) c R (k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v14 v15 v26 v37 k0_t1 v321 v322 v361 v363 c2147483647_i32) := by
  have H' := H
  intro v14 v15 v26 v37 k0_t1 v321 v322 v361 v363 c2147483647_i32
  rw [Gen.k0_part4_eq_skeleton]
  unfold Gen.k0_part4_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | split

theorem keeps_k0_part5 {c : Dev nD} {R : sProp 𝕄} {i : grid0.Coords} (H : Owns (F := F) c R arg2 arg3 arg4 arg5 arg6 arg7 arg8 arg9 arg10 arg11 arg12 arg13 arg14 arg15 arg16 arg17) : ∀ v14 v15 v26 v37 v43 c1_i32_15 k0_t2,
    Keeps (F := F) c R (k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v14 v15 v26 v37 v43 c1_i32_15 k0_t2) := by
  have H' := H
  intro v14 v15 v26 v37 v43 c1_i32_15 k0_t2
  rw [Gen.k0_part5_eq_skeleton]
  unfold Gen.k0_part5_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | split

theorem keeps_k0_part6 {c : Dev nD} {R : sProp 𝕄} {i : grid0.Coords} (H : Owns (F := F) c R arg2 arg3 arg4 arg5 arg6 arg7 arg8 arg9 arg10 arg11 arg12 arg13 arg14 arg15 arg16 arg17) : ∀ v14 v15 v26 v37 k0_t2 v321 v322 v361 v363 c2147483647_i32,
    Keeps (F := F) c R (k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v14 v15 v26 v37 k0_t2 v321 v322 v361 v363 c2147483647_i32) := by
  have H' := H
  intro v14 v15 v26 v37 k0_t2 v321 v322 v361 v363 c2147483647_i32
  rw [Gen.k0_part6_eq_skeleton]
  unfold Gen.k0_part6_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | split

theorem keeps_k0_part7 {c : Dev nD} {R : sProp 𝕄} {i : grid0.Coords} (H : Owns (F := F) c R arg2 arg3 arg4 arg5 arg6 arg7 arg8 arg9 arg10 arg11 arg12 arg13 arg14 arg15 arg16 arg17) : ∀ v7 v14 v15 v26 v37 k0_h2,
    Keeps (F := F) c R (k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v7 v14 v15 v26 v37 k0_h2) := by
  have H' := H
  intro v7 v14 v15 v26 v37 k0_h2
  rw [Gen.k0_part7_eq_skeleton]
  unfold Gen.k0_part7_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | split

theorem keeps_k0_part8 {c : Dev nD} {R : sProp 𝕄} {i : grid0.Coords} (H : Owns (F := F) c R arg2 arg3 arg4 arg5 arg6 arg7 arg8 arg9 arg10 arg11 arg12 arg13 arg14 arg15 arg16 arg17) : ∀ v63 c0_i32_25 c1_i32_27 k0_t3 arg19,
    Keeps (F := F) c R (k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v63 c0_i32_25 c1_i32_27 k0_t3 arg19) := by
  have H' := H
  intro v63 c0_i32_25 c1_i32_27 k0_t3 arg19
  rw [Gen.k0_part8_eq_skeleton]
  unfold Gen.k0_part8_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | split

theorem keeps_k0_part9 {c : Dev nD} {R : sProp 𝕄} {i : grid0.Coords} (H : Owns (F := F) c R arg2 arg3 arg4 arg5 arg6 arg7 arg8 arg9 arg10 arg11 arg12 arg13 arg14 arg15 arg16 arg17) : ∀ v63 v70 c1_i32_28 k0_t4 arg19,
    Keeps (F := F) c R (k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v63 v70 c1_i32_28 k0_t4 arg19) := by
  have H' := H
  intro v63 v70 c1_i32_28 k0_t4 arg19
  rw [Gen.k0_part9_eq_skeleton]
  unfold Gen.k0_part9_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | split

theorem keeps_k0_part10 {c : Dev nD} {R : sProp 𝕄} {i : grid0.Coords} (H : Owns (F := F) c R arg2 arg3 arg4 arg5 arg6 arg7 arg8 arg9 arg10 arg11 arg12 arg13 arg14 arg15 arg16 arg17) : ∀ k0_t5 v334 c0_i32_181 c1_i32_183 k0_t6 arg22,
    Keeps (F := F) c R (k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t5 v334 c0_i32_181 c1_i32_183 k0_t6 arg22) := by
  have H' := H
  intro k0_t5 v334 c0_i32_181 c1_i32_183 k0_t6 arg22
  rw [Gen.k0_part10_eq_skeleton]
  unfold Gen.k0_part10_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | split

theorem keeps_k0_part11 {c : Dev nD} {R : sProp 𝕄} {i : grid0.Coords} (H : Owns (F := F) c R arg2 arg3 arg4 arg5 arg6 arg7 arg8 arg9 arg10 arg11 arg12 arg13 arg14 arg15 arg16 arg17) : ∀ k0_t5 v334 v341 c1_i32_184 k0_t7 arg22,
    Keeps (F := F) c R (k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t5 v334 v341 c1_i32_184 k0_t7 arg22) := by
  have H' := H
  intro k0_t5 v334 v341 c1_i32_184 k0_t7 arg22
  rw [Gen.k0_part11_eq_skeleton]
  unfold Gen.k0_part11_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | split

theorem keeps_k0_part12 {c : Dev nD} {R : sProp 𝕄} {i : grid0.Coords} (H : Owns (F := F) c R arg2 arg3 arg4 arg5 arg6 arg7 arg8 arg9 arg10 arg11 arg12 arg13 arg14 arg15 arg16 arg17) : ∀ k0_t8 v334 c0_i32_181 c1_i32_183 k0_t9 arg22,
    Keeps (F := F) c R (k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t8 v334 c0_i32_181 c1_i32_183 k0_t9 arg22) := by
  have H' := H
  intro k0_t8 v334 c0_i32_181 c1_i32_183 k0_t9 arg22
  rw [Gen.k0_part12_eq_skeleton]
  unfold Gen.k0_part12_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | split

theorem keeps_k0_part13 {c : Dev nD} {R : sProp 𝕄} {i : grid0.Coords} (H : Owns (F := F) c R arg2 arg3 arg4 arg5 arg6 arg7 arg8 arg9 arg10 arg11 arg12 arg13 arg14 arg15 arg16 arg17) : ∀ k0_t8 v334 v341 c1_i32_184 k0_t10 arg22,
    Keeps (F := F) c R (k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t8 v334 v341 c1_i32_184 k0_t10 arg22) := by
  have H' := H
  intro k0_t8 v334 v341 c1_i32_184 k0_t10 arg22
  rw [Gen.k0_part13_eq_skeleton]
  unfold Gen.k0_part13_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | split

theorem keeps_k0_part14 {c : Dev nD} {R : sProp 𝕄} {i : grid0.Coords} (H : Owns (F := F) c R arg2 arg3 arg4 arg5 arg6 arg7 arg8 arg9 arg10 arg11 arg12 arg13 arg14 arg15 arg16 arg17) : ∀ v107 c0_i32_49 c1_i32_51 k0_t11,
    Keeps (F := F) c R (k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v107 c0_i32_49 c1_i32_51 k0_t11) := by
  have H' := H
  intro v107 c0_i32_49 c1_i32_51 k0_t11
  rw [Gen.k0_part14_eq_skeleton]
  unfold Gen.k0_part14_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | split

theorem keeps_k0_part15 {c : Dev nD} {R : sProp 𝕄} {i : grid0.Coords} (H : Owns (F := F) c R arg2 arg3 arg4 arg5 arg6 arg7 arg8 arg9 arg10 arg11 arg12 arg13 arg14 arg15 arg16 arg17) : ∀ v107 v113 c1_i32_52 k0_t12,
    Keeps (F := F) c R (k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v107 v113 c1_i32_52 k0_t12) := by
  have H' := H
  intro v107 v113 c1_i32_52 k0_t12
  rw [Gen.k0_part15_eq_skeleton]
  unfold Gen.k0_part15_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | split

theorem keeps_k0_part16 {c : Dev nD} {R : sProp 𝕄} {i : grid0.Coords} (H : Owns (F := F) c R arg2 arg3 arg4 arg5 arg6 arg7 arg8 arg9 arg10 arg11 arg12 arg13 arg14 arg15 arg16 arg17) : ∀ k0_t13 v325 c0_i32_177 c1_i32_179 k0_t14 arg22,
    Keeps (F := F) c R (k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t13 v325 c0_i32_177 c1_i32_179 k0_t14 arg22) := by
  have H' := H
  intro k0_t13 v325 c0_i32_177 c1_i32_179 k0_t14 arg22
  rw [Gen.k0_part16_eq_skeleton]
  unfold Gen.k0_part16_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | split

theorem keeps_k0_part17 {c : Dev nD} {R : sProp 𝕄} {i : grid0.Coords} (H : Owns (F := F) c R arg2 arg3 arg4 arg5 arg6 arg7 arg8 arg9 arg10 arg11 arg12 arg13 arg14 arg15 arg16 arg17) : ∀ k0_t13 v325 v332 c1_i32_180 k0_t15 arg22,
    Keeps (F := F) c R (k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t13 v325 v332 c1_i32_180 k0_t15 arg22) := by
  have H' := H
  intro k0_t13 v325 v332 c1_i32_180 k0_t15 arg22
  rw [Gen.k0_part17_eq_skeleton]
  unfold Gen.k0_part17_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | split

theorem keeps_k0_part18 {c : Dev nD} {R : sProp 𝕄} {i : grid0.Coords} (H : Owns (F := F) c R arg2 arg3 arg4 arg5 arg6 arg7 arg8 arg9 arg10 arg11 arg12 arg13 arg14 arg15 arg16 arg17) : ∀ k0_t16 v325 c0_i32_177 c1_i32_179 k0_t17 arg22,
    Keeps (F := F) c R (k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t16 v325 c0_i32_177 c1_i32_179 k0_t17 arg22) := by
  have H' := H
  intro k0_t16 v325 c0_i32_177 c1_i32_179 k0_t17 arg22
  rw [Gen.k0_part18_eq_skeleton]
  unfold Gen.k0_part18_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | split

theorem keeps_k0_part19 {c : Dev nD} {R : sProp 𝕄} {i : grid0.Coords} (H : Owns (F := F) c R arg2 arg3 arg4 arg5 arg6 arg7 arg8 arg9 arg10 arg11 arg12 arg13 arg14 arg15 arg16 arg17) : ∀ k0_t16 v325 v332 c1_i32_180 k0_t18 arg22,
    Keeps (F := F) c R (k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t16 v325 v332 c1_i32_180 k0_t18 arg22) := by
  have H' := H
  intro k0_t16 v325 v332 c1_i32_180 k0_t18 arg22
  rw [Gen.k0_part19_eq_skeleton]
  unfold Gen.k0_part19_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | split

theorem keeps_k0_part20 {c : Dev nD} {R : sProp 𝕄} {i : grid0.Coords} (H : Owns (F := F) c R arg2 arg3 arg4 arg5 arg6 arg7 arg8 arg9 arg10 arg11 arg12 arg13 arg14 arg15 arg16 arg17) : ∀ v107 v128 c0_i32_64 c1_i32_66 k0_t19,
    Keeps (F := F) c R (k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v107 v128 c0_i32_64 c1_i32_66 k0_t19) := by
  have H' := H
  intro v107 v128 c0_i32_64 c1_i32_66 k0_t19
  rw [Gen.k0_part20_eq_skeleton]
  unfold Gen.k0_part20_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | split

theorem keeps_k0_part21 {c : Dev nD} {R : sProp 𝕄} {i : grid0.Coords} (H : Owns (F := F) c R arg2 arg3 arg4 arg5 arg6 arg7 arg8 arg9 arg10 arg11 arg12 arg13 arg14 arg15 arg16 arg17) : ∀ v107 v128 v134 c1_i32_67 k0_t20,
    Keeps (F := F) c R (k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v107 v128 v134 c1_i32_67 k0_t20) := by
  have H' := H
  intro v107 v128 v134 c1_i32_67 k0_t20
  rw [Gen.k0_part21_eq_skeleton]
  unfold Gen.k0_part21_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | split

theorem keeps_k0_part22 {c : Dev nD} {R : sProp 𝕄} {i : grid0.Coords} (H : Owns (F := F) c R arg2 arg3 arg4 arg5 arg6 arg7 arg8 arg9 arg10 arg11 arg12 arg13 arg14 arg15 arg16 arg17) : ∀ k0_t21 v325 c0_i32_177 c1_i32_179 k0_t22 arg22,
    Keeps (F := F) c R (k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t21 v325 c0_i32_177 c1_i32_179 k0_t22 arg22) := by
  have H' := H
  intro k0_t21 v325 c0_i32_177 c1_i32_179 k0_t22 arg22
  rw [Gen.k0_part22_eq_skeleton]
  unfold Gen.k0_part22_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | split

theorem keeps_k0_part23 {c : Dev nD} {R : sProp 𝕄} {i : grid0.Coords} (H : Owns (F := F) c R arg2 arg3 arg4 arg5 arg6 arg7 arg8 arg9 arg10 arg11 arg12 arg13 arg14 arg15 arg16 arg17) : ∀ k0_t21 v325 v332 c1_i32_180 k0_t23 arg22,
    Keeps (F := F) c R (k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t21 v325 v332 c1_i32_180 k0_t23 arg22) := by
  have H' := H
  intro k0_t21 v325 v332 c1_i32_180 k0_t23 arg22
  rw [Gen.k0_part23_eq_skeleton]
  unfold Gen.k0_part23_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | split

theorem keeps_k0_part24 {c : Dev nD} {R : sProp 𝕄} {i : grid0.Coords} (H : Owns (F := F) c R arg2 arg3 arg4 arg5 arg6 arg7 arg8 arg9 arg10 arg11 arg12 arg13 arg14 arg15 arg16 arg17) : ∀ k0_t24 v325 c0_i32_177 c1_i32_179 k0_t25 arg22,
    Keeps (F := F) c R (k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t24 v325 c0_i32_177 c1_i32_179 k0_t25 arg22) := by
  have H' := H
  intro k0_t24 v325 c0_i32_177 c1_i32_179 k0_t25 arg22
  rw [Gen.k0_part24_eq_skeleton]
  unfold Gen.k0_part24_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | split

theorem keeps_k0_part25 {c : Dev nD} {R : sProp 𝕄} {i : grid0.Coords} (H : Owns (F := F) c R arg2 arg3 arg4 arg5 arg6 arg7 arg8 arg9 arg10 arg11 arg12 arg13 arg14 arg15 arg16 arg17) : ∀ k0_t24 v325 v332 c1_i32_180 k0_t26 arg22,
    Keeps (F := F) c R (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_t24 v325 v332 c1_i32_180 k0_t26 arg22) := by
  have H' := H
  intro k0_t24 v325 v332 c1_i32_180 k0_t26 arg22
  rw [Gen.k0_part25_eq_skeleton]
  unfold Gen.k0_part25_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | split

theorem keeps_k0_part26 {c : Dev nD} {R : sProp 𝕄} {i : grid0.Coords} (H : Owns (F := F) c R arg2 arg3 arg4 arg5 arg6 arg7 arg8 arg9 arg10 arg11 arg12 arg13 arg14 arg15 arg16 arg17) : ∀ v153 v155 v166 v172 c0_i32_91 c1_i32_93 k0_t27 arg20,
    Keeps (F := F) c R (k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v153 v155 v166 v172 c0_i32_91 c1_i32_93 k0_t27 arg20) := by
  have H' := H
  intro v153 v155 v166 v172 c0_i32_91 c1_i32_93 k0_t27 arg20
  rw [Gen.k0_part26_eq_skeleton]
  unfold Gen.k0_part26_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | split

theorem keeps_k0_part27 {c : Dev nD} {R : sProp 𝕄} {i : grid0.Coords} (H : Owns (F := F) c R arg2 arg3 arg4 arg5 arg6 arg7 arg8 arg9 arg10 arg11 arg12 arg13 arg14 arg15 arg16 arg17) : ∀ v166 k0_t27 arg19 v321 v322 v350 v358 v362,
    Keeps (F := F) c R (k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v166 k0_t27 arg19 v321 v322 v350 v358 v362) := by
  have H' := H
  intro v166 k0_t27 arg19 v321 v322 v350 v358 v362
  rw [Gen.k0_part27_eq_skeleton]
  unfold Gen.k0_part27_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | split

theorem keeps_k0_part28 {c : Dev nD} {R : sProp 𝕄} {i : grid0.Coords} (H : Owns (F := F) c R arg2 arg3 arg4 arg5 arg6 arg7 arg8 arg9 arg10 arg11 arg12 arg13 arg14 arg15 arg16 arg17) : ∀ v153 v155 v166 v172 k0_t27 v321 v349 v412,
    Keeps (F := F) c R (k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v153 v155 v166 v172 k0_t27 v321 v349 v412) := by
  have H' := H
  intro v153 v155 v166 v172 k0_t27 v321 v349 v412
  rw [Gen.k0_part28_eq_skeleton]
  unfold Gen.k0_part28_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | split

theorem keeps_k0_part29 {c : Dev nD} {R : sProp 𝕄} {i : grid0.Coords} (H : Owns (F := F) c R arg2 arg3 arg4 arg5 arg6 arg7 arg8 arg9 arg10 arg11 arg12 arg13 arg14 arg15 arg16 arg17) : ∀ v153 v155 v166 v172 v184 c1_i32_94 k0_t28 arg20,
    Keeps (F := F) c R (k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v153 v155 v166 v172 v184 c1_i32_94 k0_t28 arg20) := by
  have H' := H
  intro v153 v155 v166 v172 v184 c1_i32_94 k0_t28 arg20
  rw [Gen.k0_part29_eq_skeleton]
  unfold Gen.k0_part29_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | split

theorem keeps_k0_part30 {c : Dev nD} {R : sProp 𝕄} {i : grid0.Coords} (H : Owns (F := F) c R arg2 arg3 arg4 arg5 arg6 arg7 arg8 arg9 arg10 arg11 arg12 arg13 arg14 arg15 arg16 arg17) : ∀ v166 k0_t28 arg19 v321 v322 v350 v358 v362,
    Keeps (F := F) c R (k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v166 k0_t28 arg19 v321 v322 v350 v358 v362) := by
  have H' := H
  intro v166 k0_t28 arg19 v321 v322 v350 v358 v362
  rw [Gen.k0_part30_eq_skeleton]
  unfold Gen.k0_part30_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | split

theorem keeps_k0_part31 {c : Dev nD} {R : sProp 𝕄} {i : grid0.Coords} (H : Owns (F := F) c R arg2 arg3 arg4 arg5 arg6 arg7 arg8 arg9 arg10 arg11 arg12 arg13 arg14 arg15 arg16 arg17) : ∀ v153 v155 v166 v172 k0_t28 v321 v349 v412,
    Keeps (F := F) c R (k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v153 v155 v166 v172 k0_t28 v321 v349 v412) := by
  have H' := H
  intro v153 v155 v166 v172 k0_t28 v321 v349 v412
  rw [Gen.k0_part31_eq_skeleton]
  unfold Gen.k0_part31_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | split

theorem keeps_k0_part32 {c : Dev nD} {R : sProp 𝕄} {i : grid0.Coords} (H : Owns (F := F) c R arg2 arg3 arg4 arg5 arg6 arg7 arg8 arg9 arg10 arg11 arg12 arg13 arg14 arg15 arg16 arg17) : ∀ v7 v153 v155 v166 v172 v186_1 k0_h12,
    Keeps (F := F) c R (k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v7 v153 v155 v166 v172 v186_1 k0_h12) := by
  have H' := H
  intro v7 v153 v155 v166 v172 v186_1 k0_h12
  rw [Gen.k0_part32_eq_skeleton]
  unfold Gen.k0_part32_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | split

theorem keeps_k0_part33 {c : Dev nD} {R : sProp 𝕄} {i : grid0.Coords} (H : Owns (F := F) c R arg2 arg3 arg4 arg5 arg6 arg7 arg8 arg9 arg10 arg11 arg12 arg13 arg14 arg15 arg16 arg17) : ∀ v197 c0_i32_103 c1_i32_105 k0_t29,
    Keeps (F := F) c R (k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v197 c0_i32_103 c1_i32_105 k0_t29) := by
  have H' := H
  intro v197 c0_i32_103 c1_i32_105 k0_t29
  rw [Gen.k0_part33_eq_skeleton]
  unfold Gen.k0_part33_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | split

theorem keeps_k0_part34 {c : Dev nD} {R : sProp 𝕄} {i : grid0.Coords} (H : Owns (F := F) c R arg2 arg3 arg4 arg5 arg6 arg7 arg8 arg9 arg10 arg11 arg12 arg13 arg14 arg15 arg16 arg17) : ∀ v197 k0_t29 arg19 v321 v353,
    Keeps (F := F) c R (k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v197 k0_t29 arg19 v321 v353) := by
  have H' := H
  intro v197 k0_t29 arg19 v321 v353
  rw [Gen.k0_part34_eq_skeleton]
  unfold Gen.k0_part34_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | split

theorem keeps_k0_part35 {c : Dev nD} {R : sProp 𝕄} {i : grid0.Coords} (H : Owns (F := F) c R arg2 arg3 arg4 arg5 arg6 arg7 arg8 arg9 arg10 arg11 arg12 arg13 arg14 arg15 arg16 arg17) : ∀ v197 v204 c1_i32_106 k0_t30,
    Keeps (F := F) c R (k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v197 v204 c1_i32_106 k0_t30) := by
  have H' := H
  intro v197 v204 c1_i32_106 k0_t30
  rw [Gen.k0_part35_eq_skeleton]
  unfold Gen.k0_part35_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | split

theorem keeps_k0_part36 {c : Dev nD} {R : sProp 𝕄} {i : grid0.Coords} (H : Owns (F := F) c R arg2 arg3 arg4 arg5 arg6 arg7 arg8 arg9 arg10 arg11 arg12 arg13 arg14 arg15 arg16 arg17) : ∀ v197 k0_t30 arg19 v321 v353,
    Keeps (F := F) c R (k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v197 k0_t30 arg19 v321 v353) := by
  have H' := H
  intro v197 k0_t30 arg19 v321 v353
  rw [Gen.k0_part36_eq_skeleton]
  unfold Gen.k0_part36_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | split

theorem keeps_k0_part37 {c : Dev nD} {R : sProp 𝕄} {i : grid0.Coords} (H : Owns (F := F) c R arg2 arg3 arg4 arg5 arg6 arg7 arg8 arg9 arg10 arg11 arg12 arg13 arg14 arg15 arg16 arg17) : ∀ v7 v197 k0_h13,
    Keeps (F := F) c R (k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v7 v197 k0_h13) := by
  have H' := H
  intro v7 v197 k0_h13
  rw [Gen.k0_part37_eq_skeleton]
  unfold Gen.k0_part37_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | split

theorem keeps_k0_part38 {c : Dev nD} {R : sProp 𝕄} {i : grid0.Coords} (H : Owns (F := F) c R arg2 arg3 arg4 arg5 arg6 arg7 arg8 arg9 arg10 arg11 arg12 arg13 arg14 arg15 arg16 arg17) :
    Keeps (F := F) c R (k0_part38 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 ) := by
  have H' := H
  rw [Gen.k0_part38_eq_skeleton]
  unfold Gen.k0_part38_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | with_reducible exact keeps_k0_part1 H'
    | with_reducible exact keeps_k0_part2 H' _
    | split

end Cert.Proof.Dsa

end
-- ==== Proof.Dsa.Body.lean ====
/-
  The loops of the sparse attention kernel's body, the parts that hold them, and the body itself keep the buffers they are given.
-/
module

public import proofs.«01_k».proof.Proof.Dsa.Leaves

@[expose] public section

set_option maxRecDepth 65536

noncomputable section

namespace Cert.Proof.Dsa

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

variable {arg2 : Memref sig .tc .vmem S1x512x256 .bf16} {harg2 : arg2.IsWhole} {arg3 : Memref sig .tc .vmem S1x512x256 .f32} {harg3 : arg3.IsWhole} {arg4 : Memref sig .tc .vmem S1x8x256 .f32} {harg4 : arg4.IsWhole} {arg5 : Memref sig .tc .vmem S1x512x256 .bf16} {harg5 : arg5.IsWhole} {arg6 : Memref sig .tc .vmem S2048x128 .f32} {harg6 : arg6.IsWhole} {arg7 : Memref sig .tc .vmem S2048x128 .f32} {harg7 : arg7.IsWhole} {arg8 : Memref sig .tc .vmem S2048x64 .f32} {harg8 : arg8.IsWhole} {arg9 : Memref sig .tc .vmem S1x512x256 .bf16} {harg9 : arg9.IsWhole} {arg10 : Memref sig .tc .vmem S2x2048x64 .bf16} {harg10 : arg10.IsWhole} {arg11 : Memref sig .tc .vmem S8x128x256 .bf16} {harg11 : arg11.IsWhole} {arg12 : Memref sig .tc .vmem S2048x64 .f32} {harg12 : arg12.IsWhole} {arg13 : Memref sig .tc .vmem S8x256x256 .i32} {harg13 : arg13.IsWhole} {arg14 : Memref sig .tc .vmem S8x256x256 .bf16} {harg14 : arg14.IsWhole} {arg15 : Memref sig .tc .vmem S8x256x256 .bf16} {harg15 : arg15.IsWhole} {arg16 : Memref sig .tc .vmem S8x256x2048 .f32} {harg16 : arg16.IsWhole} {arg17 : Memref sig .tc .vmem S2x64x1024 .f32} {harg17 : arg17.IsWhole}

theorem keeps_k0_t1_body {c : Dev nD} {R : sProp 𝕄} {i : grid0.Coords} (H : Owns (F := F) c R arg2 arg3 arg4 arg5 arg6 arg7 arg8 arg9 arg10 arg11 arg12 arg13 arg14 arg15 arg16 arg17) : ∀ arg1 v7 v14 v15 v26 v37 v38 k a,
    Keeps (F := F) c R (Gen.k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v7 v14 v15 v26 v37 v38 k a) := by
  have H' := H
  intro arg1 v7 v14 v15 v26 v37 v38 k a
  unfold Gen.k0_t1_body
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | with_reducible exact keeps_k0_part3 H' _ _ _ _ _ _ _
    | with_reducible exact keeps_k0_part4 H' _ _ _ _ _ _ _ _ _ _
    | split

theorem keeps_k0_t2_body {c : Dev nD} {R : sProp 𝕄} {i : grid0.Coords} (H : Owns (F := F) c R arg2 arg3 arg4 arg5 arg6 arg7 arg8 arg9 arg10 arg11 arg12 arg13 arg14 arg15 arg16 arg17) : ∀ arg1 v7 v14 v15 v26 v37 v38 v43 k a,
    Keeps (F := F) c R (Gen.k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v7 v14 v15 v26 v37 v38 v43 k a) := by
  have H' := H
  intro arg1 v7 v14 v15 v26 v37 v38 v43 k a
  unfold Gen.k0_t2_body
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | with_reducible exact keeps_k0_part5 H' _ _ _ _ _ _ _
    | with_reducible exact keeps_k0_part6 H' _ _ _ _ _ _ _ _ _ _
    | split

theorem keeps_k0_t3_body {c : Dev nD} {R : sProp 𝕄} {i : grid0.Coords} (H : Owns (F := F) c R arg2 arg3 arg4 arg5 arg6 arg7 arg8 arg9 arg10 arg11 arg12 arg13 arg14 arg15 arg16 arg17) : ∀ arg1 v7 v14 v15 v26 v37 v38 k a,
    Keeps (F := F) c R (Gen.k0_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v7 v14 v15 v26 v37 v38 k a) := by
  have H' := H
  intro arg1 v7 v14 v15 v26 v37 v38 k a
  unfold Gen.k0_t3_body
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | with_reducible exact keeps_k0_part8 H' _ _ _ _ _
    | split

theorem keeps_k0_t4_body {c : Dev nD} {R : sProp 𝕄} {i : grid0.Coords} (H : Owns (F := F) c R arg2 arg3 arg4 arg5 arg6 arg7 arg8 arg9 arg10 arg11 arg12 arg13 arg14 arg15 arg16 arg17) : ∀ arg1 v7 v14 v15 v26 v37 v38 v70 k a,
    Keeps (F := F) c R (Gen.k0_t4_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v7 v14 v15 v26 v37 v38 v70 k a) := by
  have H' := H
  intro arg1 v7 v14 v15 v26 v37 v38 v70 k a
  unfold Gen.k0_t4_body
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | with_reducible exact keeps_k0_part9 H' _ _ _ _ _
    | split

theorem keeps_k0_part39 {c : Dev nD} {R : sProp 𝕄} {i : grid0.Coords} (H : Owns (F := F) c R arg2 arg3 arg4 arg5 arg6 arg7 arg8 arg9 arg10 arg11 arg12 arg13 arg14 arg15 arg16 arg17) : ∀ arg1 v7 v14 v15 v26 v37 v38,
    Keeps (F := F) c R (k0_part39 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v7 v14 v15 v26 v37 v38) := by
  have H' := H
  intro arg1 v7 v14 v15 v26 v37 v38
  rw [Gen.k0_part39_eq_skeleton]
  unfold Gen.k0_part39_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | with_reducible exact keeps_k0_part7 H' _ _ _ _ _ _
    | with_reducible exact keeps_k0_t1_body H' _ _ _ _ _ _ _ _ _
    | with_reducible exact keeps_k0_t2_body H' _ _ _ _ _ _ _ _ _ _
    | with_reducible exact keeps_k0_t3_body H' _ _ _ _ _ _ _ _ _
    | with_reducible exact keeps_k0_t4_body H' _ _ _ _ _ _ _ _ _ _
    | split

theorem keeps_k0_t6_body {c : Dev nD} {R : sProp 𝕄} {i : grid0.Coords} (H : Owns (F := F) c R arg2 arg3 arg4 arg5 arg6 arg7 arg8 arg9 arg10 arg11 arg12 arg13 arg14 arg15 arg16 arg17) : ∀ v7 v51 v63 v72 c1_i32_29 k0_t5 arg19 k a,
    Keeps (F := F) c R (Gen.k0_t6_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v7 v51 v63 v72 c1_i32_29 k0_t5 arg19 k a) := by
  have H' := H
  intro v7 v51 v63 v72 c1_i32_29 k0_t5 arg19 k a
  unfold Gen.k0_t6_body
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | with_reducible exact keeps_k0_part10 H' _ _ _ _ _ _
    | split

theorem keeps_k0_t7_body {c : Dev nD} {R : sProp 𝕄} {i : grid0.Coords} (H : Owns (F := F) c R arg2 arg3 arg4 arg5 arg6 arg7 arg8 arg9 arg10 arg11 arg12 arg13 arg14 arg15 arg16 arg17) : ∀ v7 v51 v63 v72 c1_i32_29 k0_t5 arg19 v341 k a,
    Keeps (F := F) c R (Gen.k0_t7_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v7 v51 v63 v72 c1_i32_29 k0_t5 arg19 v341 k a) := by
  have H' := H
  intro v7 v51 v63 v72 c1_i32_29 k0_t5 arg19 v341 k a
  unfold Gen.k0_t7_body
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | with_reducible exact keeps_k0_part11 H' _ _ _ _ _ _
    | split

theorem keeps_k0_t5_body {c : Dev nD} {R : sProp 𝕄} {i : grid0.Coords} (H : Owns (F := F) c R arg2 arg3 arg4 arg5 arg6 arg7 arg8 arg9 arg10 arg11 arg12 arg13 arg14 arg15 arg16 arg17) : ∀ v7 v51 v63 v72 c1_i32_29 k a,
    Keeps (F := F) c R (Gen.k0_t5_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v7 v51 v63 v72 c1_i32_29 k a) := by
  have H' := H
  intro v7 v51 v63 v72 c1_i32_29 k a
  unfold Gen.k0_t5_body
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | with_reducible exact keeps_k0_t6_body H' _ _ _ _ _ _ _ _ _
    | with_reducible exact keeps_k0_t7_body H' _ _ _ _ _ _ _ _ _ _
    | split

theorem keeps_k0_t9_body {c : Dev nD} {R : sProp 𝕄} {i : grid0.Coords} (H : Owns (F := F) c R arg2 arg3 arg4 arg5 arg6 arg7 arg8 arg9 arg10 arg11 arg12 arg13 arg14 arg15 arg16 arg17) : ∀ v7 v51 v63 v72 c1_i32_29 k0_t8 arg19 k a,
    Keeps (F := F) c R (Gen.k0_t9_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v7 v51 v63 v72 c1_i32_29 k0_t8 arg19 k a) := by
  have H' := H
  intro v7 v51 v63 v72 c1_i32_29 k0_t8 arg19 k a
  unfold Gen.k0_t9_body
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | with_reducible exact keeps_k0_part12 H' _ _ _ _ _ _
    | split

theorem keeps_k0_t10_body {c : Dev nD} {R : sProp 𝕄} {i : grid0.Coords} (H : Owns (F := F) c R arg2 arg3 arg4 arg5 arg6 arg7 arg8 arg9 arg10 arg11 arg12 arg13 arg14 arg15 arg16 arg17) : ∀ v7 v51 v63 v72 c1_i32_29 k0_t8 arg19 v341 k a,
    Keeps (F := F) c R (Gen.k0_t10_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v7 v51 v63 v72 c1_i32_29 k0_t8 arg19 v341 k a) := by
  have H' := H
  intro v7 v51 v63 v72 c1_i32_29 k0_t8 arg19 v341 k a
  unfold Gen.k0_t10_body
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | with_reducible exact keeps_k0_part13 H' _ _ _ _ _ _
    | split

theorem keeps_k0_t8_body {c : Dev nD} {R : sProp 𝕄} {i : grid0.Coords} (H : Owns (F := F) c R arg2 arg3 arg4 arg5 arg6 arg7 arg8 arg9 arg10 arg11 arg12 arg13 arg14 arg15 arg16 arg17) : ∀ v7 v51 v63 v72 c1_i32_29 k a,
    Keeps (F := F) c R (Gen.k0_t8_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v7 v51 v63 v72 c1_i32_29 k a) := by
  have H' := H
  intro v7 v51 v63 v72 c1_i32_29 k a
  unfold Gen.k0_t8_body
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | with_reducible exact keeps_k0_t10_body H' _ _ _ _ _ _ _ _ _ _
    | with_reducible exact keeps_k0_t9_body H' _ _ _ _ _ _ _ _ _
    | split

theorem keeps_k0_part40 {c : Dev nD} {R : sProp 𝕄} {i : grid0.Coords} (H : Owns (F := F) c R arg2 arg3 arg4 arg5 arg6 arg7 arg8 arg9 arg10 arg11 arg12 arg13 arg14 arg15 arg16 arg17) : ∀ v7 v51 v63 v72 c1_i32_29,
    Keeps (F := F) c R (k0_part40 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v7 v51 v63 v72 c1_i32_29) := by
  have H' := H
  intro v7 v51 v63 v72 c1_i32_29
  rw [Gen.k0_part40_eq_skeleton]
  unfold Gen.k0_part40_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | with_reducible exact keeps_k0_t5_body H' _ _ _ _ _ _ _
    | with_reducible exact keeps_k0_t8_body H' _ _ _ _ _ _ _
    | split

theorem keeps_k0_t11_body {c : Dev nD} {R : sProp 𝕄} {i : grid0.Coords} (H : Owns (F := F) c R arg2 arg3 arg4 arg5 arg6 arg7 arg8 arg9 arg10 arg11 arg12 arg13 arg14 arg15 arg16 arg17) : ∀ v7 v51 v96_1 v107 c0_i32_49 v109 c1_i32_50 k a,
    Keeps (F := F) c R (Gen.k0_t11_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v7 v51 v96_1 v107 c0_i32_49 v109 c1_i32_50 k a) := by
  have H' := H
  intro v7 v51 v96_1 v107 c0_i32_49 v109 c1_i32_50 k a
  unfold Gen.k0_t11_body
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | with_reducible exact keeps_k0_part14 H' _ _ _ _
    | split

theorem keeps_k0_t12_body {c : Dev nD} {R : sProp 𝕄} {i : grid0.Coords} (H : Owns (F := F) c R arg2 arg3 arg4 arg5 arg6 arg7 arg8 arg9 arg10 arg11 arg12 arg13 arg14 arg15 arg16 arg17) : ∀ v7 v51 v96_1 v107 c0_i32_49 v109 c1_i32_50 v113 k a,
    Keeps (F := F) c R (Gen.k0_t12_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v7 v51 v96_1 v107 c0_i32_49 v109 c1_i32_50 v113 k a) := by
  have H' := H
  intro v7 v51 v96_1 v107 c0_i32_49 v109 c1_i32_50 v113 k a
  unfold Gen.k0_t12_body
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | with_reducible exact keeps_k0_part15 H' _ _ _ _
    | split

theorem keeps_k0_t14_body {c : Dev nD} {R : sProp 𝕄} {i : grid0.Coords} (H : Owns (F := F) c R arg2 arg3 arg4 arg5 arg6 arg7 arg8 arg9 arg10 arg11 arg12 arg13 arg14 arg15 arg16 arg17) : ∀ v7 v51 v96_1 v107 c0_i32_49 v109 c1_i32_50 k0_t13 arg19 k a,
    Keeps (F := F) c R (Gen.k0_t14_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v7 v51 v96_1 v107 c0_i32_49 v109 c1_i32_50 k0_t13 arg19 k a) := by
  have H' := H
  intro v7 v51 v96_1 v107 c0_i32_49 v109 c1_i32_50 k0_t13 arg19 k a
  unfold Gen.k0_t14_body
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | with_reducible exact keeps_k0_part16 H' _ _ _ _ _ _
    | split

theorem keeps_k0_t15_body {c : Dev nD} {R : sProp 𝕄} {i : grid0.Coords} (H : Owns (F := F) c R arg2 arg3 arg4 arg5 arg6 arg7 arg8 arg9 arg10 arg11 arg12 arg13 arg14 arg15 arg16 arg17) : ∀ v7 v51 v96_1 v107 c0_i32_49 v109 c1_i32_50 k0_t13 arg19 v332 k a,
    Keeps (F := F) c R (Gen.k0_t15_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v7 v51 v96_1 v107 c0_i32_49 v109 c1_i32_50 k0_t13 arg19 v332 k a) := by
  have H' := H
  intro v7 v51 v96_1 v107 c0_i32_49 v109 c1_i32_50 k0_t13 arg19 v332 k a
  unfold Gen.k0_t15_body
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | with_reducible exact keeps_k0_part17 H' _ _ _ _ _ _
    | split

theorem keeps_k0_t13_body {c : Dev nD} {R : sProp 𝕄} {i : grid0.Coords} (H : Owns (F := F) c R arg2 arg3 arg4 arg5 arg6 arg7 arg8 arg9 arg10 arg11 arg12 arg13 arg14 arg15 arg16 arg17) : ∀ v7 v51 v96_1 v107 c0_i32_49 v109 c1_i32_50 k a,
    Keeps (F := F) c R (Gen.k0_t13_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v7 v51 v96_1 v107 c0_i32_49 v109 c1_i32_50 k a) := by
  have H' := H
  intro v7 v51 v96_1 v107 c0_i32_49 v109 c1_i32_50 k a
  unfold Gen.k0_t13_body
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | with_reducible exact keeps_k0_t14_body H' _ _ _ _ _ _ _ _ _ _ _
    | with_reducible exact keeps_k0_t15_body H' _ _ _ _ _ _ _ _ _ _ _ _
    | split

theorem keeps_k0_t17_body {c : Dev nD} {R : sProp 𝕄} {i : grid0.Coords} (H : Owns (F := F) c R arg2 arg3 arg4 arg5 arg6 arg7 arg8 arg9 arg10 arg11 arg12 arg13 arg14 arg15 arg16 arg17) : ∀ v7 v51 v96_1 v107 c0_i32_49 v109 c1_i32_50 k0_t16 arg19 k a,
    Keeps (F := F) c R (Gen.k0_t17_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v7 v51 v96_1 v107 c0_i32_49 v109 c1_i32_50 k0_t16 arg19 k a) := by
  have H' := H
  intro v7 v51 v96_1 v107 c0_i32_49 v109 c1_i32_50 k0_t16 arg19 k a
  unfold Gen.k0_t17_body
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | with_reducible exact keeps_k0_part18 H' _ _ _ _ _ _
    | split

theorem keeps_k0_t18_body {c : Dev nD} {R : sProp 𝕄} {i : grid0.Coords} (H : Owns (F := F) c R arg2 arg3 arg4 arg5 arg6 arg7 arg8 arg9 arg10 arg11 arg12 arg13 arg14 arg15 arg16 arg17) : ∀ v7 v51 v96_1 v107 c0_i32_49 v109 c1_i32_50 k0_t16 arg19 v332 k a,
    Keeps (F := F) c R (Gen.k0_t18_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v7 v51 v96_1 v107 c0_i32_49 v109 c1_i32_50 k0_t16 arg19 v332 k a) := by
  have H' := H
  intro v7 v51 v96_1 v107 c0_i32_49 v109 c1_i32_50 k0_t16 arg19 v332 k a
  unfold Gen.k0_t18_body
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | with_reducible exact keeps_k0_part19 H' _ _ _ _ _ _
    | split

theorem keeps_k0_t16_body {c : Dev nD} {R : sProp 𝕄} {i : grid0.Coords} (H : Owns (F := F) c R arg2 arg3 arg4 arg5 arg6 arg7 arg8 arg9 arg10 arg11 arg12 arg13 arg14 arg15 arg16 arg17) : ∀ v7 v51 v96_1 v107 c0_i32_49 v109 c1_i32_50 k a,
    Keeps (F := F) c R (Gen.k0_t16_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v7 v51 v96_1 v107 c0_i32_49 v109 c1_i32_50 k a) := by
  have H' := H
  intro v7 v51 v96_1 v107 c0_i32_49 v109 c1_i32_50 k a
  unfold Gen.k0_t16_body
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | with_reducible exact keeps_k0_t17_body H' _ _ _ _ _ _ _ _ _ _ _
    | with_reducible exact keeps_k0_t18_body H' _ _ _ _ _ _ _ _ _ _ _ _
    | split

theorem keeps_k0_t19_body {c : Dev nD} {R : sProp 𝕄} {i : grid0.Coords} (H : Owns (F := F) c R arg2 arg3 arg4 arg5 arg6 arg7 arg8 arg9 arg10 arg11 arg12 arg13 arg14 arg15 arg16 arg17) : ∀ v7 v51 v96_1 v107 c0_i32_49 v109 c1_i32_50 v126_0 k a,
    Keeps (F := F) c R (Gen.k0_t19_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v7 v51 v96_1 v107 c0_i32_49 v109 c1_i32_50 v126_0 k a) := by
  have H' := H
  intro v7 v51 v96_1 v107 c0_i32_49 v109 c1_i32_50 v126_0 k a
  unfold Gen.k0_t19_body
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | with_reducible exact keeps_k0_part20 H' _ _ _ _ _
    | split

theorem keeps_k0_t20_body {c : Dev nD} {R : sProp 𝕄} {i : grid0.Coords} (H : Owns (F := F) c R arg2 arg3 arg4 arg5 arg6 arg7 arg8 arg9 arg10 arg11 arg12 arg13 arg14 arg15 arg16 arg17) : ∀ v7 v51 v96_1 v107 c0_i32_49 v109 c1_i32_50 v126_0 v134 k a,
    Keeps (F := F) c R (Gen.k0_t20_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v7 v51 v96_1 v107 c0_i32_49 v109 c1_i32_50 v126_0 v134 k a) := by
  have H' := H
  intro v7 v51 v96_1 v107 c0_i32_49 v109 c1_i32_50 v126_0 v134 k a
  unfold Gen.k0_t20_body
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | with_reducible exact keeps_k0_part21 H' _ _ _ _ _
    | split

theorem keeps_k0_part41 {c : Dev nD} {R : sProp 𝕄} {i : grid0.Coords} (H : Owns (F := F) c R arg2 arg3 arg4 arg5 arg6 arg7 arg8 arg9 arg10 arg11 arg12 arg13 arg14 arg15 arg16 arg17) : ∀ v7 v51 v96_1 v107 c0_i32_49 v109 c1_i32_50,
    Keeps (F := F) c R (k0_part41 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v7 v51 v96_1 v107 c0_i32_49 v109 c1_i32_50) := by
  have H' := H
  intro v7 v51 v96_1 v107 c0_i32_49 v109 c1_i32_50
  rw [Gen.k0_part41_eq_skeleton]
  unfold Gen.k0_part41_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | with_reducible exact keeps_k0_t11_body H' _ _ _ _ _ _ _ _ _
    | with_reducible exact keeps_k0_t12_body H' _ _ _ _ _ _ _ _ _ _
    | with_reducible exact keeps_k0_t13_body H' _ _ _ _ _ _ _ _ _
    | with_reducible exact keeps_k0_t16_body H' _ _ _ _ _ _ _ _ _
    | with_reducible exact keeps_k0_t19_body H' _ _ _ _ _ _ _ _ _ _
    | with_reducible exact keeps_k0_t20_body H' _ _ _ _ _ _ _ _ _ _ _
    | split

theorem keeps_k0_t22_body {c : Dev nD} {R : sProp 𝕄} {i : grid0.Coords} (H : Owns (F := F) c R arg2 arg3 arg4 arg5 arg6 arg7 arg8 arg9 arg10 arg11 arg12 arg13 arg14 arg15 arg16 arg17) : ∀ v7 v96_0 v126_0 v126_1 v139 v140 k0_t21 arg19 k a,
    Keeps (F := F) c R (Gen.k0_t22_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v7 v96_0 v126_0 v126_1 v139 v140 k0_t21 arg19 k a) := by
  have H' := H
  intro v7 v96_0 v126_0 v126_1 v139 v140 k0_t21 arg19 k a
  unfold Gen.k0_t22_body
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | with_reducible exact keeps_k0_part22 H' _ _ _ _ _ _
    | split

theorem keeps_k0_t23_body {c : Dev nD} {R : sProp 𝕄} {i : grid0.Coords} (H : Owns (F := F) c R arg2 arg3 arg4 arg5 arg6 arg7 arg8 arg9 arg10 arg11 arg12 arg13 arg14 arg15 arg16 arg17) : ∀ v7 v96_0 v126_0 v126_1 v139 v140 k0_t21 arg19 v332 k a,
    Keeps (F := F) c R (Gen.k0_t23_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v7 v96_0 v126_0 v126_1 v139 v140 k0_t21 arg19 v332 k a) := by
  have H' := H
  intro v7 v96_0 v126_0 v126_1 v139 v140 k0_t21 arg19 v332 k a
  unfold Gen.k0_t23_body
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | with_reducible exact keeps_k0_part23 H' _ _ _ _ _ _
    | split

theorem keeps_k0_t21_body {c : Dev nD} {R : sProp 𝕄} {i : grid0.Coords} (H : Owns (F := F) c R arg2 arg3 arg4 arg5 arg6 arg7 arg8 arg9 arg10 arg11 arg12 arg13 arg14 arg15 arg16 arg17) : ∀ v7 v96_0 v126_0 v126_1 v139 v140 k a,
    Keeps (F := F) c R (Gen.k0_t21_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v7 v96_0 v126_0 v126_1 v139 v140 k a) := by
  have H' := H
  intro v7 v96_0 v126_0 v126_1 v139 v140 k a
  unfold Gen.k0_t21_body
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | with_reducible exact keeps_k0_t22_body H' _ _ _ _ _ _ _ _ _ _
    | with_reducible exact keeps_k0_t23_body H' _ _ _ _ _ _ _ _ _ _ _
    | split

theorem keeps_k0_t25_body {c : Dev nD} {R : sProp 𝕄} {i : grid0.Coords} (H : Owns (F := F) c R arg2 arg3 arg4 arg5 arg6 arg7 arg8 arg9 arg10 arg11 arg12 arg13 arg14 arg15 arg16 arg17) : ∀ v7 v96_0 v126_0 v126_1 v139 v140 k0_t24 arg19 k a,
    Keeps (F := F) c R (Gen.k0_t25_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v7 v96_0 v126_0 v126_1 v139 v140 k0_t24 arg19 k a) := by
  have H' := H
  intro v7 v96_0 v126_0 v126_1 v139 v140 k0_t24 arg19 k a
  unfold Gen.k0_t25_body
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | with_reducible exact keeps_k0_part24 H' _ _ _ _ _ _
    | split

theorem keeps_k0_t26_body {c : Dev nD} {R : sProp 𝕄} {i : grid0.Coords} (H : Owns (F := F) c R arg2 arg3 arg4 arg5 arg6 arg7 arg8 arg9 arg10 arg11 arg12 arg13 arg14 arg15 arg16 arg17) : ∀ v7 v96_0 v126_0 v126_1 v139 v140 k0_t24 arg19 v332 k a,
    Keeps (F := F) c R (Gen.k0_t26_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v7 v96_0 v126_0 v126_1 v139 v140 k0_t24 arg19 v332 k a) := by
  have H' := H
  intro v7 v96_0 v126_0 v126_1 v139 v140 k0_t24 arg19 v332 k a
  unfold Gen.k0_t26_body
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | with_reducible exact keeps_k0_part25 H' _ _ _ _ _ _
    | split

theorem keeps_k0_t24_body {c : Dev nD} {R : sProp 𝕄} {i : grid0.Coords} (H : Owns (F := F) c R arg2 arg3 arg4 arg5 arg6 arg7 arg8 arg9 arg10 arg11 arg12 arg13 arg14 arg15 arg16 arg17) : ∀ v7 v96_0 v126_0 v126_1 v139 v140 k a,
    Keeps (F := F) c R (Gen.k0_t24_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v7 v96_0 v126_0 v126_1 v139 v140 k a) := by
  have H' := H
  intro v7 v96_0 v126_0 v126_1 v139 v140 k a
  unfold Gen.k0_t24_body
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | with_reducible exact keeps_k0_t25_body H' _ _ _ _ _ _ _ _ _ _
    | with_reducible exact keeps_k0_t26_body H' _ _ _ _ _ _ _ _ _ _ _
    | split

theorem keeps_k0_part42 {c : Dev nD} {R : sProp 𝕄} {i : grid0.Coords} (H : Owns (F := F) c R arg2 arg3 arg4 arg5 arg6 arg7 arg8 arg9 arg10 arg11 arg12 arg13 arg14 arg15 arg16 arg17) : ∀ v7 v96_0 v126_0 v126_1 v139 v140,
    Keeps (F := F) c R (k0_part42 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v7 v96_0 v126_0 v126_1 v139 v140) := by
  have H' := H
  intro v7 v96_0 v126_0 v126_1 v139 v140
  rw [Gen.k0_part42_eq_skeleton]
  unfold Gen.k0_part42_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | with_reducible exact keeps_k0_t21_body H' _ _ _ _ _ _ _ _
    | with_reducible exact keeps_k0_t24_body H' _ _ _ _ _ _ _ _
    | split

theorem keeps_k0_t27_body {c : Dev nD} {R : sProp 𝕄} {i : grid0.Coords} (H : Owns (F := F) c R arg2 arg3 arg4 arg5 arg6 arg7 arg8 arg9 arg10 arg11 arg12 arg13 arg14 arg15 arg16 arg17) : ∀ v7 v153 v155 v166 v172 v177 v178 c0_i32_91 v180 k a,
    Keeps (F := F) c R (Gen.k0_t27_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v7 v153 v155 v166 v172 v177 v178 c0_i32_91 v180 k a) := by
  have H' := H
  intro v7 v153 v155 v166 v172 v177 v178 c0_i32_91 v180 k a
  unfold Gen.k0_t27_body
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | with_reducible exact keeps_k0_part26 H' _ _ _ _ _ _ _ _
    | with_reducible exact keeps_k0_part27 H' _ _ _ _ _ _ _ _
    | with_reducible exact keeps_k0_part28 H' _ _ _ _ _ _ _ _
    | split

theorem keeps_k0_t28_body {c : Dev nD} {R : sProp 𝕄} {i : grid0.Coords} (H : Owns (F := F) c R arg2 arg3 arg4 arg5 arg6 arg7 arg8 arg9 arg10 arg11 arg12 arg13 arg14 arg15 arg16 arg17) : ∀ v7 v153 v155 v166 v172 v177 v178 c0_i32_91 v180 v184 k a,
    Keeps (F := F) c R (Gen.k0_t28_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v7 v153 v155 v166 v172 v177 v178 c0_i32_91 v180 v184 k a) := by
  have H' := H
  intro v7 v153 v155 v166 v172 v177 v178 c0_i32_91 v180 v184 k a
  unfold Gen.k0_t28_body
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | with_reducible exact keeps_k0_part29 H' _ _ _ _ _ _ _ _
    | with_reducible exact keeps_k0_part30 H' _ _ _ _ _ _ _ _
    | with_reducible exact keeps_k0_part31 H' _ _ _ _ _ _ _ _
    | split

theorem keeps_k0_t29_body {c : Dev nD} {R : sProp 𝕄} {i : grid0.Coords} (H : Owns (F := F) c R arg2 arg3 arg4 arg5 arg6 arg7 arg8 arg9 arg10 arg11 arg12 arg13 arg14 arg15 arg16 arg17) : ∀ v7 v153 v155 v166 v172 v177 v178 c0_i32_91 v180 v191 k a,
    Keeps (F := F) c R (Gen.k0_t29_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v7 v153 v155 v166 v172 v177 v178 c0_i32_91 v180 v191 k a) := by
  have H' := H
  intro v7 v153 v155 v166 v172 v177 v178 c0_i32_91 v180 v191 k a
  unfold Gen.k0_t29_body
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | with_reducible exact keeps_k0_part33 H' _ _ _ _
    | with_reducible exact keeps_k0_part34 H' _ _ _ _ _
    | split

theorem keeps_k0_t30_body {c : Dev nD} {R : sProp 𝕄} {i : grid0.Coords} (H : Owns (F := F) c R arg2 arg3 arg4 arg5 arg6 arg7 arg8 arg9 arg10 arg11 arg12 arg13 arg14 arg15 arg16 arg17) : ∀ v7 v153 v155 v166 v172 v177 v178 c0_i32_91 v180 v191 v204 k a,
    Keeps (F := F) c R (Gen.k0_t30_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v7 v153 v155 v166 v172 v177 v178 c0_i32_91 v180 v191 v204 k a) := by
  have H' := H
  intro v7 v153 v155 v166 v172 v177 v178 c0_i32_91 v180 v191 v204 k a
  unfold Gen.k0_t30_body
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | with_reducible exact keeps_k0_part35 H' _ _ _ _
    | with_reducible exact keeps_k0_part36 H' _ _ _ _ _
    | split

theorem keeps_k0_part43 {c : Dev nD} {R : sProp 𝕄} {i : grid0.Coords} (H : Owns (F := F) c R arg2 arg3 arg4 arg5 arg6 arg7 arg8 arg9 arg10 arg11 arg12 arg13 arg14 arg15 arg16 arg17) : ∀ v7 v153 v155 v166 v172 v177 v178 c0_i32_91 v180,
    Keeps (F := F) c R (k0_part43 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v7 v153 v155 v166 v172 v177 v178 c0_i32_91 v180) := by
  have H' := H
  intro v7 v153 v155 v166 v172 v177 v178 c0_i32_91 v180
  rw [Gen.k0_part43_eq_skeleton]
  unfold Gen.k0_part43_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | with_reducible exact keeps_k0_part32 H' _ _ _ _ _ _ _
    | with_reducible exact keeps_k0_part37 H' _ _ _
    | with_reducible exact keeps_k0_t27_body H' _ _ _ _ _ _ _ _ _ _ _
    | with_reducible exact keeps_k0_t28_body H' _ _ _ _ _ _ _ _ _ _ _ _
    | with_reducible exact keeps_k0_t29_body H' _ _ _ _ _ _ _ _ _ _ _ _
    | with_reducible exact keeps_k0_t30_body H' _ _ _ _ _ _ _ _ _ _ _ _ _
    | split

theorem keeps_k0_part44 {c : Dev nD} {R : sProp 𝕄} {i : grid0.Coords} (H : Owns (F := F) c R arg2 arg3 arg4 arg5 arg6 arg7 arg8 arg9 arg10 arg11 arg12 arg13 arg14 arg15 arg16 arg17) : ∀ v215 v217 v218,
    Keeps (F := F) c R (k0_part44 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v215 v217 v218) := by
  have H' := H
  intro v215 v217 v218
  rw [Gen.k0_part44_eq_skeleton]
  unfold Gen.k0_part44_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | split

theorem keeps_k0_part45 {c : Dev nD} {R : sProp 𝕄} {i : grid0.Coords} (H : Owns (F := F) c R arg2 arg3 arg4 arg5 arg6 arg7 arg8 arg9 arg10 arg11 arg12 arg13 arg14 arg15 arg16 arg17) : ∀ v215 v251 v252,
    Keeps (F := F) c R (k0_part45 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v215 v251 v252) := by
  have H' := H
  intro v215 v251 v252
  rw [Gen.k0_part45_eq_skeleton]
  unfold Gen.k0_part45_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | split

theorem keeps_k0_part46 {c : Dev nD} {R : sProp 𝕄} {i : grid0.Coords} (H : Owns (F := F) c R arg2 arg3 arg4 arg5 arg6 arg7 arg8 arg9 arg10 arg11 arg12 arg13 arg14 arg15 arg16 arg17) :
    Keeps (F := F) c R (k0_part46 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 ) := by
  have H' := H
  rw [Gen.k0_part46_eq_skeleton]
  unfold Gen.k0_part46_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | with_reducible exact keeps_k0_part38 H'
    | with_reducible exact keeps_k0_part39 H' _ _ _ _ _ _ _
    | with_reducible exact keeps_k0_part40 H' _ _ _ _ _
    | with_reducible exact keeps_k0_part41 H' _ _ _ _ _ _ _
    | with_reducible exact keeps_k0_part42 H' _ _ _ _ _ _
    | with_reducible exact keeps_k0_part43 H' _ _ _ _ _ _ _ _ _
    | with_reducible exact keeps_k0_part44 H' _ _ _
    | with_reducible exact keeps_k0_part45 H' _ _ _
    | split

theorem keeps_cc0_dsa_t2048 {c : Dev nD} {R : sProp 𝕄} {i : grid0.Coords} (H : Owns (F := F) c R arg2 arg3 arg4 arg5 arg6 arg7 arg8 arg9 arg10 arg11 arg12 arg13 arg14 arg15 arg16 arg17) :
    Keeps (F := F) c R (cc0_dsa_t2048 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 ) := by
  have H' := H
  rw [Gen.cc0_dsa_t2048_eq_skeleton]
  unfold Gen.cc0_dsa_t2048_skel
  obtain ⟨h2, h3, h4, h5, h6, h7, h8, h9, h10, h11, h12, h13, h14, h15, h16, h17⟩ := H
  repeat' first
    | with_reducible exact keeps_pure _
    | with_reducible exact keeps_load (by assumption)
    | with_reducible exact keeps_store (by assumption)
    | with_reducible refine keeps_for fun _ _ => ?_
    | with_reducible refine keeps_bind ?_ fun _ => ?_
    | with_reducible refine keeps_dite (fun _ => ?_) fun _ => ?_
    | with_reducible exact keeps_k0_part46 H'
    | split

end Cert.Proof.Dsa

end
-- ==== Proof.Dsa.Run.lean ====
/-
  The sparse attention kernel's launch. Between two grid points the pipeline hands the body its eight windows' staging
  memrefs and its eight scratch buffers at some contents each; the body keeps them (`keeps_cc0_dsa_t2048`). Every
  window is forgotten, so nothing is said of what the output holds; the inputs' arrays are never written.
-/
module

public import proofs.«01_k».proof.Proof.Dsa.Body
public import proofs.«01_k».proof.Proof.Gen.Kernel.Frame
public import Idealize.ShloMosaic.Lib.Transfers

@[expose] public section

noncomputable section

namespace Cert.Proof.Dsa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- Every window is forgotten. -/
def fgt : Fin 8 → Bool := fun _ => true

/-- The proof data on core `c`: the arrays as the region finds them, what the body leaves unnamed, the class invariant,
    full shares, nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- The invariant, buffer by buffer: each scratch at some contents, the generator register at some state. -/
theorem PhiA0_eq (c : Dev nD) :
    (Pipeline.ΦA spec0 c : sProp 𝕄)
      = iprop(iprop(some' (F := F) c (Memref.whole cc0_scratch0) ∗ some' (F := F) c (Memref.whole cc0_scratch1)
          ∗ some' (F := F) c (Memref.whole cc0_scratch2) ∗ some' (F := F) c (Memref.whole cc0_scratch3)
          ∗ some' (F := F) c (Memref.whole cc0_scratch4) ∗ some' (F := F) c (Memref.whole cc0_scratch5)
          ∗ some' (F := F) c (Memref.whole cc0_scratch6) ∗ some' (F := F) c (Memref.whole cc0_scratch7))
        ∗ (∃ r, prngReg c r)) := by
  unfold Pipeline.ΦA; rw [scopedRest0_eq]; simp only [some', owns_whole]; try rfl

/-- What the body is called with at point `t`, and what it hands back. -/
def around (c : Dev nD) (t : Fin cfg0.N) : sProp 𝕄 :=
  iprop((dats m 0 c).Φ t.castSucc ∗ (dats m 0 c).owesAt () t.castSucc
    ∗ some' (F := F) c (win0_0.stage (cfg0.slots t 0)) ∗ some' (F := F) c (win0_1.stage (cfg0.slots t 1))
    ∗ some' (F := F) c (win0_2.stage (cfg0.slots t 2)) ∗ some' (F := F) c (win0_3.stage (cfg0.slots t 3))
    ∗ some' (F := F) c (win0_4.stage (cfg0.slots t 4)) ∗ some' (F := F) c (win0_5.stage (cfg0.slots t 5))
    ∗ some' (F := F) c (win0_6.stage (cfg0.slots t 6)) ∗ some' (F := F) c (win0_7.stage (cfg0.slots t 7)))

theorem owns_around (c : Dev nD) (t : Fin cfg0.N) :
    Owns (F := F) c (around m c t) (win0_0.stage (cfg0.slots t 0)) (win0_1.stage (cfg0.slots t 1)) (win0_2.stage (cfg0.slots t 2))
      (win0_3.stage (cfg0.slots t 3)) (win0_4.stage (cfg0.slots t 4)) (win0_5.stage (cfg0.slots t 5)) (win0_6.stage (cfg0.slots t 6))
      (win0_7.stage (cfg0.slots t 7)) (Memref.whole cc0_scratch0) (Memref.whole cc0_scratch1) (Memref.whole cc0_scratch2)
      (Memref.whole cc0_scratch3) (Memref.whole cc0_scratch4) (Memref.whole cc0_scratch5) (Memref.whole cc0_scratch6)
      (Memref.whole cc0_scratch7) := by
  unfold around
  rw [show (dats m 0 c).Φ t.castSucc = Pipeline.ΦA spec0 c from rfl, PhiA0_eq]
  refine ⟨?_, ?_, ?_, ?_, ?_, ?_, ?_, ?_, ?_, ?_, ?_, ?_, ?_, ?_, ?_, ?_⟩
  · exact has_right <| has_right <| has_left <| has_self _
  · exact has_right <| has_right <| has_right <| has_left <| has_self _
  · exact has_right <| has_right <| has_right <| has_right <| has_left <| has_self _
  · exact has_right <| has_right <| has_right <| has_right <| has_right <| has_left <| has_self _
  · exact has_right <| has_right <| has_right <| has_right <| has_right <| has_right <| has_left <| has_self _
  · exact has_right <| has_right <| has_right <| has_right <| has_right <| has_right <| has_right <| has_left <| has_self _
  · exact has_right <| has_right <| has_right <| has_right <| has_right <| has_right <| has_right <| has_right <| has_left <| has_self _
  · exact has_right <| has_right <| has_right <| has_right <| has_right <| has_right <| has_right <| has_right <| has_right <| has_self _
  · exact has_left <| has_left <| has_left <| has_self _
  · exact has_left <| has_left <| has_right <| has_left <| has_self _
  · exact has_left <| has_left <| has_right <| has_right <| has_left <| has_self _
  · exact has_left <| has_left <| has_right <| has_right <| has_right <| has_left <| has_self _
  · exact has_left <| has_left <| has_right <| has_right <| has_right <| has_right <| has_left <| has_self _
  · exact has_left <| has_left <| has_right <| has_right <| has_right <| has_right <| has_right <| has_left <| has_self _
  · exact has_left <| has_left <| has_right <| has_right <| has_right <| has_right <| has_right <| has_right <| has_left <| has_self _
  · exact has_left <| has_left <| has_right <| has_right <| has_right <| has_right <| has_right <| has_right <| has_right <| has_self _

theorem sound_body (c : Dev nD) (t : Fin cfg0.N) :
    around m c t ⊢ wp frame (wpE (defs₀ (F := F)) Variants.none c none) Set.univ (bodyAt0 t) (fun _ => around m c t) :=
  keeps_cc0_dsa_t2048 (owns_around m c t)

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ fgt := fun t => by
  rw [bigSep_W0, bigSep_W0, defs₀_row]
  exact triple_restated (sound_body m c t) rfl .rfl fun _ => .rfl

-- the implicit arguments are found by unifying the conclusion with this statement, which unifies only when
-- unification may unfold plain definitions in a metavariable's type
set_option backward.isDefEq.respectTransparency.types false in
/-- At any values, from any memory with zero counters, the program terminates, its input arrays as they were, every
    semaphore counter at zero. -/
theorem run_main :
    θ_run defs (onTc (τ := τ) (main (F := F))) (s₀ m ρ)
      (fun r => Pipeline.RDat.FramePost (cfgs 0) (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

variable {m}

/-- An input window's array is left as it was. -/
theorem arr_kept {r : PUnit × MemSt nD τ sig (Elt F)}
    (h : Pipeline.RDat.FramePost (cfgs 0) (fun c => (dats m 0 c).toRForget fgt) (V m) r) (c : Dev nD) :
    (r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)) :=
  ⟨Pipeline.RDat.FramePost.arr_in h c (0 : Fin 8) rfl, Pipeline.RDat.FramePost.arr_in h c (1 : Fin 8) rfl,
    Pipeline.RDat.FramePost.arr_in h c (2 : Fin 8) rfl, Pipeline.RDat.FramePost.arr_in h c (3 : Fin 8) rfl,
    Pipeline.RDat.FramePost.arr_in h c (4 : Fin 8) rfl, Pipeline.RDat.FramePost.arr_in h c (5 : Fin 8) rfl,
    Pipeline.RDat.FramePost.arr_in h c (6 : Fin 8) rfl⟩

/-- The frame claim. -/
theorem frame_kernel : Cert.quiescent_Kernel := fun m ρ _ =>
  (θ_run Cert.Kernel.defs _ _).mono (fun _ h => ⟨fun c => arr_kept h.1 c, h.2⟩) (run_main (F := Bits) m ρ)

end Cert.Proof.Dsa

end
-- ==== Proof.Proj.Spec.lean ====
module

public import Idealize.ShloMosaic.Lib.IdealHost
public import Idealize.ShloMosaic.PureOps.Ideal.Laws
public import Idealize.ShloMosaic.Lib.Pointwise

/-!
What the projection with its rotations and its retention state computes, on extended reals: the normalized row, one
projected column, the rotary angle, the rotation of a head, and the state a head holds after a number of positions.
-/

@[expose] public section
noncomputable section
namespace Cert.Proof.Proj.Spec
open Idealize.ShloMosaic

/-- Entry `d` of a row divided by its root mean square and scaled by the gain `g`. -/
def nrm (x g : Fin 1024 → EReal) (d : Fin 1024) : EReal :=
  x d * Ideal.rsqrt (Ideal.div (∑ k, x k * x k) (Ideal.ofBits FTy.f32 1149239296#32) + Ideal.ofBits FTy.f32 897988541#32) * g d

/-- The normalized row against one column of the weights. -/
def prj (x g w : Fin 1024 → EReal) : EReal := ∑ d, nrm x g d * w d

/-- Column `j` of the projection of row `p` of batch entry `b` (`0` off the arrays). -/
def Y {B T : ℕ} (x0 : (⟨3, ![B, T, 1024]⟩ : Shape).Idx → EReal) (x1 : (⟨2, ![1, 1024]⟩ : Shape).Idx → EReal)
    (x2 : (⟨3, ![1, 1024, 3912]⟩ : Shape).Idx → EReal) (b p j : ℕ) : EReal :=
  if h : b < B ∧ p < T ∧ j < 3912 then
    prj (fun d => x0 (ix3 ⟨b, h.1⟩ ⟨p, h.2.1⟩ d)) (fun d => x1 (ix2 0 d)) (fun d => x2 (ix3 0 d ⟨j, h.2.2⟩))
  else 0

theorem Y_mk {B T : ℕ} (x0 : (⟨3, ![B, T, 1024]⟩ : Shape).Idx → EReal) (x1 : (⟨2, ![1, 1024]⟩ : Shape).Idx → EReal)
    (x2 : (⟨3, ![1, 1024, 3912]⟩ : Shape).Idx → EReal) {b p j : ℕ} (hb : b < B) (hp : p < T) (hj : j < 3912) :
    prj (fun d => x0 (ix3 ⟨b, hb⟩ ⟨p, hp⟩ d)) (fun d => x1 (ix2 0 d)) (fun d => x2 (ix3 0 d ⟨j, hj⟩)) = Y x0 x1 x2 b p j := by
  rw [Y, dif_pos ⟨hb, hp, hj⟩]

/-- The angle of position `p` and frequency `j` among `half` frequencies of base `θ`. -/
def ang (θ half : BitVec 32) (p j : ℕ) : EReal :=
  FloatOps.sitofp (F := Ideal) FTy.f32 (BitVec.ofNat 32 p) *
    Ideal.pow (Ideal.ofBits FTy.f32 θ) (Ideal.div (-FloatOps.sitofp (F := Ideal) FTy.f32 (BitVec.ofNat 32 j)) (Ideal.ofBits FTy.f32 half))

/-- The angles of the retention heads and of the attention heads. -/
abbrev angR (p j : ℕ) : EReal := ang 1176256512#32 1115684864#32 p j
abbrev angA (p j : ℕ) : EReal := ang 1223959552#32 1090519040#32 p j

/-- A retention head of 128 entries rotated at position `p`: the two halves are the coordinates of 64 planes. -/
def rotR (p : ℕ) (y : ℕ → EReal) (l : ℕ) : EReal :=
  if l < 64 then y l * Ideal.cos (angR p l) - y (l + 64) * Ideal.sin (angR p l)
  else y l * Ideal.cos (angR p (l - 64)) + y (l - 64) * Ideal.sin (angR p (l - 64))

/-- An attention head of 64 entries rotated at position `p`: its first sixteen entries are 8 planes, the rest stay. -/
def rotA (p : ℕ) (y : ℕ → EReal) (l : ℕ) : EReal :=
  if l < 8 then y l * Ideal.cos (angA p l) - y (l + 8) * Ideal.sin (angA p l)
  else if l < 16 then y l * Ideal.cos (angA p (l - 8)) + y (l - 8) * Ideal.sin (angA p (l - 8))
  else y l

/-- `x` times its logistic. -/
def silu (x : EReal) : EReal := x * Ideal.div 1 (1 + Ideal.exp (-x))

/-! ## The decay of a head -/

/-- The logarithm of head `h`'s decay per position. -/
def lg (h : ℕ) : EReal :=
  Ideal.log1p (-Ideal.exp (Ideal.ofBits FTy.f32 1060205080#32 *
    (Ideal.ofBits FTy.f32 3231711232#32 - FloatOps.sitofp (F := Ideal) FTy.f32 (BitVec.ofNat 32 h))))

theorem sitofp_ofNat (n : ℕ) (h : n < 2147483648) : FloatOps.sitofp (F := Ideal) FTy.f32 (BitVec.ofNat 32 n) = ((n : ℝ) : EReal) := by
  show (((BitVec.ofNat 32 n).toInt : ℝ) : EReal) = _
  rw [BitVec.toInt_eq_toNat_of_lt (by rw [BitVec.toNat_ofNat, Nat.mod_eq_of_lt (by omega)]; omega), BitVec.toNat_ofNat,
    Nat.mod_eq_of_lt (by omega)]
  simp

theorem c_ln2 : ∃ r : ℝ, 0 < r ∧ Ideal.ofBits FTy.f32 1060205080#32 = (r : EReal) := by
  refine ⟨11629080 / 16777216, by norm_num, ?_⟩
  simp [Ideal.ofBits, Ideal.ieee, -EReal.coe_mul]; norm_num

theorem c_neg5 : Ideal.ofBits FTy.f32 3231711232#32 = ((-5 : ℝ) : EReal) := by
  simp [Ideal.ofBits, Ideal.ieee, -EReal.coe_mul, -EReal.coe_neg]; norm_num

theorem c_255 : Ideal.ofBits FTy.f32 1132396544#32 = ((255 : ℝ) : EReal) := by
  simp [Ideal.ofBits, Ideal.ieee, -EReal.coe_mul]; norm_num
theorem c_256 : Ideal.ofBits FTy.f32 1132462080#32 = ((256 : ℝ) : EReal) := by
  simp [Ideal.ofBits, Ideal.ieee, -EReal.coe_mul]; norm_num
theorem c_63 : Ideal.ofBits FTy.f32 1115422720#32 = ((63 : ℝ) : EReal) := by
  simp [Ideal.ofBits, Ideal.ieee, -EReal.coe_mul]; norm_num
theorem c_64 : Ideal.ofBits FTy.f32 1115684864#32 = ((64 : ℝ) : EReal) := by
  simp [Ideal.ofBits, Ideal.ieee, -EReal.coe_mul]; norm_num

/-- The logarithm of a head's decay is a real number. -/
theorem lg_real (h : ℕ) (hh : h < 4) : ∃ r : ℝ, lg h = (r : EReal) := by
  obtain ⟨c, hc, e⟩ := c_ln2
  have hlt : Real.exp (c * (-5 - (h : ℝ))) < 1 := by
    rw [Real.exp_lt_one_iff]
    have : (0 : ℝ) ≤ h := Nat.cast_nonneg h
    nlinarith
  refine ⟨Real.log (1 + -Real.exp (c * (-5 - (h : ℝ)))), ?_⟩
  unfold lg
  rw [e, c_neg5, sitofp_ofNat h (by omega), ← EReal.coe_sub, ← EReal.coe_mul, Ideal.exp_coe, ← EReal.coe_neg]
  unfold Ideal.log1p
  rw [show (1 : EReal) = ((1 : ℝ) : EReal) from rfl, ← EReal.coe_add]
  show (if 1 + -Real.exp (c * (-5 - (h : ℝ))) ≤ 0 then ⊥ else _) = _
  rw [if_neg (by linarith)]

/-- The decay of head `h` over `n` positions. -/
def dec (h n : ℕ) : EReal := Ideal.exp (lg h * ((n : ℝ) : EReal))

theorem dec_real (h : ℕ) (hh : h < 4) : ∃ r : ℝ, ∀ n : ℕ, dec h n = ((Real.exp (r * n) : ℝ) : EReal) := by
  obtain ⟨r, e⟩ := lg_real h hh
  exact ⟨r, fun n => by rw [dec, e, ← EReal.coe_mul, Ideal.exp_coe]⟩

/-! ## The state -/

/-- The state after `N` positions, each adding `a n` and decaying what was there by `E 1`. -/
def state (E : ℕ → EReal) (s0 : EReal) (a : ℕ → EReal) (N : ℕ) : EReal :=
  s0 * E N + ∑ n ∈ Finset.range N, a n * E (N - 1 - n)

/-- A decay: positive real factors, multiplicative in the number of positions. -/
structure Decay (E : ℕ → EReal) : Prop where
  nonneg : ∀ n, 0 ≤ E n
  ne_top : ∀ n, E n ≠ ⊤
  zero : E 0 = 1
  mul : ∀ i j, E i * E j = E (i + j)

theorem decay_dec (h : ℕ) (hh : h < 4) : Decay (dec h) := by
  obtain ⟨r, e⟩ := dec_real h hh
  refine ⟨fun n => ?_, fun n => ?_, ?_, fun i j => ?_⟩
  · rw [e]; exact_mod_cast (Real.exp_pos _).le
  · rw [e]; exact EReal.coe_ne_top _
  · rw [e]; simp
  · rw [e, e, e, ← EReal.coe_mul, ← Real.exp_add]; push_cast; rw [mul_add]

theorem sum_mul_of {ι : Type} (s : Finset ι) (f : ι → EReal) {c : EReal} (h0 : 0 ≤ c) (h1 : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 h1, ih]

theorem state_zero {E : ℕ → EReal} (hE : Decay E) (s0 : EReal) (a : ℕ → EReal) : state E s0 a 0 = s0 := by
  simp [state, hE.zero]

/-- `c` more positions in one step. -/
theorem state_add {E : ℕ → EReal} (hE : Decay E) (s0 : EReal) (a : ℕ → EReal) (N c : ℕ) :
    state E s0 a N * E c + ∑ n : Fin c, a (N + n.val) * E (c - 1 - n.val) = state E s0 a (N + c) := by
  unfold state
  rw [EReal.right_distrib_of_nonneg_of_ne_top (hE.nonneg c) (hE.ne_top c), mul_assoc, hE.mul, sum_mul_of _ _ (hE.nonneg c) (hE.ne_top c),
    Finset.sum_range_add, add_assoc, Finset.sum_range (fun x => a (N + x) * E (N + c - 1 - (N + x)))]
  congr 1
  congr 1
  · refine Finset.sum_congr rfl fun n hn => ?_
    have := Finset.mem_range.mp hn
    rw [mul_assoc, hE.mul, show N - 1 - n + c = N + c - 1 - n by omega]
  · refine Finset.sum_congr rfl fun n _ => ?_
    rw [show N + c - 1 - (N + n.val) = c - 1 - n.val by omega]

end Cert.Proof.Proj.Spec
end
-- ==== Proof.Proj.Tile.lean ====
module

public import proofs.«01_k».proof.Proof.Gen.Kernel3Ideal.Skeleton
public import proofs.«01_k».proof.Proof.Proj.Spec
public import Idealize.ShloMosaic.Lib.Pipeline.ValueKit.Point
public import Idealize.ShloMosaic.Lib.Pointwise

/-!
One tile of the prompt call: 512 rows of the normalized activations against the weights. Each array the tile stores is read
at an index: a projected column, rotated or gated where it belongs to a query, a key or a gate; and each head's state is the
one before with 256 more positions folded in, twice.
-/

@[expose] public section
set_option maxHeartbeats 2000000
noncomputable section
namespace Cert.Proof.Proj.Tile
open Cert.Kernel3Ideal Cert.Kernel3Ideal.Gen Idealize.ShloMosaic Cert.Proof.Proj.Spec

/-- What the operands of one tile hold: the two projections, column by column of the weights as they were given; the cosines
    and sines at each row's position; and the decays of the heads. -/
structure Tile (A : FVec Ideal S512x1024 .bf16) (H : FVec Ideal S512x1024 .f32) (C1 C2 CA S1 S2 : FVec Ideal S512x128 .f32)
    (x2 : Vec Ideal S1024x3072 .bf16) (x3 : Vec Ideal S1024x1024 .f32) (x11 : Vec Ideal S4x256x128 .f32) (x13 : Vec Ideal S4x1x128 .f32)
    (Y : ℕ → ℕ → EReal) (pos : ℕ → ℕ) : Prop where
  main : ∀ (r : Fin 512) (j : Fin 3072) {s k : ℕ}, s = r.val → (j.val < 2560 ∧ k = j.val ∨ 2560 ≤ j.val ∧ k = 256 + j.val) →
    (∑ x : Fin 1024, A (ix2 r x) * x2 (ix2 x j)) = Y s k
  sel : ∀ (r : Fin 512) (j : Fin 1024) {s k : ℕ}, s = r.val →
    (j.val < 512 ∧ k = 3328 + j.val ∨ 512 ≤ j.val ∧ j.val < 768 ∧ k = 2048 + j.val ∨ 768 ≤ j.val ∧ j.val < 832 ∧ k = 3072 + j.val
      ∨ 848 ≤ j.val ∧ j.val < 856 ∧ k = 3056 + j.val) →
    (∑ x : Fin 1024, H (ix2 r x) * x3 (ix2 x j)) = Y s k
  c1 : ∀ (r : Fin 512) (l : Fin 128) {s i : ℕ}, s = r.val → i = l.val → C1 (ix2 r l) = Ideal.cos (angR (pos s) (if i < 64 then i else i - 64))
  c2 : ∀ (r : Fin 512) (l : Fin 128) {s i : ℕ}, s = r.val → i = l.val → C2 (ix2 r l)
    = if i < 64 then -Ideal.sin (angR (pos s) i) else Ideal.sin (angR (pos s) (i - 64))
  ca : ∀ (r : Fin 512) (l : Fin 128) {s i : ℕ}, s = r.val → i = l.val % 64 → CA (ix2 r l)
    = if i < 8 then Ideal.cos (angA (pos s) i) else if i < 16 then Ideal.cos (angA (pos s) (i - 8)) else 1
  s1 : ∀ (r : Fin 512) (l : Fin 128) {s i : ℕ}, s = r.val → i = l.val % 64 → S1 (ix2 r l) = if i < 8 then -Ideal.sin (angA (pos s) i) else 0
  s2 : ∀ (r : Fin 512) (l : Fin 128) {s i : ℕ}, s = r.val → i = l.val % 64 → S2 (ix2 r l)
    = if i < 8 then 0 else if i < 16 then Ideal.sin (angA (pos s) (i - 8)) else 0
  te : ∀ (h : Fin 4) (n : Fin 256) (l : Fin 128) {k i : ℕ}, k = h.val → i = n.val → x11 (ix3 h n l) = dec k (256 - 1 - i)
  cd : ∀ (h : Fin 4) (l : Fin 128) {k : ℕ}, k = h.val → x13 (ix3 h 0 l) = dec k 256

/-- A rotated entry of an attention head, from the entry and its two neighbours eight apart. -/
theorem rot3 {p l : ℕ} {y : ℕ → EReal} {a b c ca s1 s2 : EReal}
    (hca : ca = if l < 8 then Ideal.cos (angA p l) else if l < 16 then Ideal.cos (angA p (l - 8)) else 1)
    (hs1 : s1 = if l < 8 then -Ideal.sin (angA p l) else 0)
    (hs2 : s2 = if l < 8 then 0 else if l < 16 then Ideal.sin (angA p (l - 8)) else 0)
    (ha : a = y l) (hb : l < 8 → b = y (l + 8)) (hc : 8 ≤ l → l < 16 → c = y (l - 8)) :
    a * ca + b * s1 + c * s2 = rotA p y l := by
  subst hca hs1 hs2 ha
  unfold rotA
  by_cases h1 : l < 8
  · simp only [h1, if_true, hb h1, mul_zero, add_zero, mul_neg, sub_eq_add_neg]
  · by_cases h2 : l < 16
    · simp only [h1, h2, if_true, if_false, hc (by omega) h2, mul_zero, add_zero]
    · simp only [h1, h2, if_false, mul_zero, add_zero, mul_one]

/-- The neighbours eight apart, inside one group of 64. -/
theorem nb1 {w : ℕ} (hw : w < 128) (h : w % 64 < 8) : (w + 128 - 120) % 128 = w + 8 := by omega
theorem nb2 {w : ℕ} (hw : w < 128) (h : 8 ≤ w % 64) : (w + 128 - 8) % 128 = w - 8 := by omega

theorem silu_of {x y : EReal} (h : x = y) : x * Ideal.div 1 (1 + Ideal.exp (0 - x)) = silu y := by
  subst h; rw [silu, zero_sub]

/-- Past the sixteenth entry nothing is rotated. -/
theorem rot3_id {p l : ℕ} {v a b c ca s1 s2 : EReal} (hl : 16 ≤ l)
    (hca : ca = if l < 8 then Ideal.cos (angA p l) else if l < 16 then Ideal.cos (angA p (l - 8)) else 1)
    (hs1 : s1 = if l < 8 then -Ideal.sin (angA p l) else 0)
    (hs2 : s2 = if l < 8 then 0 else if l < 16 then Ideal.sin (angA p (l - 8)) else 0) (ha : a = v) :
    a * ca + b * s1 + c * s2 = v := by
  subst hca hs1 hs2 ha
  rw [if_neg (by omega), if_neg (by omega), if_neg (by omega), if_neg (by omega), if_neg (by omega), mul_zero, mul_zero, add_zero,
    add_zero, mul_one]

/-- A rotated entry of a retention head, from the entry and the one in the other half. -/
theorem rot2 {p l : ℕ} {y : ℕ → EReal} {a b c1 c2 : EReal}
    (h1 : c1 = Ideal.cos (angR p (if l < 64 then l else l - 64)))
    (h2 : c2 = if l < 64 then -Ideal.sin (angR p l) else Ideal.sin (angR p (l - 64)))
    (ha : a = y l) (hb : b = y (if l < 64 then l + 64 else l - 64)) :
    a * c1 + b * c2 = rotR p y l := by
  subst h1 h2 ha hb
  unfold rotR
  by_cases h : l < 64
  · simp only [h, if_true, mul_neg, sub_eq_add_neg]
  · simp only [h, if_false]

section
variable (Y : ℕ → ℕ → EReal) (pos : ℕ → ℕ)

/-- Entry `q` of row `w` of block `n` of each output of the tile (rows of 256 positions are put side by side), and the
    `d`-th entry at row `r` where the output keeps the rows. -/
def gAq (n w q : ℕ) : EReal := rotA (pos (256 * n + q)) (fun i => Y (256 * n + q) (2048 + (64 * (w / 64) + i))) (w % 64) * Ideal.ofBits FTy.f32 1043900987#32
def gAk (r l : ℕ) : EReal := rotA (pos r) (fun i => Y r (2560 + (64 * (l / 64) + i))) (l % 64)
def gAv (r l : ℕ) : EReal := Y r (2688 + l)
def gAg (n w q : ℕ) : EReal := silu (Y (256 * n + q) (2816 + w))
def gIq (n w q : ℕ) : EReal := rotA (pos (256 * n + q)) (fun i => Y (256 * n + q) (3328 + (64 * (w / 64) + i))) (w % 64)
def gIk (r l : ℕ) : EReal := rotA (pos r) (fun i => Y r (3840 + i)) l
def gIw (n w q : ℕ) : EReal := Y (256 * n + q) (3904 + w) * Ideal.ofBits FTy.f32 1026884851#32
/-- What row `r` adds to entry `(d, e)` of head `h`'s state. -/
def gKv (h d e r : ℕ) : EReal := rotR (pos r) (fun i => Y r (512 + (128 * h + i))) d * Ideal.ofBits FTy.f32 1035273459#32 * Y r (1024 + (128 * h + e))
end

section
variable {A : FVec Ideal S512x1024 .bf16} {H : FVec Ideal S512x1024 .f32} {C1 C2 CA S1 S2 : FVec Ideal S512x128 .f32}
  {x2 : Vec Ideal S1024x3072 .bf16} {x3 : Vec Ideal S1024x1024 .f32} {x11 : Vec Ideal S4x256x128 .f32} {x13 : Vec Ideal S4x1x128 .f32}
  {Y : ℕ → ℕ → EReal} {pos : ℕ → ℕ} (T : Tile A H C1 C2 CA S1 S2 x2 x3 x11 x13 Y pos)
include T

theorem aq00 (w : Fin 128) (q : Fin 256) : (k0_pay92 A CA S1 S2 (View.ld x2 (Rect.unit ![0, 2048] ![1024, 512] inb_S1024x3072_S1024x512_0_2048)) : Vec Ideal S1x128x256 .bf16) (ix3 0 w q) = gAq Y pos 0 (0 + w.val) q.val := by
  have hw := w.isLt; have hq := q.isLt
  unfold_payloads
  pointwise
  unfold gAq
  congr 1
  refine rot3 (T.ca _ _ (by (try dsimp only) <;> omega) (by (try dsimp only) <;> omega)) (T.s1 _ _ (by (try dsimp only) <;> omega) (by (try dsimp only) <;> omega)) (T.s2 _ _ (by (try dsimp only) <;> omega) (by (try dsimp only) <;> omega)) (T.main _ _ (by (try dsimp only) <;> omega) (by (try dsimp only) <;> omega)) (fun h => ?_) (fun h h' => ?_)
  · refine T.main _ _ (by (try dsimp only) <;> omega) ?_
    (try dsimp only)
    rw [nb1 hw (by omega)]; omega
  · refine T.main _ _ (by (try dsimp only) <;> omega) ?_
    (try dsimp only)
    rw [nb2 hw (by omega)]; omega
theorem ag00 (w : Fin 128) (q : Fin 256) : (k0_pay126 A (View.ld x2 (Rect.unit ![0, 2560] ![1024, 512] inb_S1024x3072_S1024x512_0_2560)) : Vec Ideal S1x128x256 .bf16) (ix3 0 w q) = gAg Y 0 (0 + w.val) q.val := by
  have hw := w.isLt; have hq := q.isLt
  unfold_payloads
  pointwise
  exact silu_of (T.main _ _ (by (try dsimp only) <;> omega) (by (try dsimp only) <;> omega))
theorem iq00 (w : Fin 128) (q : Fin 256) : (k0_pay111 H CA S1 S2 (View.ld x3 (Rect.unit ![0, 0] ![1024, 512] inb_S1024x1024_S1024x512_0_0)) : Vec Ideal S1x128x256 .f32) (ix3 0 w q) = gIq Y pos 0 (0 + w.val) q.val := by
  have hw := w.isLt; have hq := q.isLt
  unfold_payloads
  pointwise
  unfold gIq
  refine rot3 (T.ca _ _ (by (try dsimp only) <;> omega) (by (try dsimp only) <;> omega)) (T.s1 _ _ (by (try dsimp only) <;> omega) (by (try dsimp only) <;> omega)) (T.s2 _ _ (by (try dsimp only) <;> omega) (by (try dsimp only) <;> omega)) (T.sel _ _ (by (try dsimp only) <;> omega) (by (try dsimp only) <;> omega)) (fun h => ?_) (fun h h' => ?_)
  · refine T.sel _ _ (by (try dsimp only) <;> omega) ?_
    (try dsimp only)
    rw [nb1 hw (by omega)]; omega
  · refine T.sel _ _ (by (try dsimp only) <;> omega) ?_
    (try dsimp only)
    rw [nb2 hw (by omega)]; omega

theorem aq01 (w : Fin 128) (q : Fin 256) : (k0_pay93 A CA S1 S2 (View.ld x2 (Rect.unit ![0, 2048] ![1024, 512] inb_S1024x3072_S1024x512_0_2048)) : Vec Ideal S1x128x256 .bf16) (ix3 0 w q) = gAq Y pos 1 (0 + w.val) q.val := by
  have hw := w.isLt; have hq := q.isLt
  unfold_payloads
  pointwise
  unfold gAq
  congr 1
  refine rot3 (T.ca _ _ (by (try dsimp only) <;> omega) (by (try dsimp only) <;> omega)) (T.s1 _ _ (by (try dsimp only) <;> omega) (by (try dsimp only) <;> omega)) (T.s2 _ _ (by (try dsimp only) <;> omega) (by (try dsimp only) <;> omega)) (T.main _ _ (by (try dsimp only) <;> omega) (by (try dsimp only) <;> omega)) (fun h => ?_) (fun h h' => ?_)
  · refine T.main _ _ (by (try dsimp only) <;> omega) ?_
    (try dsimp only)
    rw [nb1 hw (by omega)]; omega
  · refine T.main _ _ (by (try dsimp only) <;> omega) ?_
    (try dsimp only)
    rw [nb2 hw (by omega)]; omega
theorem ag01 (w : Fin 128) (q : Fin 256) : (k0_pay127 A (View.ld x2 (Rect.unit ![0, 2560] ![1024, 512] inb_S1024x3072_S1024x512_0_2560)) : Vec Ideal S1x128x256 .bf16) (ix3 0 w q) = gAg Y 1 (0 + w.val) q.val := by
  have hw := w.isLt; have hq := q.isLt
  unfold_payloads
  pointwise
  exact silu_of (T.main _ _ (by (try dsimp only) <;> omega) (by (try dsimp only) <;> omega))
theorem iq01 (w : Fin 128) (q : Fin 256) : (k0_pay112 H CA S1 S2 (View.ld x3 (Rect.unit ![0, 0] ![1024, 512] inb_S1024x1024_S1024x512_0_0)) : Vec Ideal S1x128x256 .f32) (ix3 0 w q) = gIq Y pos 1 (0 + w.val) q.val := by
  have hw := w.isLt; have hq := q.isLt
  unfold_payloads
  pointwise
  unfold gIq
  refine rot3 (T.ca _ _ (by (try dsimp only) <;> omega) (by (try dsimp only) <;> omega)) (T.s1 _ _ (by (try dsimp only) <;> omega) (by (try dsimp only) <;> omega)) (T.s2 _ _ (by (try dsimp only) <;> omega) (by (try dsimp only) <;> omega)) (T.sel _ _ (by (try dsimp only) <;> omega) (by (try dsimp only) <;> omega)) (fun h => ?_) (fun h h' => ?_)
  · refine T.sel _ _ (by (try dsimp only) <;> omega) ?_
    (try dsimp only)
    rw [nb1 hw (by omega)]; omega
  · refine T.sel _ _ (by (try dsimp only) <;> omega) ?_
    (try dsimp only)
    rw [nb2 hw (by omega)]; omega

theorem aq10 (w : Fin 128) (q : Fin 256) : (k0_pay98 (k0_pay95 A CA S1 (View.ld x2 (Rect.unit ![0, 2048] ![1024, 512] inb_S1024x3072_S1024x512_0_2048))) (k0_pay96 A S2 (View.ld x2 (Rect.unit ![0, 2048] ![1024, 512] inb_S1024x3072_S1024x512_0_2048))) : Vec Ideal S1x128x256 .bf16) (ix3 0 w q) = gAq Y pos 0 (128 + w.val) q.val := by
  have hw := w.isLt; have hq := q.isLt
  unfold_payloads
  pointwise
  unfold gAq
  congr 1
  refine rot3 (T.ca _ _ (by (try dsimp only) <;> omega) (by (try dsimp only) <;> omega)) (T.s1 _ _ (by (try dsimp only) <;> omega) (by (try dsimp only) <;> omega)) (T.s2 _ _ (by (try dsimp only) <;> omega) (by (try dsimp only) <;> omega)) (T.main _ _ (by (try dsimp only) <;> omega) (by (try dsimp only) <;> omega)) (fun h => ?_) (fun h h' => ?_)
  · refine T.main _ _ (by (try dsimp only) <;> omega) ?_
    (try dsimp only)
    rw [nb1 hw (by omega)]; omega
  · refine T.main _ _ (by (try dsimp only) <;> omega) ?_
    (try dsimp only)
    rw [nb2 hw (by omega)]; omega
theorem ag10 (w : Fin 128) (q : Fin 256) : (k0_pay130 (k0_pay128 A (View.ld x2 (Rect.unit ![0, 2560] ![1024, 512] inb_S1024x3072_S1024x512_0_2560))) (FloatOps.ofBits FTy.f32 0#32) : Vec Ideal S1x128x256 .bf16) (ix3 0 w q) = gAg Y 0 (128 + w.val) q.val := by
  have hw := w.isLt; have hq := q.isLt
  unfold_payloads
  pointwise
  exact silu_of (T.main _ _ (by (try dsimp only) <;> omega) (by (try dsimp only) <;> omega))
theorem iq10 (w : Fin 128) (q : Fin 256) : (k0_pay114 CA S1 S2 (k0_pay109 H (View.ld x3 (Rect.unit ![0, 0] ![1024, 512] inb_S1024x1024_S1024x512_0_0))) : Vec Ideal S1x128x256 .f32) (ix3 0 w q) = gIq Y pos 0 (128 + w.val) q.val := by
  have hw := w.isLt; have hq := q.isLt
  unfold_payloads
  pointwise
  unfold gIq
  refine rot3 (T.ca _ _ (by (try dsimp only) <;> omega) (by (try dsimp only) <;> omega)) (T.s1 _ _ (by (try dsimp only) <;> omega) (by (try dsimp only) <;> omega)) (T.s2 _ _ (by (try dsimp only) <;> omega) (by (try dsimp only) <;> omega)) (T.sel _ _ (by (try dsimp only) <;> omega) (by (try dsimp only) <;> omega)) (fun h => ?_) (fun h h' => ?_)
  · refine T.sel _ _ (by (try dsimp only) <;> omega) ?_
    (try dsimp only)
    rw [nb1 hw (by omega)]; omega
  · refine T.sel _ _ (by (try dsimp only) <;> omega) ?_
    (try dsimp only)
    rw [nb2 hw (by omega)]; omega

theorem aq11 (w : Fin 128) (q : Fin 256) : (k0_pay99 (k0_pay95 A CA S1 (View.ld x2 (Rect.unit ![0, 2048] ![1024, 512] inb_S1024x3072_S1024x512_0_2048))) (k0_pay96 A S2 (View.ld x2 (Rect.unit ![0, 2048] ![1024, 512] inb_S1024x3072_S1024x512_0_2048))) : Vec Ideal S1x128x256 .bf16) (ix3 0 w q) = gAq Y pos 1 (128 + w.val) q.val := by
  have hw := w.isLt; have hq := q.isLt
  unfold_payloads
  pointwise
  unfold gAq
  congr 1
  refine rot3 (T.ca _ _ (by (try dsimp only) <;> omega) (by (try dsimp only) <;> omega)) (T.s1 _ _ (by (try dsimp only) <;> omega) (by (try dsimp only) <;> omega)) (T.s2 _ _ (by (try dsimp only) <;> omega) (by (try dsimp only) <;> omega)) (T.main _ _ (by (try dsimp only) <;> omega) (by (try dsimp only) <;> omega)) (fun h => ?_) (fun h h' => ?_)
  · refine T.main _ _ (by (try dsimp only) <;> omega) ?_
    (try dsimp only)
    rw [nb1 hw (by omega)]; omega
  · refine T.main _ _ (by (try dsimp only) <;> omega) ?_
    (try dsimp only)
    rw [nb2 hw (by omega)]; omega
theorem ag11 (w : Fin 128) (q : Fin 256) : (k0_pay131 (k0_pay128 A (View.ld x2 (Rect.unit ![0, 2560] ![1024, 512] inb_S1024x3072_S1024x512_0_2560))) (FloatOps.ofBits FTy.f32 0#32) : Vec Ideal S1x128x256 .bf16) (ix3 0 w q) = gAg Y 1 (128 + w.val) q.val := by
  have hw := w.isLt; have hq := q.isLt
  unfold_payloads
  pointwise
  exact silu_of (T.main _ _ (by (try dsimp only) <;> omega) (by (try dsimp only) <;> omega))
theorem iq11 (w : Fin 128) (q : Fin 256) : (k0_pay115 CA S1 S2 (k0_pay109 H (View.ld x3 (Rect.unit ![0, 0] ![1024, 512] inb_S1024x1024_S1024x512_0_0))) : Vec Ideal S1x128x256 .f32) (ix3 0 w q) = gIq Y pos 1 (128 + w.val) q.val := by
  have hw := w.isLt; have hq := q.isLt
  unfold_payloads
  pointwise
  unfold gIq
  refine rot3 (T.ca _ _ (by (try dsimp only) <;> omega) (by (try dsimp only) <;> omega)) (T.s1 _ _ (by (try dsimp only) <;> omega) (by (try dsimp only) <;> omega)) (T.s2 _ _ (by (try dsimp only) <;> omega) (by (try dsimp only) <;> omega)) (T.sel _ _ (by (try dsimp only) <;> omega) (by (try dsimp only) <;> omega)) (fun h => ?_) (fun h h' => ?_)
  · refine T.sel _ _ (by (try dsimp only) <;> omega) ?_
    (try dsimp only)
    rw [nb1 hw (by omega)]; omega
  · refine T.sel _ _ (by (try dsimp only) <;> omega) ?_
    (try dsimp only)
    rw [nb2 hw (by omega)]; omega

theorem aq20 (w : Fin 128) (q : Fin 256) : (k0_pay101 CA S1 S2 (k0_pay90 A (View.ld x2 (Rect.unit ![0, 2048] ![1024, 512] inb_S1024x3072_S1024x512_0_2048))) : Vec Ideal S1x128x256 .bf16) (ix3 0 w q) = gAq Y pos 0 (256 + w.val) q.val := by
  have hw := w.isLt; have hq := q.isLt
  unfold_payloads
  pointwise
  unfold gAq
  congr 1
  refine rot3 (T.ca _ _ (by (try dsimp only) <;> omega) (by (try dsimp only) <;> omega)) (T.s1 _ _ (by (try dsimp only) <;> omega) (by (try dsimp only) <;> omega)) (T.s2 _ _ (by (try dsimp only) <;> omega) (by (try dsimp only) <;> omega)) (T.main _ _ (by (try dsimp only) <;> omega) (by (try dsimp only) <;> omega)) (fun h => ?_) (fun h h' => ?_)
  · refine T.main _ _ (by (try dsimp only) <;> omega) ?_
    (try dsimp only)
    rw [nb1 hw (by omega)]; omega
  · refine T.main _ _ (by (try dsimp only) <;> omega) ?_
    (try dsimp only)
    rw [nb2 hw (by omega)]; omega
theorem ag20 (w : Fin 128) (q : Fin 256) : (k0_pay133 (k0_pay124 A (View.ld x2 (Rect.unit ![0, 2560] ![1024, 512] inb_S1024x3072_S1024x512_0_2560))) : Vec Ideal S1x128x256 .bf16) (ix3 0 w q) = gAg Y 0 (256 + w.val) q.val := by
  have hw := w.isLt; have hq := q.isLt
  unfold_payloads
  pointwise
  exact silu_of (T.main _ _ (by (try dsimp only) <;> omega) (by (try dsimp only) <;> omega))
theorem iq20 (w : Fin 128) (q : Fin 256) : (k0_pay117 CA S1 S2 (k0_pay109 H (View.ld x3 (Rect.unit ![0, 0] ![1024, 512] inb_S1024x1024_S1024x512_0_0))) : Vec Ideal S1x128x256 .f32) (ix3 0 w q) = gIq Y pos 0 (256 + w.val) q.val := by
  have hw := w.isLt; have hq := q.isLt
  unfold_payloads
  pointwise
  unfold gIq
  refine rot3 (T.ca _ _ (by (try dsimp only) <;> omega) (by (try dsimp only) <;> omega)) (T.s1 _ _ (by (try dsimp only) <;> omega) (by (try dsimp only) <;> omega)) (T.s2 _ _ (by (try dsimp only) <;> omega) (by (try dsimp only) <;> omega)) (T.sel _ _ (by (try dsimp only) <;> omega) (by (try dsimp only) <;> omega)) (fun h => ?_) (fun h h' => ?_)
  · refine T.sel _ _ (by (try dsimp only) <;> omega) ?_
    (try dsimp only)
    rw [nb1 hw (by omega)]; omega
  · refine T.sel _ _ (by (try dsimp only) <;> omega) ?_
    (try dsimp only)
    rw [nb2 hw (by omega)]; omega

theorem aq21 (w : Fin 128) (q : Fin 256) : (k0_pay102 CA S1 S2 (k0_pay90 A (View.ld x2 (Rect.unit ![0, 2048] ![1024, 512] inb_S1024x3072_S1024x512_0_2048))) : Vec Ideal S1x128x256 .bf16) (ix3 0 w q) = gAq Y pos 1 (256 + w.val) q.val := by
  have hw := w.isLt; have hq := q.isLt
  unfold_payloads
  pointwise
  unfold gAq
  congr 1
  refine rot3 (T.ca _ _ (by (try dsimp only) <;> omega) (by (try dsimp only) <;> omega)) (T.s1 _ _ (by (try dsimp only) <;> omega) (by (try dsimp only) <;> omega)) (T.s2 _ _ (by (try dsimp only) <;> omega) (by (try dsimp only) <;> omega)) (T.main _ _ (by (try dsimp only) <;> omega) (by (try dsimp only) <;> omega)) (fun h => ?_) (fun h h' => ?_)
  · refine T.main _ _ (by (try dsimp only) <;> omega) ?_
    (try dsimp only)
    rw [nb1 hw (by omega)]; omega
  · refine T.main _ _ (by (try dsimp only) <;> omega) ?_
    (try dsimp only)
    rw [nb2 hw (by omega)]; omega
theorem ag21 (w : Fin 128) (q : Fin 256) : (k0_pay134 (k0_pay124 A (View.ld x2 (Rect.unit ![0, 2560] ![1024, 512] inb_S1024x3072_S1024x512_0_2560))) : Vec Ideal S1x128x256 .bf16) (ix3 0 w q) = gAg Y 1 (256 + w.val) q.val := by
  have hw := w.isLt; have hq := q.isLt
  unfold_payloads
  pointwise
  exact silu_of (T.main _ _ (by (try dsimp only) <;> omega) (by (try dsimp only) <;> omega))
theorem iq21 (w : Fin 128) (q : Fin 256) : (k0_pay118 CA S1 S2 (k0_pay109 H (View.ld x3 (Rect.unit ![0, 0] ![1024, 512] inb_S1024x1024_S1024x512_0_0))) : Vec Ideal S1x128x256 .f32) (ix3 0 w q) = gIq Y pos 1 (256 + w.val) q.val := by
  have hw := w.isLt; have hq := q.isLt
  unfold_payloads
  pointwise
  unfold gIq
  refine rot3 (T.ca _ _ (by (try dsimp only) <;> omega) (by (try dsimp only) <;> omega)) (T.s1 _ _ (by (try dsimp only) <;> omega) (by (try dsimp only) <;> omega)) (T.s2 _ _ (by (try dsimp only) <;> omega) (by (try dsimp only) <;> omega)) (T.sel _ _ (by (try dsimp only) <;> omega) (by (try dsimp only) <;> omega)) (fun h => ?_) (fun h h' => ?_)
  · refine T.sel _ _ (by (try dsimp only) <;> omega) ?_
    (try dsimp only)
    rw [nb1 hw (by omega)]; omega
  · refine T.sel _ _ (by (try dsimp only) <;> omega) ?_
    (try dsimp only)
    rw [nb2 hw (by omega)]; omega

theorem aq30 (w : Fin 128) (q : Fin 256) : (k0_pay107 S2 (k0_pay103 (k0_pay90 A (View.ld x2 (Rect.unit ![0, 2048] ![1024, 512] inb_S1024x3072_S1024x512_0_2048)))) (k0_pay104 CA (k0_pay90 A (View.ld x2 (Rect.unit ![0, 2048] ![1024, 512] inb_S1024x3072_S1024x512_0_2048)))) (k0_pay105 S1 (k0_pay90 A (View.ld x2 (Rect.unit ![0, 2048] ![1024, 512] inb_S1024x3072_S1024x512_0_2048)))) : Vec Ideal S1x128x256 .bf16) (ix3 0 w q) = gAq Y pos 0 (384 + w.val) q.val := by
  have hw := w.isLt; have hq := q.isLt
  unfold_payloads
  pointwise
  unfold gAq
  congr 1
  refine rot3 (T.ca _ _ (by (try dsimp only) <;> omega) (by (try dsimp only) <;> omega)) (T.s1 _ _ (by (try dsimp only) <;> omega) (by (try dsimp only) <;> omega)) (T.s2 _ _ (by (try dsimp only) <;> omega) (by (try dsimp only) <;> omega)) (T.main _ _ (by (try dsimp only) <;> omega) (by (try dsimp only) <;> omega)) (fun h => ?_) (fun h h' => ?_)
  · refine T.main _ _ (by (try dsimp only) <;> omega) ?_
    (try dsimp only)
    rw [nb1 hw (by omega)]; omega
  · refine T.main _ _ (by (try dsimp only) <;> omega) ?_
    (try dsimp only)
    rw [nb2 hw (by omega)]; omega
theorem ag30 (w : Fin 128) (q : Fin 256) : (k0_pay136 (k0_pay124 A (View.ld x2 (Rect.unit ![0, 2560] ![1024, 512] inb_S1024x3072_S1024x512_0_2560))) : Vec Ideal S1x128x256 .bf16) (ix3 0 w q) = gAg Y 0 (384 + w.val) q.val := by
  have hw := w.isLt; have hq := q.isLt
  unfold_payloads
  pointwise
  exact silu_of (T.main _ _ (by (try dsimp only) <;> omega) (by (try dsimp only) <;> omega))
theorem iq30 (w : Fin 128) (q : Fin 256) : (k0_pay122 S2 (k0_pay119 (k0_pay109 H (View.ld x3 (Rect.unit ![0, 0] ![1024, 512] inb_S1024x1024_S1024x512_0_0)))) (k0_pay120 CA S1 (k0_pay109 H (View.ld x3 (Rect.unit ![0, 0] ![1024, 512] inb_S1024x1024_S1024x512_0_0)))) : Vec Ideal S1x128x256 .f32) (ix3 0 w q) = gIq Y pos 0 (384 + w.val) q.val := by
  have hw := w.isLt; have hq := q.isLt
  unfold_payloads
  pointwise
  unfold gIq
  refine rot3 (T.ca _ _ (by (try dsimp only) <;> omega) (by (try dsimp only) <;> omega)) (T.s1 _ _ (by (try dsimp only) <;> omega) (by (try dsimp only) <;> omega)) (T.s2 _ _ (by (try dsimp only) <;> omega) (by (try dsimp only) <;> omega)) (T.sel _ _ (by (try dsimp only) <;> omega) (by (try dsimp only) <;> omega)) (fun h => ?_) (fun h h' => ?_)
  · refine T.sel _ _ (by (try dsimp only) <;> omega) ?_
    (try dsimp only)
    rw [nb1 hw (by omega)]; omega
  · refine T.sel _ _ (by (try dsimp only) <;> omega) ?_
    (try dsimp only)
    rw [nb2 hw (by omega)]; omega

theorem aq31 (w : Fin 128) (q : Fin 256) : (k0_pay108 S2 (k0_pay103 (k0_pay90 A (View.ld x2 (Rect.unit ![0, 2048] ![1024, 512] inb_S1024x3072_S1024x512_0_2048)))) (k0_pay104 CA (k0_pay90 A (View.ld x2 (Rect.unit ![0, 2048] ![1024, 512] inb_S1024x3072_S1024x512_0_2048)))) (k0_pay105 S1 (k0_pay90 A (View.ld x2 (Rect.unit ![0, 2048] ![1024, 512] inb_S1024x3072_S1024x512_0_2048)))) : Vec Ideal S1x128x256 .bf16) (ix3 0 w q) = gAq Y pos 1 (384 + w.val) q.val := by
  have hw := w.isLt; have hq := q.isLt
  unfold_payloads
  pointwise
  unfold gAq
  congr 1
  refine rot3 (T.ca _ _ (by (try dsimp only) <;> omega) (by (try dsimp only) <;> omega)) (T.s1 _ _ (by (try dsimp only) <;> omega) (by (try dsimp only) <;> omega)) (T.s2 _ _ (by (try dsimp only) <;> omega) (by (try dsimp only) <;> omega)) (T.main _ _ (by (try dsimp only) <;> omega) (by (try dsimp only) <;> omega)) (fun h => ?_) (fun h h' => ?_)
  · refine T.main _ _ (by (try dsimp only) <;> omega) ?_
    (try dsimp only)
    rw [nb1 hw (by omega)]; omega
  · refine T.main _ _ (by (try dsimp only) <;> omega) ?_
    (try dsimp only)
    rw [nb2 hw (by omega)]; omega
theorem ag31 (w : Fin 128) (q : Fin 256) : (k0_pay137 (k0_pay124 A (View.ld x2 (Rect.unit ![0, 2560] ![1024, 512] inb_S1024x3072_S1024x512_0_2560))) : Vec Ideal S1x128x256 .bf16) (ix3 0 w q) = gAg Y 1 (384 + w.val) q.val := by
  have hw := w.isLt; have hq := q.isLt
  unfold_payloads
  pointwise
  exact silu_of (T.main _ _ (by (try dsimp only) <;> omega) (by (try dsimp only) <;> omega))
theorem iq31 (w : Fin 128) (q : Fin 256) : (k0_pay123 S2 (k0_pay119 (k0_pay109 H (View.ld x3 (Rect.unit ![0, 0] ![1024, 512] inb_S1024x1024_S1024x512_0_0)))) (k0_pay120 CA S1 (k0_pay109 H (View.ld x3 (Rect.unit ![0, 0] ![1024, 512] inb_S1024x1024_S1024x512_0_0)))) : Vec Ideal S1x128x256 .f32) (ix3 0 w q) = gIq Y pos 1 (384 + w.val) q.val := by
  have hw := w.isLt; have hq := q.isLt
  unfold_payloads
  pointwise
  unfold gIq
  refine rot3 (T.ca _ _ (by (try dsimp only) <;> omega) (by (try dsimp only) <;> omega)) (T.s1 _ _ (by (try dsimp only) <;> omega) (by (try dsimp only) <;> omega)) (T.s2 _ _ (by (try dsimp only) <;> omega) (by (try dsimp only) <;> omega)) (T.sel _ _ (by (try dsimp only) <;> omega) (by (try dsimp only) <;> omega)) (fun h => ?_) (fun h h' => ?_)
  · refine T.sel _ _ (by (try dsimp only) <;> omega) ?_
    (try dsimp only)
    rw [nb1 hw (by omega)]; omega
  · refine T.sel _ _ (by (try dsimp only) <;> omega) ?_
    (try dsimp only)
    rw [nb2 hw (by omega)]; omega

theorem ak (r : Fin 512) (l : Fin 128) : (k0_pay139 H CA S1 S2 (View.ld x3 (Rect.unit ![0, 512] ![1024, 512] inb_S1024x1024_S1024x512_0_512)) : Vec Ideal S512x128 .f32) (ix2 r l) = gAk Y pos r.val l.val := by
  have hr := r.isLt; have hl := l.isLt
  unfold_payloads
  pointwise
  unfold gAk
  refine rot3 (T.ca _ _ (by (try dsimp only) <;> omega) (by (try dsimp only) <;> omega)) (T.s1 _ _ (by (try dsimp only) <;> omega) (by (try dsimp only) <;> omega)) (T.s2 _ _ (by (try dsimp only) <;> omega) (by (try dsimp only) <;> omega)) (T.sel _ _ (by (try dsimp only) <;> omega) (by (try dsimp only) <;> omega)) (fun h => ?_) (fun h h' => ?_)
  · refine T.sel _ _ (by (try dsimp only) <;> omega) ?_
    (try dsimp only)
    rw [nb1 hl (by omega)]; omega
  · refine T.sel _ _ (by (try dsimp only) <;> omega) ?_
    (try dsimp only)
    rw [nb2 hl (by omega)]; omega
theorem av (r : Fin 512) (l : Fin 128) : (k0_pay140 H (View.ld x3 (Rect.unit ![0, 512] ![1024, 512] inb_S1024x1024_S1024x512_0_512)) : Vec Ideal S512x128 .f32) (ix2 r l) = gAv Y r.val l.val := by
  have hr := r.isLt; have hl := l.isLt
  unfold_payloads
  pointwise
  unfold gAv
  exact T.sel _ _ (by (try dsimp only) <;> omega) (by (try dsimp only) <;> omega)
theorem ik (r : Fin 512) (l : Fin 64) : (k0_pay2 S1 S2 (k0_pay141 H (View.ld x3 (Rect.unit ![0, 512] ![1024, 512] inb_S1024x1024_S1024x512_0_512))) (k0_pay142 H CA (View.ld x3 (Rect.unit ![0, 512] ![1024, 512] inb_S1024x1024_S1024x512_0_512))) (k0_pay143 H (View.ld x3 (Rect.unit ![0, 512] ![1024, 512] inb_S1024x1024_S1024x512_0_512))) : Vec Ideal S512x64 .f32) (ix2 r l) = gIk Y pos r.val l.val := by
  have hr := r.isLt; have hl := l.isLt
  unfold_payloads
  pointwise
  unfold gIk
  refine rot3 (T.ca _ _ (by (try dsimp only) <;> omega) (by (try dsimp only) <;> omega)) (T.s1 _ _ (by (try dsimp only) <;> omega) (by (try dsimp only) <;> omega)) (T.s2 _ _ (by (try dsimp only) <;> omega) (by (try dsimp only) <;> omega)) (T.sel _ _ (by (try dsimp only) <;> omega) (by (try dsimp only) <;> omega)) (fun h => ?_) (fun h h' => ?_)
  · refine T.sel _ _ (by (try dsimp only) <;> omega) ?_
    (try dsimp only)
    rw [nb1 (Nat.lt_trans hl (by omega : 64 < 128)) (by omega)]; omega
  · refine T.sel _ _ (by (try dsimp only) <;> omega) ?_
    (try dsimp only)
    rw [nb2 (Nat.lt_trans hl (by omega : 64 < 128)) (by omega)]; omega

theorem iw0 (w : Fin 8) (q : Fin 256) : (k0_pay4 S1 S2 (k0_pay141 H (View.ld x3 (Rect.unit ![0, 512] ![1024, 512] inb_S1024x1024_S1024x512_0_512))) (k0_pay142 H CA (View.ld x3 (Rect.unit ![0, 512] ![1024, 512] inb_S1024x1024_S1024x512_0_512))) (k0_pay143 H (View.ld x3 (Rect.unit ![0, 512] ![1024, 512] inb_S1024x1024_S1024x512_0_512))) : Vec Ideal S1x8x256 .f32) (ix3 0 w q) = gIw Y 0 w.val q.val := by
  have hw := w.isLt; have hq := q.isLt
  unfold_payloads
  pointwise
  unfold gIw
  congr 1
  exact rot3_id (l := 16 + w.val) (by omega) (T.ca _ _ (s := 256 * 0 + q.val) (by (try dsimp only) <;> omega) (by (try dsimp only) <;> omega))
    (T.s1 _ _ (s := 256 * 0 + q.val) (by (try dsimp only) <;> omega) (by (try dsimp only) <;> omega))
    (T.s2 _ _ (s := 256 * 0 + q.val) (by (try dsimp only) <;> omega) (by (try dsimp only) <;> omega))
    (T.sel _ _ (by (try dsimp only) <;> omega) (by (try dsimp only) <;> omega))

theorem iw1 (w : Fin 8) (q : Fin 256) : (k0_pay5 S1 S2 (k0_pay141 H (View.ld x3 (Rect.unit ![0, 512] ![1024, 512] inb_S1024x1024_S1024x512_0_512))) (k0_pay142 H CA (View.ld x3 (Rect.unit ![0, 512] ![1024, 512] inb_S1024x1024_S1024x512_0_512))) (k0_pay143 H (View.ld x3 (Rect.unit ![0, 512] ![1024, 512] inb_S1024x1024_S1024x512_0_512))) : Vec Ideal S1x8x256 .f32) (ix3 0 w q) = gIw Y 1 w.val q.val := by
  have hw := w.isLt; have hq := q.isLt
  unfold_payloads
  pointwise
  unfold gIw
  congr 1
  exact rot3_id (l := 16 + w.val) (by omega) (T.ca _ _ (s := 256 * 1 + q.val) (by (try dsimp only) <;> omega) (by (try dsimp only) <;> omega))
    (T.s1 _ _ (s := 256 * 1 + q.val) (by (try dsimp only) <;> omega) (by (try dsimp only) <;> omega))
    (T.s2 _ _ (s := 256 * 1 + q.val) (by (try dsimp only) <;> omega) (by (try dsimp only) <;> omega))
    (T.sel _ _ (by (try dsimp only) <;> omega) (by (try dsimp only) <;> omega))

theorem st00 (w : Vec Ideal S1x128x128 .f32) (d e : Fin 128) : (k0_pay35 (k0_pay31 (k0_pay21 A C1 C2 (View.ld x2 (Rect.unit ![0, 512] ![1024, 512] inb_S1024x3072_S1024x512_0_512)))) (k0_pay32 A (View.ld x2 (Rect.unit ![0, 1024] ![1024, 512] inb_S1024x3072_S1024x512_0_1024))) (k0_pay33 w) (View.ld x11 (Rect.unit ![0, 0, 0] ![1, 256, 128] inb_S4x256x128_S1x256x128_0_0_0)) (View.ld x13 (Rect.unit ![0, 0, 0] ![1, 1, 128] inb_S4x1x128_S1x1x128_0_0_0)) : Vec Ideal S1x128x128 .f32) (ix3 0 d e)
    = w (ix3 0 d e) * dec 0 256 + ∑ n : Fin 256, gKv Y pos 0 d.val e.val (0 + n.val) * dec 0 (256 - 1 - n.val) := by
  have hd := d.isLt; have he := e.isLt
  unfold_payloads
  pointwise
  refine congrArg₂ (· + ·) (congrArg (_ * ·) (T.cd _ _ (k := 0) rfl)) (Finset.sum_congr rfl fun n _ => ?_)
  have hn := n.isLt
  unfold gKv
  rw [mul_right_comm]
  refine congrArg₂ (· * ·) (congrArg₂ (· * ·) (congrArg (· * _) ?_) ?_) (T.te _ _ _ (k := 0) rfl (by first | rfl | dsimp only))
  · exact rot2 (T.c1 _ _ (by (try dsimp only) <;> omega) (by (try dsimp only) <;> omega)) (T.c2 _ _ (by (try dsimp only) <;> omega) (by (try dsimp only) <;> omega)) (T.main _ _ (by (try dsimp only) <;> omega) (by (try dsimp only) <;> omega)) (T.main _ _ (by (try dsimp only) <;> omega) (by (try dsimp only) <;> split_ifs <;> omega))
  · exact T.main _ _ (by (try dsimp only) <;> omega) (by (try dsimp only) <;> omega)

theorem st01 (w : Vec Ideal S1x128x128 .f32) (d e : Fin 128) : (k0_pay43 (k0_pay42 (k0_pay22 A C1 C2 (View.ld x2 (Rect.unit ![0, 512] ![1024, 512] inb_S1024x3072_S1024x512_0_512))) (k0_pay27 A (View.ld x2 (Rect.unit ![0, 1024] ![1024, 512] inb_S1024x3072_S1024x512_0_1024))) w (View.ld x11 (Rect.unit ![1, 0, 0] ![1, 256, 128] inb_S4x256x128_S1x256x128_1_0_0)) (View.ld x13 (Rect.unit ![1, 0, 0] ![1, 1, 128] inb_S4x1x128_S1x1x128_1_0_0))) : Vec Ideal S1x128x128 .f32) (ix3 0 d e)
    = w (ix3 0 d e) * dec 1 256 + ∑ n : Fin 256, gKv Y pos 1 d.val e.val (0 + n.val) * dec 1 (256 - 1 - n.val) := by
  have hd := d.isLt; have he := e.isLt
  unfold_payloads
  pointwise
  refine congrArg₂ (· + ·) (congrArg (_ * ·) (T.cd _ _ (k := 1) rfl)) (Finset.sum_congr rfl fun n _ => ?_)
  have hn := n.isLt
  unfold gKv
  rw [mul_right_comm]
  refine congrArg₂ (· * ·) (congrArg₂ (· * ·) (congrArg (· * _) ?_) ?_) (T.te _ _ _ (k := 1) rfl (by first | rfl | dsimp only))
  · exact rot2 (T.c1 _ _ (by (try dsimp only) <;> omega) (by (try dsimp only) <;> omega)) (T.c2 _ _ (by (try dsimp only) <;> omega) (by (try dsimp only) <;> omega)) (T.main _ _ (by (try dsimp only) <;> omega) (by (try dsimp only) <;> omega)) (T.main _ _ (by (try dsimp only) <;> omega) (by (try dsimp only) <;> split_ifs <;> omega))
  · exact T.main _ _ (by (try dsimp only) <;> omega) (by (try dsimp only) <;> omega)

theorem st02 (w : Vec Ideal S1x128x128 .f32) (d e : Fin 128) : (k0_pay51 (k0_pay46 (k0_pay23 A C1 C2 (View.ld x2 (Rect.unit ![0, 512] ![1024, 512] inb_S1024x3072_S1024x512_0_512)))) (k0_pay47 (k0_pay27 A (View.ld x2 (Rect.unit ![0, 1024] ![1024, 512] inb_S1024x3072_S1024x512_0_1024)))) (k0_pay48 w) (View.ld x11 (Rect.unit ![2, 0, 0] ![1, 256, 128] inb_S4x256x128_S1x256x128_2_0_0)) (View.ld x13 (Rect.unit ![2, 0, 0] ![1, 1, 128] inb_S4x1x128_S1x1x128_2_0_0)) : Vec Ideal S1x128x128 .f32) (ix3 0 d e)
    = w (ix3 0 d e) * dec 2 256 + ∑ n : Fin 256, gKv Y pos 2 d.val e.val (0 + n.val) * dec 2 (256 - 1 - n.val) := by
  have hd := d.isLt; have he := e.isLt
  unfold_payloads
  pointwise
  refine congrArg₂ (· + ·) (congrArg (_ * ·) (T.cd _ _ (k := 2) rfl)) (Finset.sum_congr rfl fun n _ => ?_)
  have hn := n.isLt
  unfold gKv
  rw [mul_right_comm]
  refine congrArg₂ (· * ·) (congrArg₂ (· * ·) (congrArg (· * _) ?_) ?_) (T.te _ _ _ (k := 2) rfl (by first | rfl | dsimp only))
  · exact rot2 (T.c1 _ _ (by (try dsimp only) <;> omega) (by (try dsimp only) <;> omega)) (T.c2 _ _ (by (try dsimp only) <;> omega) (by (try dsimp only) <;> omega)) (T.main _ _ (by (try dsimp only) <;> omega) (by (try dsimp only) <;> omega)) (T.main _ _ (by (try dsimp only) <;> omega) (by (try dsimp only) <;> split_ifs <;> omega))
  · exact T.main _ _ (by (try dsimp only) <;> omega) (by (try dsimp only) <;> omega)

theorem st03 (w : Vec Ideal S1x128x128 .f32) (d e : Fin 128) : (k0_pay58 (k0_pay54 (k0_pay26 (k0_pay24 A C1 C2 (View.ld x2 (Rect.unit ![0, 512] ![1024, 512] inb_S1024x3072_S1024x512_0_512))) k0_pay25)) (k0_pay55 (k0_pay27 A (View.ld x2 (Rect.unit ![0, 1024] ![1024, 512] inb_S1024x3072_S1024x512_0_1024)))) w (View.ld x11 (Rect.unit ![3, 0, 0] ![1, 256, 128] inb_S4x256x128_S1x256x128_3_0_0)) (View.ld x13 (Rect.unit ![3, 0, 0] ![1, 1, 128] inb_S4x1x128_S1x1x128_3_0_0)) : Vec Ideal S1x128x128 .f32) (ix3 0 d e)
    = w (ix3 0 d e) * dec 3 256 + ∑ n : Fin 256, gKv Y pos 3 d.val e.val (0 + n.val) * dec 3 (256 - 1 - n.val) := by
  have hd := d.isLt; have he := e.isLt
  unfold_payloads
  pointwise
  refine congrArg₂ (· + ·) (congrArg (_ * ·) (T.cd _ _ (k := 3) rfl)) (Finset.sum_congr rfl fun n _ => ?_)
  have hn := n.isLt
  unfold gKv
  rw [mul_right_comm]
  refine congrArg₂ (· * ·) (congrArg₂ (· * ·) (congrArg (· * _) ?_) ?_) (T.te _ _ _ (k := 3) rfl (by first | rfl | dsimp only))
  · exact rot2 (T.c1 _ _ (by (try dsimp only) <;> omega) (by (try dsimp only) <;> omega)) (T.c2 _ _ (by (try dsimp only) <;> omega) (by (try dsimp only) <;> omega)) (T.main _ _ (by (try dsimp only) <;> omega) (by (try dsimp only) <;> omega)) (T.main _ _ (by (try dsimp only) <;> omega) (by (try dsimp only) <;> split_ifs <;> omega))
  · exact T.main _ _ (by (try dsimp only) <;> omega) (by (try dsimp only) <;> omega)

theorem st10 (w : Vec Ideal S1x128x128 .f32) (d e : Fin 128) : (k0_pay66 (k0_pay62 (k0_pay27 A (View.ld x2 (Rect.unit ![0, 1024] ![1024, 512] inb_S1024x3072_S1024x512_0_1024)))) (k0_pay63 w) (k0_pay65 (k0_pay21 A C1 C2 (View.ld x2 (Rect.unit ![0, 512] ![1024, 512] inb_S1024x3072_S1024x512_0_512))) (View.ld x11 (Rect.unit ![0, 0, 0] ![1, 256, 128] inb_S4x256x128_S1x256x128_0_0_0))) (constant S128x128 FTy.f32 0#32) (View.ld x13 (Rect.unit ![0, 0, 0] ![1, 1, 128] inb_S4x1x128_S1x1x128_0_0_0)) : Vec Ideal S1x128x128 .f32) (ix3 0 d e)
    = w (ix3 0 d e) * dec 0 256 + ∑ n : Fin 256, gKv Y pos 0 d.val e.val (256 + n.val) * dec 0 (256 - 1 - n.val) := by
  have hd := d.isLt; have he := e.isLt
  unfold_payloads
  pointwise
  refine congrArg₂ (· + ·) (congrArg (_ * ·) (T.cd _ _ (k := 0) rfl)) (Finset.sum_congr rfl fun n _ => ?_)
  have hn := n.isLt
  unfold gKv
  rw [mul_right_comm]
  refine congrArg₂ (· * ·) (congrArg₂ (· * ·) (congrArg (· * _) ?_) ?_) (T.te _ _ _ (k := 0) rfl (by first | rfl | dsimp only))
  · exact rot2 (T.c1 _ _ (by (try dsimp only) <;> omega) (by (try dsimp only) <;> omega)) (T.c2 _ _ (by (try dsimp only) <;> omega) (by (try dsimp only) <;> omega)) (T.main _ _ (by (try dsimp only) <;> omega) (by (try dsimp only) <;> omega)) (T.main _ _ (by (try dsimp only) <;> omega) (by (try dsimp only) <;> split_ifs <;> omega))
  · exact T.main _ _ (by (try dsimp only) <;> omega) (by (try dsimp only) <;> omega)

theorem st11 (w : Vec Ideal S1x128x128 .f32) (d e : Fin 128) : (k0_pay73 (k0_pay69 (k0_pay22 A C1 C2 (View.ld x2 (Rect.unit ![0, 512] ![1024, 512] inb_S1024x3072_S1024x512_0_512)))) (k0_pay70 (k0_pay27 A (View.ld x2 (Rect.unit ![0, 1024] ![1024, 512] inb_S1024x3072_S1024x512_0_1024)))) (k0_pay71 w) (View.ld x11 (Rect.unit ![1, 0, 0] ![1, 256, 128] inb_S4x256x128_S1x256x128_1_0_0)) (View.ld x13 (Rect.unit ![1, 0, 0] ![1, 1, 128] inb_S4x1x128_S1x1x128_1_0_0)) : Vec Ideal S1x128x128 .f32) (ix3 0 d e)
    = w (ix3 0 d e) * dec 1 256 + ∑ n : Fin 256, gKv Y pos 1 d.val e.val (256 + n.val) * dec 1 (256 - 1 - n.val) := by
  have hd := d.isLt; have he := e.isLt
  unfold_payloads
  pointwise
  refine congrArg₂ (· + ·) (congrArg (_ * ·) (T.cd _ _ (k := 1) rfl)) (Finset.sum_congr rfl fun n _ => ?_)
  have hn := n.isLt
  unfold gKv
  rw [mul_right_comm]
  refine congrArg₂ (· * ·) (congrArg₂ (· * ·) (congrArg (· * _) ?_) ?_) (T.te _ _ _ (k := 1) rfl (by first | rfl | dsimp only))
  · exact rot2 (T.c1 _ _ (by (try dsimp only) <;> omega) (by (try dsimp only) <;> omega)) (T.c2 _ _ (by (try dsimp only) <;> omega) (by (try dsimp only) <;> omega)) (T.main _ _ (by (try dsimp only) <;> omega) (by (try dsimp only) <;> omega)) (T.main _ _ (by (try dsimp only) <;> omega) (by (try dsimp only) <;> split_ifs <;> omega))
  · exact T.main _ _ (by (try dsimp only) <;> omega) (by (try dsimp only) <;> omega)

theorem st12 (w : Vec Ideal S1x128x128 .f32) (d e : Fin 128) : (k0_pay81 (k0_pay80 (k0_pay23 A C1 C2 (View.ld x2 (Rect.unit ![0, 512] ![1024, 512] inb_S1024x3072_S1024x512_0_512))) (k0_pay27 A (View.ld x2 (Rect.unit ![0, 1024] ![1024, 512] inb_S1024x3072_S1024x512_0_1024))) w (View.ld x11 (Rect.unit ![2, 0, 0] ![1, 256, 128] inb_S4x256x128_S1x256x128_2_0_0)) (View.ld x13 (Rect.unit ![2, 0, 0] ![1, 1, 128] inb_S4x1x128_S1x1x128_2_0_0))) : Vec Ideal S1x128x128 .f32) (ix3 0 d e)
    = w (ix3 0 d e) * dec 2 256 + ∑ n : Fin 256, gKv Y pos 2 d.val e.val (256 + n.val) * dec 2 (256 - 1 - n.val) := by
  have hd := d.isLt; have he := e.isLt
  unfold_payloads
  pointwise
  refine congrArg₂ (· + ·) (congrArg (_ * ·) (T.cd _ _ (k := 2) rfl)) (Finset.sum_congr rfl fun n _ => ?_)
  have hn := n.isLt
  unfold gKv
  rw [mul_right_comm]
  refine congrArg₂ (· * ·) (congrArg₂ (· * ·) (congrArg (· * _) ?_) ?_) (T.te _ _ _ (k := 2) rfl (by first | rfl | dsimp only))
  · exact rot2 (T.c1 _ _ (by (try dsimp only) <;> omega) (by (try dsimp only) <;> omega)) (T.c2 _ _ (by (try dsimp only) <;> omega) (by (try dsimp only) <;> omega)) (T.main _ _ (by (try dsimp only) <;> omega) (by (try dsimp only) <;> omega)) (T.main _ _ (by (try dsimp only) <;> omega) (by (try dsimp only) <;> split_ifs <;> omega))
  · exact T.main _ _ (by (try dsimp only) <;> omega) (by (try dsimp only) <;> omega)

theorem st13 (w : Vec Ideal S1x128x128 .f32) (d e : Fin 128) : (k0_pay87 (k0_pay83 (k0_pay26 (k0_pay24 A C1 C2 (View.ld x2 (Rect.unit ![0, 512] ![1024, 512] inb_S1024x3072_S1024x512_0_512))) k0_pay25)) (k0_pay84 (k0_pay27 A (View.ld x2 (Rect.unit ![0, 1024] ![1024, 512] inb_S1024x3072_S1024x512_0_1024)))) (k0_pay85 w) (View.ld x11 (Rect.unit ![3, 0, 0] ![1, 256, 128] inb_S4x256x128_S1x256x128_3_0_0)) (View.ld x13 (Rect.unit ![3, 0, 0] ![1, 1, 128] inb_S4x1x128_S1x1x128_3_0_0)) : Vec Ideal S1x128x128 .f32) (ix3 0 d e)
    = w (ix3 0 d e) * dec 3 256 + ∑ n : Fin 256, gKv Y pos 3 d.val e.val (256 + n.val) * dec 3 (256 - 1 - n.val) := by
  have hd := d.isLt; have he := e.isLt
  unfold_payloads
  pointwise
  refine congrArg₂ (· + ·) (congrArg (_ * ·) (T.cd _ _ (k := 3) rfl)) (Finset.sum_congr rfl fun n _ => ?_)
  have hn := n.isLt
  unfold gKv
  rw [mul_right_comm]
  refine congrArg₂ (· * ·) (congrArg₂ (· * ·) (congrArg (· * _) ?_) ?_) (T.te _ _ _ (k := 3) rfl (by first | rfl | dsimp only))
  · exact rot2 (T.c1 _ _ (by (try dsimp only) <;> omega) (by (try dsimp only) <;> omega)) (T.c2 _ _ (by (try dsimp only) <;> omega) (by (try dsimp only) <;> omega)) (T.main _ _ (by (try dsimp only) <;> omega) (by (try dsimp only) <;> omega)) (T.main _ _ (by (try dsimp only) <;> omega) (by (try dsimp only) <;> split_ifs <;> omega))
  · exact T.main _ _ (by (try dsimp only) <;> omega) (by (try dsimp only) <;> omega)
end
end Cert.Proof.Proj.Tile
end
-- ==== Proof.Proj.Canon.lean ====
module

public import proofs.«01_k».proof.Proof.Proj.Tile
public import Idealize.ShloMosaic.Lib.Pipeline.ValueKit
public import Idealize.ShloMosaic.Lib.Pipeline.ReadBack
public import Idealize.ShloMosaic.Lib.Ring

/-!
What one tile of the prompt call leaves in each block: the pieces it stores, in the order they are stored, and their reading
at an index. The state is stored head by head, twice; a head's second store reads the first.
-/

@[expose] public section
set_option maxHeartbeats 200000
set_option maxRecDepth 16384
noncomputable section
namespace Cert.Proof.Proj.Canon
open Cert.Kernel3Ideal Cert.Kernel3Ideal.Gen Idealize.ShloMosaic Idealize.ShloMosaic.ValueKit Cert.Proof.Proj.Spec Cert.Proof.Proj.Tile

/-- A function of an index's coordinates. -/
def G3 {N W Q : ℕ} (g : ℕ → ℕ → ℕ → EReal) : (⟨3, ![N, W, Q]⟩ : Shape).Idx → EReal := fun y => g (y 0).val (y 1).val (y 2).val

theorem piece3 {N W Q n off b c : ℕ} {inb : ∀ a : Fin 3, ![n, off, 0] a + ![1, b, c] a ≤ (⟨3, ![N, W, Q]⟩ : Shape).size a} (g : ℕ → ℕ → ℕ → EReal) (w : (⟨3, ![1, b, c]⟩ : Shape).Idx → EReal)
    (h : ∀ (i : Fin b) (j : Fin c), w (ix3 0 i j) = g n (off + i.val) j.val) (x : (⟨3, ![1, b, c]⟩ : Shape).Idx) :
    w x = G3 g ((Rect.unit (s := ⟨3, ![N, W, Q]⟩) ![n, off, 0] ![1, b, c] inb).emb x) := by
  have e : x = ix3 (0 : Fin 1) (x 1) (x 2) := (eq_ix3 x).trans (congrArg (fun z : Fin 1 => ix3 z (x 1) (x 2)) (Subsingleton.elim _ _))
  have h0 : (x 0).val = 0 := by have := (x 0).isLt; exact Nat.lt_one_iff.mp this
  have e0 : ((Rect.unit (s := ⟨3, ![N, W, Q]⟩) ![n, off, 0] ![1, b, c] inb).emb x 0).val = n + (x 0).val := rect_emb_unit_val _ _ _ _ _
  have e1 : ((Rect.unit (s := ⟨3, ![N, W, Q]⟩) ![n, off, 0] ![1, b, c] inb).emb x 1).val = off + (x 1).val := rect_emb_unit_val _ _ _ _ _
  have e2 : ((Rect.unit (s := ⟨3, ![N, W, Q]⟩) ![n, off, 0] ![1, b, c] inb).emb x 2).val = 0 + (x 2).val := rect_emb_unit_val _ _ _ _ _
  show w x = g _ _ _
  rw [e0, e1, e2, h0, Nat.zero_add, Nat.add_zero]
  conv_lhs => rw [e]
  exact h (x 1) (x 2)

/-- Head `h`'s part of a stored state. -/
abbrev St := List (View.Piece (Elt Ideal) S4x128x128 .f32)
def ldS (h : ℕ) (inb : ∀ a : Fin 3, ![h, 0, 0] a + ![1, 128, 128] a ≤ S4x128x128.size a) (L : St) : Vec Ideal S1x128x128 .f32 := fun j => View.canon L ((Rect.unit (s := S4x128x128) ![h, 0, 0] ![1, 128, 128] inb).idx j)

theorem emb_head {h : ℕ} (hh : h < 4) (inb) (d e : Fin 128) :
    (Rect.unit (s := S4x128x128) ![h, 0, 0] ![1, 128, 128] inb).emb (ix3 (0 : Fin 1) d e) = ix3 (⟨h, hh⟩ : Fin 4) d e := by
  funext a
  apply Fin.ext
  rw [rect_emb_unit_val]
  match a with
  | ⟨0, _⟩ => show h + 0 = h; omega
  | ⟨1, _⟩ => show 0 + d.val = d.val; omega
  | ⟨2, _⟩ => show 0 + e.val = e.val; omega

theorem same {h : ℕ} (hh : h < 4) (inb) (v : Vec Ideal S1x128x128 .f32) (L : St) (d e : Fin 128) :
    View.canon ((⟨Rect.unit (s := S4x128x128) ![h, 0, 0] ![1, 128, 128] inb, v⟩ : View.Piece (Elt Ideal) S4x128x128 .f32) :: L) (ix3 (⟨h, hh⟩ : Fin 4) d e)
      = v (ix3 (0 : Fin 1) d e) := by
  rw [← emb_head hh inb]
  exact View.canon_cons_emb _ _ _ _

theorem other {h k : ℕ} (hk : k < 4) (hn : k ≠ h) (inb) (v : Vec Ideal S1x128x128 .f32) (L : St) (d e : Fin 128) :
    View.canon ((⟨Rect.unit (s := S4x128x128) ![h, 0, 0] ![1, 128, 128] inb, v⟩ : View.Piece (Elt Ideal) S4x128x128 .f32) :: L) (ix3 (⟨k, hk⟩ : Fin 4) d e)
      = View.canon L (ix3 (⟨k, hk⟩ : Fin 4) d e) := by
  refine View.canon_cons_of_not_mem _ _ fun hm => ?_
  have := (Rect.mem_set_unit (s := S4x128x128) (off := ![h, 0, 0]) (size := ![1, 128, 128]) (inb := inb)).mp hm (0 : Fin 3)
  have h1 : h ≤ k ∧ k < h + 1 := this
  omega

theorem ldS_apply {h : ℕ} (hh : h < 4) (inb) (L : St) (d e : Fin 128) : ldS h inb L (ix3 (0 : Fin 1) d e) = View.canon L (ix3 (⟨h, hh⟩ : Fin 4) d e) := by
  show View.canon L ((Rect.unit (s := S4x128x128) ![h, 0, 0] ![1, 128, 128] inb).emb (ix3 (0 : Fin 1) d e)) = _
  rw [emb_head hh]

section
variable (A : FVec Ideal S512x1024 .bf16) (H : FVec Ideal S512x1024 .f32) (C1 C2 CA S1 S2 : FVec Ideal S512x128 .f32)
  (x2 : Vec Ideal S1024x3072 .bf16) (x3 : Vec Ideal S1024x1024 .f32) (x11 : Vec Ideal S4x256x128 .f32) (x13 : Vec Ideal S4x1x128 .f32)

/-- The stored pieces of each block. -/
def L17 : List (View.Piece (Elt Ideal) S2x512x256 .bf16) := [⟨Rect.unit ![1, 384, 0] ![1, 128, 256] inb_S2x512x256_S1x128x256_1_384_0, k0_pay108 S2 (k0_pay103 (k0_pay90 A (View.ld x2 (Rect.unit ![0, 2048] ![1024, 512] inb_S1024x3072_S1024x512_0_2048)))) (k0_pay104 CA (k0_pay90 A (View.ld x2 (Rect.unit ![0, 2048] ![1024, 512] inb_S1024x3072_S1024x512_0_2048)))) (k0_pay105 S1 (k0_pay90 A (View.ld x2 (Rect.unit ![0, 2048] ![1024, 512] inb_S1024x3072_S1024x512_0_2048))))⟩,
   ⟨Rect.unit ![0, 384, 0] ![1, 128, 256] inb_S2x512x256_S1x128x256_0_384_0, k0_pay107 S2 (k0_pay103 (k0_pay90 A (View.ld x2 (Rect.unit ![0, 2048] ![1024, 512] inb_S1024x3072_S1024x512_0_2048)))) (k0_pay104 CA (k0_pay90 A (View.ld x2 (Rect.unit ![0, 2048] ![1024, 512] inb_S1024x3072_S1024x512_0_2048)))) (k0_pay105 S1 (k0_pay90 A (View.ld x2 (Rect.unit ![0, 2048] ![1024, 512] inb_S1024x3072_S1024x512_0_2048))))⟩,
   ⟨Rect.unit ![1, 256, 0] ![1, 128, 256] inb_S2x512x256_S1x128x256_1_256_0, k0_pay102 CA S1 S2 (k0_pay90 A (View.ld x2 (Rect.unit ![0, 2048] ![1024, 512] inb_S1024x3072_S1024x512_0_2048)))⟩,
   ⟨Rect.unit ![0, 256, 0] ![1, 128, 256] inb_S2x512x256_S1x128x256_0_256_0, k0_pay101 CA S1 S2 (k0_pay90 A (View.ld x2 (Rect.unit ![0, 2048] ![1024, 512] inb_S1024x3072_S1024x512_0_2048)))⟩,
   ⟨Rect.unit ![1, 128, 0] ![1, 128, 256] inb_S2x512x256_S1x128x256_1_128_0, k0_pay99 (k0_pay95 A CA S1 (View.ld x2 (Rect.unit ![0, 2048] ![1024, 512] inb_S1024x3072_S1024x512_0_2048))) (k0_pay96 A S2 (View.ld x2 (Rect.unit ![0, 2048] ![1024, 512] inb_S1024x3072_S1024x512_0_2048)))⟩,
   ⟨Rect.unit ![0, 128, 0] ![1, 128, 256] inb_S2x512x256_S1x128x256_0_128_0, k0_pay98 (k0_pay95 A CA S1 (View.ld x2 (Rect.unit ![0, 2048] ![1024, 512] inb_S1024x3072_S1024x512_0_2048))) (k0_pay96 A S2 (View.ld x2 (Rect.unit ![0, 2048] ![1024, 512] inb_S1024x3072_S1024x512_0_2048)))⟩,
   ⟨Rect.unit ![1, 0, 0] ![1, 128, 256] inb_S2x512x256_S1x128x256_1_0_0, k0_pay93 A CA S1 S2 (View.ld x2 (Rect.unit ![0, 2048] ![1024, 512] inb_S1024x3072_S1024x512_0_2048))⟩,
   ⟨Rect.unit ![0, 0, 0] ![1, 128, 256] inb_S2x512x256_S1x128x256_0_0_0, k0_pay92 A CA S1 S2 (View.ld x2 (Rect.unit ![0, 2048] ![1024, 512] inb_S1024x3072_S1024x512_0_2048))⟩]
def L20 : List (View.Piece (Elt Ideal) S2x512x256 .bf16) := [⟨Rect.unit ![1, 384, 0] ![1, 128, 256] inb_S2x512x256_S1x128x256_1_384_0, k0_pay137 (k0_pay124 A (View.ld x2 (Rect.unit ![0, 2560] ![1024, 512] inb_S1024x3072_S1024x512_0_2560)))⟩,
   ⟨Rect.unit ![0, 384, 0] ![1, 128, 256] inb_S2x512x256_S1x128x256_0_384_0, k0_pay136 (k0_pay124 A (View.ld x2 (Rect.unit ![0, 2560] ![1024, 512] inb_S1024x3072_S1024x512_0_2560)))⟩,
   ⟨Rect.unit ![1, 256, 0] ![1, 128, 256] inb_S2x512x256_S1x128x256_1_256_0, k0_pay134 (k0_pay124 A (View.ld x2 (Rect.unit ![0, 2560] ![1024, 512] inb_S1024x3072_S1024x512_0_2560)))⟩,
   ⟨Rect.unit ![0, 256, 0] ![1, 128, 256] inb_S2x512x256_S1x128x256_0_256_0, k0_pay133 (k0_pay124 A (View.ld x2 (Rect.unit ![0, 2560] ![1024, 512] inb_S1024x3072_S1024x512_0_2560)))⟩,
   ⟨Rect.unit ![1, 128, 0] ![1, 128, 256] inb_S2x512x256_S1x128x256_1_128_0, k0_pay131 (k0_pay128 A (View.ld x2 (Rect.unit ![0, 2560] ![1024, 512] inb_S1024x3072_S1024x512_0_2560))) (FloatOps.ofBits FTy.f32 0#32)⟩,
   ⟨Rect.unit ![0, 128, 0] ![1, 128, 256] inb_S2x512x256_S1x128x256_0_128_0, k0_pay130 (k0_pay128 A (View.ld x2 (Rect.unit ![0, 2560] ![1024, 512] inb_S1024x3072_S1024x512_0_2560))) (FloatOps.ofBits FTy.f32 0#32)⟩,
   ⟨Rect.unit ![1, 0, 0] ![1, 128, 256] inb_S2x512x256_S1x128x256_1_0_0, k0_pay127 A (View.ld x2 (Rect.unit ![0, 2560] ![1024, 512] inb_S1024x3072_S1024x512_0_2560))⟩,
   ⟨Rect.unit ![0, 0, 0] ![1, 128, 256] inb_S2x512x256_S1x128x256_0_0_0, k0_pay126 A (View.ld x2 (Rect.unit ![0, 2560] ![1024, 512] inb_S1024x3072_S1024x512_0_2560))⟩]
def L21 : List (View.Piece (Elt Ideal) S2x512x256 .f32) := [⟨Rect.unit ![1, 384, 0] ![1, 128, 256] inb_S2x512x256_S1x128x256_1_384_0, k0_pay123 S2 (k0_pay119 (k0_pay109 H (View.ld x3 (Rect.unit ![0, 0] ![1024, 512] inb_S1024x1024_S1024x512_0_0)))) (k0_pay120 CA S1 (k0_pay109 H (View.ld x3 (Rect.unit ![0, 0] ![1024, 512] inb_S1024x1024_S1024x512_0_0))))⟩,
   ⟨Rect.unit ![0, 384, 0] ![1, 128, 256] inb_S2x512x256_S1x128x256_0_384_0, k0_pay122 S2 (k0_pay119 (k0_pay109 H (View.ld x3 (Rect.unit ![0, 0] ![1024, 512] inb_S1024x1024_S1024x512_0_0)))) (k0_pay120 CA S1 (k0_pay109 H (View.ld x3 (Rect.unit ![0, 0] ![1024, 512] inb_S1024x1024_S1024x512_0_0))))⟩,
   ⟨Rect.unit ![1, 256, 0] ![1, 128, 256] inb_S2x512x256_S1x128x256_1_256_0, k0_pay118 CA S1 S2 (k0_pay109 H (View.ld x3 (Rect.unit ![0, 0] ![1024, 512] inb_S1024x1024_S1024x512_0_0)))⟩,
   ⟨Rect.unit ![0, 256, 0] ![1, 128, 256] inb_S2x512x256_S1x128x256_0_256_0, k0_pay117 CA S1 S2 (k0_pay109 H (View.ld x3 (Rect.unit ![0, 0] ![1024, 512] inb_S1024x1024_S1024x512_0_0)))⟩,
   ⟨Rect.unit ![1, 128, 0] ![1, 128, 256] inb_S2x512x256_S1x128x256_1_128_0, k0_pay115 CA S1 S2 (k0_pay109 H (View.ld x3 (Rect.unit ![0, 0] ![1024, 512] inb_S1024x1024_S1024x512_0_0)))⟩,
   ⟨Rect.unit ![0, 128, 0] ![1, 128, 256] inb_S2x512x256_S1x128x256_0_128_0, k0_pay114 CA S1 S2 (k0_pay109 H (View.ld x3 (Rect.unit ![0, 0] ![1024, 512] inb_S1024x1024_S1024x512_0_0)))⟩,
   ⟨Rect.unit ![1, 0, 0] ![1, 128, 256] inb_S2x512x256_S1x128x256_1_0_0, k0_pay112 H CA S1 S2 (View.ld x3 (Rect.unit ![0, 0] ![1024, 512] inb_S1024x1024_S1024x512_0_0))⟩,
   ⟨Rect.unit ![0, 0, 0] ![1, 128, 256] inb_S2x512x256_S1x128x256_0_0_0, k0_pay111 H CA S1 S2 (View.ld x3 (Rect.unit ![0, 0] ![1024, 512] inb_S1024x1024_S1024x512_0_0))⟩]
def L18 : List (View.Piece (Elt Ideal) S512x128 .f32) := [⟨Rect.unit ![0, 0] ![512, 128] inb_S512x128_S512x128_0_0, k0_pay139 H CA S1 S2 (View.ld x3 (Rect.unit ![0, 512] ![1024, 512] inb_S1024x1024_S1024x512_0_512))⟩]
def L19 : List (View.Piece (Elt Ideal) S512x128 .f32) := [⟨Rect.unit ![0, 0] ![512, 128] inb_S512x128_S512x128_0_0, k0_pay140 H (View.ld x3 (Rect.unit ![0, 512] ![1024, 512] inb_S1024x1024_S1024x512_0_512))⟩]
def L22 : List (View.Piece (Elt Ideal) S512x64 .f32) := [⟨Rect.unit ![0, 0] ![512, 64] inb_S512x64_S512x64_0_0, k0_pay2 S1 S2 (k0_pay141 H (View.ld x3 (Rect.unit ![0, 512] ![1024, 512] inb_S1024x1024_S1024x512_0_512))) (k0_pay142 H CA (View.ld x3 (Rect.unit ![0, 512] ![1024, 512] inb_S1024x1024_S1024x512_0_512))) (k0_pay143 H (View.ld x3 (Rect.unit ![0, 512] ![1024, 512] inb_S1024x1024_S1024x512_0_512)))⟩]
def L23 : List (View.Piece (Elt Ideal) S2x8x256 .f32) :=
  [⟨Rect.unit ![1, 0, 0] ![1, 8, 256] inb_S2x8x256_S1x8x256_1_0_0, k0_pay5 S1 S2 (k0_pay141 H (View.ld x3 (Rect.unit ![0, 512] ![1024, 512] inb_S1024x1024_S1024x512_0_512))) (k0_pay142 H CA (View.ld x3 (Rect.unit ![0, 512] ![1024, 512] inb_S1024x1024_S1024x512_0_512))) (k0_pay143 H (View.ld x3 (Rect.unit ![0, 512] ![1024, 512] inb_S1024x1024_S1024x512_0_512)))⟩,
   ⟨Rect.unit ![0, 0, 0] ![1, 8, 256] inb_S2x8x256_S1x8x256_0_0_0, k0_pay4 S1 S2 (k0_pay141 H (View.ld x3 (Rect.unit ![0, 512] ![1024, 512] inb_S1024x1024_S1024x512_0_512))) (k0_pay142 H CA (View.ld x3 (Rect.unit ![0, 512] ![1024, 512] inb_S1024x1024_S1024x512_0_512))) (k0_pay143 H (View.ld x3 (Rect.unit ![0, 512] ![1024, 512] inb_S1024x1024_S1024x512_0_512)))⟩]
/-- Head 0's store of half 0, over the state `w` it reads. -/
def p00 (w : Vec Ideal S1x128x128 .f32) : View.Piece (Elt Ideal) S4x128x128 .f32 := ⟨Rect.unit ![0, 0, 0] ![1, 128, 128] inb_S4x128x128_S1x128x128_0_0_0, k0_pay35 (k0_pay31 (k0_pay21 A C1 C2 (View.ld x2 (Rect.unit ![0, 512] ![1024, 512] inb_S1024x3072_S1024x512_0_512)))) (k0_pay32 A (View.ld x2 (Rect.unit ![0, 1024] ![1024, 512] inb_S1024x3072_S1024x512_0_1024))) (k0_pay33 w) (View.ld x11 (Rect.unit ![0, 0, 0] ![1, 256, 128] inb_S4x256x128_S1x256x128_0_0_0)) (View.ld x13 (Rect.unit ![0, 0, 0] ![1, 1, 128] inb_S4x1x128_S1x1x128_0_0_0))⟩
/-- Head 1's store of half 0, over the state `w` it reads. -/
def p01 (w : Vec Ideal S1x128x128 .f32) : View.Piece (Elt Ideal) S4x128x128 .f32 := ⟨Rect.unit ![1, 0, 0] ![1, 128, 128] inb_S4x128x128_S1x128x128_1_0_0, k0_pay43 (k0_pay42 (k0_pay22 A C1 C2 (View.ld x2 (Rect.unit ![0, 512] ![1024, 512] inb_S1024x3072_S1024x512_0_512))) (k0_pay27 A (View.ld x2 (Rect.unit ![0, 1024] ![1024, 512] inb_S1024x3072_S1024x512_0_1024))) w (View.ld x11 (Rect.unit ![1, 0, 0] ![1, 256, 128] inb_S4x256x128_S1x256x128_1_0_0)) (View.ld x13 (Rect.unit ![1, 0, 0] ![1, 1, 128] inb_S4x1x128_S1x1x128_1_0_0)))⟩
/-- Head 2's store of half 0, over the state `w` it reads. -/
def p02 (w : Vec Ideal S1x128x128 .f32) : View.Piece (Elt Ideal) S4x128x128 .f32 := ⟨Rect.unit ![2, 0, 0] ![1, 128, 128] inb_S4x128x128_S1x128x128_2_0_0, k0_pay51 (k0_pay46 (k0_pay23 A C1 C2 (View.ld x2 (Rect.unit ![0, 512] ![1024, 512] inb_S1024x3072_S1024x512_0_512)))) (k0_pay47 (k0_pay27 A (View.ld x2 (Rect.unit ![0, 1024] ![1024, 512] inb_S1024x3072_S1024x512_0_1024)))) (k0_pay48 w) (View.ld x11 (Rect.unit ![2, 0, 0] ![1, 256, 128] inb_S4x256x128_S1x256x128_2_0_0)) (View.ld x13 (Rect.unit ![2, 0, 0] ![1, 1, 128] inb_S4x1x128_S1x1x128_2_0_0))⟩
/-- Head 3's store of half 0, over the state `w` it reads. -/
def p03 (w : Vec Ideal S1x128x128 .f32) : View.Piece (Elt Ideal) S4x128x128 .f32 := ⟨Rect.unit ![3, 0, 0] ![1, 128, 128] inb_S4x128x128_S1x128x128_3_0_0, k0_pay58 (k0_pay54 (k0_pay26 (k0_pay24 A C1 C2 (View.ld x2 (Rect.unit ![0, 512] ![1024, 512] inb_S1024x3072_S1024x512_0_512))) k0_pay25)) (k0_pay55 (k0_pay27 A (View.ld x2 (Rect.unit ![0, 1024] ![1024, 512] inb_S1024x3072_S1024x512_0_1024)))) w (View.ld x11 (Rect.unit ![3, 0, 0] ![1, 256, 128] inb_S4x256x128_S1x256x128_3_0_0)) (View.ld x13 (Rect.unit ![3, 0, 0] ![1, 1, 128] inb_S4x1x128_S1x1x128_3_0_0))⟩
/-- Head 0's store of half 1, over the state `w` it reads. -/
def p10 (w : Vec Ideal S1x128x128 .f32) : View.Piece (Elt Ideal) S4x128x128 .f32 := ⟨Rect.unit ![0, 0, 0] ![1, 128, 128] inb_S4x128x128_S1x128x128_0_0_0, k0_pay66 (k0_pay62 (k0_pay27 A (View.ld x2 (Rect.unit ![0, 1024] ![1024, 512] inb_S1024x3072_S1024x512_0_1024)))) (k0_pay63 w) (k0_pay65 (k0_pay21 A C1 C2 (View.ld x2 (Rect.unit ![0, 512] ![1024, 512] inb_S1024x3072_S1024x512_0_512))) (View.ld x11 (Rect.unit ![0, 0, 0] ![1, 256, 128] inb_S4x256x128_S1x256x128_0_0_0))) (constant S128x128 FTy.f32 0#32) (View.ld x13 (Rect.unit ![0, 0, 0] ![1, 1, 128] inb_S4x1x128_S1x1x128_0_0_0))⟩
/-- Head 1's store of half 1, over the state `w` it reads. -/
def p11 (w : Vec Ideal S1x128x128 .f32) : View.Piece (Elt Ideal) S4x128x128 .f32 := ⟨Rect.unit ![1, 0, 0] ![1, 128, 128] inb_S4x128x128_S1x128x128_1_0_0, k0_pay73 (k0_pay69 (k0_pay22 A C1 C2 (View.ld x2 (Rect.unit ![0, 512] ![1024, 512] inb_S1024x3072_S1024x512_0_512)))) (k0_pay70 (k0_pay27 A (View.ld x2 (Rect.unit ![0, 1024] ![1024, 512] inb_S1024x3072_S1024x512_0_1024)))) (k0_pay71 w) (View.ld x11 (Rect.unit ![1, 0, 0] ![1, 256, 128] inb_S4x256x128_S1x256x128_1_0_0)) (View.ld x13 (Rect.unit ![1, 0, 0] ![1, 1, 128] inb_S4x1x128_S1x1x128_1_0_0))⟩
/-- Head 2's store of half 1, over the state `w` it reads. -/
def p12 (w : Vec Ideal S1x128x128 .f32) : View.Piece (Elt Ideal) S4x128x128 .f32 := ⟨Rect.unit ![2, 0, 0] ![1, 128, 128] inb_S4x128x128_S1x128x128_2_0_0, k0_pay81 (k0_pay80 (k0_pay23 A C1 C2 (View.ld x2 (Rect.unit ![0, 512] ![1024, 512] inb_S1024x3072_S1024x512_0_512))) (k0_pay27 A (View.ld x2 (Rect.unit ![0, 1024] ![1024, 512] inb_S1024x3072_S1024x512_0_1024))) w (View.ld x11 (Rect.unit ![2, 0, 0] ![1, 256, 128] inb_S4x256x128_S1x256x128_2_0_0)) (View.ld x13 (Rect.unit ![2, 0, 0] ![1, 1, 128] inb_S4x1x128_S1x1x128_2_0_0)))⟩
/-- Head 3's store of half 1, over the state `w` it reads. -/
def p13 (w : Vec Ideal S1x128x128 .f32) : View.Piece (Elt Ideal) S4x128x128 .f32 := ⟨Rect.unit ![3, 0, 0] ![1, 128, 128] inb_S4x128x128_S1x128x128_3_0_0, k0_pay87 (k0_pay83 (k0_pay26 (k0_pay24 A C1 C2 (View.ld x2 (Rect.unit ![0, 512] ![1024, 512] inb_S1024x3072_S1024x512_0_512))) k0_pay25)) (k0_pay84 (k0_pay27 A (View.ld x2 (Rect.unit ![0, 1024] ![1024, 512] inb_S1024x3072_S1024x512_0_1024)))) (k0_pay85 w) (View.ld x11 (Rect.unit ![3, 0, 0] ![1, 256, 128] inb_S4x256x128_S1x256x128_3_0_0)) (View.ld x13 (Rect.unit ![3, 0, 0] ![1, 1, 128] inb_S4x1x128_S1x1x128_3_0_0))⟩

/-- The second half's stores over a state list. -/
def half1 (L : St) : St :=
  let L0 := p10 A C1 C2 x2 x11 x13 (ldS 0 inb_S4x128x128_S1x128x128_0_0_0 L) :: L
  let L1 := p11 A C1 C2 x2 x11 x13 (ldS 1 inb_S4x128x128_S1x128x128_1_0_0 L0) :: L0
  let L2 := p12 A C1 C2 x2 x11 x13 (ldS 2 inb_S4x128x128_S1x128x128_2_0_0 L1) :: L1
  p13 A C1 C2 x2 x11 x13 (ldS 3 inb_S4x128x128_S1x128x128_3_0_0 L2) :: L2
/-- The first half's stores over a state held whole in the scratch. -/
def half0 (xs0 : Vec Ideal S4x128x128 .f32) : St :=
  [p03 A C1 C2 x2 x11 x13 (View.ld xs0 (Rect.unit ![3, 0, 0] ![1, 128, 128] inb_S4x128x128_S1x128x128_3_0_0)), p02 A C1 C2 x2 x11 x13 (View.ld xs0 (Rect.unit ![2, 0, 0] ![1, 128, 128] inb_S4x128x128_S1x128x128_2_0_0)), p01 A C1 C2 x2 x11 x13 (View.ld xs0 (Rect.unit ![1, 0, 0] ![1, 128, 128] inb_S4x128x128_S1x128x128_1_0_0)), p00 A C1 C2 x2 x11 x13 (View.ld xs0 (Rect.unit ![0, 0, 0] ![1, 128, 128] inb_S4x128x128_S1x128x128_0_0_0))]
/-- The first half's stores over a state list. -/
def halfL (L : St) : St :=
  let L0 := p00 A C1 C2 x2 x11 x13 (ldS 0 inb_S4x128x128_S1x128x128_0_0_0 L) :: L
  let L1 := p01 A C1 C2 x2 x11 x13 (ldS 1 inb_S4x128x128_S1x128x128_1_0_0 L0) :: L0
  let L2 := p02 A C1 C2 x2 x11 x13 (ldS 2 inb_S4x128x128_S1x128x128_2_0_0 L1) :: L1
  p03 A C1 C2 x2 x11 x13 (ldS 3 inb_S4x128x128_S1x128x128_3_0_0 L2) :: L2
/-- The run's first tile starts from the given state. -/
def init (x9 : Vec Ideal S1x4x128x128 .f32) : St :=
  [⟨Rect.unit ![0, 0, 0] ![4, 128, 128] inb_S4x128x128_S4x128x128_0_0_0,
    k0_pay29 (View.ld x9 (Rect.unit ![0, 0, 0, 0] ![1, 4, 128, 128] inb_S1x4x128x128_S1x4x128x128_0_0_0_0))⟩]
def LSA (x9 : Vec Ideal S1x4x128x128 .f32) : St := half1 A C1 C2 x2 x11 x13 (halfL A C1 C2 x2 x11 x13 (init x9))
def LSB (xs0 : Vec Ideal S4x128x128 .f32) : St := half1 A C1 C2 x2 x11 x13 (half0 A C1 C2 x2 x11 x13 xs0)
def L16 (xs0 : Vec Ideal S4x128x128 .f32) : List (View.Piece (Elt Ideal) S1x4x128x128 .f32) :=
  [⟨Rect.unit ![0, 0, 0, 0] ![1, 4, 128, 128] inb_S1x4x128x128_S1x4x128x128_0_0_0_0,
    k0_pay89 (fun j => View.canon (LSB A C1 C2 x2 x11 x13 xs0) ((Rect.unit (s := S4x128x128) ![0, 0, 0] ![4, 128, 128] inb_S4x128x128_S4x128x128_0_0_0).idx j))⟩]
end

theorem fin4 {p : Fin 4 → Prop} (h0 : p ⟨0, by decide⟩) (h1 : p ⟨1, by decide⟩) (h2 : p ⟨2, by decide⟩) (h3 : p ⟨3, by decide⟩) : ∀ h, p h
  | ⟨0, _⟩ => h0
  | ⟨1, _⟩ => h1
  | ⟨2, _⟩ => h2
  | ⟨3, _⟩ => h3

theorem canonI (x9 : Vec Ideal S1x4x128x128 .f32) (h : Fin 4) (d e : Fin 128) : View.canon (init x9) (ix3 h d e) = x9 (ix4 0 h d e) := by
  unfold init
  rw [View.canon_cons_unit_lit _ _ _ (by decide)]
  unfold_payloads
  pointwise

/-- One half's 256 positions folded into a head's entry. -/
def upd (Y : ℕ → ℕ → EReal) (pos : ℕ → ℕ) (h d e s : ℕ) (v : EReal) : EReal :=
  v * dec h 256 + ∑ n : Fin 256, gKv Y pos h d e (256 * s + n.val) * dec h (256 - 1 - n.val)

section
variable {A : FVec Ideal S512x1024 .bf16} {H : FVec Ideal S512x1024 .f32} {C1 C2 CA S1 S2 : FVec Ideal S512x128 .f32}
  {x2 : Vec Ideal S1024x3072 .bf16} {x3 : Vec Ideal S1024x1024 .f32} {x11 : Vec Ideal S4x256x128 .f32} {x13 : Vec Ideal S4x1x128 .f32}
  {Y : ℕ → ℕ → EReal} {pos : ℕ → ℕ} (T : Tile A H C1 C2 CA S1 S2 x2 x3 x11 x13 Y pos)
include T

theorem canon17 (n : Fin 2) (w : Fin 512) (q : Fin 256) : View.canon (L17 A CA S1 S2 x2) (ix3 n w q) = gAq Y pos n.val w.val q.val := by
  have hp : View.PiecesOf (Val := Elt Ideal) (s := S2x512x256) (e := .bf16) (G3 (gAq Y pos)) (L17 A CA S1 S2 x2) := ⟨piece3 (inb := inb_S2x512x256_S1x128x256_1_384_0) (gAq Y pos) _ (aq31 T), piece3 (inb := inb_S2x512x256_S1x128x256_0_384_0) (gAq Y pos) _ (aq30 T), piece3 (inb := inb_S2x512x256_S1x128x256_1_256_0) (gAq Y pos) _ (aq21 T), piece3 (inb := inb_S2x512x256_S1x128x256_0_256_0) (gAq Y pos) _ (aq20 T), piece3 (inb := inb_S2x512x256_S1x128x256_1_128_0) (gAq Y pos) _ (aq11 T), piece3 (inb := inb_S2x512x256_S1x128x256_0_128_0) (gAq Y pos) _ (aq10 T), piece3 (inb := inb_S2x512x256_S1x128x256_1_0_0) (gAq Y pos) _ (aq01 T), piece3 (inb := inb_S2x512x256_S1x128x256_0_0_0) (gAq Y pos) _ (aq00 T), trivial⟩
  exact View.canon_apply_of_pieces (Val := Elt Ideal) (S := S2x512x256) (e := .bf16) (G3 (gAq Y pos)) _ hp.mem (ix3 n w q)
    (View.cover_of_tiledL (L17 A CA S1 S2 x2) S1x128x256.size (by sl_kernel_rfl) (ix3 n w q))

theorem canon20 (n : Fin 2) (w : Fin 512) (q : Fin 256) : View.canon (L20 A x2) (ix3 n w q) = gAg Y n.val w.val q.val := by
  have hp : View.PiecesOf (Val := Elt Ideal) (s := S2x512x256) (e := .bf16) (G3 (gAg Y)) (L20 A x2) := ⟨piece3 (inb := inb_S2x512x256_S1x128x256_1_384_0) (gAg Y) _ (ag31 T), piece3 (inb := inb_S2x512x256_S1x128x256_0_384_0) (gAg Y) _ (ag30 T), piece3 (inb := inb_S2x512x256_S1x128x256_1_256_0) (gAg Y) _ (ag21 T), piece3 (inb := inb_S2x512x256_S1x128x256_0_256_0) (gAg Y) _ (ag20 T), piece3 (inb := inb_S2x512x256_S1x128x256_1_128_0) (gAg Y) _ (ag11 T), piece3 (inb := inb_S2x512x256_S1x128x256_0_128_0) (gAg Y) _ (ag10 T), piece3 (inb := inb_S2x512x256_S1x128x256_1_0_0) (gAg Y) _ (ag01 T), piece3 (inb := inb_S2x512x256_S1x128x256_0_0_0) (gAg Y) _ (ag00 T), trivial⟩
  exact View.canon_apply_of_pieces (Val := Elt Ideal) (S := S2x512x256) (e := .bf16) (G3 (gAg Y)) _ hp.mem (ix3 n w q)
    (View.cover_of_tiledL (L20 A x2) S1x128x256.size (by sl_kernel_rfl) (ix3 n w q))

theorem canon21 (n : Fin 2) (w : Fin 512) (q : Fin 256) : View.canon (L21 H CA S1 S2 x3) (ix3 n w q) = gIq Y pos n.val w.val q.val := by
  have hp : View.PiecesOf (Val := Elt Ideal) (s := S2x512x256) (e := .f32) (G3 (gIq Y pos)) (L21 H CA S1 S2 x3) := ⟨piece3 (inb := inb_S2x512x256_S1x128x256_1_384_0) (gIq Y pos) _ (iq31 T), piece3 (inb := inb_S2x512x256_S1x128x256_0_384_0) (gIq Y pos) _ (iq30 T), piece3 (inb := inb_S2x512x256_S1x128x256_1_256_0) (gIq Y pos) _ (iq21 T), piece3 (inb := inb_S2x512x256_S1x128x256_0_256_0) (gIq Y pos) _ (iq20 T), piece3 (inb := inb_S2x512x256_S1x128x256_1_128_0) (gIq Y pos) _ (iq11 T), piece3 (inb := inb_S2x512x256_S1x128x256_0_128_0) (gIq Y pos) _ (iq10 T), piece3 (inb := inb_S2x512x256_S1x128x256_1_0_0) (gIq Y pos) _ (iq01 T), piece3 (inb := inb_S2x512x256_S1x128x256_0_0_0) (gIq Y pos) _ (iq00 T), trivial⟩
  exact View.canon_apply_of_pieces (Val := Elt Ideal) (S := S2x512x256) (e := .f32) (G3 (gIq Y pos)) _ hp.mem (ix3 n w q)
    (View.cover_of_tiledL (L21 H CA S1 S2 x3) S1x128x256.size (by sl_kernel_rfl) (ix3 n w q))

theorem canon18 (r : Fin 512) (l : Fin 128) : View.canon (L18 H CA S1 S2 x3) (ix2 r l) = gAk Y pos r.val l.val := by
  unfold L18
  rw [View.canon_cons_unit_lit _ _ _ (by decide)]
  exact ak T r l
theorem canon19 (r : Fin 512) (l : Fin 128) : View.canon (L19 H x3) (ix2 r l) = gAv Y r.val l.val := by
  unfold L19
  rw [View.canon_cons_unit_lit _ _ _ (by decide)]
  exact av T r l
theorem canon22 (r : Fin 512) (l : Fin 64) : View.canon (L22 H CA S1 S2 x3) (ix2 r l) = gIk Y pos r.val l.val := by
  unfold L22
  rw [View.canon_cons_unit_lit _ _ _ (by decide)]
  exact ik T r l
theorem canon23 (n : Fin 2) (w : Fin 8) (q : Fin 256) : View.canon (L23 H CA S1 S2 x3) (ix3 n w q) = gIw Y n.val w.val q.val := by
  have hp : View.PiecesOf (Val := Elt Ideal) (s := S2x8x256) (e := .f32) (G3 (gIw Y)) (L23 H CA S1 S2 x3) :=
    ⟨piece3 (inb := inb_S2x8x256_S1x8x256_1_0_0) (gIw Y) _ (fun i j => (iw1 T i j).trans (by rw [Nat.zero_add])), piece3 (inb := inb_S2x8x256_S1x8x256_0_0_0) (gIw Y) _ (fun i j => (iw0 T i j).trans (by rw [Nat.zero_add])), trivial⟩
  exact View.canon_apply_of_pieces (Val := Elt Ideal) (S := S2x8x256) (e := .f32) (G3 (gIw Y)) _ hp.mem (ix3 n w q)
    (View.cover_of_tiledL (L23 H CA S1 S2 x3) S1x8x256.size (by sl_kernel_rfl) (ix3 n w q))

theorem at00 (w : Vec Ideal S1x128x128 .f32) (L : St) (d e : Fin 128) :
    View.canon (p00 A C1 C2 x2 x11 x13 w :: L) (ix3 (⟨0, by decide⟩ : Fin 4) d e) = upd Y pos 0 d.val e.val 0 (w (ix3 (0 : Fin 1) d e)) :=
  (same (by decide) _ _ _ d e).trans (st00 T w d e)

theorem at01 (w : Vec Ideal S1x128x128 .f32) (L : St) (d e : Fin 128) :
    View.canon (p01 A C1 C2 x2 x11 x13 w :: L) (ix3 (⟨1, by decide⟩ : Fin 4) d e) = upd Y pos 1 d.val e.val 0 (w (ix3 (0 : Fin 1) d e)) :=
  (same (by decide) _ _ _ d e).trans (st01 T w d e)

theorem at02 (w : Vec Ideal S1x128x128 .f32) (L : St) (d e : Fin 128) :
    View.canon (p02 A C1 C2 x2 x11 x13 w :: L) (ix3 (⟨2, by decide⟩ : Fin 4) d e) = upd Y pos 2 d.val e.val 0 (w (ix3 (0 : Fin 1) d e)) :=
  (same (by decide) _ _ _ d e).trans (st02 T w d e)

theorem at03 (w : Vec Ideal S1x128x128 .f32) (L : St) (d e : Fin 128) :
    View.canon (p03 A C1 C2 x2 x11 x13 w :: L) (ix3 (⟨3, by decide⟩ : Fin 4) d e) = upd Y pos 3 d.val e.val 0 (w (ix3 (0 : Fin 1) d e)) :=
  (same (by decide) _ _ _ d e).trans (st03 T w d e)

theorem at10 (w : Vec Ideal S1x128x128 .f32) (L : St) (d e : Fin 128) :
    View.canon (p10 A C1 C2 x2 x11 x13 w :: L) (ix3 (⟨0, by decide⟩ : Fin 4) d e) = upd Y pos 0 d.val e.val 1 (w (ix3 (0 : Fin 1) d e)) :=
  (same (by decide) _ _ _ d e).trans (st10 T w d e)

theorem at11 (w : Vec Ideal S1x128x128 .f32) (L : St) (d e : Fin 128) :
    View.canon (p11 A C1 C2 x2 x11 x13 w :: L) (ix3 (⟨1, by decide⟩ : Fin 4) d e) = upd Y pos 1 d.val e.val 1 (w (ix3 (0 : Fin 1) d e)) :=
  (same (by decide) _ _ _ d e).trans (st11 T w d e)

theorem at12 (w : Vec Ideal S1x128x128 .f32) (L : St) (d e : Fin 128) :
    View.canon (p12 A C1 C2 x2 x11 x13 w :: L) (ix3 (⟨2, by decide⟩ : Fin 4) d e) = upd Y pos 2 d.val e.val 1 (w (ix3 (0 : Fin 1) d e)) :=
  (same (by decide) _ _ _ d e).trans (st12 T w d e)

theorem at13 (w : Vec Ideal S1x128x128 .f32) (L : St) (d e : Fin 128) :
    View.canon (p13 A C1 C2 x2 x11 x13 w :: L) (ix3 (⟨3, by decide⟩ : Fin 4) d e) = upd Y pos 3 d.val e.val 1 (w (ix3 (0 : Fin 1) d e)) :=
  (same (by decide) _ _ _ d e).trans (st13 T w d e)

theorem half1_0 (L : St) (d e : Fin 128) : View.canon (half1 A C1 C2 x2 x11 x13 L) (ix3 (⟨0, by decide⟩ : Fin 4) d e)
    = upd Y pos 0 d.val e.val 1 (View.canon L (ix3 (⟨0, by decide⟩ : Fin 4) d e)) := by
  refine (other (h := 3) (k := 0) (by decide) (by decide) _ _ _ d e).trans ?_
  refine (other (h := 2) (k := 0) (by decide) (by decide) _ _ _ d e).trans ?_
  refine (other (h := 1) (k := 0) (by decide) (by decide) _ _ _ d e).trans ?_
  refine (at10 T _ _ d e).trans (congrArg _ ?_)
  refine (ldS_apply (by decide) _ _ d e).trans ?_
  rfl
theorem halfL_0 (L : St) (d e : Fin 128) : View.canon (halfL A C1 C2 x2 x11 x13 L) (ix3 (⟨0, by decide⟩ : Fin 4) d e)
    = upd Y pos 0 d.val e.val 0 (View.canon L (ix3 (⟨0, by decide⟩ : Fin 4) d e)) := by
  refine (other (h := 3) (k := 0) (by decide) (by decide) _ _ _ d e).trans ?_
  refine (other (h := 2) (k := 0) (by decide) (by decide) _ _ _ d e).trans ?_
  refine (other (h := 1) (k := 0) (by decide) (by decide) _ _ _ d e).trans ?_
  refine (at00 T _ _ d e).trans (congrArg _ ?_)
  refine (ldS_apply (by decide) _ _ d e).trans ?_
  rfl
theorem half0_0 (xs0 : Vec Ideal S4x128x128 .f32) (d e : Fin 128) : View.canon (half0 A C1 C2 x2 x11 x13 xs0) (ix3 (⟨0, by decide⟩ : Fin 4) d e)
    = upd Y pos 0 d.val e.val 0 (xs0 (ix3 (⟨0, by decide⟩ : Fin 4) d e)) := by
  refine (other (h := 3) (k := 0) (by decide) (by decide) _ _ _ d e).trans ?_
  refine (other (h := 2) (k := 0) (by decide) (by decide) _ _ _ d e).trans ?_
  refine (other (h := 1) (k := 0) (by decide) (by decide) _ _ _ d e).trans ?_
  refine (at00 T _ _ d e).trans (congrArg _ ?_)
  exact congrArg xs0 (emb_head (h := 0) (by decide) inb_S4x128x128_S1x128x128_0_0_0 d e)

theorem half1_1 (L : St) (d e : Fin 128) : View.canon (half1 A C1 C2 x2 x11 x13 L) (ix3 (⟨1, by decide⟩ : Fin 4) d e)
    = upd Y pos 1 d.val e.val 1 (View.canon L (ix3 (⟨1, by decide⟩ : Fin 4) d e)) := by
  refine (other (h := 3) (k := 1) (by decide) (by decide) _ _ _ d e).trans ?_
  refine (other (h := 2) (k := 1) (by decide) (by decide) _ _ _ d e).trans ?_
  refine (at11 T _ _ d e).trans (congrArg _ ?_)
  refine (ldS_apply (by decide) _ _ d e).trans ?_
  refine (other (h := 0) (k := 1) (by decide) (by decide) _ _ _ d e).trans ?_
  rfl
theorem halfL_1 (L : St) (d e : Fin 128) : View.canon (halfL A C1 C2 x2 x11 x13 L) (ix3 (⟨1, by decide⟩ : Fin 4) d e)
    = upd Y pos 1 d.val e.val 0 (View.canon L (ix3 (⟨1, by decide⟩ : Fin 4) d e)) := by
  refine (other (h := 3) (k := 1) (by decide) (by decide) _ _ _ d e).trans ?_
  refine (other (h := 2) (k := 1) (by decide) (by decide) _ _ _ d e).trans ?_
  refine (at01 T _ _ d e).trans (congrArg _ ?_)
  refine (ldS_apply (by decide) _ _ d e).trans ?_
  refine (other (h := 0) (k := 1) (by decide) (by decide) _ _ _ d e).trans ?_
  rfl
theorem half0_1 (xs0 : Vec Ideal S4x128x128 .f32) (d e : Fin 128) : View.canon (half0 A C1 C2 x2 x11 x13 xs0) (ix3 (⟨1, by decide⟩ : Fin 4) d e)
    = upd Y pos 1 d.val e.val 0 (xs0 (ix3 (⟨1, by decide⟩ : Fin 4) d e)) := by
  refine (other (h := 3) (k := 1) (by decide) (by decide) _ _ _ d e).trans ?_
  refine (other (h := 2) (k := 1) (by decide) (by decide) _ _ _ d e).trans ?_
  refine (at01 T _ _ d e).trans (congrArg _ ?_)
  exact congrArg xs0 (emb_head (h := 1) (by decide) inb_S4x128x128_S1x128x128_1_0_0 d e)

theorem half1_2 (L : St) (d e : Fin 128) : View.canon (half1 A C1 C2 x2 x11 x13 L) (ix3 (⟨2, by decide⟩ : Fin 4) d e)
    = upd Y pos 2 d.val e.val 1 (View.canon L (ix3 (⟨2, by decide⟩ : Fin 4) d e)) := by
  refine (other (h := 3) (k := 2) (by decide) (by decide) _ _ _ d e).trans ?_
  refine (at12 T _ _ d e).trans (congrArg _ ?_)
  refine (ldS_apply (by decide) _ _ d e).trans ?_
  refine (other (h := 1) (k := 2) (by decide) (by decide) _ _ _ d e).trans ?_
  refine (other (h := 0) (k := 2) (by decide) (by decide) _ _ _ d e).trans ?_
  rfl
theorem halfL_2 (L : St) (d e : Fin 128) : View.canon (halfL A C1 C2 x2 x11 x13 L) (ix3 (⟨2, by decide⟩ : Fin 4) d e)
    = upd Y pos 2 d.val e.val 0 (View.canon L (ix3 (⟨2, by decide⟩ : Fin 4) d e)) := by
  refine (other (h := 3) (k := 2) (by decide) (by decide) _ _ _ d e).trans ?_
  refine (at02 T _ _ d e).trans (congrArg _ ?_)
  refine (ldS_apply (by decide) _ _ d e).trans ?_
  refine (other (h := 1) (k := 2) (by decide) (by decide) _ _ _ d e).trans ?_
  refine (other (h := 0) (k := 2) (by decide) (by decide) _ _ _ d e).trans ?_
  rfl
theorem half0_2 (xs0 : Vec Ideal S4x128x128 .f32) (d e : Fin 128) : View.canon (half0 A C1 C2 x2 x11 x13 xs0) (ix3 (⟨2, by decide⟩ : Fin 4) d e)
    = upd Y pos 2 d.val e.val 0 (xs0 (ix3 (⟨2, by decide⟩ : Fin 4) d e)) := by
  refine (other (h := 3) (k := 2) (by decide) (by decide) _ _ _ d e).trans ?_
  refine (at02 T _ _ d e).trans (congrArg _ ?_)
  exact congrArg xs0 (emb_head (h := 2) (by decide) inb_S4x128x128_S1x128x128_2_0_0 d e)

theorem half1_3 (L : St) (d e : Fin 128) : View.canon (half1 A C1 C2 x2 x11 x13 L) (ix3 (⟨3, by decide⟩ : Fin 4) d e)
    = upd Y pos 3 d.val e.val 1 (View.canon L (ix3 (⟨3, by decide⟩ : Fin 4) d e)) := by
  refine (at13 T _ _ d e).trans (congrArg _ ?_)
  refine (ldS_apply (by decide) _ _ d e).trans ?_
  refine (other (h := 2) (k := 3) (by decide) (by decide) _ _ _ d e).trans ?_
  refine (other (h := 1) (k := 3) (by decide) (by decide) _ _ _ d e).trans ?_
  refine (other (h := 0) (k := 3) (by decide) (by decide) _ _ _ d e).trans ?_
  rfl
theorem halfL_3 (L : St) (d e : Fin 128) : View.canon (halfL A C1 C2 x2 x11 x13 L) (ix3 (⟨3, by decide⟩ : Fin 4) d e)
    = upd Y pos 3 d.val e.val 0 (View.canon L (ix3 (⟨3, by decide⟩ : Fin 4) d e)) := by
  refine (at03 T _ _ d e).trans (congrArg _ ?_)
  refine (ldS_apply (by decide) _ _ d e).trans ?_
  refine (other (h := 2) (k := 3) (by decide) (by decide) _ _ _ d e).trans ?_
  refine (other (h := 1) (k := 3) (by decide) (by decide) _ _ _ d e).trans ?_
  refine (other (h := 0) (k := 3) (by decide) (by decide) _ _ _ d e).trans ?_
  rfl
theorem half0_3 (xs0 : Vec Ideal S4x128x128 .f32) (d e : Fin 128) : View.canon (half0 A C1 C2 x2 x11 x13 xs0) (ix3 (⟨3, by decide⟩ : Fin 4) d e)
    = upd Y pos 3 d.val e.val 0 (xs0 (ix3 (⟨3, by decide⟩ : Fin 4) d e)) := by
  refine (at03 T _ _ d e).trans (congrArg _ ?_)
  exact congrArg xs0 (emb_head (h := 3) (by decide) inb_S4x128x128_S1x128x128_3_0_0 d e)

theorem half1_all (L : St) (d e : Fin 128) : ∀ h : Fin 4, View.canon (half1 A C1 C2 x2 x11 x13 L) (ix3 h d e)
    = upd Y pos h.val d.val e.val 1 (View.canon L (ix3 h d e)) :=
  fin4 (half1_0 T L d e) (half1_1 T L d e) (half1_2 T L d e) (half1_3 T L d e)
theorem halfL_all (L : St) (d e : Fin 128) : ∀ h : Fin 4, View.canon (halfL A C1 C2 x2 x11 x13 L) (ix3 h d e)
    = upd Y pos h.val d.val e.val 0 (View.canon L (ix3 h d e)) :=
  fin4 (halfL_0 T L d e) (halfL_1 T L d e) (halfL_2 T L d e) (halfL_3 T L d e)
theorem half0_all (xs0 : Vec Ideal S4x128x128 .f32) (d e : Fin 128) : ∀ h : Fin 4, View.canon (half0 A C1 C2 x2 x11 x13 xs0) (ix3 h d e)
    = upd Y pos h.val d.val e.val 0 (xs0 (ix3 h d e)) :=
  fin4 (half0_0 T xs0 d e) (half0_1 T xs0 d e) (half0_2 T xs0 d e) (half0_3 T xs0 d e)

/-- The state after a run's first tile. -/
theorem canonA (x9 : Vec Ideal S1x4x128x128 .f32) (h : Fin 4) (d e : Fin 128) : View.canon (LSA A C1 C2 x2 x11 x13 x9) (ix3 h d e)
    = upd Y pos h.val d.val e.val 1 (upd Y pos h.val d.val e.val 0 (x9 (ix4 0 h d e))) := by
  unfold LSA
  rw [half1_all T, halfL_all T, canonI]

/-- The state after a later tile. -/
theorem canonB (xs0 : Vec Ideal S4x128x128 .f32) (h : Fin 4) (d e : Fin 128) : View.canon (LSB A C1 C2 x2 x11 x13 xs0) (ix3 h d e)
    = upd Y pos h.val d.val e.val 1 (upd Y pos h.val d.val e.val 0 (xs0 (ix3 h d e))) := by
  unfold LSB
  rw [half1_all T, half0_all T]

/-- The last tile's copy of the state. -/
theorem canon16 (xs0 : Vec Ideal S4x128x128 .f32) (h : Fin 4) (d e : Fin 128) : View.canon (L16 A C1 C2 x2 x11 x13 xs0) (ix4 (0 : Fin 1) h d e)
    = upd Y pos h.val d.val e.val 1 (upd Y pos h.val d.val e.val 0 (xs0 (ix3 h d e))) := by
  rw [← canonB T]
  unfold L16
  rw [View.canon_cons_unit_lit _ _ _ (by decide)]
  generalize LSB A C1 C2 x2 x11 x13 xs0 = L
  have hl : (fun j => View.canon L ((Rect.unit (s := S4x128x128) ![0, 0, 0] ![4, 128, 128] inb_S4x128x128_S4x128x128_0_0_0).idx j)) = View.canon L := by
    funext j
    refine congrArg _ ?_
    funext a
    apply Fin.ext
    show ((Rect.unit (s := S4x128x128) ![0, 0, 0] ![4, 128, 128] inb_S4x128x128_S4x128x128_0_0_0).emb j a).val = _
    rw [rect_emb_unit_val]
    match a with
    | ⟨0, _⟩ => exact Nat.zero_add _
    | ⟨1, _⟩ => exact Nat.zero_add _
    | ⟨2, _⟩ => exact Nat.zero_add _
  refine (congrFun (congrArg k0_pay89 hl) _).trans ?_
  generalize View.canon L = w
  unfold_payloads
  pointwise
end
end Cert.Proof.Proj.Canon
end
-- ==== Proof.Proj.CaseA.lean ====
module

public import proofs.«01_k».proof.Proof.Gen.Kernel3Ideal.Frame
public import proofs.«01_k».proof.Proof.Proj.Canon

/-! What one grid point's run leaves in each output's buffer and in the carried state, as the pieces it stores. -/

@[expose] public section
set_option maxRecDepth 16384
set_option maxHeartbeats 300000
noncomputable section
namespace Cert.Proof.Proj.CaseA
open Cert.Kernel3Ideal Cert.Kernel3Ideal.Gen Idealize.ShloMosaic Idealize.ShloMosaic.TcCoe Idealize.SL Idealize.SL.Sem Cert.Proof.Proj.Canon

variable  (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1024x1024 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x4x128x128 .f32) (harg10 : arg10.IsWhole) (arg11 : Memref sig .tc .vmem S4x256x256 .f32) (harg11 : arg11.IsWhole) (arg12 : Memref sig .tc .vmem S4x256x128 .f32) (harg12 : arg12.IsWhole) (arg13 : Memref sig .tc .vmem S4x256x128 .f32) (harg13 : arg13.IsWhole) (arg14 : Memref sig .tc .vmem S4x1x128 .f32) (harg14 : arg14.IsWhole) (arg15 : Memref sig .tc .vmem S1x512 .f32) (harg15 : arg15.IsWhole) (arg16 : Memref sig .tc .vmem S512x512 .bf16) (harg16 : arg16.IsWhole) (arg17 : Memref sig .tc .vmem S1x4x128x128 .f32) (harg17 : arg17.IsWhole) (arg18 : Memref sig .tc .vmem S2x512x256 .bf16) (harg18 : arg18.IsWhole) (arg19 : Memref sig .tc .vmem S512x128 .f32) (harg19 : arg19.IsWhole) (arg20 : Memref sig .tc .vmem S512x128 .f32) (harg20 : arg20.IsWhole) (arg21 : Memref sig .tc .vmem S2x512x256 .bf16) (harg21 : arg21.IsWhole) (arg22 : Memref sig .tc .vmem S2x512x256 .f32) (harg22 : arg22.IsWhole) (arg23 : Memref sig .tc .vmem S512x64 .f32) (harg23 : arg23.IsWhole) (arg24 : Memref sig .tc .vmem S2x8x256 .f32) (harg24 : arg24.IsWhole) (arg25 : Memref sig .tc .vmem S4x128x128 .f32) (harg25 : arg25.IsWhole) (hc0 : cond0_0 i) (hc1 : ¬cond0_1 i)
    (x0 : Vec Ideal S512x1024 .f32) (x1 : Vec Ideal S1x1024 .f32) (x2 : Vec Ideal S1024x3072 .bf16) (x3 : Vec Ideal S1024x1024 .f32) (x4 : Vec Ideal S512x128 .f32) (x5 : Vec Ideal S512x128 .f32) (x6 : Vec Ideal S512x128 .f32) (x7 : Vec Ideal S512x128 .f32) (x8 : Vec Ideal S512x128 .f32) (x9 : Vec Ideal S1x4x128x128 .f32) (x10 : Vec Ideal S4x256x256 .f32) (x11 : Vec Ideal S4x256x128 .f32) (x12 : Vec Ideal S4x256x128 .f32) (x13 : Vec Ideal S4x1x128 .f32) (x14 : Vec Ideal S1x512 .f32)

theorem o17 : out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14
    = View.canon (L17 (k0_pay7 (F := Ideal) (View.ld x0 (Rect.unit ![0, 0] ![512, 1024] inb_S512x1024_S512x1024_0_0)) (View.ld x1 (Rect.unit ![0, 0] ![1, 1024] inb_S1x1024_S1x1024_0_0))) (k0_pay10 (F := Ideal) (View.ld x6 (Rect.unit ![0, 0] ![512, 128] inb_S512x128_S512x128_0_0))) (k0_pay11 (F := Ideal) (View.ld x7 (Rect.unit ![0, 0] ![512, 128] inb_S512x128_S512x128_0_0))) (k0_pay12 (F := Ideal) (View.ld x8 (Rect.unit ![0, 0] ![512, 128] inb_S512x128_S512x128_0_0))) x2) := by
  unfold out0_A_17
  rw [View.read_writes_junk_eq_canon]
  refine congrArg _ ?_
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg12.read_unread, harg14.read_unread, harg25.read_unread, View.ld_unit_zero]
  rfl

theorem o18 : out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14
    = View.canon (L18 (k0_pay6 (F := Ideal) (View.ld x0 (Rect.unit ![0, 0] ![512, 1024] inb_S512x1024_S512x1024_0_0)) (View.ld x1 (Rect.unit ![0, 0] ![1, 1024] inb_S1x1024_S1x1024_0_0))) (k0_pay10 (F := Ideal) (View.ld x6 (Rect.unit ![0, 0] ![512, 128] inb_S512x128_S512x128_0_0))) (k0_pay11 (F := Ideal) (View.ld x7 (Rect.unit ![0, 0] ![512, 128] inb_S512x128_S512x128_0_0))) (k0_pay12 (F := Ideal) (View.ld x8 (Rect.unit ![0, 0] ![512, 128] inb_S512x128_S512x128_0_0))) x3) := by
  unfold out0_A_18
  rw [View.read_writes_junk_eq_canon]
  refine congrArg _ ?_
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg12.read_unread, harg14.read_unread, harg25.read_unread, View.ld_unit_zero]
  rfl

theorem o19 : out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14
    = View.canon (L19 (k0_pay6 (F := Ideal) (View.ld x0 (Rect.unit ![0, 0] ![512, 1024] inb_S512x1024_S512x1024_0_0)) (View.ld x1 (Rect.unit ![0, 0] ![1, 1024] inb_S1x1024_S1x1024_0_0))) x3) := by
  unfold out0_A_19
  rw [View.read_writes_junk_eq_canon]
  refine congrArg _ ?_
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg12.read_unread, harg14.read_unread, harg25.read_unread, View.ld_unit_zero]
  rfl

theorem o20 : out0_A_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14
    = View.canon (L20 (k0_pay7 (F := Ideal) (View.ld x0 (Rect.unit ![0, 0] ![512, 1024] inb_S512x1024_S512x1024_0_0)) (View.ld x1 (Rect.unit ![0, 0] ![1, 1024] inb_S1x1024_S1x1024_0_0))) x2) := by
  unfold out0_A_20
  rw [View.read_writes_junk_eq_canon]
  refine congrArg _ ?_
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg12.read_unread, harg14.read_unread, harg25.read_unread, View.ld_unit_zero]
  rfl

theorem o21 : out0_A_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14
    = View.canon (L21 (k0_pay6 (F := Ideal) (View.ld x0 (Rect.unit ![0, 0] ![512, 1024] inb_S512x1024_S512x1024_0_0)) (View.ld x1 (Rect.unit ![0, 0] ![1, 1024] inb_S1x1024_S1x1024_0_0))) (k0_pay10 (F := Ideal) (View.ld x6 (Rect.unit ![0, 0] ![512, 128] inb_S512x128_S512x128_0_0))) (k0_pay11 (F := Ideal) (View.ld x7 (Rect.unit ![0, 0] ![512, 128] inb_S512x128_S512x128_0_0))) (k0_pay12 (F := Ideal) (View.ld x8 (Rect.unit ![0, 0] ![512, 128] inb_S512x128_S512x128_0_0))) x3) := by
  unfold out0_A_21
  rw [View.read_writes_junk_eq_canon]
  refine congrArg _ ?_
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg12.read_unread, harg14.read_unread, harg25.read_unread, View.ld_unit_zero]
  rfl

theorem o22 : out0_A_22 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14
    = View.canon (L22 (k0_pay6 (F := Ideal) (View.ld x0 (Rect.unit ![0, 0] ![512, 1024] inb_S512x1024_S512x1024_0_0)) (View.ld x1 (Rect.unit ![0, 0] ![1, 1024] inb_S1x1024_S1x1024_0_0))) (k0_pay10 (F := Ideal) (View.ld x6 (Rect.unit ![0, 0] ![512, 128] inb_S512x128_S512x128_0_0))) (k0_pay11 (F := Ideal) (View.ld x7 (Rect.unit ![0, 0] ![512, 128] inb_S512x128_S512x128_0_0))) (k0_pay12 (F := Ideal) (View.ld x8 (Rect.unit ![0, 0] ![512, 128] inb_S512x128_S512x128_0_0))) x3) := by
  unfold out0_A_22
  rw [View.read_writes_junk_eq_canon]
  refine congrArg _ ?_
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg12.read_unread, harg14.read_unread, harg25.read_unread, View.ld_unit_zero]
  rfl

theorem o23 : out0_A_23 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14
    = View.canon (L23 (k0_pay6 (F := Ideal) (View.ld x0 (Rect.unit ![0, 0] ![512, 1024] inb_S512x1024_S512x1024_0_0)) (View.ld x1 (Rect.unit ![0, 0] ![1, 1024] inb_S1x1024_S1x1024_0_0))) (k0_pay10 (F := Ideal) (View.ld x6 (Rect.unit ![0, 0] ![512, 128] inb_S512x128_S512x128_0_0))) (k0_pay11 (F := Ideal) (View.ld x7 (Rect.unit ![0, 0] ![512, 128] inb_S512x128_S512x128_0_0))) (k0_pay12 (F := Ideal) (View.ld x8 (Rect.unit ![0, 0] ![512, 128] inb_S512x128_S512x128_0_0))) x3) := by
  unfold out0_A_23
  rw [View.read_writes_junk_eq_canon]
  refine congrArg _ ?_
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg12.read_unread, harg14.read_unread, harg25.read_unread, View.ld_unit_zero]
  rfl

theorem os : sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14
    = View.canon (LSA (k0_pay7 (F := Ideal) (View.ld x0 (Rect.unit ![0, 0] ![512, 1024] inb_S512x1024_S512x1024_0_0)) (View.ld x1 (Rect.unit ![0, 0] ![1, 1024] inb_S1x1024_S1x1024_0_0))) (k0_pay8 (F := Ideal) (View.ld x4 (Rect.unit ![0, 0] ![512, 128] inb_S512x128_S512x128_0_0))) (k0_pay9 (F := Ideal) (View.ld x5 (Rect.unit ![0, 0] ![512, 128] inb_S512x128_S512x128_0_0))) x2 x11 x13 x9) := by
  unfold sout0_A_0
  rw [View.read_writes_junk_eq_canon]
  refine congrArg _ ?_
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg12.read_unread, harg14.read_unread, harg25.read_unread, View.ld_unit_zero, View.readCov_eq_canon']
  rfl
end Cert.Proof.Proj.CaseA
end
-- ==== Proof.Proj.CaseB.lean ====
module

public import proofs.«01_k».proof.Proof.Gen.Kernel3Ideal.Frame
public import proofs.«01_k».proof.Proof.Proj.Canon

/-! What one grid point's run leaves in each output's buffer and in the carried state, as the pieces it stores. -/

@[expose] public section
set_option maxRecDepth 16384
set_option maxHeartbeats 300000
noncomputable section
namespace Cert.Proof.Proj.CaseB
open Cert.Kernel3Ideal Cert.Kernel3Ideal.Gen Idealize.ShloMosaic Idealize.ShloMosaic.TcCoe Idealize.SL Idealize.SL.Sem Cert.Proof.Proj.Canon

variable  (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1024x1024 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x4x128x128 .f32) (harg10 : arg10.IsWhole) (arg11 : Memref sig .tc .vmem S4x256x256 .f32) (harg11 : arg11.IsWhole) (arg12 : Memref sig .tc .vmem S4x256x128 .f32) (harg12 : arg12.IsWhole) (arg13 : Memref sig .tc .vmem S4x256x128 .f32) (harg13 : arg13.IsWhole) (arg14 : Memref sig .tc .vmem S4x1x128 .f32) (harg14 : arg14.IsWhole) (arg15 : Memref sig .tc .vmem S1x512 .f32) (harg15 : arg15.IsWhole) (arg16 : Memref sig .tc .vmem S512x512 .bf16) (harg16 : arg16.IsWhole) (arg17 : Memref sig .tc .vmem S1x4x128x128 .f32) (harg17 : arg17.IsWhole) (arg18 : Memref sig .tc .vmem S2x512x256 .bf16) (harg18 : arg18.IsWhole) (arg19 : Memref sig .tc .vmem S512x128 .f32) (harg19 : arg19.IsWhole) (arg20 : Memref sig .tc .vmem S512x128 .f32) (harg20 : arg20.IsWhole) (arg21 : Memref sig .tc .vmem S2x512x256 .bf16) (harg21 : arg21.IsWhole) (arg22 : Memref sig .tc .vmem S2x512x256 .f32) (harg22 : arg22.IsWhole) (arg23 : Memref sig .tc .vmem S512x64 .f32) (harg23 : arg23.IsWhole) (arg24 : Memref sig .tc .vmem S2x8x256 .f32) (harg24 : arg24.IsWhole) (arg25 : Memref sig .tc .vmem S4x128x128 .f32) (harg25 : arg25.IsWhole) (hc0 : ¬cond0_0 i) (hc1 : ¬cond0_1 i)
    (x0 : Vec Ideal S512x1024 .f32) (x1 : Vec Ideal S1x1024 .f32) (x2 : Vec Ideal S1024x3072 .bf16) (x3 : Vec Ideal S1024x1024 .f32) (x4 : Vec Ideal S512x128 .f32) (x5 : Vec Ideal S512x128 .f32) (x6 : Vec Ideal S512x128 .f32) (x7 : Vec Ideal S512x128 .f32) (x8 : Vec Ideal S512x128 .f32) (x9 : Vec Ideal S1x4x128x128 .f32) (x10 : Vec Ideal S4x256x256 .f32) (x11 : Vec Ideal S4x256x128 .f32) (x12 : Vec Ideal S4x256x128 .f32) (x13 : Vec Ideal S4x1x128 .f32) (x14 : Vec Ideal S1x512 .f32) (xs0 : Vec Ideal S4x128x128 .f32)

theorem o17 : out0_B_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 xs0
    = View.canon (L17 (k0_pay7 (F := Ideal) (View.ld x0 (Rect.unit ![0, 0] ![512, 1024] inb_S512x1024_S512x1024_0_0)) (View.ld x1 (Rect.unit ![0, 0] ![1, 1024] inb_S1x1024_S1x1024_0_0))) (k0_pay10 (F := Ideal) (View.ld x6 (Rect.unit ![0, 0] ![512, 128] inb_S512x128_S512x128_0_0))) (k0_pay11 (F := Ideal) (View.ld x7 (Rect.unit ![0, 0] ![512, 128] inb_S512x128_S512x128_0_0))) (k0_pay12 (F := Ideal) (View.ld x8 (Rect.unit ![0, 0] ![512, 128] inb_S512x128_S512x128_0_0))) x2) := by
  unfold out0_B_17
  rw [View.read_writes_junk_eq_canon]
  refine congrArg _ ?_
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg12.read_unread, harg14.read_unread, harg25.read_unread, View.ld_unit_zero]
  rfl

theorem o18 : out0_B_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 xs0
    = View.canon (L18 (k0_pay6 (F := Ideal) (View.ld x0 (Rect.unit ![0, 0] ![512, 1024] inb_S512x1024_S512x1024_0_0)) (View.ld x1 (Rect.unit ![0, 0] ![1, 1024] inb_S1x1024_S1x1024_0_0))) (k0_pay10 (F := Ideal) (View.ld x6 (Rect.unit ![0, 0] ![512, 128] inb_S512x128_S512x128_0_0))) (k0_pay11 (F := Ideal) (View.ld x7 (Rect.unit ![0, 0] ![512, 128] inb_S512x128_S512x128_0_0))) (k0_pay12 (F := Ideal) (View.ld x8 (Rect.unit ![0, 0] ![512, 128] inb_S512x128_S512x128_0_0))) x3) := by
  unfold out0_B_18
  rw [View.read_writes_junk_eq_canon]
  refine congrArg _ ?_
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg12.read_unread, harg14.read_unread, harg25.read_unread, View.ld_unit_zero]
  rfl

theorem o19 : out0_B_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 xs0
    = View.canon (L19 (k0_pay6 (F := Ideal) (View.ld x0 (Rect.unit ![0, 0] ![512, 1024] inb_S512x1024_S512x1024_0_0)) (View.ld x1 (Rect.unit ![0, 0] ![1, 1024] inb_S1x1024_S1x1024_0_0))) x3) := by
  unfold out0_B_19
  rw [View.read_writes_junk_eq_canon]
  refine congrArg _ ?_
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg12.read_unread, harg14.read_unread, harg25.read_unread, View.ld_unit_zero]
  rfl

theorem o20 : out0_B_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 xs0
    = View.canon (L20 (k0_pay7 (F := Ideal) (View.ld x0 (Rect.unit ![0, 0] ![512, 1024] inb_S512x1024_S512x1024_0_0)) (View.ld x1 (Rect.unit ![0, 0] ![1, 1024] inb_S1x1024_S1x1024_0_0))) x2) := by
  unfold out0_B_20
  rw [View.read_writes_junk_eq_canon]
  refine congrArg _ ?_
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg12.read_unread, harg14.read_unread, harg25.read_unread, View.ld_unit_zero]
  rfl

theorem o21 : out0_B_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 xs0
    = View.canon (L21 (k0_pay6 (F := Ideal) (View.ld x0 (Rect.unit ![0, 0] ![512, 1024] inb_S512x1024_S512x1024_0_0)) (View.ld x1 (Rect.unit ![0, 0] ![1, 1024] inb_S1x1024_S1x1024_0_0))) (k0_pay10 (F := Ideal) (View.ld x6 (Rect.unit ![0, 0] ![512, 128] inb_S512x128_S512x128_0_0))) (k0_pay11 (F := Ideal) (View.ld x7 (Rect.unit ![0, 0] ![512, 128] inb_S512x128_S512x128_0_0))) (k0_pay12 (F := Ideal) (View.ld x8 (Rect.unit ![0, 0] ![512, 128] inb_S512x128_S512x128_0_0))) x3) := by
  unfold out0_B_21
  rw [View.read_writes_junk_eq_canon]
  refine congrArg _ ?_
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg12.read_unread, harg14.read_unread, harg25.read_unread, View.ld_unit_zero]
  rfl

theorem o22 : out0_B_22 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 xs0
    = View.canon (L22 (k0_pay6 (F := Ideal) (View.ld x0 (Rect.unit ![0, 0] ![512, 1024] inb_S512x1024_S512x1024_0_0)) (View.ld x1 (Rect.unit ![0, 0] ![1, 1024] inb_S1x1024_S1x1024_0_0))) (k0_pay10 (F := Ideal) (View.ld x6 (Rect.unit ![0, 0] ![512, 128] inb_S512x128_S512x128_0_0))) (k0_pay11 (F := Ideal) (View.ld x7 (Rect.unit ![0, 0] ![512, 128] inb_S512x128_S512x128_0_0))) (k0_pay12 (F := Ideal) (View.ld x8 (Rect.unit ![0, 0] ![512, 128] inb_S512x128_S512x128_0_0))) x3) := by
  unfold out0_B_22
  rw [View.read_writes_junk_eq_canon]
  refine congrArg _ ?_
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg12.read_unread, harg14.read_unread, harg25.read_unread, View.ld_unit_zero]
  rfl

theorem o23 : out0_B_23 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 xs0
    = View.canon (L23 (k0_pay6 (F := Ideal) (View.ld x0 (Rect.unit ![0, 0] ![512, 1024] inb_S512x1024_S512x1024_0_0)) (View.ld x1 (Rect.unit ![0, 0] ![1, 1024] inb_S1x1024_S1x1024_0_0))) (k0_pay10 (F := Ideal) (View.ld x6 (Rect.unit ![0, 0] ![512, 128] inb_S512x128_S512x128_0_0))) (k0_pay11 (F := Ideal) (View.ld x7 (Rect.unit ![0, 0] ![512, 128] inb_S512x128_S512x128_0_0))) (k0_pay12 (F := Ideal) (View.ld x8 (Rect.unit ![0, 0] ![512, 128] inb_S512x128_S512x128_0_0))) x3) := by
  unfold out0_B_23
  rw [View.read_writes_junk_eq_canon]
  refine congrArg _ ?_
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg12.read_unread, harg14.read_unread, harg25.read_unread, View.ld_unit_zero]
  rfl

theorem os : sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 xs0
    = View.canon (LSB (k0_pay7 (F := Ideal) (View.ld x0 (Rect.unit ![0, 0] ![512, 1024] inb_S512x1024_S512x1024_0_0)) (View.ld x1 (Rect.unit ![0, 0] ![1, 1024] inb_S1x1024_S1x1024_0_0))) (k0_pay8 (F := Ideal) (View.ld x4 (Rect.unit ![0, 0] ![512, 128] inb_S512x128_S512x128_0_0))) (k0_pay9 (F := Ideal) (View.ld x5 (Rect.unit ![0, 0] ![512, 128] inb_S512x128_S512x128_0_0))) x2 x11 x13 xs0) := by
  unfold sout0_B_0
  rw [View.read_writes_junk_eq_canon]
  refine congrArg _ ?_
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg12.read_unread, harg14.read_unread, harg25.read_unread, View.ld_unit_zero, View.readCov_eq_canon']
  rfl
end Cert.Proof.Proj.CaseB
end
-- ==== Proof.Proj.CaseC.lean ====
module

public import proofs.«01_k».proof.Proof.Gen.Kernel3Ideal.Frame
public import proofs.«01_k».proof.Proof.Proj.Canon

/-! What one grid point's run leaves in each output's buffer and in the carried state, as the pieces it stores. -/

@[expose] public section
set_option maxRecDepth 16384
set_option maxHeartbeats 300000
noncomputable section
namespace Cert.Proof.Proj.CaseC
open Cert.Kernel3Ideal Cert.Kernel3Ideal.Gen Idealize.ShloMosaic Idealize.ShloMosaic.TcCoe Idealize.SL Idealize.SL.Sem Cert.Proof.Proj.Canon

variable  (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S1024x1024 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x4x128x128 .f32) (harg10 : arg10.IsWhole) (arg11 : Memref sig .tc .vmem S4x256x256 .f32) (harg11 : arg11.IsWhole) (arg12 : Memref sig .tc .vmem S4x256x128 .f32) (harg12 : arg12.IsWhole) (arg13 : Memref sig .tc .vmem S4x256x128 .f32) (harg13 : arg13.IsWhole) (arg14 : Memref sig .tc .vmem S4x1x128 .f32) (harg14 : arg14.IsWhole) (arg15 : Memref sig .tc .vmem S1x512 .f32) (harg15 : arg15.IsWhole) (arg16 : Memref sig .tc .vmem S512x512 .bf16) (harg16 : arg16.IsWhole) (arg17 : Memref sig .tc .vmem S1x4x128x128 .f32) (harg17 : arg17.IsWhole) (arg18 : Memref sig .tc .vmem S2x512x256 .bf16) (harg18 : arg18.IsWhole) (arg19 : Memref sig .tc .vmem S512x128 .f32) (harg19 : arg19.IsWhole) (arg20 : Memref sig .tc .vmem S512x128 .f32) (harg20 : arg20.IsWhole) (arg21 : Memref sig .tc .vmem S2x512x256 .bf16) (harg21 : arg21.IsWhole) (arg22 : Memref sig .tc .vmem S2x512x256 .f32) (harg22 : arg22.IsWhole) (arg23 : Memref sig .tc .vmem S512x64 .f32) (harg23 : arg23.IsWhole) (arg24 : Memref sig .tc .vmem S2x8x256 .f32) (harg24 : arg24.IsWhole) (arg25 : Memref sig .tc .vmem S4x128x128 .f32) (harg25 : arg25.IsWhole) (hc0 : ¬cond0_0 i) (hc1 : cond0_1 i)
    (x0 : Vec Ideal S512x1024 .f32) (x1 : Vec Ideal S1x1024 .f32) (x2 : Vec Ideal S1024x3072 .bf16) (x3 : Vec Ideal S1024x1024 .f32) (x4 : Vec Ideal S512x128 .f32) (x5 : Vec Ideal S512x128 .f32) (x6 : Vec Ideal S512x128 .f32) (x7 : Vec Ideal S512x128 .f32) (x8 : Vec Ideal S512x128 .f32) (x9 : Vec Ideal S1x4x128x128 .f32) (x10 : Vec Ideal S4x256x256 .f32) (x11 : Vec Ideal S4x256x128 .f32) (x12 : Vec Ideal S4x256x128 .f32) (x13 : Vec Ideal S4x1x128 .f32) (x14 : Vec Ideal S1x512 .f32) (xs0 : Vec Ideal S4x128x128 .f32)

theorem o16 : out0_C_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 xs0
    = View.canon (L16 (k0_pay7 (F := Ideal) (View.ld x0 (Rect.unit ![0, 0] ![512, 1024] inb_S512x1024_S512x1024_0_0)) (View.ld x1 (Rect.unit ![0, 0] ![1, 1024] inb_S1x1024_S1x1024_0_0))) (k0_pay8 (F := Ideal) (View.ld x4 (Rect.unit ![0, 0] ![512, 128] inb_S512x128_S512x128_0_0))) (k0_pay9 (F := Ideal) (View.ld x5 (Rect.unit ![0, 0] ![512, 128] inb_S512x128_S512x128_0_0))) x2 x11 x13 xs0) := by
  unfold out0_C_16
  rw [View.read_writes_junk_eq_canon]
  refine congrArg _ ?_
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg12.read_unread, harg14.read_unread, harg25.read_unread, View.ld_unit_zero, View.readCov_eq_canon']
  rfl

theorem o17 : out0_C_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 xs0
    = View.canon (L17 (k0_pay7 (F := Ideal) (View.ld x0 (Rect.unit ![0, 0] ![512, 1024] inb_S512x1024_S512x1024_0_0)) (View.ld x1 (Rect.unit ![0, 0] ![1, 1024] inb_S1x1024_S1x1024_0_0))) (k0_pay10 (F := Ideal) (View.ld x6 (Rect.unit ![0, 0] ![512, 128] inb_S512x128_S512x128_0_0))) (k0_pay11 (F := Ideal) (View.ld x7 (Rect.unit ![0, 0] ![512, 128] inb_S512x128_S512x128_0_0))) (k0_pay12 (F := Ideal) (View.ld x8 (Rect.unit ![0, 0] ![512, 128] inb_S512x128_S512x128_0_0))) x2) := by
  unfold out0_C_17
  rw [View.read_writes_junk_eq_canon]
  refine congrArg _ ?_
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg12.read_unread, harg14.read_unread, harg25.read_unread, View.ld_unit_zero]
  rfl

theorem o18 : out0_C_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 xs0
    = View.canon (L18 (k0_pay6 (F := Ideal) (View.ld x0 (Rect.unit ![0, 0] ![512, 1024] inb_S512x1024_S512x1024_0_0)) (View.ld x1 (Rect.unit ![0, 0] ![1, 1024] inb_S1x1024_S1x1024_0_0))) (k0_pay10 (F := Ideal) (View.ld x6 (Rect.unit ![0, 0] ![512, 128] inb_S512x128_S512x128_0_0))) (k0_pay11 (F := Ideal) (View.ld x7 (Rect.unit ![0, 0] ![512, 128] inb_S512x128_S512x128_0_0))) (k0_pay12 (F := Ideal) (View.ld x8 (Rect.unit ![0, 0] ![512, 128] inb_S512x128_S512x128_0_0))) x3) := by
  unfold out0_C_18
  rw [View.read_writes_junk_eq_canon]
  refine congrArg _ ?_
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg12.read_unread, harg14.read_unread, harg25.read_unread, View.ld_unit_zero]
  rfl

theorem o19 : out0_C_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 xs0
    = View.canon (L19 (k0_pay6 (F := Ideal) (View.ld x0 (Rect.unit ![0, 0] ![512, 1024] inb_S512x1024_S512x1024_0_0)) (View.ld x1 (Rect.unit ![0, 0] ![1, 1024] inb_S1x1024_S1x1024_0_0))) x3) := by
  unfold out0_C_19
  rw [View.read_writes_junk_eq_canon]
  refine congrArg _ ?_
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg12.read_unread, harg14.read_unread, harg25.read_unread, View.ld_unit_zero]
  rfl

theorem o20 : out0_C_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 xs0
    = View.canon (L20 (k0_pay7 (F := Ideal) (View.ld x0 (Rect.unit ![0, 0] ![512, 1024] inb_S512x1024_S512x1024_0_0)) (View.ld x1 (Rect.unit ![0, 0] ![1, 1024] inb_S1x1024_S1x1024_0_0))) x2) := by
  unfold out0_C_20
  rw [View.read_writes_junk_eq_canon]
  refine congrArg _ ?_
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg12.read_unread, harg14.read_unread, harg25.read_unread, View.ld_unit_zero]
  rfl

theorem o21 : out0_C_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 xs0
    = View.canon (L21 (k0_pay6 (F := Ideal) (View.ld x0 (Rect.unit ![0, 0] ![512, 1024] inb_S512x1024_S512x1024_0_0)) (View.ld x1 (Rect.unit ![0, 0] ![1, 1024] inb_S1x1024_S1x1024_0_0))) (k0_pay10 (F := Ideal) (View.ld x6 (Rect.unit ![0, 0] ![512, 128] inb_S512x128_S512x128_0_0))) (k0_pay11 (F := Ideal) (View.ld x7 (Rect.unit ![0, 0] ![512, 128] inb_S512x128_S512x128_0_0))) (k0_pay12 (F := Ideal) (View.ld x8 (Rect.unit ![0, 0] ![512, 128] inb_S512x128_S512x128_0_0))) x3) := by
  unfold out0_C_21
  rw [View.read_writes_junk_eq_canon]
  refine congrArg _ ?_
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg12.read_unread, harg14.read_unread, harg25.read_unread, View.ld_unit_zero]
  rfl

theorem o22 : out0_C_22 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 xs0
    = View.canon (L22 (k0_pay6 (F := Ideal) (View.ld x0 (Rect.unit ![0, 0] ![512, 1024] inb_S512x1024_S512x1024_0_0)) (View.ld x1 (Rect.unit ![0, 0] ![1, 1024] inb_S1x1024_S1x1024_0_0))) (k0_pay10 (F := Ideal) (View.ld x6 (Rect.unit ![0, 0] ![512, 128] inb_S512x128_S512x128_0_0))) (k0_pay11 (F := Ideal) (View.ld x7 (Rect.unit ![0, 0] ![512, 128] inb_S512x128_S512x128_0_0))) (k0_pay12 (F := Ideal) (View.ld x8 (Rect.unit ![0, 0] ![512, 128] inb_S512x128_S512x128_0_0))) x3) := by
  unfold out0_C_22
  rw [View.read_writes_junk_eq_canon]
  refine congrArg _ ?_
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg12.read_unread, harg14.read_unread, harg25.read_unread, View.ld_unit_zero]
  rfl

theorem o23 : out0_C_23 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 xs0
    = View.canon (L23 (k0_pay6 (F := Ideal) (View.ld x0 (Rect.unit ![0, 0] ![512, 1024] inb_S512x1024_S512x1024_0_0)) (View.ld x1 (Rect.unit ![0, 0] ![1, 1024] inb_S1x1024_S1x1024_0_0))) (k0_pay10 (F := Ideal) (View.ld x6 (Rect.unit ![0, 0] ![512, 128] inb_S512x128_S512x128_0_0))) (k0_pay11 (F := Ideal) (View.ld x7 (Rect.unit ![0, 0] ![512, 128] inb_S512x128_S512x128_0_0))) (k0_pay12 (F := Ideal) (View.ld x8 (Rect.unit ![0, 0] ![512, 128] inb_S512x128_S512x128_0_0))) x3) := by
  unfold out0_C_23
  rw [View.read_writes_junk_eq_canon]
  refine congrArg _ ?_
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg12.read_unread, harg14.read_unread, harg25.read_unread, View.ld_unit_zero]
  rfl

theorem os : sout0_C_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 xs0
    = View.canon (LSB (k0_pay7 (F := Ideal) (View.ld x0 (Rect.unit ![0, 0] ![512, 1024] inb_S512x1024_S512x1024_0_0)) (View.ld x1 (Rect.unit ![0, 0] ![1, 1024] inb_S1x1024_S1x1024_0_0))) (k0_pay8 (F := Ideal) (View.ld x4 (Rect.unit ![0, 0] ![512, 128] inb_S512x128_S512x128_0_0))) (k0_pay9 (F := Ideal) (View.ld x5 (Rect.unit ![0, 0] ![512, 128] inb_S512x128_S512x128_0_0))) x2 x11 x13 xs0) := by
  unfold sout0_C_0
  rw [View.read_writes_junk_eq_canon]
  refine congrArg _ ?_
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg12.read_unread, harg14.read_unread, harg25.read_unread, View.ld_unit_zero, View.readCov_eq_canon']
  rfl
end Cert.Proof.Proj.CaseC
end
-- ==== Proof.Proj.HostPrompt.lean ====
/- The arrays which the host code of `Kernel3Ideal` prepares for its kernel, one operation at a time: `val_<buffer>` is
   the value an operation writes, as a function of the arguments of @main. -/
module

public import proofs.«01_k».proof.Proof.Gen.Kernel3Ideal.Launch
public import Idealize.ShloMosaic.Lib.Pipeline.Value
public import Idealize.ShloMosaic.Lib.ValueIdx
public import Idealize.ShloMosaic.PureOps.Ideal.Laws

@[expose] public section

noncomputable section

namespace Cert.Proof.Proj.HostPrompt

open Cert.Kernel3Ideal Cert.Kernel3Ideal.Gen Idealize.ShloMosaic Idealize.ShloMosaic.TcCoe Idealize.SL.Sem Idealize.ShloMosaic.StableHlo

variable {F : FTy → Type} [FloatOps F]

-- %0 = stablehlo.reshape %arg2 : (tensor<1x1024x3912xf32>) -> tensor<1024x3912xf32>
def val_main_v0 (x2 : (⟨S1x1024x3912, .f32⟩ : BufTy).Contents (Elt F)) : (⟨S1024x3912, .f32⟩ : BufTy).Contents (Elt F) :=
  shapeCast _ (x2) shapeCasts_S1x1024x3912_S1024x3912

-- %1 = stablehlo.slice %0 [0:1024, 0:512] : (tensor<1024x3912xf32>) -> tensor<1024x512xf32>
def val_main_v1 (x2 : (⟨S1x1024x3912, .f32⟩ : BufTy).Contents (Elt F)) : (⟨S1024x512, .f32⟩ : BufTy).Contents (Elt F) :=
  extractStridedSlice S1024x512 ![0, 0] (val_main_v0 (F := F) x2) slices_S1024x3912_S1024x512_0_0

-- %2 = stablehlo.slice %0 [0:1024, 512:1024] : (tensor<1024x3912xf32>) -> tensor<1024x512xf32>
def val_main_v2 (x2 : (⟨S1x1024x3912, .f32⟩ : BufTy).Contents (Elt F)) : (⟨S1024x512, .f32⟩ : BufTy).Contents (Elt F) :=
  extractStridedSlice S1024x512 ![0, 512] (val_main_v0 (F := F) x2) slices_S1024x3912_S1024x512_0_512

-- %3 = stablehlo.slice %0 [0:1024, 1024:1536] : (tensor<1024x3912xf32>) -> tensor<1024x512xf32>
def val_main_v3 (x2 : (⟨S1x1024x3912, .f32⟩ : BufTy).Contents (Elt F)) : (⟨S1024x512, .f32⟩ : BufTy).Contents (Elt F) :=
  extractStridedSlice S1024x512 ![0, 1024] (val_main_v0 (F := F) x2) slices_S1024x3912_S1024x512_0_1024

-- %4 = stablehlo.slice %0 [0:1024, 1536:2048] : (tensor<1024x3912xf32>) -> tensor<1024x512xf32>
def val_main_v4 (x2 : (⟨S1x1024x3912, .f32⟩ : BufTy).Contents (Elt F)) : (⟨S1024x512, .f32⟩ : BufTy).Contents (Elt F) :=
  extractStridedSlice S1024x512 ![0, 1536] (val_main_v0 (F := F) x2) slices_S1024x3912_S1024x512_0_1536

-- %5 = stablehlo.slice %0 [0:1024, 2048:2560] : (tensor<1024x3912xf32>) -> tensor<1024x512xf32>
def val_main_v5 (x2 : (⟨S1x1024x3912, .f32⟩ : BufTy).Contents (Elt F)) : (⟨S1024x512, .f32⟩ : BufTy).Contents (Elt F) :=
  extractStridedSlice S1024x512 ![0, 2048] (val_main_v0 (F := F) x2) slices_S1024x3912_S1024x512_0_2048

-- %6 = stablehlo.slice %0 [0:1024, 2560:2688] : (tensor<1024x3912xf32>) -> tensor<1024x128xf32>
def val_main_v6 (x2 : (⟨S1x1024x3912, .f32⟩ : BufTy).Contents (Elt F)) : (⟨S1024x128, .f32⟩ : BufTy).Contents (Elt F) :=
  extractStridedSlice S1024x128 ![0, 2560] (val_main_v0 (F := F) x2) slices_S1024x3912_S1024x128_0_2560

-- %7 = stablehlo.slice %0 [0:1024, 2688:2816] : (tensor<1024x3912xf32>) -> tensor<1024x128xf32>
def val_main_v7 (x2 : (⟨S1x1024x3912, .f32⟩ : BufTy).Contents (Elt F)) : (⟨S1024x128, .f32⟩ : BufTy).Contents (Elt F) :=
  extractStridedSlice S1024x128 ![0, 2688] (val_main_v0 (F := F) x2) slices_S1024x3912_S1024x128_0_2688

-- %8 = stablehlo.slice %0 [0:1024, 2816:3328] : (tensor<1024x3912xf32>) -> tensor<1024x512xf32>
def val_main_v8 (x2 : (⟨S1x1024x3912, .f32⟩ : BufTy).Contents (Elt F)) : (⟨S1024x512, .f32⟩ : BufTy).Contents (Elt F) :=
  extractStridedSlice S1024x512 ![0, 2816] (val_main_v0 (F := F) x2) slices_S1024x3912_S1024x512_0_2816

-- %9 = stablehlo.slice %0 [0:1024, 3328:3840] : (tensor<1024x3912xf32>) -> tensor<1024x512xf32>
def val_main_v9 (x2 : (⟨S1x1024x3912, .f32⟩ : BufTy).Contents (Elt F)) : (⟨S1024x512, .f32⟩ : BufTy).Contents (Elt F) :=
  extractStridedSlice S1024x512 ![0, 3328] (val_main_v0 (F := F) x2) slices_S1024x3912_S1024x512_0_3328

-- %10 = stablehlo.slice %0 [0:1024, 3840:3904] : (tensor<1024x3912xf32>) -> tensor<1024x64xf32>
def val_main_v10 (x2 : (⟨S1x1024x3912, .f32⟩ : BufTy).Contents (Elt F)) : (⟨S1024x64, .f32⟩ : BufTy).Contents (Elt F) :=
  extractStridedSlice S1024x64 ![0, 3840] (val_main_v0 (F := F) x2) slices_S1024x3912_S1024x64_0_3840

-- %11 = stablehlo.slice %0 [0:1024, 3904:3912] : (tensor<1024x3912xf32>) -> tensor<1024x8xf32>
def val_main_v11 (x2 : (⟨S1x1024x3912, .f32⟩ : BufTy).Contents (Elt F)) : (⟨S1024x8, .f32⟩ : BufTy).Contents (Elt F) :=
  extractStridedSlice S1024x8 ![0, 3904] (val_main_v0 (F := F) x2) slices_S1024x3912_S1024x8_0_3904

-- %cst = stablehlo.constant dense<0.000000e+00> : tensor<f32>
def val_main_cst : (⟨S_, .f32⟩ : BufTy).Contents (Elt F) :=
  constant S_ .f32 0x00000000#32

-- %12 = stablehlo.broadcast_in_dim %cst, dims = [] : (tensor<f32>) -> tensor<1024x16xf32>
def val_main_v12 : (⟨S1024x16, .f32⟩ : BufTy).Contents (Elt F) :=
  broadcastInDim S1024x16 ![] bcast_S_S1024x16 (val_main_cst (F := F))

-- %cst_0 = stablehlo.constant dense<0.000000e+00> : tensor<f32>
def val_main_cst_0 : (⟨S_, .f32⟩ : BufTy).Contents (Elt F) :=
  constant S_ .f32 0x00000000#32

-- %13 = stablehlo.broadcast_in_dim %cst_0, dims = [] : (tensor<f32>) -> tensor<1024x40xf32>
def val_main_v13 : (⟨S1024x40, .f32⟩ : BufTy).Contents (Elt F) :=
  broadcastInDim S1024x40 ![] bcast_S_S1024x40 (val_main_cst_0 (F := F))

-- %cst_1 = stablehlo.constant dense<0.000000e+00> : tensor<f32>
def val_main_cst_1 : (⟨S_, .f32⟩ : BufTy).Contents (Elt F) :=
  constant S_ .f32 0x00000000#32

-- %14 = stablehlo.broadcast_in_dim %cst_1, dims = [] : (tensor<f32>) -> tensor<1024x128xf32>
def val_main_v14 : (⟨S1024x128, .f32⟩ : BufTy).Contents (Elt F) :=
  broadcastInDim S1024x128 ![] bcast_S_S1024x128 (val_main_cst_1 (F := F))

-- %15 = stablehlo.concatenate %1, %2, %3, %4, %5, %8, dim = 1 : (tensor<1024x512xf32>, tensor<1024x512xf32>, tensor<1024x512xf32>, tensor<1024x512xf32>, tensor<1024x512xf32>, tensor<1024x512xf32>) -> tensor<1024x3072xf32>
def val_main_v15 (x2 : (⟨S1x1024x3912, .f32⟩ : BufTy).Contents (Elt F)) : (⟨S1024x3072, .f32⟩ : BufTy).Contents (Elt F) :=
  (concatenate S1024x3072 1 [⟨S1024x512, ((val_main_v1 (F := F) x2) : (⟨S1024x512, .f32⟩ : BufTy).Contents (Elt F))⟩, ⟨S1024x512, ((val_main_v2 (F := F) x2) : (⟨S1024x512, .f32⟩ : BufTy).Contents (Elt F))⟩, ⟨S1024x512, ((val_main_v3 (F := F) x2) : (⟨S1024x512, .f32⟩ : BufTy).Contents (Elt F))⟩, ⟨S1024x512, ((val_main_v4 (F := F) x2) : (⟨S1024x512, .f32⟩ : BufTy).Contents (Elt F))⟩, ⟨S1024x512, ((val_main_v5 (F := F) x2) : (⟨S1024x512, .f32⟩ : BufTy).Contents (Elt F))⟩, ⟨S1024x512, ((val_main_v8 (F := F) x2) : (⟨S1024x512, .f32⟩ : BufTy).Contents (Elt F))⟩] concatenates_S1024x512_S1024x512_S1024x512_S1024x512_S1024x512_S1024x512_S1024x3072_d1 : (⟨S1024x3072, .f32⟩ : BufTy).Contents (Elt F))

-- %16 = stablehlo.convert %15 : (tensor<1024x3072xf32>) -> tensor<1024x3072xbf16>
def val_main_v16 (x2 : (⟨S1x1024x3912, .f32⟩ : BufTy).Contents (Elt F)) : (⟨S1024x3072, .bf16⟩ : BufTy).Contents (Elt F) :=
  truncf .bf16 (val_main_v15 (F := F) x2) bitsLt_bf16_f32

-- %17 = stablehlo.concatenate %9, %6, %7, %10, %12, %11, %13, %14, dim = 1 : (tensor<1024x512xf32>, tensor<1024x128xf32>, tensor<1024x128xf32>, tensor<1024x64xf32>, tensor<1024x16xf32>, tensor<1024x8xf32>, tensor<1024x40xf32>, tensor<1024x128xf32>) -> tensor<1024x1024xf32>
def val_main_v17 (x2 : (⟨S1x1024x3912, .f32⟩ : BufTy).Contents (Elt F)) : (⟨S1024x1024, .f32⟩ : BufTy).Contents (Elt F) :=
  (concatenate S1024x1024 1 [⟨S1024x512, ((val_main_v9 (F := F) x2) : (⟨S1024x512, .f32⟩ : BufTy).Contents (Elt F))⟩, ⟨S1024x128, ((val_main_v6 (F := F) x2) : (⟨S1024x128, .f32⟩ : BufTy).Contents (Elt F))⟩, ⟨S1024x128, ((val_main_v7 (F := F) x2) : (⟨S1024x128, .f32⟩ : BufTy).Contents (Elt F))⟩, ⟨S1024x64, ((val_main_v10 (F := F) x2) : (⟨S1024x64, .f32⟩ : BufTy).Contents (Elt F))⟩, ⟨S1024x16, ((val_main_v12 (F := F)) : (⟨S1024x16, .f32⟩ : BufTy).Contents (Elt F))⟩, ⟨S1024x8, ((val_main_v11 (F := F) x2) : (⟨S1024x8, .f32⟩ : BufTy).Contents (Elt F))⟩, ⟨S1024x40, ((val_main_v13 (F := F)) : (⟨S1024x40, .f32⟩ : BufTy).Contents (Elt F))⟩, ⟨S1024x128, ((val_main_v14 (F := F)) : (⟨S1024x128, .f32⟩ : BufTy).Contents (Elt F))⟩] concatenates_S1024x512_S1024x128_S1024x128_S1024x64_S1024x16_S1024x8_S1024x40_S1024x128_S1024x1024_d1 : (⟨S1024x1024, .f32⟩ : BufTy).Contents (Elt F))

-- %18 = stablehlo.reshape %arg1 : (tensor<1x1024xf32>) -> tensor<1024xf32>
def val_main_v18 (x1 : (⟨S1x1024, .f32⟩ : BufTy).Contents (Elt F)) : (⟨S1024, .f32⟩ : BufTy).Contents (Elt F) :=
  shapeCast _ (x1) shapeCasts_S1x1024_S1024

-- %19 = stablehlo.broadcast_in_dim %18, dims = [1] : (tensor<1024xf32>) -> tensor<1x1024xf32>
def val_main_v19 (x1 : (⟨S1x1024, .f32⟩ : BufTy).Contents (Elt F)) : (⟨S1x1024, .f32⟩ : BufTy).Contents (Elt F) :=
  broadcastInDim S1x1024 ![1] bcast_S1024_S1x1024_1 (val_main_v18 (F := F) x1)

-- %cst_2 = stablehlo.constant dense<0.000000e+00> : tensor<f32>
def val_main_cst_2 : (⟨S_, .f32⟩ : BufTy).Contents (Elt F) :=
  constant S_ .f32 0x00000000#32

-- %22 = stablehlo.broadcast_in_dim %cst_2, dims = [] : (tensor<f32>) -> tensor<16x4x128x128xf32>
def val_main_v22 : (⟨S16x4x128x128, .f32⟩ : BufTy).Contents (Elt F) :=
  broadcastInDim S16x4x128x128 ![] bcast_S_S16x4x128x128 (val_main_cst_2 (F := F))

-- %23 = stablehlo.reshape %arg0 : (tensor<16x2048x1024xf32>) -> tensor<32768x1024xf32>
def val_main_v23 (x0 : (⟨S16x2048x1024, .f32⟩ : BufTy).Contents (Elt F)) : (⟨S32768x1024, .f32⟩ : BufTy).Contents (Elt F) :=
  shapeCast _ (x0) shapeCasts_S16x2048x1024_S32768x1024

-- %24 = stablehlo.iota dim = 0 : tensor<2048xi32>
def val_main_v24 : (⟨S2048, .i32⟩ : BufTy).Contents (Elt F) :=
  iotaInDim S2048 32 0

-- %25 = stablehlo.reshape %24 : (tensor<2048xi32>) -> tensor<1x2048xi32>
def val_main_v25 : (⟨S1x2048, .i32⟩ : BufTy).Contents (Elt F) :=
  shapeCast _ (val_main_v24 (F := F)) shapeCasts_S2048_S1x2048

-- %26 = stablehlo.broadcast_in_dim %25, dims = [0, 1] : (tensor<1x2048xi32>) -> tensor<1x2048xi32>
def val_main_v26 : (⟨S1x2048, .i32⟩ : BufTy).Contents (Elt F) :=
  broadcastInDim S1x2048 ![0, 1] bcast_S1x2048_S1x2048_0_1 (val_main_v25 (F := F))

-- %27 = stablehlo.reshape %26 : (tensor<1x2048xi32>) -> tensor<2048xi32>
def val_main_v27 : (⟨S2048, .i32⟩ : BufTy).Contents (Elt F) :=
  shapeCast _ (val_main_v26 (F := F)) shapeCasts_S1x2048_S2048

-- %c = stablehlo.constant dense<0> : tensor<i32>
def val_main_c : (⟨S_, .i32⟩ : BufTy).Contents (Elt F) :=
  constantI S_ 32 0#32

-- %28 = stablehlo.broadcast_in_dim %c, dims = [] : (tensor<i32>) -> tensor<2048xi32>
def val_main_v28 : (⟨S2048, .i32⟩ : BufTy).Contents (Elt F) :=
  broadcastInDim S2048 ![] bcast_S_S2048 (val_main_c (F := F))

-- %29 = stablehlo.add %28, %27 : tensor<2048xi32>
def val_main_v29 : (⟨S2048, .i32⟩ : BufTy).Contents (Elt F) :=
  addi (val_main_v28 (F := F)) (val_main_v27 (F := F))

-- %30 = stablehlo.convert %29 : (tensor<2048xi32>) -> tensor<2048xf32>
def val_main_v30 : (⟨S2048, .f32⟩ : BufTy).Contents (Elt F) :=
  sitofp .f32 (val_main_v29 (F := F))

-- %31 = stablehlo.broadcast_in_dim %30, dims = [0] : (tensor<2048xf32>) -> tensor<2048x1xf32>
def val_main_v31 : (⟨S2048x1, .f32⟩ : BufTy).Contents (Elt F) :=
  broadcastInDim S2048x1 ![0] bcast_S2048_S2048x1_0 (val_main_v30 (F := F))

-- %32 = stablehlo.iota dim = 0 : tensor<64xf32>
def val_main_v32 : (⟨S64, .f32⟩ : BufTy).Contents (Elt F) :=
  sitofp .f32 (iotaInDim S64 32 0)

-- %33 = stablehlo.negate %32 : tensor<64xf32>
def val_main_v33 : (⟨S64, .f32⟩ : BufTy).Contents (Elt F) :=
  Host.negf (val_main_v32 (F := F))

-- %cst_3 = stablehlo.constant dense<6.400000e+01> : tensor<f32>
def val_main_cst_3 : (⟨S_, .f32⟩ : BufTy).Contents (Elt F) :=
  constant S_ .f32 0x42800000#32

-- %34 = stablehlo.broadcast_in_dim %cst_3, dims = [] : (tensor<f32>) -> tensor<64xf32>
def val_main_v34 : (⟨S64, .f32⟩ : BufTy).Contents (Elt F) :=
  broadcastInDim S64 ![] bcast_S_S64 (val_main_cst_3 (F := F))

-- %35 = stablehlo.divide %33, %34 : tensor<64xf32>
def val_main_v35 : (⟨S64, .f32⟩ : BufTy).Contents (Elt F) :=
  Host.divf (val_main_v33 (F := F)) (val_main_v34 (F := F))

-- %cst_4 = stablehlo.constant dense<1.000000e+04> : tensor<f32>
def val_main_cst_4 : (⟨S_, .f32⟩ : BufTy).Contents (Elt F) :=
  constant S_ .f32 0x461C4000#32

-- %36 = stablehlo.broadcast_in_dim %cst_4, dims = [] : (tensor<f32>) -> tensor<64xf32>
def val_main_v36 : (⟨S64, .f32⟩ : BufTy).Contents (Elt F) :=
  broadcastInDim S64 ![] bcast_S_S64 (val_main_cst_4 (F := F))

-- %37 = stablehlo.power %36, %35 : tensor<64xf32>
def val_main_v37 : (⟨S64, .f32⟩ : BufTy).Contents (Elt F) :=
  Host.powf (val_main_v36 (F := F)) (val_main_v35 (F := F))

-- %38 = stablehlo.broadcast_in_dim %37, dims = [1] : (tensor<64xf32>) -> tensor<1x64xf32>
def val_main_v38 : (⟨S1x64, .f32⟩ : BufTy).Contents (Elt F) :=
  broadcastInDim S1x64 ![1] bcast_S64_S1x64_1 (val_main_v37 (F := F))

-- %39 = stablehlo.broadcast_in_dim %31, dims = [0, 1] : (tensor<2048x1xf32>) -> tensor<2048x64xf32>
def val_main_v39 : (⟨S2048x64, .f32⟩ : BufTy).Contents (Elt F) :=
  broadcastInDim S2048x64 ![0, 1] bcast_S2048x1_S2048x64_0_1 (val_main_v31 (F := F))

-- %40 = stablehlo.broadcast_in_dim %38, dims = [0, 1] : (tensor<1x64xf32>) -> tensor<2048x64xf32>
def val_main_v40 : (⟨S2048x64, .f32⟩ : BufTy).Contents (Elt F) :=
  broadcastInDim S2048x64 ![0, 1] bcast_S1x64_S2048x64_0_1 (val_main_v38 (F := F))

-- %41 = stablehlo.multiply %39, %40 : tensor<2048x64xf32>
def val_main_v41 : (⟨S2048x64, .f32⟩ : BufTy).Contents (Elt F) :=
  mulf (val_main_v39 (F := F)) (val_main_v40 (F := F))

-- %42 = stablehlo.cosine %41 : tensor<2048x64xf32>
def val_main_v42 : (⟨S2048x64, .f32⟩ : BufTy).Contents (Elt F) :=
  Host.cos (val_main_v41 (F := F))

-- %43 = stablehlo.cosine %41 : tensor<2048x64xf32>
def val_main_v43 : (⟨S2048x64, .f32⟩ : BufTy).Contents (Elt F) :=
  Host.cos (val_main_v41 (F := F))

-- %44 = stablehlo.concatenate %42, %43, dim = 1 : (tensor<2048x64xf32>, tensor<2048x64xf32>) -> tensor<2048x128xf32>
def val_main_v44 : (⟨S2048x128, .f32⟩ : BufTy).Contents (Elt F) :=
  concatenate S2048x128 1 [⟨S2048x64, (val_main_v42 (F := F))⟩, ⟨S2048x64, (val_main_v43 (F := F))⟩] concatenates_S2048x64_S2048x64_S2048x128_d1

-- %45 = stablehlo.sine %41 : tensor<2048x64xf32>
def val_main_v45 : (⟨S2048x64, .f32⟩ : BufTy).Contents (Elt F) :=
  Host.sin (val_main_v41 (F := F))

-- %46 = stablehlo.negate %45 : tensor<2048x64xf32>
def val_main_v46 : (⟨S2048x64, .f32⟩ : BufTy).Contents (Elt F) :=
  Host.negf (val_main_v45 (F := F))

-- %47 = stablehlo.sine %41 : tensor<2048x64xf32>
def val_main_v47 : (⟨S2048x64, .f32⟩ : BufTy).Contents (Elt F) :=
  Host.sin (val_main_v41 (F := F))

-- %48 = stablehlo.concatenate %46, %47, dim = 1 : (tensor<2048x64xf32>, tensor<2048x64xf32>) -> tensor<2048x128xf32>
def val_main_v48 : (⟨S2048x128, .f32⟩ : BufTy).Contents (Elt F) :=
  concatenate S2048x128 1 [⟨S2048x64, (val_main_v46 (F := F))⟩, ⟨S2048x64, (val_main_v47 (F := F))⟩] concatenates_S2048x64_S2048x64_S2048x128_d1

-- %49 = stablehlo.iota dim = 0 : tensor<8xf32>
def val_main_v49 : (⟨S8, .f32⟩ : BufTy).Contents (Elt F) :=
  sitofp .f32 (iotaInDim S8 32 0)

-- %50 = stablehlo.negate %49 : tensor<8xf32>
def val_main_v50 : (⟨S8, .f32⟩ : BufTy).Contents (Elt F) :=
  Host.negf (val_main_v49 (F := F))

-- %cst_5 = stablehlo.constant dense<8.000000e+00> : tensor<f32>
def val_main_cst_5 : (⟨S_, .f32⟩ : BufTy).Contents (Elt F) :=
  constant S_ .f32 0x41000000#32

-- %51 = stablehlo.broadcast_in_dim %cst_5, dims = [] : (tensor<f32>) -> tensor<8xf32>
def val_main_v51 : (⟨S8, .f32⟩ : BufTy).Contents (Elt F) :=
  broadcastInDim S8 ![] bcast_S_S8 (val_main_cst_5 (F := F))

-- %52 = stablehlo.divide %50, %51 : tensor<8xf32>
def val_main_v52 : (⟨S8, .f32⟩ : BufTy).Contents (Elt F) :=
  Host.divf (val_main_v50 (F := F)) (val_main_v51 (F := F))

-- %cst_6 = stablehlo.constant dense<5.000000e+05> : tensor<f32>
def val_main_cst_6 : (⟨S_, .f32⟩ : BufTy).Contents (Elt F) :=
  constant S_ .f32 0x48F42400#32

-- %53 = stablehlo.broadcast_in_dim %cst_6, dims = [] : (tensor<f32>) -> tensor<8xf32>
def val_main_v53 : (⟨S8, .f32⟩ : BufTy).Contents (Elt F) :=
  broadcastInDim S8 ![] bcast_S_S8 (val_main_cst_6 (F := F))

-- %54 = stablehlo.power %53, %52 : tensor<8xf32>
def val_main_v54 : (⟨S8, .f32⟩ : BufTy).Contents (Elt F) :=
  Host.powf (val_main_v53 (F := F)) (val_main_v52 (F := F))

-- %55 = stablehlo.broadcast_in_dim %54, dims = [1] : (tensor<8xf32>) -> tensor<1x8xf32>
def val_main_v55 : (⟨S1x8, .f32⟩ : BufTy).Contents (Elt F) :=
  broadcastInDim S1x8 ![1] bcast_S8_S1x8_1 (val_main_v54 (F := F))

-- %56 = stablehlo.broadcast_in_dim %31, dims = [0, 1] : (tensor<2048x1xf32>) -> tensor<2048x8xf32>
def val_main_v56 : (⟨S2048x8, .f32⟩ : BufTy).Contents (Elt F) :=
  broadcastInDim S2048x8 ![0, 1] bcast_S2048x1_S2048x8_0_1 (val_main_v31 (F := F))

-- %57 = stablehlo.broadcast_in_dim %55, dims = [0, 1] : (tensor<1x8xf32>) -> tensor<2048x8xf32>
def val_main_v57 : (⟨S2048x8, .f32⟩ : BufTy).Contents (Elt F) :=
  broadcastInDim S2048x8 ![0, 1] bcast_S1x8_S2048x8_0_1 (val_main_v55 (F := F))

-- %58 = stablehlo.multiply %56, %57 : tensor<2048x8xf32>
def val_main_v58 : (⟨S2048x8, .f32⟩ : BufTy).Contents (Elt F) :=
  mulf (val_main_v56 (F := F)) (val_main_v57 (F := F))

-- %59 = stablehlo.cosine %58 : tensor<2048x8xf32>
def val_main_v59 : (⟨S2048x8, .f32⟩ : BufTy).Contents (Elt F) :=
  Host.cos (val_main_v58 (F := F))

-- %60 = stablehlo.cosine %58 : tensor<2048x8xf32>
def val_main_v60 : (⟨S2048x8, .f32⟩ : BufTy).Contents (Elt F) :=
  Host.cos (val_main_v58 (F := F))

-- %cst_7 = stablehlo.constant dense<1.000000e+00> : tensor<f32>
def val_main_cst_7 : (⟨S_, .f32⟩ : BufTy).Contents (Elt F) :=
  constant S_ .f32 0x3F800000#32

-- %61 = stablehlo.broadcast_in_dim %cst_7, dims = [] : (tensor<f32>) -> tensor<2048x48xf32>
def val_main_v61 : (⟨S2048x48, .f32⟩ : BufTy).Contents (Elt F) :=
  broadcastInDim S2048x48 ![] bcast_S_S2048x48 (val_main_cst_7 (F := F))

-- %62 = stablehlo.concatenate %59, %60, %61, dim = 1 : (tensor<2048x8xf32>, tensor<2048x8xf32>, tensor<2048x48xf32>) -> tensor<2048x64xf32>
def val_main_v62 : (⟨S2048x64, .f32⟩ : BufTy).Contents (Elt F) :=
  (concatenate S2048x64 1 [⟨S2048x8, ((val_main_v59 (F := F)) : (⟨S2048x8, .f32⟩ : BufTy).Contents (Elt F))⟩, ⟨S2048x8, ((val_main_v60 (F := F)) : (⟨S2048x8, .f32⟩ : BufTy).Contents (Elt F))⟩, ⟨S2048x48, ((val_main_v61 (F := F)) : (⟨S2048x48, .f32⟩ : BufTy).Contents (Elt F))⟩] concatenates_S2048x8_S2048x8_S2048x48_S2048x64_d1 : (⟨S2048x64, .f32⟩ : BufTy).Contents (Elt F))

-- %63 = stablehlo.sine %58 : tensor<2048x8xf32>
def val_main_v63 : (⟨S2048x8, .f32⟩ : BufTy).Contents (Elt F) :=
  Host.sin (val_main_v58 (F := F))

-- %64 = stablehlo.negate %63 : tensor<2048x8xf32>
def val_main_v64 : (⟨S2048x8, .f32⟩ : BufTy).Contents (Elt F) :=
  Host.negf (val_main_v63 (F := F))

-- %cst_8 = stablehlo.constant dense<0.000000e+00> : tensor<f32>
def val_main_cst_8 : (⟨S_, .f32⟩ : BufTy).Contents (Elt F) :=
  constant S_ .f32 0x00000000#32

-- %65 = stablehlo.broadcast_in_dim %cst_8, dims = [] : (tensor<f32>) -> tensor<2048x56xf32>
def val_main_v65 : (⟨S2048x56, .f32⟩ : BufTy).Contents (Elt F) :=
  broadcastInDim S2048x56 ![] bcast_S_S2048x56 (val_main_cst_8 (F := F))

-- %66 = stablehlo.concatenate %64, %65, dim = 1 : (tensor<2048x8xf32>, tensor<2048x56xf32>) -> tensor<2048x64xf32>
def val_main_v66 : (⟨S2048x64, .f32⟩ : BufTy).Contents (Elt F) :=
  concatenate S2048x64 1 [⟨S2048x8, (val_main_v64 (F := F))⟩, ⟨S2048x56, (val_main_v65 (F := F))⟩] concatenates_S2048x8_S2048x56_S2048x64_d1

-- %cst_9 = stablehlo.constant dense<0.000000e+00> : tensor<f32>
def val_main_cst_9 : (⟨S_, .f32⟩ : BufTy).Contents (Elt F) :=
  constant S_ .f32 0x00000000#32

-- %67 = stablehlo.broadcast_in_dim %cst_9, dims = [] : (tensor<f32>) -> tensor<2048x8xf32>
def val_main_v67 : (⟨S2048x8, .f32⟩ : BufTy).Contents (Elt F) :=
  broadcastInDim S2048x8 ![] bcast_S_S2048x8 (val_main_cst_9 (F := F))

-- %68 = stablehlo.sine %58 : tensor<2048x8xf32>
def val_main_v68 : (⟨S2048x8, .f32⟩ : BufTy).Contents (Elt F) :=
  Host.sin (val_main_v58 (F := F))

-- %cst_10 = stablehlo.constant dense<0.000000e+00> : tensor<f32>
def val_main_cst_10 : (⟨S_, .f32⟩ : BufTy).Contents (Elt F) :=
  constant S_ .f32 0x00000000#32

-- %69 = stablehlo.broadcast_in_dim %cst_10, dims = [] : (tensor<f32>) -> tensor<2048x48xf32>
def val_main_v69 : (⟨S2048x48, .f32⟩ : BufTy).Contents (Elt F) :=
  broadcastInDim S2048x48 ![] bcast_S_S2048x48 (val_main_cst_10 (F := F))

-- %70 = stablehlo.concatenate %67, %68, %69, dim = 1 : (tensor<2048x8xf32>, tensor<2048x8xf32>, tensor<2048x48xf32>) -> tensor<2048x64xf32>
def val_main_v70 : (⟨S2048x64, .f32⟩ : BufTy).Contents (Elt F) :=
  (concatenate S2048x64 1 [⟨S2048x8, ((val_main_v67 (F := F)) : (⟨S2048x8, .f32⟩ : BufTy).Contents (Elt F))⟩, ⟨S2048x8, ((val_main_v68 (F := F)) : (⟨S2048x8, .f32⟩ : BufTy).Contents (Elt F))⟩, ⟨S2048x48, ((val_main_v69 (F := F)) : (⟨S2048x48, .f32⟩ : BufTy).Contents (Elt F))⟩] concatenates_S2048x8_S2048x8_S2048x48_S2048x64_d1 : (⟨S2048x64, .f32⟩ : BufTy).Contents (Elt F))

-- %71 = stablehlo.concatenate %62, %62, dim = 1 : (tensor<2048x64xf32>, tensor<2048x64xf32>) -> tensor<2048x128xf32>
def val_main_v71 : (⟨S2048x128, .f32⟩ : BufTy).Contents (Elt F) :=
  concatenate S2048x128 1 [⟨S2048x64, (val_main_v62 (F := F))⟩, ⟨S2048x64, (val_main_v62 (F := F))⟩] concatenates_S2048x64_S2048x64_S2048x128_d1

-- %72 = stablehlo.concatenate %66, %66, dim = 1 : (tensor<2048x64xf32>, tensor<2048x64xf32>) -> tensor<2048x128xf32>
def val_main_v72 : (⟨S2048x128, .f32⟩ : BufTy).Contents (Elt F) :=
  concatenate S2048x128 1 [⟨S2048x64, (val_main_v66 (F := F))⟩, ⟨S2048x64, (val_main_v66 (F := F))⟩] concatenates_S2048x64_S2048x64_S2048x128_d1

-- %73 = stablehlo.concatenate %70, %70, dim = 1 : (tensor<2048x64xf32>, tensor<2048x64xf32>) -> tensor<2048x128xf32>
def val_main_v73 : (⟨S2048x128, .f32⟩ : BufTy).Contents (Elt F) :=
  concatenate S2048x128 1 [⟨S2048x64, (val_main_v70 (F := F))⟩, ⟨S2048x64, (val_main_v70 (F := F))⟩] concatenates_S2048x64_S2048x64_S2048x128_d1

-- %74 = stablehlo.iota dim = 0 : tensor<4xf32>
def val_main_v74 : (⟨S4, .f32⟩ : BufTy).Contents (Elt F) :=
  sitofp .f32 (iotaInDim S4 32 0)

-- %cst_11 = stablehlo.constant dense<-5.000000e+00> : tensor<f32>
def val_main_cst_11 : (⟨S_, .f32⟩ : BufTy).Contents (Elt F) :=
  constant S_ .f32 0xC0A00000#32

-- %75 = stablehlo.broadcast_in_dim %cst_11, dims = [] : (tensor<f32>) -> tensor<4xf32>
def val_main_v75 : (⟨S4, .f32⟩ : BufTy).Contents (Elt F) :=
  broadcastInDim S4 ![] bcast_S_S4 (val_main_cst_11 (F := F))

-- %76 = stablehlo.subtract %75, %74 : tensor<4xf32>
def val_main_v76 : (⟨S4, .f32⟩ : BufTy).Contents (Elt F) :=
  subf (val_main_v75 (F := F)) (val_main_v74 (F := F))

-- %cst_12 = stablehlo.constant dense<0.693147182> : tensor<f32>
def val_main_cst_12 : (⟨S_, .f32⟩ : BufTy).Contents (Elt F) :=
  constant S_ .f32 0x3F317218#32

-- %77 = stablehlo.broadcast_in_dim %cst_12, dims = [] : (tensor<f32>) -> tensor<4xf32>
def val_main_v77 : (⟨S4, .f32⟩ : BufTy).Contents (Elt F) :=
  broadcastInDim S4 ![] bcast_S_S4 (val_main_cst_12 (F := F))

-- %78 = stablehlo.multiply %77, %76 : tensor<4xf32>
def val_main_v78 : (⟨S4, .f32⟩ : BufTy).Contents (Elt F) :=
  mulf (val_main_v77 (F := F)) (val_main_v76 (F := F))

-- %79 = stablehlo.exponential %78 : tensor<4xf32>
def val_main_v79 : (⟨S4, .f32⟩ : BufTy).Contents (Elt F) :=
  Host.exp (val_main_v78 (F := F))

-- %80 = stablehlo.negate %79 : tensor<4xf32>
def val_main_v80 : (⟨S4, .f32⟩ : BufTy).Contents (Elt F) :=
  Host.negf (val_main_v79 (F := F))

-- %81 = stablehlo.log_plus_one %80 : tensor<4xf32>
def val_main_v81 : (⟨S4, .f32⟩ : BufTy).Contents (Elt F) :=
  Host.log1p (val_main_v80 (F := F))

-- %82 = stablehlo.broadcast_in_dim %81, dims = [0] : (tensor<4xf32>) -> tensor<4x1x1xf32>
def val_main_v82 : (⟨S4x1x1, .f32⟩ : BufTy).Contents (Elt F) :=
  broadcastInDim S4x1x1 ![0] bcast_S4_S4x1x1_0 (val_main_v81 (F := F))

-- %83 = stablehlo.iota dim = 0 : tensor<256xf32>
def val_main_v83 : (⟨S256, .f32⟩ : BufTy).Contents (Elt F) :=
  sitofp .f32 (iotaInDim S256 32 0)

-- %cst_15 = stablehlo.constant dense<2.550000e+02> : tensor<f32>
def val_main_cst_15 : (⟨S_, .f32⟩ : BufTy).Contents (Elt F) :=
  constant S_ .f32 0x437F0000#32

-- %116 = stablehlo.broadcast_in_dim %cst_15, dims = [] : (tensor<f32>) -> tensor<256xf32>
def val_main_v116 : (⟨S256, .f32⟩ : BufTy).Contents (Elt F) :=
  broadcastInDim S256 ![] bcast_S_S256 (val_main_cst_15 (F := F))

-- %117 = stablehlo.subtract %116, %83 : tensor<256xf32>
def val_main_v117 : (⟨S256, .f32⟩ : BufTy).Contents (Elt F) :=
  subf (val_main_v116 (F := F)) (val_main_v83 (F := F))

-- %118 = stablehlo.broadcast_in_dim %117, dims = [1] : (tensor<256xf32>) -> tensor<1x256x1xf32>
def val_main_v118 : (⟨S1x256x1, .f32⟩ : BufTy).Contents (Elt F) :=
  broadcastInDim S1x256x1 ![1] bcast_S256_S1x256x1_1 (val_main_v117 (F := F))

-- %119 = stablehlo.broadcast_in_dim %82, dims = [0, 1, 2] : (tensor<4x1x1xf32>) -> tensor<4x256x1xf32>
def val_main_v119 : (⟨S4x256x1, .f32⟩ : BufTy).Contents (Elt F) :=
  broadcastInDim S4x256x1 ![0, 1, 2] bcast_S4x1x1_S4x256x1_0_1_2 (val_main_v82 (F := F))

-- %120 = stablehlo.broadcast_in_dim %118, dims = [0, 1, 2] : (tensor<1x256x1xf32>) -> tensor<4x256x1xf32>
def val_main_v120 : (⟨S4x256x1, .f32⟩ : BufTy).Contents (Elt F) :=
  broadcastInDim S4x256x1 ![0, 1, 2] bcast_S1x256x1_S4x256x1_0_1_2 (val_main_v118 (F := F))

-- %121 = stablehlo.multiply %119, %120 : tensor<4x256x1xf32>
def val_main_v121 : (⟨S4x256x1, .f32⟩ : BufTy).Contents (Elt F) :=
  mulf (val_main_v119 (F := F)) (val_main_v120 (F := F))

-- %122 = stablehlo.exponential %121 : tensor<4x256x1xf32>
def val_main_v122 : (⟨S4x256x1, .f32⟩ : BufTy).Contents (Elt F) :=
  Host.exp (val_main_v121 (F := F))

-- %123 = stablehlo.broadcast_in_dim %122, dims = [0, 1, 2] : (tensor<4x256x1xf32>) -> tensor<4x256x128xf32>
def val_main_v123 : (⟨S4x256x128, .f32⟩ : BufTy).Contents (Elt F) :=
  broadcastInDim S4x256x128 ![0, 1, 2] bcast_S4x256x1_S4x256x128_0_1_2 (val_main_v122 (F := F))

-- %cst_17 = stablehlo.constant dense<2.560000e+02> : tensor<f32>
def val_main_cst_17 : (⟨S_, .f32⟩ : BufTy).Contents (Elt F) :=
  constant S_ .f32 0x43800000#32

-- %132 = stablehlo.broadcast_in_dim %cst_17, dims = [] : (tensor<f32>) -> tensor<4x1x1xf32>
def val_main_v132 : (⟨S4x1x1, .f32⟩ : BufTy).Contents (Elt F) :=
  broadcastInDim S4x1x1 ![] bcast_S_S4x1x1 (val_main_cst_17 (F := F))

-- %133 = stablehlo.multiply %82, %132 : tensor<4x1x1xf32>
def val_main_v133 : (⟨S4x1x1, .f32⟩ : BufTy).Contents (Elt F) :=
  mulf (val_main_v82 (F := F)) (val_main_v132 (F := F))

-- %134 = stablehlo.exponential %133 : tensor<4x1x1xf32>
def val_main_v134 : (⟨S4x1x1, .f32⟩ : BufTy).Contents (Elt F) :=
  Host.exp (val_main_v133 (F := F))

-- %135 = stablehlo.broadcast_in_dim %134, dims = [0, 1, 2] : (tensor<4x1x1xf32>) -> tensor<4x1x128xf32>
def val_main_v135 : (⟨S4x1x128, .f32⟩ : BufTy).Contents (Elt F) :=
  broadcastInDim S4x1x128 ![0, 1, 2] bcast_S4x1x1_S4x1x128_0_1_2 (val_main_v134 (F := F))

end Cert.Proof.Proj.HostPrompt
end
-- ==== Proof.Proj.HostV.lean ====
module

public import proofs.«01_k».proof.Proof.Gen.Kernel3Ideal.Frame.Runs
public import proofs.«01_k».proof.Proof.Proj.HostPrompt
public import Idealize.ShloMosaic.Lib.StableHlo.Run

/-! What each array the kernel of `Kernel3Ideal` is launched on holds: the value its host operations compute. -/

@[expose] public section
set_option maxHeartbeats 4000000
set_option maxRecDepth 20000
noncomputable section
namespace Cert.Proof.Proj.HostV
open Cert.Kernel3Ideal Cert.Kernel3Ideal.Gen Idealize.ShloMosaic Idealize.ShloMosaic.TcCoe Idealize.SL.Sem Idealize.ShloMosaic.StableHlo Cert.Proof.Proj.HostPrompt

variable {F : FTy → Type} [FloatOps F]
variable (m : (ℓ : Loc nD τ sig) → Buf (Elt F) ℓ) (c : Dev nD)

theorem v23 : V m c main_v23 = val_main_v23 (F := F) (m ((c : Thread nD τ).loc main_arg0)) := by
  show StableHlo.after _ _ _ = _
  simp only [hostOps0,hostOps0_1,hostOps0_2,hostOps0_3,hostOps0_4,hostOps0_5, List.flatten_cons, List.flatten_nil, List.append_nil, List.cons_append, List.nil_append]
  after_results_simp
  rfl

theorem v19 : V m c main_v19 = val_main_v19 (F := F) (m ((c : Thread nD τ).loc main_arg1)) := by
  show StableHlo.after _ _ _ = _
  simp only [hostOps0,hostOps0_1,hostOps0_2,hostOps0_3,hostOps0_4,hostOps0_5, List.flatten_cons, List.flatten_nil, List.append_nil, List.cons_append, List.nil_append]
  after_results_simp
  rfl

theorem v16 : V m c main_v16 = val_main_v16 (F := F) (m ((c : Thread nD τ).loc main_arg2)) := by
  show StableHlo.after _ _ _ = _
  simp only [hostOps0,hostOps0_1,hostOps0_2,hostOps0_3,hostOps0_4,hostOps0_5, List.flatten_cons, List.flatten_nil, List.append_nil, List.cons_append, List.nil_append]
  after_results_simp
  rfl

theorem v17 : V m c main_v17 = val_main_v17 (F := F) (m ((c : Thread nD τ).loc main_arg2)) := by
  show StableHlo.after _ _ _ = _
  simp only [hostOps0,hostOps0_1,hostOps0_2,hostOps0_3,hostOps0_4,hostOps0_5, List.flatten_cons, List.flatten_nil, List.append_nil, List.cons_append, List.nil_append]
  after_results_simp
  rfl

theorem v44 : V m c main_v44 = val_main_v44 (F := F)  := by
  show StableHlo.after _ _ _ = _
  simp only [hostOps0,hostOps0_1,hostOps0_2,hostOps0_3,hostOps0_4,hostOps0_5, List.flatten_cons, List.flatten_nil, List.append_nil, List.cons_append, List.nil_append]
  after_results_simp
  rfl

theorem v48 : V m c main_v48 = val_main_v48 (F := F)  := by
  show StableHlo.after _ _ _ = _
  simp only [hostOps0,hostOps0_1,hostOps0_2,hostOps0_3,hostOps0_4,hostOps0_5, List.flatten_cons, List.flatten_nil, List.append_nil, List.cons_append, List.nil_append]
  after_results_simp
  rfl

theorem v71 : V m c main_v71 = val_main_v71 (F := F)  := by
  show StableHlo.after _ _ _ = _
  simp only [hostOps0,hostOps0_1,hostOps0_2,hostOps0_3,hostOps0_4,hostOps0_5, List.flatten_cons, List.flatten_nil, List.append_nil, List.cons_append, List.nil_append]
  after_results_simp
  rfl

theorem v72 : V m c main_v72 = val_main_v72 (F := F)  := by
  show StableHlo.after _ _ _ = _
  simp only [hostOps0,hostOps0_1,hostOps0_2,hostOps0_3,hostOps0_4,hostOps0_5, List.flatten_cons, List.flatten_nil, List.append_nil, List.cons_append, List.nil_append]
  after_results_simp
  rfl

theorem v73 : V m c main_v73 = val_main_v73 (F := F)  := by
  show StableHlo.after _ _ _ = _
  simp only [hostOps0,hostOps0_1,hostOps0_2,hostOps0_3,hostOps0_4,hostOps0_5, List.flatten_cons, List.flatten_nil, List.append_nil, List.cons_append, List.nil_append]
  after_results_simp
  rfl

theorem v22 : V m c main_v22 = val_main_v22 (F := F)  := by
  show StableHlo.after _ _ _ = _
  simp only [hostOps0,hostOps0_1,hostOps0_2,hostOps0_3,hostOps0_4,hostOps0_5, List.flatten_cons, List.flatten_nil, List.append_nil, List.cons_append, List.nil_append]
  after_results_simp
  rfl

theorem v123 : V m c main_v123 = val_main_v123 (F := F)  := by
  show StableHlo.after _ _ _ = _
  simp only [hostOps0,hostOps0_1,hostOps0_2,hostOps0_3,hostOps0_4,hostOps0_5, List.flatten_cons, List.flatten_nil, List.append_nil, List.cons_append, List.nil_append]
  after_results_simp
  rfl

theorem v135 : V m c main_v135 = val_main_v135 (F := F)  := by
  show StableHlo.after _ _ _ = _
  simp only [hostOps0,hostOps0_1,hostOps0_2,hostOps0_3,hostOps0_4,hostOps0_5, List.flatten_cons, List.flatten_nil, List.append_nil, List.cons_append, List.nil_append]
  after_results_simp
  rfl

end Cert.Proof.Proj.HostV
end
-- ==== Proof.Proj.Blk.lean ====
module

public import proofs.«01_k».proof.Proof.Proj.HostV
public import proofs.«01_k».proof.Proof.Proj.Spec
public import Idealize.ShloMosaic.Lib.Pipeline.ValueKit.Point

/-! The input blocks of the prompt call, read at an index: what each entry is in terms of the arguments. -/

@[expose] public section
noncomputable section
namespace Cert.Proof.Proj.Blk
open Cert.Kernel3Ideal Cert.Kernel3Ideal.Gen Idealize.ShloMosaic Idealize.ShloMosaic.TcCoe Idealize.SL.Sem Cert.Proof.Proj.HostPrompt Cert.Proof.Proj.Spec

theorem ix_0 : ∀ t : Fin cfg0.N, win0_0.index t = ![t.val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![0, 0] := (by decide +kernel : ∀ t : Fin grid0.N, _)
theorem ix_3 : ∀ t : Fin cfg0.N, win0_3.index t = ![0, 0] := (by decide +kernel : ∀ t : Fin grid0.N, _)
theorem ix_4 : ∀ t : Fin cfg0.N, win0_4.index t = ![t.val % 4, 0] := (by decide +kernel : ∀ t : Fin grid0.N, _)
theorem ix_5 : ∀ t : Fin cfg0.N, win0_5.index t = ![t.val % 4, 0] := (by decide +kernel : ∀ t : Fin grid0.N, _)
theorem ix_6 : ∀ t : Fin cfg0.N, win0_6.index t = ![t.val % 4, 0] := (by decide +kernel : ∀ t : Fin grid0.N, _)
theorem ix_7 : ∀ t : Fin cfg0.N, win0_7.index t = ![t.val % 4, 0] := (by decide +kernel : ∀ t : Fin grid0.N, _)
theorem ix_8 : ∀ t : Fin cfg0.N, win0_8.index t = ![t.val % 4, 0] := (by decide +kernel : ∀ t : Fin grid0.N, _)
theorem ix_9 : ∀ t : Fin cfg0.N, win0_9.index t = ![t.val / 4, 0, 0, 0] := (by decide +kernel : ∀ t : Fin grid0.N, _)
theorem ix_11 : ∀ t : Fin cfg0.N, win0_11.index t = ![0, 0, 0] := (by decide +kernel : ∀ t : Fin grid0.N, _)
theorem ix_13 : ∀ t : Fin cfg0.N, win0_13.index t = ![0, 0, 0] := (by decide +kernel : ∀ t : Fin grid0.N, _)

theorem rd (x2 : S1x1024x3912.Idx → EReal) (d : Fin 1024) {a b : ℕ} (ha : a < 3912) (hb : b < 3912) (e : a = b) :
    x2 (ix3 0 d ⟨a, ha⟩) = x2 (ix3 0 d ⟨b, hb⟩) := by subst e; rfl

theorem addi_zero (p : BitVec 32) : IntOp.addi (0#32) p = p := BitVec.zero_add p

variable (m : (ℓ : Loc nD τ sig) → Buf (Elt Ideal) ℓ) (c : Dev nD) (t : Fin cfg0.N)

/-- The arguments: the activations, the gain and the weights. -/
abbrev a0 : S16x2048x1024.Idx → EReal := m ((c : Thread nD τ).loc main_arg0)
abbrev a1 : S1x1024.Idx → EReal := m ((c : Thread nD τ).loc main_arg1)
abbrev a2 : S1x1024x3912.Idx → EReal := m ((c : Thread nD τ).loc main_arg2)

theorem b0 (r : Fin 512) (d : Fin 1024) :
    (iblk m c 0 t : Vec Ideal S512x1024 .f32) (ix2 r d)
      = a0 m c (ix3 ⟨(t.val * 512 + r.val) / 2048, by have := t.isLt; have : cfg0.N = 64 := rfl; omega⟩ ⟨(t.val * 512 + r.val) % 2048, by omega⟩ d) := by
  have ht : t.val < 64 := t.isLt
  have e : (iblk m c 0 t : Vec Ideal S512x1024 .f32) (ix2 r d) = (V m c main_v23 : Vec Ideal S32768x1024 .f32) (ix2 ⟨t.val * 512 + r.val, by omega⟩ d) := by
    blk_ext [iblk, ix_0]
  rw [e, HostV.v23]
  pointwise [val_main_v23]

theorem b1 (d : Fin 1024) : (iblk m c 1 t : Vec Ideal S1x1024 .f32) (ix2 0 d) = a1 m c (ix2 0 d) := by
  have e : (iblk m c 1 t : Vec Ideal S1x1024 .f32) (ix2 0 d) = (V m c main_v19 : Vec Ideal S1x1024 .f32) (ix2 0 d) := by
    blk_ext [iblk, ix_1]
  rw [e, HostV.v19]
  pointwise [val_main_v19, val_main_v18]

theorem b2 (d : Fin 1024) {j k : ℕ} (hj : j < 3072) (hk : k < 3912) (hjk : j < 2560 ∧ k = j ∨ 2560 ≤ j ∧ k = 256 + j) :
    (iblk m c 2 t : Vec Ideal S1024x3072 .bf16) (ix2 d ⟨j, hj⟩) = a2 m c (ix3 0 d ⟨k, hk⟩) := by
  have e : (iblk m c 2 t : Vec Ideal S1024x3072 .bf16) (ix2 d ⟨j, hj⟩) = (V m c main_v16 : Vec Ideal S1024x3072 .bf16) (ix2 d ⟨j, hj⟩) := by
    blk_ext [iblk, ix_2]
  rw [e, HostV.v16]
  pointwise [val_main_v0, val_main_v1, val_main_v2, val_main_v3, val_main_v4, val_main_v5, val_main_v6, val_main_v7, val_main_v8, val_main_v9, val_main_v10, val_main_v11, val_main_cst, val_main_v12, val_main_cst_0, val_main_v13, val_main_cst_1, val_main_v14, val_main_v15, val_main_v16, val_main_v17, val_main_v18, val_main_v19, val_main_cst_2, val_main_v22, val_main_v23, val_main_v24, val_main_v25, val_main_v26, val_main_v27, val_main_c, val_main_v28, val_main_v29, val_main_v30, val_main_v31, val_main_v32, val_main_v33, val_main_cst_3, val_main_v34, val_main_v35, val_main_cst_4, val_main_v36, val_main_v37, val_main_v38, val_main_v39, val_main_v40, val_main_v41, val_main_v42, val_main_v43, val_main_v44, val_main_v45, val_main_v46, val_main_v47, val_main_v48, val_main_v49, val_main_v50, val_main_cst_5, val_main_v51, val_main_v52, val_main_cst_6, val_main_v53, val_main_v54, val_main_v55, val_main_v56, val_main_v57, val_main_v58, val_main_v59, val_main_v60, val_main_cst_7, val_main_v61, val_main_v62, val_main_v63, val_main_v64, val_main_cst_8, val_main_v65, val_main_v66, val_main_cst_9, val_main_v67, val_main_v68, val_main_cst_10, val_main_v69, val_main_v70, val_main_v71, val_main_v72, val_main_v73, val_main_v74, val_main_cst_11, val_main_v75, val_main_v76, val_main_cst_12, val_main_v77, val_main_v78, val_main_v79, val_main_v80, val_main_v81, val_main_v82, val_main_v83, val_main_cst_15, val_main_v116, val_main_v117, val_main_v118, val_main_v119, val_main_v120, val_main_v121, val_main_v122, val_main_v123, val_main_cst_17, val_main_v132, val_main_v133, val_main_v134, val_main_v135]
  split_ifs <;> first | exact rd _ _ _ _ (by omega) | (exfalso; omega)

theorem b3 (d : Fin 1024) {j k : ℕ} (hj : j < 1024) (hk : k < 3912)
    (hjk : j < 512 ∧ k = 3328 + j ∨ 512 ≤ j ∧ j < 768 ∧ k = 2048 + j ∨ 768 ≤ j ∧ j < 832 ∧ k = 3072 + j ∨ 848 ≤ j ∧ j < 856 ∧ k = 3056 + j) :
    (iblk m c 3 t : Vec Ideal S1024x1024 .f32) (ix2 d ⟨j, hj⟩) = a2 m c (ix3 0 d ⟨k, hk⟩) := by
  have e : (iblk m c 3 t : Vec Ideal S1024x1024 .f32) (ix2 d ⟨j, hj⟩) = (V m c main_v17 : Vec Ideal S1024x1024 .f32) (ix2 d ⟨j, hj⟩) := by
    blk_ext [iblk, ix_3]
  rw [e, HostV.v17]
  pointwise [val_main_v0, val_main_v1, val_main_v2, val_main_v3, val_main_v4, val_main_v5, val_main_v6, val_main_v7, val_main_v8, val_main_v9, val_main_v10, val_main_v11, val_main_cst, val_main_v12, val_main_cst_0, val_main_v13, val_main_cst_1, val_main_v14, val_main_v15, val_main_v16, val_main_v17, val_main_v18, val_main_v19, val_main_cst_2, val_main_v22, val_main_v23, val_main_v24, val_main_v25, val_main_v26, val_main_v27, val_main_c, val_main_v28, val_main_v29, val_main_v30, val_main_v31, val_main_v32, val_main_v33, val_main_cst_3, val_main_v34, val_main_v35, val_main_cst_4, val_main_v36, val_main_v37, val_main_v38, val_main_v39, val_main_v40, val_main_v41, val_main_v42, val_main_v43, val_main_v44, val_main_v45, val_main_v46, val_main_v47, val_main_v48, val_main_v49, val_main_v50, val_main_cst_5, val_main_v51, val_main_v52, val_main_cst_6, val_main_v53, val_main_v54, val_main_v55, val_main_v56, val_main_v57, val_main_v58, val_main_v59, val_main_v60, val_main_cst_7, val_main_v61, val_main_v62, val_main_v63, val_main_v64, val_main_cst_8, val_main_v65, val_main_v66, val_main_cst_9, val_main_v67, val_main_v68, val_main_cst_10, val_main_v69, val_main_v70, val_main_v71, val_main_v72, val_main_v73, val_main_v74, val_main_cst_11, val_main_v75, val_main_v76, val_main_cst_12, val_main_v77, val_main_v78, val_main_v79, val_main_v80, val_main_v81, val_main_v82, val_main_v83, val_main_cst_15, val_main_v116, val_main_v117, val_main_v118, val_main_v119, val_main_v120, val_main_v121, val_main_v122, val_main_v123, val_main_cst_17, val_main_v132, val_main_v133, val_main_v134, val_main_v135]
  split_ifs <;> first | exact rd _ _ _ _ (by omega) | (exfalso; omega)

theorem b4 (r : Fin 512) (l : Fin 128) :
    (iblk m c 4 t : Vec Ideal S512x128 .f32) (ix2 r l)
      = Ideal.cos (angR ((t.val * 512 + r.val) % 2048) (if l.val < 64 then l.val else l.val - 64)) := by
  have ht : t.val < 64 := t.isLt
  have e : (iblk m c 4 t : Vec Ideal S512x128 .f32) (ix2 r l) = (V m c main_v44 : Vec Ideal S2048x128 .f32) (ix2 ⟨(t.val * 512 + r.val) % 2048, by omega⟩ l) := by
    blk_ext [iblk, ix_4]
  rw [e, HostV.v44]
  pointwise [val_main_v0, val_main_v1, val_main_v2, val_main_v3, val_main_v4, val_main_v5, val_main_v6, val_main_v7, val_main_v8, val_main_v9, val_main_v10, val_main_v11, val_main_cst, val_main_v12, val_main_cst_0, val_main_v13, val_main_cst_1, val_main_v14, val_main_v15, val_main_v16, val_main_v17, val_main_v18, val_main_v19, val_main_cst_2, val_main_v22, val_main_v23, val_main_v24, val_main_v25, val_main_v26, val_main_v27, val_main_c, val_main_v28, val_main_v29, val_main_v30, val_main_v31, val_main_v32, val_main_v33, val_main_cst_3, val_main_v34, val_main_v35, val_main_cst_4, val_main_v36, val_main_v37, val_main_v38, val_main_v39, val_main_v40, val_main_v41, val_main_v42, val_main_v43, val_main_v44, val_main_v45, val_main_v46, val_main_v47, val_main_v48, val_main_v49, val_main_v50, val_main_cst_5, val_main_v51, val_main_v52, val_main_cst_6, val_main_v53, val_main_v54, val_main_v55, val_main_v56, val_main_v57, val_main_v58, val_main_v59, val_main_v60, val_main_cst_7, val_main_v61, val_main_v62, val_main_v63, val_main_v64, val_main_cst_8, val_main_v65, val_main_v66, val_main_cst_9, val_main_v67, val_main_v68, val_main_cst_10, val_main_v69, val_main_v70, val_main_v71, val_main_v72, val_main_v73, val_main_v74, val_main_cst_11, val_main_v75, val_main_v76, val_main_cst_12, val_main_v77, val_main_v78, val_main_v79, val_main_v80, val_main_v81, val_main_v82, val_main_v83, val_main_cst_15, val_main_v116, val_main_v117, val_main_v118, val_main_v119, val_main_v120, val_main_v121, val_main_v122, val_main_v123, val_main_cst_17, val_main_v132, val_main_v133, val_main_v134, val_main_v135]
  simp only [addi_zero]
  split_ifs <;> rfl

theorem b5 (r : Fin 512) (l : Fin 128) :
    (iblk m c 5 t : Vec Ideal S512x128 .f32) (ix2 r l)
      = if l.val < 64 then -Ideal.sin (angR ((t.val * 512 + r.val) % 2048) l.val)
        else Ideal.sin (angR ((t.val * 512 + r.val) % 2048) (l.val - 64)) := by
  have ht : t.val < 64 := t.isLt
  have e : (iblk m c 5 t : Vec Ideal S512x128 .f32) (ix2 r l) = (V m c main_v48 : Vec Ideal S2048x128 .f32) (ix2 ⟨(t.val * 512 + r.val) % 2048, by omega⟩ l) := by
    blk_ext [iblk, ix_5]
  rw [e, HostV.v48]
  pointwise [val_main_v0, val_main_v1, val_main_v2, val_main_v3, val_main_v4, val_main_v5, val_main_v6, val_main_v7, val_main_v8, val_main_v9, val_main_v10, val_main_v11, val_main_cst, val_main_v12, val_main_cst_0, val_main_v13, val_main_cst_1, val_main_v14, val_main_v15, val_main_v16, val_main_v17, val_main_v18, val_main_v19, val_main_cst_2, val_main_v22, val_main_v23, val_main_v24, val_main_v25, val_main_v26, val_main_v27, val_main_c, val_main_v28, val_main_v29, val_main_v30, val_main_v31, val_main_v32, val_main_v33, val_main_cst_3, val_main_v34, val_main_v35, val_main_cst_4, val_main_v36, val_main_v37, val_main_v38, val_main_v39, val_main_v40, val_main_v41, val_main_v42, val_main_v43, val_main_v44, val_main_v45, val_main_v46, val_main_v47, val_main_v48, val_main_v49, val_main_v50, val_main_cst_5, val_main_v51, val_main_v52, val_main_cst_6, val_main_v53, val_main_v54, val_main_v55, val_main_v56, val_main_v57, val_main_v58, val_main_v59, val_main_v60, val_main_cst_7, val_main_v61, val_main_v62, val_main_v63, val_main_v64, val_main_cst_8, val_main_v65, val_main_v66, val_main_cst_9, val_main_v67, val_main_v68, val_main_cst_10, val_main_v69, val_main_v70, val_main_v71, val_main_v72, val_main_v73, val_main_v74, val_main_cst_11, val_main_v75, val_main_v76, val_main_cst_12, val_main_v77, val_main_v78, val_main_v79, val_main_v80, val_main_v81, val_main_v82, val_main_v83, val_main_cst_15, val_main_v116, val_main_v117, val_main_v118, val_main_v119, val_main_v120, val_main_v121, val_main_v122, val_main_v123, val_main_cst_17, val_main_v132, val_main_v133, val_main_v134, val_main_v135]
  simp only [addi_zero]
  split_ifs <;> rfl

theorem b6 (r : Fin 512) (l : Fin 128) :
    (iblk m c 6 t : Vec Ideal S512x128 .f32) (ix2 r l)
      = if l.val % 64 < 8 then Ideal.cos (angA ((t.val * 512 + r.val) % 2048) (l.val % 64))
        else if l.val % 64 < 16 then Ideal.cos (angA ((t.val * 512 + r.val) % 2048) (l.val % 64 - 8)) else 1 := by
  have ht : t.val < 64 := t.isLt
  have e : (iblk m c 6 t : Vec Ideal S512x128 .f32) (ix2 r l) = (V m c main_v71 : Vec Ideal S2048x128 .f32) (ix2 ⟨(t.val * 512 + r.val) % 2048, by omega⟩ l) := by
    blk_ext [iblk, ix_6]
  rw [e, HostV.v71]
  pointwise [val_main_v0, val_main_v1, val_main_v2, val_main_v3, val_main_v4, val_main_v5, val_main_v6, val_main_v7, val_main_v8, val_main_v9, val_main_v10, val_main_v11, val_main_cst, val_main_v12, val_main_cst_0, val_main_v13, val_main_cst_1, val_main_v14, val_main_v15, val_main_v16, val_main_v17, val_main_v18, val_main_v19, val_main_cst_2, val_main_v22, val_main_v23, val_main_v24, val_main_v25, val_main_v26, val_main_v27, val_main_c, val_main_v28, val_main_v29, val_main_v30, val_main_v31, val_main_v32, val_main_v33, val_main_cst_3, val_main_v34, val_main_v35, val_main_cst_4, val_main_v36, val_main_v37, val_main_v38, val_main_v39, val_main_v40, val_main_v41, val_main_v42, val_main_v43, val_main_v44, val_main_v45, val_main_v46, val_main_v47, val_main_v48, val_main_v49, val_main_v50, val_main_cst_5, val_main_v51, val_main_v52, val_main_cst_6, val_main_v53, val_main_v54, val_main_v55, val_main_v56, val_main_v57, val_main_v58, val_main_v59, val_main_v60, val_main_cst_7, val_main_v61, val_main_v62, val_main_v63, val_main_v64, val_main_cst_8, val_main_v65, val_main_v66, val_main_cst_9, val_main_v67, val_main_v68, val_main_cst_10, val_main_v69, val_main_v70, val_main_v71, val_main_v72, val_main_v73, val_main_v74, val_main_cst_11, val_main_v75, val_main_v76, val_main_cst_12, val_main_v77, val_main_v78, val_main_v79, val_main_v80, val_main_v81, val_main_v82, val_main_v83, val_main_cst_15, val_main_v116, val_main_v117, val_main_v118, val_main_v119, val_main_v120, val_main_v121, val_main_v122, val_main_v123, val_main_cst_17, val_main_v132, val_main_v133, val_main_v134, val_main_v135]
  simp only [addi_zero]
  rcases Nat.lt_or_ge l.val 64 with h | h
  · rw [show l.val % 64 = l.val by omega]
    split_ifs <;> first | rfl | (exfalso; omega)
  · rw [show l.val % 64 = l.val - 64 by omega]
    split_ifs <;> first | rfl | (exfalso; omega)

theorem b7 (r : Fin 512) (l : Fin 128) :
    (iblk m c 7 t : Vec Ideal S512x128 .f32) (ix2 r l)
      = if l.val % 64 < 8 then -Ideal.sin (angA ((t.val * 512 + r.val) % 2048) (l.val % 64)) else 0 := by
  have ht : t.val < 64 := t.isLt
  have e : (iblk m c 7 t : Vec Ideal S512x128 .f32) (ix2 r l) = (V m c main_v72 : Vec Ideal S2048x128 .f32) (ix2 ⟨(t.val * 512 + r.val) % 2048, by omega⟩ l) := by
    blk_ext [iblk, ix_7]
  rw [e, HostV.v72]
  pointwise [val_main_v0, val_main_v1, val_main_v2, val_main_v3, val_main_v4, val_main_v5, val_main_v6, val_main_v7, val_main_v8, val_main_v9, val_main_v10, val_main_v11, val_main_cst, val_main_v12, val_main_cst_0, val_main_v13, val_main_cst_1, val_main_v14, val_main_v15, val_main_v16, val_main_v17, val_main_v18, val_main_v19, val_main_cst_2, val_main_v22, val_main_v23, val_main_v24, val_main_v25, val_main_v26, val_main_v27, val_main_c, val_main_v28, val_main_v29, val_main_v30, val_main_v31, val_main_v32, val_main_v33, val_main_cst_3, val_main_v34, val_main_v35, val_main_cst_4, val_main_v36, val_main_v37, val_main_v38, val_main_v39, val_main_v40, val_main_v41, val_main_v42, val_main_v43, val_main_v44, val_main_v45, val_main_v46, val_main_v47, val_main_v48, val_main_v49, val_main_v50, val_main_cst_5, val_main_v51, val_main_v52, val_main_cst_6, val_main_v53, val_main_v54, val_main_v55, val_main_v56, val_main_v57, val_main_v58, val_main_v59, val_main_v60, val_main_cst_7, val_main_v61, val_main_v62, val_main_v63, val_main_v64, val_main_cst_8, val_main_v65, val_main_v66, val_main_cst_9, val_main_v67, val_main_v68, val_main_cst_10, val_main_v69, val_main_v70, val_main_v71, val_main_v72, val_main_v73, val_main_v74, val_main_cst_11, val_main_v75, val_main_v76, val_main_cst_12, val_main_v77, val_main_v78, val_main_v79, val_main_v80, val_main_v81, val_main_v82, val_main_v83, val_main_cst_15, val_main_v116, val_main_v117, val_main_v118, val_main_v119, val_main_v120, val_main_v121, val_main_v122, val_main_v123, val_main_cst_17, val_main_v132, val_main_v133, val_main_v134, val_main_v135]
  simp only [addi_zero]
  rcases Nat.lt_or_ge l.val 64 with h | h
  · rw [show l.val % 64 = l.val by omega]
    split_ifs <;> first | rfl | (exfalso; omega)
  · rw [show l.val % 64 = l.val - 64 by omega]
    split_ifs <;> first | rfl | (exfalso; omega)

theorem b8 (r : Fin 512) (l : Fin 128) :
    (iblk m c 8 t : Vec Ideal S512x128 .f32) (ix2 r l)
      = if l.val % 64 < 8 then 0
        else if l.val % 64 < 16 then Ideal.sin (angA ((t.val * 512 + r.val) % 2048) (l.val % 64 - 8)) else 0 := by
  have ht : t.val < 64 := t.isLt
  have e : (iblk m c 8 t : Vec Ideal S512x128 .f32) (ix2 r l) = (V m c main_v73 : Vec Ideal S2048x128 .f32) (ix2 ⟨(t.val * 512 + r.val) % 2048, by omega⟩ l) := by
    blk_ext [iblk, ix_8]
  rw [e, HostV.v73]
  pointwise [val_main_v0, val_main_v1, val_main_v2, val_main_v3, val_main_v4, val_main_v5, val_main_v6, val_main_v7, val_main_v8, val_main_v9, val_main_v10, val_main_v11, val_main_cst, val_main_v12, val_main_cst_0, val_main_v13, val_main_cst_1, val_main_v14, val_main_v15, val_main_v16, val_main_v17, val_main_v18, val_main_v19, val_main_cst_2, val_main_v22, val_main_v23, val_main_v24, val_main_v25, val_main_v26, val_main_v27, val_main_c, val_main_v28, val_main_v29, val_main_v30, val_main_v31, val_main_v32, val_main_v33, val_main_cst_3, val_main_v34, val_main_v35, val_main_cst_4, val_main_v36, val_main_v37, val_main_v38, val_main_v39, val_main_v40, val_main_v41, val_main_v42, val_main_v43, val_main_v44, val_main_v45, val_main_v46, val_main_v47, val_main_v48, val_main_v49, val_main_v50, val_main_cst_5, val_main_v51, val_main_v52, val_main_cst_6, val_main_v53, val_main_v54, val_main_v55, val_main_v56, val_main_v57, val_main_v58, val_main_v59, val_main_v60, val_main_cst_7, val_main_v61, val_main_v62, val_main_v63, val_main_v64, val_main_cst_8, val_main_v65, val_main_v66, val_main_cst_9, val_main_v67, val_main_v68, val_main_cst_10, val_main_v69, val_main_v70, val_main_v71, val_main_v72, val_main_v73, val_main_v74, val_main_cst_11, val_main_v75, val_main_v76, val_main_cst_12, val_main_v77, val_main_v78, val_main_v79, val_main_v80, val_main_v81, val_main_v82, val_main_v83, val_main_cst_15, val_main_v116, val_main_v117, val_main_v118, val_main_v119, val_main_v120, val_main_v121, val_main_v122, val_main_v123, val_main_cst_17, val_main_v132, val_main_v133, val_main_v134, val_main_v135]
  simp only [addi_zero]
  rcases Nat.lt_or_ge l.val 64 with h | h
  · rw [show l.val % 64 = l.val by omega]
    split_ifs <;> first | rfl | (exfalso; omega)
  · rw [show l.val % 64 = l.val - 64 by omega]
    split_ifs <;> first | rfl | (exfalso; omega)

theorem b9 (h : Fin 4) (d e : Fin 128) : (iblk m c 9 t : Vec Ideal S1x4x128x128 .f32) (ix4 0 h d e) = (0 : EReal) := by
  have ht : t.val < 64 := t.isLt
  have e1 : (iblk m c 9 t : Vec Ideal S1x4x128x128 .f32) (ix4 0 h d e) = (V m c main_v22 : Vec Ideal S16x4x128x128 .f32) (ix4 ⟨t.val / 4, by omega⟩ h d e) := by
    blk_ext [iblk, ix_9]
  rw [e1, HostV.v22]
  pointwise [val_main_v0, val_main_v1, val_main_v2, val_main_v3, val_main_v4, val_main_v5, val_main_v6, val_main_v7, val_main_v8, val_main_v9, val_main_v10, val_main_v11, val_main_cst, val_main_v12, val_main_cst_0, val_main_v13, val_main_cst_1, val_main_v14, val_main_v15, val_main_v16, val_main_v17, val_main_v18, val_main_v19, val_main_cst_2, val_main_v22, val_main_v23, val_main_v24, val_main_v25, val_main_v26, val_main_v27, val_main_c, val_main_v28, val_main_v29, val_main_v30, val_main_v31, val_main_v32, val_main_v33, val_main_cst_3, val_main_v34, val_main_v35, val_main_cst_4, val_main_v36, val_main_v37, val_main_v38, val_main_v39, val_main_v40, val_main_v41, val_main_v42, val_main_v43, val_main_v44, val_main_v45, val_main_v46, val_main_v47, val_main_v48, val_main_v49, val_main_v50, val_main_cst_5, val_main_v51, val_main_v52, val_main_cst_6, val_main_v53, val_main_v54, val_main_v55, val_main_v56, val_main_v57, val_main_v58, val_main_v59, val_main_v60, val_main_cst_7, val_main_v61, val_main_v62, val_main_v63, val_main_v64, val_main_cst_8, val_main_v65, val_main_v66, val_main_cst_9, val_main_v67, val_main_v68, val_main_cst_10, val_main_v69, val_main_v70, val_main_v71, val_main_v72, val_main_v73, val_main_v74, val_main_cst_11, val_main_v75, val_main_v76, val_main_cst_12, val_main_v77, val_main_v78, val_main_v79, val_main_v80, val_main_v81, val_main_v82, val_main_v83, val_main_cst_15, val_main_v116, val_main_v117, val_main_v118, val_main_v119, val_main_v120, val_main_v121, val_main_v122, val_main_v123, val_main_cst_17, val_main_v132, val_main_v133, val_main_v134, val_main_v135]

theorem b11 (h : Fin 4) (n : Fin 256) (l : Fin 128) :
    (iblk m c 11 t : Vec Ideal S4x256x128 .f32) (ix3 h n l) = dec h.val (256 - 1 - n.val) := by
  have e : (iblk m c 11 t : Vec Ideal S4x256x128 .f32) (ix3 h n l) = (V m c main_v123 : Vec Ideal S4x256x128 .f32) (ix3 h n l) := by
    blk_ext [iblk, ix_11]
  rw [e, HostV.v123]
  pointwise [val_main_v0, val_main_v1, val_main_v2, val_main_v3, val_main_v4, val_main_v5, val_main_v6, val_main_v7, val_main_v8, val_main_v9, val_main_v10, val_main_v11, val_main_cst, val_main_v12, val_main_cst_0, val_main_v13, val_main_cst_1, val_main_v14, val_main_v15, val_main_v16, val_main_v17, val_main_v18, val_main_v19, val_main_cst_2, val_main_v22, val_main_v23, val_main_v24, val_main_v25, val_main_v26, val_main_v27, val_main_c, val_main_v28, val_main_v29, val_main_v30, val_main_v31, val_main_v32, val_main_v33, val_main_cst_3, val_main_v34, val_main_v35, val_main_cst_4, val_main_v36, val_main_v37, val_main_v38, val_main_v39, val_main_v40, val_main_v41, val_main_v42, val_main_v43, val_main_v44, val_main_v45, val_main_v46, val_main_v47, val_main_v48, val_main_v49, val_main_v50, val_main_cst_5, val_main_v51, val_main_v52, val_main_cst_6, val_main_v53, val_main_v54, val_main_v55, val_main_v56, val_main_v57, val_main_v58, val_main_v59, val_main_v60, val_main_cst_7, val_main_v61, val_main_v62, val_main_v63, val_main_v64, val_main_cst_8, val_main_v65, val_main_v66, val_main_cst_9, val_main_v67, val_main_v68, val_main_cst_10, val_main_v69, val_main_v70, val_main_v71, val_main_v72, val_main_v73, val_main_v74, val_main_cst_11, val_main_v75, val_main_v76, val_main_cst_12, val_main_v77, val_main_v78, val_main_v79, val_main_v80, val_main_v81, val_main_v82, val_main_v83, val_main_cst_15, val_main_v116, val_main_v117, val_main_v118, val_main_v119, val_main_v120, val_main_v121, val_main_v122, val_main_v123, val_main_cst_17, val_main_v132, val_main_v133, val_main_v134, val_main_v135]
  rw [c_255, sitofp_ofNat n.val (by omega), ← EReal.coe_sub]
  show Ideal.exp (lg h.val * _) = _
  rw [dec]
  congr 3
  rw [Nat.cast_sub (by omega)]
  norm_num

theorem b13 (h : Fin 4) (l : Fin 128) : (iblk m c 13 t : Vec Ideal S4x1x128 .f32) (ix3 h 0 l) = dec h.val 256 := by
  have e : (iblk m c 13 t : Vec Ideal S4x1x128 .f32) (ix3 h 0 l) = (V m c main_v135 : Vec Ideal S4x1x128 .f32) (ix3 h 0 l) := by
    blk_ext [iblk, ix_13]
  rw [e, HostV.v135]
  pointwise [val_main_v0, val_main_v1, val_main_v2, val_main_v3, val_main_v4, val_main_v5, val_main_v6, val_main_v7, val_main_v8, val_main_v9, val_main_v10, val_main_v11, val_main_cst, val_main_v12, val_main_cst_0, val_main_v13, val_main_cst_1, val_main_v14, val_main_v15, val_main_v16, val_main_v17, val_main_v18, val_main_v19, val_main_cst_2, val_main_v22, val_main_v23, val_main_v24, val_main_v25, val_main_v26, val_main_v27, val_main_c, val_main_v28, val_main_v29, val_main_v30, val_main_v31, val_main_v32, val_main_v33, val_main_cst_3, val_main_v34, val_main_v35, val_main_cst_4, val_main_v36, val_main_v37, val_main_v38, val_main_v39, val_main_v40, val_main_v41, val_main_v42, val_main_v43, val_main_v44, val_main_v45, val_main_v46, val_main_v47, val_main_v48, val_main_v49, val_main_v50, val_main_cst_5, val_main_v51, val_main_v52, val_main_cst_6, val_main_v53, val_main_v54, val_main_v55, val_main_v56, val_main_v57, val_main_v58, val_main_v59, val_main_v60, val_main_cst_7, val_main_v61, val_main_v62, val_main_v63, val_main_v64, val_main_cst_8, val_main_v65, val_main_v66, val_main_cst_9, val_main_v67, val_main_v68, val_main_cst_10, val_main_v69, val_main_v70, val_main_v71, val_main_v72, val_main_v73, val_main_v74, val_main_cst_11, val_main_v75, val_main_v76, val_main_cst_12, val_main_v77, val_main_v78, val_main_v79, val_main_v80, val_main_v81, val_main_v82, val_main_v83, val_main_cst_15, val_main_v116, val_main_v117, val_main_v118, val_main_v119, val_main_v120, val_main_v121, val_main_v122, val_main_v123, val_main_cst_17, val_main_v132, val_main_v133, val_main_v134, val_main_v135]
  rw [c_256]
  show Ideal.exp (lg h.val * _) = _
  rw [dec]
  norm_num

end Cert.Proof.Proj.Blk
end
-- ==== Proof.Proj.TileAt.lean ====
module

public import proofs.«01_k».proof.Proof.Proj.Blk
public import proofs.«01_k».proof.Proof.Proj.Tile

/-! The operands of the tile at each grid point: the tile at point `t` covers rows `512 t` to `512 t + 511` of all batches' rows. -/

@[expose] public section
set_option maxHeartbeats 400000
noncomputable section
namespace Cert.Proof.Proj.TileAt
open Cert.Kernel3Ideal Cert.Kernel3Ideal.Gen Idealize.ShloMosaic Idealize.ShloMosaic.TcCoe Idealize.SL.Sem Cert.Proof.Proj.Spec Cert.Proof.Proj.Blk
  Cert.Proof.Proj.Tile

section
variable (x0 : Vec Ideal S512x1024 .f32) (x1 : Vec Ideal S1x1024 .f32)

theorem pay7_at (r : Fin 512) (d : Fin 1024) :
    (k0_pay7 (F := Ideal) (View.ld x0 (Rect.unit ![0, 0] ![512, 1024] inb_S512x1024_S512x1024_0_0)) (View.ld x1 (Rect.unit ![0, 0] ![1, 1024] inb_S1x1024_S1x1024_0_0))) (ix2 r d)
      = nrm (fun k => x0 (ix2 r k)) (fun k => x1 (ix2 0 k)) d := by
  unfold_payloads
  pointwise
  rfl

theorem pay6_at (r : Fin 512) (d : Fin 1024) :
    (k0_pay6 (F := Ideal) (View.ld x0 (Rect.unit ![0, 0] ![512, 1024] inb_S512x1024_S512x1024_0_0)) (View.ld x1 (Rect.unit ![0, 0] ![1, 1024] inb_S1x1024_S1x1024_0_0))) (ix2 r d)
      = nrm (fun k => x0 (ix2 r k)) (fun k => x1 (ix2 0 k)) d := by
  unfold_payloads
  pointwise
  rfl
end

theorem pay8_at (x : Vec Ideal S512x128 .f32) (r : Fin 512) (l : Fin 128) :
    (k0_pay8 (F := Ideal) (View.ld x (Rect.unit ![0, 0] ![512, 128] inb_S512x128_S512x128_0_0))) (ix2 r l) = x (ix2 r l) := by
  unfold_payloads
  pointwise
theorem pay9_at (x : Vec Ideal S512x128 .f32) (r : Fin 512) (l : Fin 128) :
    (k0_pay9 (F := Ideal) (View.ld x (Rect.unit ![0, 0] ![512, 128] inb_S512x128_S512x128_0_0))) (ix2 r l) = x (ix2 r l) := by
  unfold_payloads
  pointwise
theorem pay10_at (x : Vec Ideal S512x128 .f32) (r : Fin 512) (l : Fin 128) :
    (k0_pay10 (F := Ideal) (View.ld x (Rect.unit ![0, 0] ![512, 128] inb_S512x128_S512x128_0_0))) (ix2 r l) = x (ix2 r l) := by
  unfold_payloads
  pointwise
theorem pay11_at (x : Vec Ideal S512x128 .f32) (r : Fin 512) (l : Fin 128) :
    (k0_pay11 (F := Ideal) (View.ld x (Rect.unit ![0, 0] ![512, 128] inb_S512x128_S512x128_0_0))) (ix2 r l) = x (ix2 r l) := by
  unfold_payloads
  pointwise
theorem pay12_at (x : Vec Ideal S512x128 .f32) (r : Fin 512) (l : Fin 128) :
    (k0_pay12 (F := Ideal) (View.ld x (Rect.unit ![0, 0] ![512, 128] inb_S512x128_S512x128_0_0))) (ix2 r l) = x (ix2 r l) := by
  unfold_payloads
  pointwise

variable (m : (ℓ : Loc nD τ sig) → Buf (Elt Ideal) ℓ) (c : Dev nD)

/-- Column `k` of the projection of row `R` of all batches' rows. -/
def YR (R k : ℕ) : EReal := Y (a0 m c) (a1 m c) (a2 m c) (R / 2048) (R % 2048) k

theorem row (t : Fin cfg0.N) (r : Fin 512) (w : Fin 1024 → EReal) {k : ℕ} (hk : k < 3912) (hw : ∀ d, w d = a2 m c (ix3 0 d ⟨k, hk⟩)) :
    prj (fun d => (iblk m c 0 t : Vec Ideal S512x1024 .f32) (ix2 r d)) (fun d => (iblk m c 1 t : Vec Ideal S1x1024 .f32) (ix2 0 d)) w
      = YR m c (t.val * 512 + r.val) k := by
  have ht : t.val < 64 := t.isLt
  have h0 := funext (b0 m c t r)
  have h1 := funext (b1 m c t)
  have h2 := funext hw
  rw [h0, h1, h2]
  exact Y_mk _ _ _ _ _ _

/-- The operands of the tile at point `t`. -/
theorem tile (t : Fin cfg0.N) : Tile
    (k0_pay7 (F := Ideal) (View.ld (iblk m c 0 t) (Rect.unit ![0, 0] ![512, 1024] inb_S512x1024_S512x1024_0_0)) (View.ld (iblk m c 1 t) (Rect.unit ![0, 0] ![1, 1024] inb_S1x1024_S1x1024_0_0)))
    (k0_pay6 (F := Ideal) (View.ld (iblk m c 0 t) (Rect.unit ![0, 0] ![512, 1024] inb_S512x1024_S512x1024_0_0)) (View.ld (iblk m c 1 t) (Rect.unit ![0, 0] ![1, 1024] inb_S1x1024_S1x1024_0_0)))
    (k0_pay8 (F := Ideal) (View.ld (iblk m c 4 t) (Rect.unit ![0, 0] ![512, 128] inb_S512x128_S512x128_0_0)))
    (k0_pay9 (F := Ideal) (View.ld (iblk m c 5 t) (Rect.unit ![0, 0] ![512, 128] inb_S512x128_S512x128_0_0)))
    (k0_pay10 (F := Ideal) (View.ld (iblk m c 6 t) (Rect.unit ![0, 0] ![512, 128] inb_S512x128_S512x128_0_0)))
    (k0_pay11 (F := Ideal) (View.ld (iblk m c 7 t) (Rect.unit ![0, 0] ![512, 128] inb_S512x128_S512x128_0_0)))
    (k0_pay12 (F := Ideal) (View.ld (iblk m c 8 t) (Rect.unit ![0, 0] ![512, 128] inb_S512x128_S512x128_0_0)))
    (iblk m c 2 t) (iblk m c 3 t) (iblk m c 11 t) (iblk m c 13 t)
    (fun r k => YR m c (t.val * 512 + r) k) (fun r => (t.val * 512 + r) % 2048) where
  main r j s k hs hk := by
    subst hs
    have hj := j.isLt
    refine (Finset.sum_congr rfl fun x _ => congrArg (· * (iblk m c 2 t : Vec Ideal S1024x3072 .bf16) (ix2 x j)) (pay7_at _ _ r x)).trans ?_
    exact row m c t r (fun x => (iblk m c 2 t : Vec Ideal S1024x3072 .bf16) (ix2 x j)) (by omega) fun d => b2 m c t d j.isLt (by omega) hk
  sel r j s k hs hk := by
    subst hs
    have hj := j.isLt
    refine (Finset.sum_congr rfl fun x _ => congrArg (· * (iblk m c 3 t : Vec Ideal S1024x1024 .f32) (ix2 x j)) (pay6_at _ _ r x)).trans ?_
    exact row m c t r (fun x => (iblk m c 3 t : Vec Ideal S1024x1024 .f32) (ix2 x j)) (by omega) fun d => b3 m c t d j.isLt (by omega) hk
  c1 r l s i hs hi := by subst hs hi; exact (pay8_at _ r l).trans (b4 m c t r l)
  c2 r l s i hs hi := by subst hs hi; exact (pay9_at _ r l).trans (b5 m c t r l)
  ca r l s i hs hi := by subst hs hi; exact (pay10_at _ r l).trans (b6 m c t r l)
  s1 r l s i hs hi := by subst hs hi; exact (pay11_at _ r l).trans (b7 m c t r l)
  s2 r l s i hs hi := by subst hs hi; exact (pay12_at _ r l).trans (b8 m c t r l)
  te h n l k i hk hi := by subst hk hi; exact b11 m c t h n l
  cd h l k hk := by subst hk; exact b13 m c t h l

end Cert.Proof.Proj.TileAt
end
-- ==== Proof.Proj.Out.lean ====
module

public import proofs.«01_k».proof.Proof.Proj.CaseA
public import proofs.«01_k».proof.Proof.Proj.CaseB
public import proofs.«01_k».proof.Proof.Proj.CaseC
public import proofs.«01_k».proof.Proof.Proj.TileAt
public import proofs.«01_k».proof.Proof.Gen.Kernel3Ideal.Value

/-! The prompt call's outputs read at an index: the tiles' columns row by row, and each batch's state after its four tiles. -/

@[expose] public section
set_option maxHeartbeats 400000
noncomputable section
namespace Cert.Proof.Proj.Out
open Cert.Kernel3Ideal Cert.Kernel3Ideal.Gen Cert.Kernel3Ideal.Value Idealize.ShloMosaic Idealize.ShloMosaic.TcCoe Idealize.SL.Sem Cert.Proof.Proj.Spec
  Cert.Proof.Proj.Blk Cert.Proof.Proj.Tile Cert.Proof.Proj.Canon Cert.Proof.Proj.TileAt

variable (m : (ℓ : Loc nD τ sig) → Buf (Elt Ideal) ℓ) (c : Dev nD)

/-- The tile's columns and positions. -/
abbrev YT (t r k : ℕ) : EReal := YR m c (t * 512 + r) k
abbrev PT (t r : ℕ) : ℕ := (t * 512 + r) % 2048

theorem t17 (t : Fin cfg0.N) (n : Fin 2) (w : Fin 512) (q : Fin 256) : (outsAt0 m c t.val t.isLt).2.2.1 (ix3 n w q) = gAq (YT m c t.val) (PT t.val) n.val w.val q.val := by
  by_cases h0 : t.val % 4 = 0
  · have h1 : ¬t.val % 4 = 3 := by omega
    rw [outsAt0_A m c t h0 h1]
    dsimp only
    rw [CaseA.o17]
    exact canon17 (tile m c t) n w q
  · by_cases h1 : t.val % 4 = 3
    · rw [outsAt0_C m c t h0 h1]
      dsimp only
      rw [CaseC.o17]
      exact canon17 (tile m c t) n w q
    · rw [outsAt0_B m c t h0 h1]
      dsimp only
      rw [CaseB.o17]
      exact canon17 (tile m c t) n w q

theorem t20 (t : Fin cfg0.N) (n : Fin 2) (w : Fin 512) (q : Fin 256) : (outsAt0 m c t.val t.isLt).2.2.2.2.2.1 (ix3 n w q) = gAg (YT m c t.val) n.val w.val q.val := by
  by_cases h0 : t.val % 4 = 0
  · have h1 : ¬t.val % 4 = 3 := by omega
    rw [outsAt0_A m c t h0 h1]
    dsimp only
    rw [CaseA.o20]
    exact canon20 (tile m c t) n w q
  · by_cases h1 : t.val % 4 = 3
    · rw [outsAt0_C m c t h0 h1]
      dsimp only
      rw [CaseC.o20]
      exact canon20 (tile m c t) n w q
    · rw [outsAt0_B m c t h0 h1]
      dsimp only
      rw [CaseB.o20]
      exact canon20 (tile m c t) n w q

theorem t21 (t : Fin cfg0.N) (n : Fin 2) (w : Fin 512) (q : Fin 256) : (outsAt0 m c t.val t.isLt).2.2.2.2.2.2.1 (ix3 n w q) = gIq (YT m c t.val) (PT t.val) n.val w.val q.val := by
  by_cases h0 : t.val % 4 = 0
  · have h1 : ¬t.val % 4 = 3 := by omega
    rw [outsAt0_A m c t h0 h1]
    dsimp only
    rw [CaseA.o21]
    exact canon21 (tile m c t) n w q
  · by_cases h1 : t.val % 4 = 3
    · rw [outsAt0_C m c t h0 h1]
      dsimp only
      rw [CaseC.o21]
      exact canon21 (tile m c t) n w q
    · rw [outsAt0_B m c t h0 h1]
      dsimp only
      rw [CaseB.o21]
      exact canon21 (tile m c t) n w q

theorem t23 (t : Fin cfg0.N) (n : Fin 2) (w : Fin 8) (q : Fin 256) : (outsAt0 m c t.val t.isLt).2.2.2.2.2.2.2.2.1 (ix3 n w q) = gIw (YT m c t.val) n.val w.val q.val := by
  by_cases h0 : t.val % 4 = 0
  · have h1 : ¬t.val % 4 = 3 := by omega
    rw [outsAt0_A m c t h0 h1]
    dsimp only
    rw [CaseA.o23]
    exact canon23 (tile m c t) n w q
  · by_cases h1 : t.val % 4 = 3
    · rw [outsAt0_C m c t h0 h1]
      dsimp only
      rw [CaseC.o23]
      exact canon23 (tile m c t) n w q
    · rw [outsAt0_B m c t h0 h1]
      dsimp only
      rw [CaseB.o23]
      exact canon23 (tile m c t) n w q

theorem t18 (t : Fin cfg0.N) (r : Fin 512) (l : Fin 128) : (outsAt0 m c t.val t.isLt).2.2.2.1 (ix2 r l) = gAk (YT m c t.val) (PT t.val) r.val l.val := by
  by_cases h0 : t.val % 4 = 0
  · have h1 : ¬t.val % 4 = 3 := by omega
    rw [outsAt0_A m c t h0 h1]
    dsimp only
    rw [CaseA.o18]
    exact canon18 (tile m c t) r l
  · by_cases h1 : t.val % 4 = 3
    · rw [outsAt0_C m c t h0 h1]
      dsimp only
      rw [CaseC.o18]
      exact canon18 (tile m c t) r l
    · rw [outsAt0_B m c t h0 h1]
      dsimp only
      rw [CaseB.o18]
      exact canon18 (tile m c t) r l

theorem t19 (t : Fin cfg0.N) (r : Fin 512) (l : Fin 128) : (outsAt0 m c t.val t.isLt).2.2.2.2.1 (ix2 r l) = gAv (YT m c t.val) r.val l.val := by
  by_cases h0 : t.val % 4 = 0
  · have h1 : ¬t.val % 4 = 3 := by omega
    rw [outsAt0_A m c t h0 h1]
    dsimp only
    rw [CaseA.o19]
    exact canon19 (tile m c t) r l
  · by_cases h1 : t.val % 4 = 3
    · rw [outsAt0_C m c t h0 h1]
      dsimp only
      rw [CaseC.o19]
      exact canon19 (tile m c t) r l
    · rw [outsAt0_B m c t h0 h1]
      dsimp only
      rw [CaseB.o19]
      exact canon19 (tile m c t) r l

theorem t22 (t : Fin cfg0.N) (r : Fin 512) (l : Fin 64) : (outsAt0 m c t.val t.isLt).2.2.2.2.2.2.2.1 (ix2 r l) = gIk (YT m c t.val) (PT t.val) r.val l.val := by
  by_cases h0 : t.val % 4 = 0
  · have h1 : ¬t.val % 4 = 3 := by omega
    rw [outsAt0_A m c t h0 h1]
    dsimp only
    rw [CaseA.o22]
    exact canon22 (tile m c t) r l
  · by_cases h1 : t.val % 4 = 3
    · rw [outsAt0_C m c t h0 h1]
      dsimp only
      rw [CaseC.o22]
      exact canon22 (tile m c t) r l
    · rw [outsAt0_B m c t h0 h1]
      dsimp only
      rw [CaseB.o22]
      exact canon22 (tile m c t) r l

/-- What position `p` of batch entry `b` adds to entry `(d, e)` of head `h`'s state. -/
def kv (b h d e p : ℕ) : EReal := gKv (fun r k => Y (a0 m c) (a1 m c) (a2 m c) b r k) (fun r => r) h d e p

theorem gKv_tile (t h d e r : ℕ) (hr : r < 512) : gKv (YT m c t) (PT t) h d e r = kv m c (t / 4) h d e (512 * (t % 4) + r) := by
  have e1 : (t * 512 + r) / 2048 = t / 4 := by omega
  have e2 : (t * 512 + r) % 2048 = 512 * (t % 4) + r := by omega
  unfold kv gKv
  simp only [YR, e1, e2]

/-- Two halves of a tile folded into a state. -/
theorem two (t : ℕ) {h : ℕ} (hh : h < 4) (d e : ℕ) {N b : ℕ} (hN : N = 512 * (t % 4)) (hb : b = t / 4) :
    upd (YT m c t) (PT t) h d e 1 (upd (YT m c t) (PT t) h d e 0 (state (dec h) 0 (kv m c b h d e) N)) = state (dec h) 0 (kv m c b h d e) (512 * (t % 4 + 1)) := by
  subst hN hb
  have s0 : upd (YT m c t) (PT t) h d e 0 (state (dec h) 0 (kv m c (t / 4) h d e) (512 * (t % 4))) = state (dec h) 0 (kv m c (t / 4) h d e) (512 * (t % 4) + 256) := by
    rw [← state_add (decay_dec h hh) 0 (kv m c (t / 4) h d e) (512 * (t % 4)) 256]
    unfold upd
    congr 1
    refine Finset.sum_congr rfl fun n _ => congrArg (fun z : EReal => z * dec h (256 - 1 - n.val)) ?_
    have hn := n.isLt
    rw [gKv_tile m c t h d e (256 * 0 + n.val) (by omega), Nat.mul_zero, Nat.zero_add]
  have s1 : upd (YT m c t) (PT t) h d e 1 (state (dec h) 0 (kv m c (t / 4) h d e) (512 * (t % 4) + 256)) = state (dec h) 0 (kv m c (t / 4) h d e) (512 * (t % 4) + 256 + 256) := by
    rw [← state_add (decay_dec h hh) 0 (kv m c (t / 4) h d e) (512 * (t % 4) + 256) 256]
    unfold upd
    congr 1
    refine Finset.sum_congr rfl fun n _ => congrArg (fun z : EReal => z * dec h (256 - 1 - n.val)) ?_
    have hn := n.isLt
    rw [gKv_tile m c t h d e (256 * 1 + n.val) (by omega), Nat.mul_one, ← Nat.add_assoc]
  rw [s0, s1]
  congr 1

/-- The carried state after point `n`. -/
theorem scr : ∀ (n : ℕ) (hn : n < cfg0.N) (h : Fin 4) (d e : Fin 128),
    (outsAt0 m c n hn).2.2.2.2.2.2.2.2.2 (ix3 h d e) = state (dec h.val) 0 (kv m c (n / 4) h.val d.val e.val) (512 * (n % 4 + 1)) := by
  intro n
  induction n with
  | zero =>
    intro hn h d e
    have h1 : ¬(⟨0, hn⟩ : Fin cfg0.N).val % 4 = 3 := by dsimp only; omega
    have ea := congrArg (fun x => x.2.2.2.2.2.2.2.2.2 (ix3 h d e)) (outsAt0_A m c ⟨0, hn⟩ rfl h1)
    refine ea.trans ?_
    dsimp only
    rw [CaseA.os]
    refine (canonA (tile m c ⟨0, hn⟩) _ h d e).trans ?_
    rw [b9]
    refine Eq.trans ?_ (two m c 0 h.isLt d.val e.val (N := 0) rfl rfl)
    rw [state_zero (decay_dec h.val h.isLt)]
  | succ n ih =>
    intro hn h d e
    by_cases h0 : (n + 1) % 4 = 0
    · have h1 : ¬(⟨n + 1, hn⟩ : Fin cfg0.N).val % 4 = 3 := by dsimp only; omega
      refine (congrArg (fun x => x.2.2.2.2.2.2.2.2.2 (ix3 h d e)) (outsAt0_A m c ⟨n + 1, hn⟩ h0 h1)).trans ?_
      dsimp only
      rw [CaseA.os]
      refine (canonA (tile m c ⟨n + 1, hn⟩) _ h d e).trans ?_
      rw [b9]
      refine Eq.trans ?_ (two m c (n + 1) h.isLt d.val e.val (N := 0) (by omega) rfl)
      rw [state_zero (decay_dec h.val h.isLt)]
    · have hp : 512 * (n % 4 + 1) = 512 * ((n + 1) % 4) := by omega
      have hq : n / 4 = (n + 1) / 4 := by omega
      have hi := ih (by omega) h d e
      rw [hq] at hi
      by_cases h1 : (n + 1) % 4 = 3
      · refine (congrArg (fun x => x.2.2.2.2.2.2.2.2.2 (ix3 h d e)) (outsAt0_C m c ⟨n + 1, hn⟩ h0 h1)).trans ?_
        dsimp only
        rw [CaseC.os]
        refine (canonB (tile m c ⟨n + 1, hn⟩) _ h d e).trans ?_
        refine Eq.trans ?_ (two m c (n + 1) h.isLt d.val e.val hp rfl)
        exact congrArg _ (congrArg _ hi)
      · refine (congrArg (fun x => x.2.2.2.2.2.2.2.2.2 (ix3 h d e)) (outsAt0_B m c ⟨n + 1, hn⟩ h0 h1)).trans ?_
        dsimp only
        rw [CaseB.os]
        refine (canonB (tile m c ⟨n + 1, hn⟩) _ h d e).trans ?_
        refine Eq.trans ?_ (two m c (n + 1) h.isLt d.val e.val hp rfl)
        exact congrArg _ (congrArg _ hi)

/-- The state copied out at a batch's last tile. -/
theorem t16 (t : Fin cfg0.N) (h3 : t.val % 4 = 3) (h : Fin 4) (d e : Fin 128) :
    (outsAt0 m c t.val t.isLt).2.1 (ix4 0 h d e) = state (dec h.val) 0 (kv m c (t.val / 4) h.val d.val e.val) 2048 := by
  have h0 : ¬t.val % 4 = 0 := by omega
  rw [outsAt0_C m c t h0 h3]
  dsimp only
  rw [CaseC.o16]
  refine (canon16 (tile m c t) _ h d e).trans ?_
  have hi := scr m c (t.val - 1) (Nat.lt_of_le_of_lt (Nat.sub_le _ _) t.isLt) h d e
  have h2 := two m c t.val h.isLt d.val e.val (N := 512 * ((t.val - 1) % 4 + 1)) (b := (t.val - 1) / 4) (by omega) (by omega)
  rw [show (t.val - 1) / 4 = t.val / 4 by omega, show 512 * (t.val % 4 + 1) = 2048 by omega] at h2
  rw [show (t.val - 1) / 4 = t.val / 4 by omega] at hi
  exact (congrArg _ (congrArg _ hi)).trans h2

/-- What each output holds for row `R` of all batches' rows and column `w`. -/
def sAq (R w : ℕ) : EReal := rotA (R % 2048) (fun i => YR m c R (2048 + (64 * (w / 64) + i))) (w % 64) * Ideal.ofBits .f32 1043900987#32
def sAg (R w : ℕ) : EReal := silu (YR m c R (2816 + w))
def sIq (R w : ℕ) : EReal := rotA (R % 2048) (fun i => YR m c R (3328 + (64 * (w / 64) + i))) (w % 64)
def sIw (R w : ℕ) : EReal := YR m c R (3904 + w) * Ideal.ofBits .f32 1026884851#32
def sAk (R w : ℕ) : EReal := rotA (R % 2048) (fun i => YR m c R (2560 + (64 * (w / 64) + i))) (w % 64)
def sAv (R w : ℕ) : EReal := YR m c R (2688 + w)
def sIk (R w : ℕ) : EReal := rotA (R % 2048) (fun i => YR m c R (3840 + i)) w

theorem G17_at (B : Fin 128) (w : Fin 512) (q : Fin 256) : (G17 m c : Vec Ideal S128x512x256 .bf16) (ix3 B w q) = sAq m c (256 * B.val + q.val) w.val := by
  have hB := B.isLt
  have hp : pt17Of (ix3 B w q) = B.val / 2 := by
    show 1 * (B.val / 2 - 0) + 1 * (w.val / 512 - 0) + 1 * (q.val / 256 - 0) = _
    have := w.isLt; have := q.isLt; omega
  have hN : B.val / 2 < cfg0.N := lt_of_lt_of_eq (by omega) N_0.symm
  have hl : loc17Of (ix3 B w q) = ix3 (⟨B.val % 2, by omega⟩ : Fin 2) w q := by
    funext a
    apply Fin.ext
    match a with
    | ⟨0, _⟩ => rfl
    | ⟨1, _⟩ => exact Nat.mod_eq_of_lt w.isLt
    | ⟨2, _⟩ => exact Nat.mod_eq_of_lt q.isLt
  unfold G17
  rw [dif_pos (by rw [hp]; exact hN)]
  rw [fold0_congr m c _ _ (B.val / 2) (by rw [Nat.zero_add]; exact hN) hp, ← outsAt0_sweep m c (B.val / 2) hN, hl]
  refine (t17 m c ⟨B.val / 2, hN⟩ _ w q).trans ?_
  have hr : B.val / 2 * 512 + (256 * (B.val % 2) + q.val) = 256 * B.val + q.val := by omega
  unfold gAq sAq
  simp only [YT, PT, hr]

theorem G20_at (B : Fin 128) (w : Fin 512) (q : Fin 256) : (G20 m c : Vec Ideal S128x512x256 .bf16) (ix3 B w q) = sAg m c (256 * B.val + q.val) w.val := by
  have hB := B.isLt
  have hp : pt20Of (ix3 B w q) = B.val / 2 := by
    show 1 * (B.val / 2 - 0) + 1 * (w.val / 512 - 0) + 1 * (q.val / 256 - 0) = _
    have := w.isLt; have := q.isLt; omega
  have hN : B.val / 2 < cfg0.N := lt_of_lt_of_eq (by omega) N_0.symm
  have hl : loc20Of (ix3 B w q) = ix3 (⟨B.val % 2, by omega⟩ : Fin 2) w q := by
    funext a
    apply Fin.ext
    match a with
    | ⟨0, _⟩ => rfl
    | ⟨1, _⟩ => exact Nat.mod_eq_of_lt w.isLt
    | ⟨2, _⟩ => exact Nat.mod_eq_of_lt q.isLt
  unfold G20
  rw [dif_pos (by rw [hp]; exact hN)]
  rw [fold0_congr m c _ _ (B.val / 2) (by rw [Nat.zero_add]; exact hN) hp, ← outsAt0_sweep m c (B.val / 2) hN, hl]
  refine (t20 m c ⟨B.val / 2, hN⟩ _ w q).trans ?_
  have hr : B.val / 2 * 512 + (256 * (B.val % 2) + q.val) = 256 * B.val + q.val := by omega
  unfold gAg sAg
  simp only [YT, PT, hr]

theorem G21_at (B : Fin 128) (w : Fin 512) (q : Fin 256) : (G21 m c : Vec Ideal S128x512x256 .f32) (ix3 B w q) = sIq m c (256 * B.val + q.val) w.val := by
  have hB := B.isLt
  have hp : pt21Of (ix3 B w q) = B.val / 2 := by
    show 1 * (B.val / 2 - 0) + 1 * (w.val / 512 - 0) + 1 * (q.val / 256 - 0) = _
    have := w.isLt; have := q.isLt; omega
  have hN : B.val / 2 < cfg0.N := lt_of_lt_of_eq (by omega) N_0.symm
  have hl : loc21Of (ix3 B w q) = ix3 (⟨B.val % 2, by omega⟩ : Fin 2) w q := by
    funext a
    apply Fin.ext
    match a with
    | ⟨0, _⟩ => rfl
    | ⟨1, _⟩ => exact Nat.mod_eq_of_lt w.isLt
    | ⟨2, _⟩ => exact Nat.mod_eq_of_lt q.isLt
  unfold G21
  rw [dif_pos (by rw [hp]; exact hN)]
  rw [fold0_congr m c _ _ (B.val / 2) (by rw [Nat.zero_add]; exact hN) hp, ← outsAt0_sweep m c (B.val / 2) hN, hl]
  refine (t21 m c ⟨B.val / 2, hN⟩ _ w q).trans ?_
  have hr : B.val / 2 * 512 + (256 * (B.val % 2) + q.val) = 256 * B.val + q.val := by omega
  unfold gIq sIq
  simp only [YT, PT, hr]

theorem G23_at (B : Fin 128) (w : Fin 8) (q : Fin 256) : (G23 m c : Vec Ideal S128x8x256 .f32) (ix3 B w q) = sIw m c (256 * B.val + q.val) w.val := by
  have hB := B.isLt
  have hp : pt23Of (ix3 B w q) = B.val / 2 := by
    show 1 * (B.val / 2 - 0) + 1 * (w.val / 8 - 0) + 1 * (q.val / 256 - 0) = _
    have := w.isLt; have := q.isLt; omega
  have hN : B.val / 2 < cfg0.N := lt_of_lt_of_eq (by omega) N_0.symm
  have hl : loc23Of (ix3 B w q) = ix3 (⟨B.val % 2, by omega⟩ : Fin 2) w q := by
    funext a
    apply Fin.ext
    match a with
    | ⟨0, _⟩ => rfl
    | ⟨1, _⟩ => exact Nat.mod_eq_of_lt w.isLt
    | ⟨2, _⟩ => exact Nat.mod_eq_of_lt q.isLt
  unfold G23
  rw [dif_pos (by rw [hp]; exact hN)]
  rw [fold0_congr m c _ _ (B.val / 2) (by rw [Nat.zero_add]; exact hN) hp, ← outsAt0_sweep m c (B.val / 2) hN, hl]
  refine (t23 m c ⟨B.val / 2, hN⟩ _ w q).trans ?_
  have hr : B.val / 2 * 512 + (256 * (B.val % 2) + q.val) = 256 * B.val + q.val := by omega
  unfold gIw sIw
  simp only [YT, PT, hr]

theorem G18_at (R : Fin 32768) (w : Fin 128) : (G18 m c : Vec Ideal S32768x128 .f32) (ix2 R w) = sAk m c R.val w.val := by
  have hR := R.isLt
  have hp : pt18Of (ix2 R w) = R.val / 512 := by
    show 1 * (R.val / 512 - 0) + 1 * (w.val / 128 - 0) = _
    have := w.isLt; omega
  have hN : R.val / 512 < cfg0.N := lt_of_lt_of_eq (by omega) N_0.symm
  have hl : loc18Of (ix2 R w) = ix2 (⟨R.val % 512, by omega⟩ : Fin 512) w := by
    funext a
    apply Fin.ext
    match a with
    | ⟨0, _⟩ => rfl
    | ⟨1, _⟩ => exact Nat.mod_eq_of_lt w.isLt
  unfold G18
  rw [dif_pos (by rw [hp]; exact hN)]
  rw [fold0_congr m c _ _ (R.val / 512) (by rw [Nat.zero_add]; exact hN) hp, ← outsAt0_sweep m c (R.val / 512) hN, hl]
  refine (t18 m c ⟨R.val / 512, hN⟩ _ w).trans ?_
  have hr : R.val / 512 * 512 + R.val % 512 = R.val := by omega
  unfold gAk sAk
  simp only [YT, PT, hr]

theorem G19_at (R : Fin 32768) (w : Fin 128) : (G19 m c : Vec Ideal S32768x128 .f32) (ix2 R w) = sAv m c R.val w.val := by
  have hR := R.isLt
  have hp : pt19Of (ix2 R w) = R.val / 512 := by
    show 1 * (R.val / 512 - 0) + 1 * (w.val / 128 - 0) = _
    have := w.isLt; omega
  have hN : R.val / 512 < cfg0.N := lt_of_lt_of_eq (by omega) N_0.symm
  have hl : loc19Of (ix2 R w) = ix2 (⟨R.val % 512, by omega⟩ : Fin 512) w := by
    funext a
    apply Fin.ext
    match a with
    | ⟨0, _⟩ => rfl
    | ⟨1, _⟩ => exact Nat.mod_eq_of_lt w.isLt
  unfold G19
  rw [dif_pos (by rw [hp]; exact hN)]
  rw [fold0_congr m c _ _ (R.val / 512) (by rw [Nat.zero_add]; exact hN) hp, ← outsAt0_sweep m c (R.val / 512) hN, hl]
  refine (t19 m c ⟨R.val / 512, hN⟩ _ w).trans ?_
  have hr : R.val / 512 * 512 + R.val % 512 = R.val := by omega
  unfold gAv sAv
  simp only [YT, hr]

theorem G22_at (R : Fin 32768) (w : Fin 64) : (G22 m c : Vec Ideal S32768x64 .f32) (ix2 R w) = sIk m c R.val w.val := by
  have hR := R.isLt
  have hp : pt22Of (ix2 R w) = R.val / 512 := by
    show 1 * (R.val / 512 - 0) + 1 * (w.val / 64 - 0) = _
    have := w.isLt; omega
  have hN : R.val / 512 < cfg0.N := lt_of_lt_of_eq (by omega) N_0.symm
  have hl : loc22Of (ix2 R w) = ix2 (⟨R.val % 512, by omega⟩ : Fin 512) w := by
    funext a
    apply Fin.ext
    match a with
    | ⟨0, _⟩ => rfl
    | ⟨1, _⟩ => exact Nat.mod_eq_of_lt w.isLt
  unfold G22
  rw [dif_pos (by rw [hp]; exact hN)]
  rw [fold0_congr m c _ _ (R.val / 512) (by rw [Nat.zero_add]; exact hN) hp, ← outsAt0_sweep m c (R.val / 512) hN, hl]
  refine (t22 m c ⟨R.val / 512, hN⟩ _ w).trans ?_
  have hr : R.val / 512 * 512 + R.val % 512 = R.val := by omega
  unfold gIk sIk
  simp only [YT, PT, hr]

theorem G16_at (b : Fin 16) (h : Fin 4) (d e : Fin 128) : (G16 m c : Vec Ideal S16x4x128x128 .f32) (ix4 b h d e) = state (dec h.val) 0 (kv m c b.val h.val d.val e.val) 2048 := by
  have hb := b.isLt
  have hp : pt16Of (ix4 b h d e) = 4 * b.val + 3 := by
    show 4 * (1 * (b.val / 1 - 0) + 1 * (h.val / 4 - 0) + 1 * (d.val / 128 - 0) + 1 * (e.val / 128 - 0)) + 3 = _
    have := h.isLt; have := d.isLt; have := e.isLt; omega
  have hN : 4 * b.val + 3 < cfg0.N := lt_of_lt_of_eq (by omega) N_0.symm
  have hl : loc16Of (ix4 b h d e) = ix4 (0 : Fin 1) h d e := by
    funext a
    apply Fin.ext
    match a with
    | ⟨0, _⟩ => exact Nat.mod_one _
    | ⟨1, _⟩ => exact Nat.mod_eq_of_lt h.isLt
    | ⟨2, _⟩ => exact Nat.mod_eq_of_lt d.isLt
    | ⟨3, _⟩ => exact Nat.mod_eq_of_lt e.isLt
  unfold G16
  rw [dif_pos (by rw [hp]; exact hN)]
  rw [fold0_congr m c _ _ (4 * b.val + 3) (by rw [Nat.zero_add]; exact hN) hp, ← outsAt0_sweep m c (4 * b.val + 3) hN, hl]
  refine (t16 m c ⟨4 * b.val + 3, hN⟩ (by dsimp only; omega) h d e).trans ?_
  rw [show (4 * b.val + 3) / 4 = b.val by omega]

end Cert.Proof.Proj.Out
end
-- ==== Proof.Proj.RefRow.lean ====
module

public import proofs.«01_k».proof.Proof.Gen.Reference3Ideal.Read
public import proofs.«01_k».proof.Proof.Proj.Spec
public import Idealize.ShloMosaic.Lib.Pointwise

/-! The reference's projection and its rotated heads read at an index. -/

@[expose] public section
set_option maxHeartbeats 400000
noncomputable section
namespace Cert.Proof.Proj.Ref
open Cert.Reference3Ideal Cert.Reference3Ideal.Gen Cert.Reference3Ideal.Read Idealize.ShloMosaic Idealize.ShloMosaic.TcCoe Cert.Proof.Proj.Spec

variable (x0 : Vec Ideal S16x2048x1024 .f32) (x1 : Vec Ideal S1x1024 .f32) (x2 : Vec Ideal S1x1024x3912 .f32)

theorem r18 (b : Fin 16) (p : Fin 2048) (j : Fin 3912) {B P J : ℕ} (hb : B = b.val) (hp : P = p.val) (hj : J = j.val) :
    (val_main_v18 (F := Ideal) x0 x1 x2 : Vec Ideal S16x2048x3912 .f32) (ix3 b p j) = Y x0 x1 x2 B P J := by
  subst hb hp hj
  pointwise [val_main_v2, val_main_v3, val_main_v5, val_main_cst_0, val_main_v6, val_main_v7, val_main_cst_1, val_main_v8, val_main_v9, val_main_cst_2, val_main_v10, val_main_v11, val_main_v12, val_main_v13, val_main_v14, val_main_v15, val_main_v16, val_main_v17, val_main_v18]
  exact Y_mk x0 x1 x2 b.isLt p.isLt j.isLt

/-- The retention keys: each head of 128 rotated at its position. -/
theorem rk (b : Fin 16) (p : Fin 2048) (h : Fin 4) (l : Fin 128) {B P H L : ℕ} (hb : B = b.val) (hp : P = p.val) (hh : H = h.val) (hl : L = l.val) :
    (val_main_v91 (F := Ideal) x0 x1 x2 : Vec Ideal S16x2048x4x128 .f32) (ix4 b p h l) = rotR P (fun i => Y x0 x1 x2 B P (512 + (128 * H + i))) L := by
  subst hb hp hh hl
  have hh := h.isLt; have hl := l.isLt
  pointwise [val_main_v0, val_main_v20, val_main_v61, val_main_v62, val_main_v63, val_main_cst_5, val_main_v64, val_main_v65, val_main_cst_6, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91]
  unfold rotR
  by_cases h1 : l.val < 64
  · rw [dif_pos h1, if_pos h1]
    exact congrArg₂ (fun u v : EReal => u * Ideal.cos (angR p.val l.val) - v * Ideal.sin (angR p.val l.val)) (r18 x0 x1 x2 _ _ _ rfl rfl (by (try dsimp only) <;> omega)) (r18 x0 x1 x2 _ _ _ rfl rfl (by (try dsimp only) <;> omega))
  · rw [dif_neg h1, if_neg h1, dif_pos (by omega)]
    exact congrArg₂ (fun u v : EReal => u * Ideal.cos (angR p.val (l.val - 64)) + v * Ideal.sin (angR p.val (l.val - 64))) (r18 x0 x1 x2 _ _ _ rfl rfl (by (try dsimp only) <;> omega)) (r18 x0 x1 x2 _ _ _ rfl rfl (by (try dsimp only) <;> omega))

/-- The attention queries: the first sixteen entries of each head rotated at its position. -/
theorem aq (b : Fin 16) (p : Fin 2048) (h : Fin 8) (l : Fin 64) {B P H L : ℕ} (hb : B = b.val) (hp : P = p.val) (hh : H = h.val) (hl : L = l.val) :
    (val_main_v431 (F := Ideal) x0 x1 x2 : Vec Ideal S16x2048x8x64 .f32) (ix4 b p h l) = rotA P (fun i => Y x0 x1 x2 B P (2048 + (64 * H + i))) L := by
  subst hb hp hh hl
  have hh := h.isLt; have hl := l.isLt
  pointwise [val_main_v0, val_main_v23, val_main_v401, val_main_v402, val_main_v403, val_main_cst_16, val_main_v404, val_main_v405, val_main_cst_17, val_main_v406, val_main_v407, val_main_v408, val_main_v409, val_main_v410, val_main_v411, val_main_v412, val_main_v413, val_main_v414, val_main_v415, val_main_v416, val_main_v417, val_main_v418, val_main_v419, val_main_v420, val_main_v421, val_main_v422, val_main_v423, val_main_v424, val_main_v425, val_main_v426, val_main_v427, val_main_v428, val_main_v429, val_main_v430, val_main_v431]
  unfold rotA
  by_cases h1 : l.val < 8
  · rw [dif_pos h1, if_pos h1]
    exact congrArg₂ (fun u v : EReal => u * Ideal.cos (angA p.val l.val) - v * Ideal.sin (angA p.val l.val)) (r18 x0 x1 x2 _ _ _ rfl rfl (by (try dsimp only) <;> omega)) (r18 x0 x1 x2 _ _ _ rfl rfl (by (try dsimp only) <;> omega))
  · by_cases h2 : l.val < 16
    · rw [dif_neg h1, if_neg h1, dif_pos (by omega), if_pos h2]
      exact congrArg₂ (fun u v : EReal => u * Ideal.cos (angA p.val (l.val - 8)) + v * Ideal.sin (angA p.val (l.val - 8))) (r18 x0 x1 x2 _ _ _ rfl rfl (by (try dsimp only) <;> omega)) (r18 x0 x1 x2 _ _ _ rfl rfl (by (try dsimp only) <;> omega))
    · rw [dif_neg h1, if_neg h1, dif_neg (by omega), if_neg h2]
      exact r18 x0 x1 x2 _ _ _ rfl rfl (by (try dsimp only) <;> omega)

/-- The attention keys: the first sixteen entries of each head rotated at its position. -/
theorem ak (b : Fin 16) (p : Fin 2048) (h : Fin 2) (l : Fin 64) {B P H L : ℕ} (hb : B = b.val) (hp : P = p.val) (hh : H = h.val) (hl : L = l.val) :
    (val_main_v462 (F := Ideal) x0 x1 x2 : Vec Ideal S16x2048x2x64 .f32) (ix4 b p h l) = rotA P (fun i => Y x0 x1 x2 B P (2560 + (64 * H + i))) L := by
  subst hb hp hh hl
  have hh := h.isLt; have hl := l.isLt
  pointwise [val_main_v0, val_main_v24, val_main_v432, val_main_v433, val_main_v434, val_main_cst_18, val_main_v435, val_main_v436, val_main_cst_19, val_main_v437, val_main_v438, val_main_v439, val_main_v440, val_main_v441, val_main_v442, val_main_v443, val_main_v444, val_main_v445, val_main_v446, val_main_v447, val_main_v448, val_main_v449, val_main_v450, val_main_v451, val_main_v452, val_main_v453, val_main_v454, val_main_v455, val_main_v456, val_main_v457, val_main_v458, val_main_v459, val_main_v460, val_main_v461, val_main_v462]
  unfold rotA
  by_cases h1 : l.val < 8
  · rw [dif_pos h1, if_pos h1]
    exact congrArg₂ (fun u v : EReal => u * Ideal.cos (angA p.val l.val) - v * Ideal.sin (angA p.val l.val)) (r18 x0 x1 x2 _ _ _ rfl rfl (by (try dsimp only) <;> omega)) (r18 x0 x1 x2 _ _ _ rfl rfl (by (try dsimp only) <;> omega))
  · by_cases h2 : l.val < 16
    · rw [dif_neg h1, if_neg h1, dif_pos (by omega), if_pos h2]
      exact congrArg₂ (fun u v : EReal => u * Ideal.cos (angA p.val (l.val - 8)) + v * Ideal.sin (angA p.val (l.val - 8))) (r18 x0 x1 x2 _ _ _ rfl rfl (by (try dsimp only) <;> omega)) (r18 x0 x1 x2 _ _ _ rfl rfl (by (try dsimp only) <;> omega))
    · rw [dif_neg h1, if_neg h1, dif_neg (by omega), if_neg h2]
      exact r18 x0 x1 x2 _ _ _ rfl rfl (by (try dsimp only) <;> omega)

/-- The index queries: the first sixteen entries of each head rotated at its position. -/
theorem iq (b : Fin 16) (p : Fin 2048) (h : Fin 8) (l : Fin 64) {B P H L : ℕ} (hb : B = b.val) (hp : P = p.val) (hh : H = h.val) (hl : L = l.val) :
    (val_main_v494 (F := Ideal) x0 x1 x2 : Vec Ideal S16x2048x8x64 .f32) (ix4 b p h l) = rotA P (fun i => Y x0 x1 x2 B P (3328 + (64 * H + i))) L := by
  subst hb hp hh hl
  have hh := h.isLt; have hl := l.isLt
  pointwise [val_main_v0, val_main_v27, val_main_v464, val_main_v465, val_main_v466, val_main_cst_20, val_main_v467, val_main_v468, val_main_cst_21, val_main_v469, val_main_v470, val_main_v471, val_main_v472, val_main_v473, val_main_v474, val_main_v475, val_main_v476, val_main_v477, val_main_v478, val_main_v479, val_main_v480, val_main_v481, val_main_v482, val_main_v483, val_main_v484, val_main_v485, val_main_v486, val_main_v487, val_main_v488, val_main_v489, val_main_v490, val_main_v491, val_main_v492, val_main_v493, val_main_v494]
  unfold rotA
  by_cases h1 : l.val < 8
  · rw [dif_pos h1, if_pos h1]
    exact congrArg₂ (fun u v : EReal => u * Ideal.cos (angA p.val l.val) - v * Ideal.sin (angA p.val l.val)) (r18 x0 x1 x2 _ _ _ rfl rfl (by (try dsimp only) <;> omega)) (r18 x0 x1 x2 _ _ _ rfl rfl (by (try dsimp only) <;> omega))
  · by_cases h2 : l.val < 16
    · rw [dif_neg h1, if_neg h1, dif_pos (by omega), if_pos h2]
      exact congrArg₂ (fun u v : EReal => u * Ideal.cos (angA p.val (l.val - 8)) + v * Ideal.sin (angA p.val (l.val - 8))) (r18 x0 x1 x2 _ _ _ rfl rfl (by (try dsimp only) <;> omega)) (r18 x0 x1 x2 _ _ _ rfl rfl (by (try dsimp only) <;> omega))
    · rw [dif_neg h1, if_neg h1, dif_neg (by omega), if_neg h2]
      exact r18 x0 x1 x2 _ _ _ rfl rfl (by (try dsimp only) <;> omega)

/-- The index keys: the first sixteen entries of each head rotated at its position. -/
theorem ik (b : Fin 16) (p : Fin 2048) (h : Fin 1) (l : Fin 64) {B P H L : ℕ} (hb : B = b.val) (hp : P = p.val) (hh : H = h.val) (hl : L = l.val) :
    (val_main_v525 (F := Ideal) x0 x1 x2 : Vec Ideal S16x2048x1x64 .f32) (ix4 b p h l) = rotA P (fun i => Y x0 x1 x2 B P (3840 + (64 * H + i))) L := by
  subst hb hp hh hl
  have hh := h.isLt; have hl := l.isLt
  pointwise [val_main_v0, val_main_v28, val_main_v495, val_main_v496, val_main_v497, val_main_cst_22, val_main_v498, val_main_v499, val_main_cst_23, val_main_v500, val_main_v501, val_main_v502, val_main_v503, val_main_v504, val_main_v505, val_main_v506, val_main_v507, val_main_v508, val_main_v509, val_main_v510, val_main_v511, val_main_v512, val_main_v513, val_main_v514, val_main_v515, val_main_v516, val_main_v517, val_main_v518, val_main_v519, val_main_v520, val_main_v521, val_main_v522, val_main_v523, val_main_v524, val_main_v525]
  unfold rotA
  by_cases h1 : l.val < 8
  · rw [dif_pos h1, if_pos h1]
    exact congrArg₂ (fun u v : EReal => u * Ideal.cos (angA p.val l.val) - v * Ideal.sin (angA p.val l.val)) (r18 x0 x1 x2 _ _ _ rfl rfl (by (try dsimp only) <;> omega)) (r18 x0 x1 x2 _ _ _ rfl rfl (by (try dsimp only) <;> omega))
  · by_cases h2 : l.val < 16
    · rw [dif_neg h1, if_neg h1, dif_pos (by omega), if_pos h2]
      exact congrArg₂ (fun u v : EReal => u * Ideal.cos (angA p.val (l.val - 8)) + v * Ideal.sin (angA p.val (l.val - 8))) (r18 x0 x1 x2 _ _ _ rfl rfl (by (try dsimp only) <;> omega)) (r18 x0 x1 x2 _ _ _ rfl rfl (by (try dsimp only) <;> omega))
    · rw [dif_neg h1, if_neg h1, dif_neg (by omega), if_neg h2]
      exact r18 x0 x1 x2 _ _ _ rfl rfl (by (try dsimp only) <;> omega)
end Cert.Proof.Proj.Ref
end
-- ==== Proof.Proj.RefOut.lean ====
module

public import proofs.«01_k».proof.Proof.Gen.Reference3Ideal.Read
public import proofs.«01_k».proof.Proof.Proj.Spec
public import Idealize.ShloMosaic.Lib.Pointwise
public import proofs.«01_k».proof.Proof.Proj.RefRow

/-! The reference's rows read at an index. -/

@[expose] public section
set_option maxHeartbeats 400000
noncomputable section
namespace Cert.Proof.Proj.Ref
open Cert.Reference3Ideal Cert.Reference3Ideal.Gen Cert.Reference3Ideal.Read Idealize.ShloMosaic Idealize.ShloMosaic.TcCoe Cert.Proof.Proj.Spec

variable (x0 : Vec Ideal S16x2048x1024 .f32) (x1 : Vec Ideal S1x1024 .f32) (x2 : Vec Ideal S1x1024x3912 .f32)

theorem r536 (B : Fin 128) (w : Fin 512) (q : Fin 256) : (val_main_v536 (F := Ideal) x0 x1 x2 : Vec Ideal S128x512x256 .bf16) (ix3 B w q)
    = rotA ((256 * B.val + q.val) % 2048) (fun i => Y x0 x1 x2 ((256 * B.val + q.val) / 2048) ((256 * B.val + q.val) % 2048) (2048 + (64 * (w.val / 64) + i))) (w.val % 64) * Ideal.ofBits .f32 1043900987#32 := by
  have hB := B.isLt; have hw := w.isLt; have hq := q.isLt
  pointwise [val_main_cst_25, val_main_v530, val_main_v531, val_main_v532, val_main_v533, val_main_v534, val_main_v535, val_main_v536]
  exact congrArg (fun u : EReal => u * Ideal.ofBits .f32 1043900987#32) (aq x0 x1 x2 _ _ _ _ (by (try dsimp only) <;> omega) (by (try dsimp only) <;> omega) (by (try dsimp only) <;> omega) (by (try dsimp only) <;> omega))

theorem r537 (R : Fin 32768) (w : Fin 128) : (val_main_v537 (F := Ideal) x0 x1 x2 : Vec Ideal S32768x128 .f32) (ix2 R w)
    = rotA (R.val % 2048) (fun i => Y x0 x1 x2 (R.val / 2048) (R.val % 2048) (2560 + (64 * (w.val / 64) + i))) (w.val % 64) := by
  have hR := R.isLt; have hw := w.isLt
  pointwise [val_main_v537]
  exact ak x0 x1 x2 _ _ _ _ (by (try dsimp only) <;> omega) (by (try dsimp only) <;> omega) (by (try dsimp only) <;> omega) (by (try dsimp only) <;> omega)

theorem r538 (R : Fin 32768) (w : Fin 128) : (val_main_v538 (F := Ideal) x0 x1 x2 : Vec Ideal S32768x128 .f32) (ix2 R w)
    = Y x0 x1 x2 (R.val / 2048) (R.val % 2048) (2688 + w.val) := by
  have hR := R.isLt; have hw := w.isLt
  pointwise [val_main_v25, val_main_v463, val_main_v538]
  exact r18 x0 x1 x2 _ _ _ (by (try dsimp only) <;> omega) (by (try dsimp only) <;> omega) (by (try dsimp only) <;> omega)

theorem r542 (B : Fin 128) (w : Fin 512) (q : Fin 256) : (val_main_v542 (F := Ideal) x0 x1 x2 : Vec Ideal S128x512x256 .bf16) (ix3 B w q)
    = silu (Y x0 x1 x2 ((256 * B.val + q.val) / 2048) ((256 * B.val + q.val) % 2048) (2816 + w.val)) := by
  have hB := B.isLt; have hw := w.isLt; have hq := q.isLt
  pointwise [val_main_v26, val_main_call1_v0, val_main_call1_v1, val_main_call1_cst, val_main_call1_v2, val_main_call1_v3, val_main_call1_cst_0, val_main_call1_v4, val_main_call1_v5, val_main_v529, val_main_v539, val_main_v540, val_main_v541, val_main_v542]
  exact congrArg silu (r18 x0 x1 x2 _ _ _ (by (try dsimp only) <;> omega) (by (try dsimp only) <;> omega) (by (try dsimp only) <;> omega))

theorem r546 (B : Fin 128) (w : Fin 512) (q : Fin 256) : (val_main_v546 (F := Ideal) x0 x1 x2 : Vec Ideal S128x512x256 .f32) (ix3 B w q)
    = rotA ((256 * B.val + q.val) % 2048) (fun i => Y x0 x1 x2 ((256 * B.val + q.val) / 2048) ((256 * B.val + q.val) % 2048) (3328 + (64 * (w.val / 64) + i))) (w.val % 64) := by
  have hB := B.isLt; have hw := w.isLt; have hq := q.isLt
  pointwise [val_main_v543, val_main_v544, val_main_v545, val_main_v546]
  exact iq x0 x1 x2 _ _ _ _ (by (try dsimp only) <;> omega) (by (try dsimp only) <;> omega) (by (try dsimp only) <;> omega) (by (try dsimp only) <;> omega)

theorem r547 (R : Fin 32768) (w : Fin 64) : (val_main_v547 (F := Ideal) x0 x1 x2 : Vec Ideal S32768x64 .f32) (ix2 R w)
    = rotA (R.val % 2048) (fun i => Y x0 x1 x2 (R.val / 2048) (R.val % 2048) (3840 + i)) w.val := by
  have hR := R.isLt; have hw := w.isLt
  pointwise [val_main_v526, val_main_v547]
  refine (ik x0 x1 x2 _ _ _ _ (B := R.val / 2048) (P := R.val % 2048) (H := 0) (L := w.val) (by (try dsimp only) <;> omega) (by (try dsimp only) <;> omega) (by (try dsimp only) <;> omega) (by (try dsimp only) <;> omega)).trans ?_
  simp only [Nat.mul_zero, Nat.zero_add]

theorem r550 (B : Fin 128) (w : Fin 8) (q : Fin 256) : (val_main_v550 (F := Ideal) x0 x1 x2 : Vec Ideal S128x8x256 .f32) (ix3 B w q)
    = Y x0 x1 x2 ((256 * B.val + q.val) / 2048) ((256 * B.val + q.val) % 2048) (3904 + w.val) * Ideal.ofBits .f32 1026884851#32 := by
  have hB := B.isLt; have hw := w.isLt; have hq := q.isLt
  pointwise [val_main_v29, val_main_cst_24, val_main_v527, val_main_v528, val_main_v548, val_main_v549, val_main_v550]
  exact congrArg (fun u : EReal => u * Ideal.ofBits .f32 1026884851#32) (r18 x0 x1 x2 _ _ _ (by (try dsimp only) <;> omega) (by (try dsimp only) <;> omega) (by (try dsimp only) <;> omega))
end Cert.Proof.Proj.Ref
end
-- ==== Proof.Proj.RefKv.lean ====
module

public import proofs.«01_k».proof.Proof.Gen.Reference3Ideal.Read
public import proofs.«01_k».proof.Proof.Proj.Spec
public import Idealize.ShloMosaic.Lib.Pointwise
public import proofs.«01_k».proof.Proof.Proj.RefRow

/-! What each chunk of the reference adds to the retention state. -/

@[expose] public section
set_option maxHeartbeats 400000
noncomputable section
namespace Cert.Proof.Proj.Ref
open Cert.Reference3Ideal Cert.Reference3Ideal.Gen Cert.Reference3Ideal.Read Idealize.ShloMosaic Idealize.ShloMosaic.TcCoe Cert.Proof.Proj.Spec

variable (x0 : Vec Ideal S16x2048x1024 .f32) (x1 : Vec Ideal S1x1024 .f32) (x2 : Vec Ideal S1x1024x3912 .f32)

theorem lgr (h : Fin 4) : (val_main_v102 (F := Ideal) : Vec Ideal S4 .f32) (ix1 h) = lg h.val := by
  pointwise [val_main_v95, val_main_cst_8, val_main_v96, val_main_v97, val_main_cst_9, val_main_v98, val_main_v99, val_main_v100, val_main_v101, val_main_v102]
  rfl

/-- A chunk's decay from each of its positions to its end, and over the whole chunk. -/
theorem te (h : Fin 4) (x : Fin 64) : (val_main_v123 (F := Ideal) : Vec Ideal S64x4 .f32) (ix2 x h) = dec h.val (64 - 1 - x.val) := by
  have hx := x.isLt
  pointwise [val_main_v103, val_main_v116, val_main_cst_10, val_main_v117, val_main_v118, val_main_v119, val_main_v120, val_main_v121, val_main_v122, val_main_v123]
  rw [lgr, c_63, sitofp_ofNat _ (by omega), ← EReal.coe_sub]
  unfold dec
  rw [show ((64 - 1 - x.val : ℕ) : ℝ) = 63 - (x.val : ℝ) by
    rw [show 64 - 1 - x.val = 63 - x.val by omega, Nat.cast_sub (by omega)]; norm_num]
theorem cd (h : Fin 4) : (val_main_v134 (F := Ideal) : Vec Ideal S4 .f32) (ix1 h) = dec h.val 64 := by
  pointwise [val_main_cst_12, val_main_v132, val_main_v133, val_main_v134]
  rw [lgr, c_64]
  unfold dec
  norm_num

/-- What position `p` of batch entry `b` adds to entry `(d, e)` of head `h`'s state. -/
def kvS (b h d e p : ℕ) : EReal :=
  rotR p (fun i => Y x0 x1 x2 b p (512 + (128 * h + i))) d * Ideal.ofBits .f32 1035273459#32 * Y x0 x1 x2 b p (1024 + (128 * h + e))

theorem kc (b : Fin 16) (n : Fin 32) (x : Fin 64) (h : Fin 4) (d : Fin 128) :
    (val_main_v147 (F := Ideal) x0 x1 x2 : Vec Ideal S16x32x64x4x128 .f32) (ix5 b n x h d)
      = rotR (64 * n.val + x.val) (fun i => Y x0 x1 x2 b.val (64 * n.val + x.val) (512 + (128 * h.val + i))) d.val * Ideal.ofBits .f32 1035273459#32
        * dec h.val (64 - 1 - x.val) := by
  pointwise [val_main_cst_7, val_main_v92, val_main_v93, val_main_v136, val_main_v144, val_main_v145, val_main_v146, val_main_v147]
  rw [te]
  exact congrArg (fun u : EReal => u * Ideal.ofBits .f32 1035273459#32 * dec h.val (64 - 1 - x.val)) (rk x0 x1 x2 _ _ _ _ rfl (by (try dsimp only) <;> omega) rfl rfl)

theorem vc (b : Fin 16) (n : Fin 32) (x : Fin 64) (h : Fin 4) (e : Fin 128) :
    (val_main_v137 (F := Ideal) x0 x1 x2 : Vec Ideal S16x32x64x4x128 .f32) (ix5 b n x h e)
      = Y x0 x1 x2 b.val (64 * n.val + x.val) (1024 + (128 * h.val + e.val)) := by
  pointwise [val_main_v21, val_main_v94, val_main_v137]
  exact r18 x0 x1 x2 _ _ _ rfl (by (try dsimp only) <;> omega) (by (try dsimp only) <;> omega)

/-- What a chunk of 64 positions adds to the state. -/
theorem kvr (n : Fin 32) (b : Fin 16) (h : Fin 4) (d e : Fin 128) :
    (val_main_v148 (F := Ideal) x0 x1 x2 : Vec Ideal S32x16x4x128x128 .f32) (ix5 n b h d e)
      = ∑ x : Fin 64, kvS x0 x1 x2 b.val h.val d.val e.val (64 * n.val + x.val) * dec h.val (64 - 1 - x.val) := by
  rw [val_main_v148_apply]
  refine Finset.sum_congr rfl fun x _ => ?_
  have el : lidx_main_v148 (ix5 n b h d e) x = ix5 b n x h d := by
    funext a
    apply Fin.ext
    match a with
    | ⟨0, _⟩ => rfl
    | ⟨1, _⟩ => rfl
    | ⟨2, _⟩ => rfl
    | ⟨3, _⟩ => rfl
    | ⟨4, _⟩ => rfl
  have er : ridx_main_v148 (ix5 n b h d e) x = ix5 b n x h e := by
    funext a
    apply Fin.ext
    match a with
    | ⟨0, _⟩ => rfl
    | ⟨1, _⟩ => rfl
    | ⟨2, _⟩ => rfl
    | ⟨3, _⟩ => rfl
    | ⟨4, _⟩ => rfl
  rw [el, er, kc, vc]
  unfold kvS
  rw [mul_right_comm]
end Cert.Proof.Proj.Ref
end
-- ==== Proof.Proj.RefState.lean ====
module

public import proofs.«01_k».proof.Proof.Gen.Reference3Ideal.Read
public import proofs.«01_k».proof.Proof.Proj.Spec
public import Idealize.ShloMosaic.Lib.Pointwise
public import proofs.«01_k».proof.Proof.Proj.RefKv

/-! The reference's retention state, chunk by chunk. -/

@[expose] public section
set_option maxHeartbeats 400000
noncomputable section
namespace Cert.Proof.Proj.Ref
open Cert.Reference3Ideal Cert.Reference3Ideal.Gen Cert.Reference3Ideal.Read Idealize.ShloMosaic Idealize.ShloMosaic.TcCoe Cert.Proof.Proj.Spec

variable (x0 : Vec Ideal S16x2048x1024 .f32) (x1 : Vec Ideal S1x1024 .f32) (x2 : Vec Ideal S1x1024x3912 .f32)

variable (b : Fin 16) (h : Fin 4) (d e : Fin 128)
/-- The state after each chunk. -/
abbrev St (N : ℕ) : EReal := state (dec h.val) 0 (kvS x0 x1 x2 b.val h.val d.val e.val) N

theorem step (n : Fin 32) {N : ℕ} (hN : N = 64 * n.val) :
    St x0 x1 x2 b h d e N * (val_main_v134 (F := Ideal) : Vec Ideal S4 .f32) (ix1 h)
      + (val_main_v148 (F := Ideal) x0 x1 x2 : Vec Ideal S32x16x4x128x128 .f32) (ix5 n b h d e) = St x0 x1 x2 b h d e (N + 64) := by
  subst hN
  rw [cd, kvr]
  exact state_add (decay_dec h.val h.isLt) _ _ _ _

theorem s0 : (val_main_v154 (F := Ideal) x0 x1 x2 : Vec Ideal S16x4x128x128 .f32) (ix4 b h d e) = St x0 x1 x2 b h d e 64 := by
  pointwise [val_main_cst, val_main_v1, val_main_v149, val_main_v150, val_main_v151, val_main_v152, val_main_v153, val_main_v154]
  refine Eq.trans ?_ (step x0 x1 x2 b h d e 0 (N := 0) rfl)
  rw [St, state_zero (decay_dec h.val h.isLt)]

theorem s1 : (val_main_v160 (F := Ideal) x0 x1 x2 : Vec Ideal S16x4x128x128 .f32) (ix4 b h d e) = St x0 x1 x2 b h d e 128 := by
  pointwise [val_main_v155, val_main_v156, val_main_v157, val_main_v158, val_main_v159, val_main_v160]
  rw [s0]
  exact step x0 x1 x2 b h d e 1 rfl

theorem s2 : (val_main_v166 (F := Ideal) x0 x1 x2 : Vec Ideal S16x4x128x128 .f32) (ix4 b h d e) = St x0 x1 x2 b h d e 192 := by
  pointwise [val_main_v161, val_main_v162, val_main_v163, val_main_v164, val_main_v165, val_main_v166]
  rw [s1]
  exact step x0 x1 x2 b h d e 2 rfl

theorem s3 : (val_main_v172 (F := Ideal) x0 x1 x2 : Vec Ideal S16x4x128x128 .f32) (ix4 b h d e) = St x0 x1 x2 b h d e 256 := by
  pointwise [val_main_v167, val_main_v168, val_main_v169, val_main_v170, val_main_v171, val_main_v172]
  rw [s2]
  exact step x0 x1 x2 b h d e 3 rfl

theorem s4 : (val_main_v178 (F := Ideal) x0 x1 x2 : Vec Ideal S16x4x128x128 .f32) (ix4 b h d e) = St x0 x1 x2 b h d e 320 := by
  pointwise [val_main_v173, val_main_v174, val_main_v175, val_main_v176, val_main_v177, val_main_v178]
  rw [s3]
  exact step x0 x1 x2 b h d e 4 rfl

theorem s5 : (val_main_v184 (F := Ideal) x0 x1 x2 : Vec Ideal S16x4x128x128 .f32) (ix4 b h d e) = St x0 x1 x2 b h d e 384 := by
  pointwise [val_main_v179, val_main_v180, val_main_v181, val_main_v182, val_main_v183, val_main_v184]
  rw [s4]
  exact step x0 x1 x2 b h d e 5 rfl

theorem s6 : (val_main_v190 (F := Ideal) x0 x1 x2 : Vec Ideal S16x4x128x128 .f32) (ix4 b h d e) = St x0 x1 x2 b h d e 448 := by
  pointwise [val_main_v185, val_main_v186, val_main_v187, val_main_v188, val_main_v189, val_main_v190]
  rw [s5]
  exact step x0 x1 x2 b h d e 6 rfl

theorem s7 : (val_main_v196 (F := Ideal) x0 x1 x2 : Vec Ideal S16x4x128x128 .f32) (ix4 b h d e) = St x0 x1 x2 b h d e 512 := by
  pointwise [val_main_v191, val_main_v192, val_main_v193, val_main_v194, val_main_v195, val_main_v196]
  rw [s6]
  exact step x0 x1 x2 b h d e 7 rfl

theorem s8 : (val_main_v202 (F := Ideal) x0 x1 x2 : Vec Ideal S16x4x128x128 .f32) (ix4 b h d e) = St x0 x1 x2 b h d e 576 := by
  pointwise [val_main_v197, val_main_v198, val_main_v199, val_main_v200, val_main_v201, val_main_v202]
  rw [s7]
  exact step x0 x1 x2 b h d e 8 rfl

theorem s9 : (val_main_v208 (F := Ideal) x0 x1 x2 : Vec Ideal S16x4x128x128 .f32) (ix4 b h d e) = St x0 x1 x2 b h d e 640 := by
  pointwise [val_main_v203, val_main_v204, val_main_v205, val_main_v206, val_main_v207, val_main_v208]
  rw [s8]
  exact step x0 x1 x2 b h d e 9 rfl

theorem s10 : (val_main_v214 (F := Ideal) x0 x1 x2 : Vec Ideal S16x4x128x128 .f32) (ix4 b h d e) = St x0 x1 x2 b h d e 704 := by
  pointwise [val_main_v209, val_main_v210, val_main_v211, val_main_v212, val_main_v213, val_main_v214]
  rw [s9]
  exact step x0 x1 x2 b h d e 10 rfl

theorem s11 : (val_main_v220 (F := Ideal) x0 x1 x2 : Vec Ideal S16x4x128x128 .f32) (ix4 b h d e) = St x0 x1 x2 b h d e 768 := by
  pointwise [val_main_v215, val_main_v216, val_main_v217, val_main_v218, val_main_v219, val_main_v220]
  rw [s10]
  exact step x0 x1 x2 b h d e 11 rfl

theorem s12 : (val_main_v226 (F := Ideal) x0 x1 x2 : Vec Ideal S16x4x128x128 .f32) (ix4 b h d e) = St x0 x1 x2 b h d e 832 := by
  pointwise [val_main_v221, val_main_v222, val_main_v223, val_main_v224, val_main_v225, val_main_v226]
  rw [s11]
  exact step x0 x1 x2 b h d e 12 rfl

theorem s13 : (val_main_v232 (F := Ideal) x0 x1 x2 : Vec Ideal S16x4x128x128 .f32) (ix4 b h d e) = St x0 x1 x2 b h d e 896 := by
  pointwise [val_main_v227, val_main_v228, val_main_v229, val_main_v230, val_main_v231, val_main_v232]
  rw [s12]
  exact step x0 x1 x2 b h d e 13 rfl

theorem s14 : (val_main_v238 (F := Ideal) x0 x1 x2 : Vec Ideal S16x4x128x128 .f32) (ix4 b h d e) = St x0 x1 x2 b h d e 960 := by
  pointwise [val_main_v233, val_main_v234, val_main_v235, val_main_v236, val_main_v237, val_main_v238]
  rw [s13]
  exact step x0 x1 x2 b h d e 14 rfl

theorem s15 : (val_main_v244 (F := Ideal) x0 x1 x2 : Vec Ideal S16x4x128x128 .f32) (ix4 b h d e) = St x0 x1 x2 b h d e 1024 := by
  pointwise [val_main_v239, val_main_v240, val_main_v241, val_main_v242, val_main_v243, val_main_v244]
  rw [s14]
  exact step x0 x1 x2 b h d e 15 rfl

theorem s16 : (val_main_v250 (F := Ideal) x0 x1 x2 : Vec Ideal S16x4x128x128 .f32) (ix4 b h d e) = St x0 x1 x2 b h d e 1088 := by
  pointwise [val_main_v245, val_main_v246, val_main_v247, val_main_v248, val_main_v249, val_main_v250]
  rw [s15]
  exact step x0 x1 x2 b h d e 16 rfl

theorem s17 : (val_main_v256 (F := Ideal) x0 x1 x2 : Vec Ideal S16x4x128x128 .f32) (ix4 b h d e) = St x0 x1 x2 b h d e 1152 := by
  pointwise [val_main_v251, val_main_v252, val_main_v253, val_main_v254, val_main_v255, val_main_v256]
  rw [s16]
  exact step x0 x1 x2 b h d e 17 rfl

theorem s18 : (val_main_v262 (F := Ideal) x0 x1 x2 : Vec Ideal S16x4x128x128 .f32) (ix4 b h d e) = St x0 x1 x2 b h d e 1216 := by
  pointwise [val_main_v257, val_main_v258, val_main_v259, val_main_v260, val_main_v261, val_main_v262]
  rw [s17]
  exact step x0 x1 x2 b h d e 18 rfl

theorem s19 : (val_main_v268 (F := Ideal) x0 x1 x2 : Vec Ideal S16x4x128x128 .f32) (ix4 b h d e) = St x0 x1 x2 b h d e 1280 := by
  pointwise [val_main_v263, val_main_v264, val_main_v265, val_main_v266, val_main_v267, val_main_v268]
  rw [s18]
  exact step x0 x1 x2 b h d e 19 rfl

theorem s20 : (val_main_v274 (F := Ideal) x0 x1 x2 : Vec Ideal S16x4x128x128 .f32) (ix4 b h d e) = St x0 x1 x2 b h d e 1344 := by
  pointwise [val_main_v269, val_main_v270, val_main_v271, val_main_v272, val_main_v273, val_main_v274]
  rw [s19]
  exact step x0 x1 x2 b h d e 20 rfl

theorem s21 : (val_main_v280 (F := Ideal) x0 x1 x2 : Vec Ideal S16x4x128x128 .f32) (ix4 b h d e) = St x0 x1 x2 b h d e 1408 := by
  pointwise [val_main_v275, val_main_v276, val_main_v277, val_main_v278, val_main_v279, val_main_v280]
  rw [s20]
  exact step x0 x1 x2 b h d e 21 rfl

theorem s22 : (val_main_v286 (F := Ideal) x0 x1 x2 : Vec Ideal S16x4x128x128 .f32) (ix4 b h d e) = St x0 x1 x2 b h d e 1472 := by
  pointwise [val_main_v281, val_main_v282, val_main_v283, val_main_v284, val_main_v285, val_main_v286]
  rw [s21]
  exact step x0 x1 x2 b h d e 22 rfl

theorem s23 : (val_main_v292 (F := Ideal) x0 x1 x2 : Vec Ideal S16x4x128x128 .f32) (ix4 b h d e) = St x0 x1 x2 b h d e 1536 := by
  pointwise [val_main_v287, val_main_v288, val_main_v289, val_main_v290, val_main_v291, val_main_v292]
  rw [s22]
  exact step x0 x1 x2 b h d e 23 rfl

theorem s24 : (val_main_v298 (F := Ideal) x0 x1 x2 : Vec Ideal S16x4x128x128 .f32) (ix4 b h d e) = St x0 x1 x2 b h d e 1600 := by
  pointwise [val_main_v293, val_main_v294, val_main_v295, val_main_v296, val_main_v297, val_main_v298]
  rw [s23]
  exact step x0 x1 x2 b h d e 24 rfl

theorem s25 : (val_main_v304 (F := Ideal) x0 x1 x2 : Vec Ideal S16x4x128x128 .f32) (ix4 b h d e) = St x0 x1 x2 b h d e 1664 := by
  pointwise [val_main_v299, val_main_v300, val_main_v301, val_main_v302, val_main_v303, val_main_v304]
  rw [s24]
  exact step x0 x1 x2 b h d e 25 rfl

theorem s26 : (val_main_v310 (F := Ideal) x0 x1 x2 : Vec Ideal S16x4x128x128 .f32) (ix4 b h d e) = St x0 x1 x2 b h d e 1728 := by
  pointwise [val_main_v305, val_main_v306, val_main_v307, val_main_v308, val_main_v309, val_main_v310]
  rw [s25]
  exact step x0 x1 x2 b h d e 26 rfl

theorem s27 : (val_main_v316 (F := Ideal) x0 x1 x2 : Vec Ideal S16x4x128x128 .f32) (ix4 b h d e) = St x0 x1 x2 b h d e 1792 := by
  pointwise [val_main_v311, val_main_v312, val_main_v313, val_main_v314, val_main_v315, val_main_v316]
  rw [s26]
  exact step x0 x1 x2 b h d e 27 rfl

theorem s28 : (val_main_v322 (F := Ideal) x0 x1 x2 : Vec Ideal S16x4x128x128 .f32) (ix4 b h d e) = St x0 x1 x2 b h d e 1856 := by
  pointwise [val_main_v317, val_main_v318, val_main_v319, val_main_v320, val_main_v321, val_main_v322]
  rw [s27]
  exact step x0 x1 x2 b h d e 28 rfl

theorem s29 : (val_main_v328 (F := Ideal) x0 x1 x2 : Vec Ideal S16x4x128x128 .f32) (ix4 b h d e) = St x0 x1 x2 b h d e 1920 := by
  pointwise [val_main_v323, val_main_v324, val_main_v325, val_main_v326, val_main_v327, val_main_v328]
  rw [s28]
  exact step x0 x1 x2 b h d e 29 rfl

theorem s30 : (val_main_v334 (F := Ideal) x0 x1 x2 : Vec Ideal S16x4x128x128 .f32) (ix4 b h d e) = St x0 x1 x2 b h d e 1984 := by
  pointwise [val_main_v329, val_main_v330, val_main_v331, val_main_v332, val_main_v333, val_main_v334]
  rw [s29]
  exact step x0 x1 x2 b h d e 30 rfl

theorem s31 : (val_main_v340 (F := Ideal) x0 x1 x2 : Vec Ideal S16x4x128x128 .f32) (ix4 b h d e) = St x0 x1 x2 b h d e 2048 := by
  pointwise [val_main_v335, val_main_v336, val_main_v337, val_main_v338, val_main_v339, val_main_v340]
  rw [s30]
  exact step x0 x1 x2 b h d e 31 rfl
end Cert.Proof.Proj.Ref
end
-- ==== Proof.Proj.Agree.lean ====
module

public import proofs.«01_k».proof.Proof.Proj.Out
public import proofs.«01_k».proof.Proof.Proj.RefOut
public import proofs.«01_k».proof.Proof.Proj.RefState

/-! Each result of the prompt call is the reference's result over the same arguments. -/

@[expose] public section
noncomputable section
namespace Cert.Proof.Proj.Agree
open Idealize.ShloMosaic Idealize.ShloMosaic.TcCoe Idealize.SL.Sem Cert.Proof.Proj.Spec
open Cert.Kernel3Ideal (nD τ sig)
open Cert.Kernel3Ideal.Value (G16 G17 G18 G19 G20 G21 G22 G23)

variable (m : (ℓ : Loc nD τ sig) → Buf (Elt Ideal) ℓ) (c : Dev nD)
variable {x0 : (⟨Cert.Reference3Ideal.S16x2048x1024, .f32⟩ : BufTy).Contents (Elt Ideal)} {x1 : (⟨Cert.Reference3Ideal.S1x1024, .f32⟩ : BufTy).Contents (Elt Ideal)} {x2 : (⟨Cert.Reference3Ideal.S1x1024x3912, .f32⟩ : BufTy).Contents (Elt Ideal)}
  (h0 : x0 = Blk.a0 m c) (h1 : x1 = Blk.a1 m c) (h2 : x2 = Blk.a2 m c)

include h0 h1 h2 in
theorem e0 : (Cert.Reference3Ideal.Read.val_main_v340 (F := Ideal) x0 x1 x2 : Cert.Kernel3Ideal.S16x4x128x128.Idx → EReal) = G16 m c := by
  subst h0 h1 h2
  funext i
  rw [eq_ix4 i]
  exact (Ref.s31 (Blk.a0 m c) (Blk.a1 m c) (Blk.a2 m c) (i 0) (i 1) (i 2) (i 3)).trans (Out.G16_at m c (i 0) (i 1) (i 2) (i 3)).symm

include h0 h1 h2 in
theorem e1 : (Cert.Reference3Ideal.Read.val_main_v536 (F := Ideal) x0 x1 x2 : Cert.Kernel3Ideal.S128x512x256.Idx → EReal) = G17 m c := by
  subst h0 h1 h2
  funext i
  rw [eq_ix3 i]
  exact (Ref.r536 (Blk.a0 m c) (Blk.a1 m c) (Blk.a2 m c) (i 0) (i 1) (i 2)).trans (Out.G17_at m c (i 0) (i 1) (i 2)).symm

include h0 h1 h2 in
theorem e2 : (Cert.Reference3Ideal.Read.val_main_v537 (F := Ideal) x0 x1 x2 : Cert.Kernel3Ideal.S32768x128.Idx → EReal) = G18 m c := by
  subst h0 h1 h2
  funext i
  rw [eq_ix2 i]
  exact (Ref.r537 (Blk.a0 m c) (Blk.a1 m c) (Blk.a2 m c) (i 0) (i 1)).trans (Out.G18_at m c (i 0) (i 1)).symm

include h0 h1 h2 in
theorem e3 : (Cert.Reference3Ideal.Read.val_main_v538 (F := Ideal) x0 x1 x2 : Cert.Kernel3Ideal.S32768x128.Idx → EReal) = G19 m c := by
  subst h0 h1 h2
  funext i
  rw [eq_ix2 i]
  exact (Ref.r538 (Blk.a0 m c) (Blk.a1 m c) (Blk.a2 m c) (i 0) (i 1)).trans (Out.G19_at m c (i 0) (i 1)).symm

include h0 h1 h2 in
theorem e4 : (Cert.Reference3Ideal.Read.val_main_v542 (F := Ideal) x0 x1 x2 : Cert.Kernel3Ideal.S128x512x256.Idx → EReal) = G20 m c := by
  subst h0 h1 h2
  funext i
  rw [eq_ix3 i]
  exact (Ref.r542 (Blk.a0 m c) (Blk.a1 m c) (Blk.a2 m c) (i 0) (i 1) (i 2)).trans (Out.G20_at m c (i 0) (i 1) (i 2)).symm

include h0 h1 h2 in
theorem e5 : (Cert.Reference3Ideal.Read.val_main_v546 (F := Ideal) x0 x1 x2 : Cert.Kernel3Ideal.S128x512x256.Idx → EReal) = G21 m c := by
  subst h0 h1 h2
  funext i
  rw [eq_ix3 i]
  exact (Ref.r546 (Blk.a0 m c) (Blk.a1 m c) (Blk.a2 m c) (i 0) (i 1) (i 2)).trans (Out.G21_at m c (i 0) (i 1) (i 2)).symm

include h0 h1 h2 in
theorem e6 : (Cert.Reference3Ideal.Read.val_main_v547 (F := Ideal) x0 x1 x2 : Cert.Kernel3Ideal.S32768x64.Idx → EReal) = G22 m c := by
  subst h0 h1 h2
  funext i
  rw [eq_ix2 i]
  exact (Ref.r547 (Blk.a0 m c) (Blk.a1 m c) (Blk.a2 m c) (i 0) (i 1)).trans (Out.G22_at m c (i 0) (i 1)).symm

include h0 h1 h2 in
theorem e7 : (Cert.Reference3Ideal.Read.val_main_v550 (F := Ideal) x0 x1 x2 : Cert.Kernel3Ideal.S128x8x256.Idx → EReal) = G23 m c := by
  subst h0 h1 h2
  funext i
  rw [eq_ix3 i]
  exact (Ref.r550 (Blk.a0 m c) (Blk.a1 m c) (Blk.a2 m c) (i 0) (i 1) (i 2)).trans (Out.G23_at m c (i 0) (i 1) (i 2)).symm

end Cert.Proof.Proj.Agree
end
-- ==== Proof.Outp.Body.lean ====
module

public import proofs.«01_k».proof.Proof.Gen.Kernel4Ideal.Value
public import Idealize.ShloMosaic.Lib.Pipeline.ValueKit.Point

/-! The output projection's tile: each row is the residual row plus the two products, normalised and scaled. -/

@[expose] public section
set_option maxHeartbeats 400000
noncomputable section
namespace Cert.Proof.Outp
open Cert.Kernel4Ideal Cert.Kernel4Ideal.Gen Cert.Kernel4Ideal.Value Idealize.ShloMosaic Idealize.ShloMosaic.TcCoe Idealize.SL.Sem

/-- A row before its normalisation: the residual plus the retention half and the attention half of the product. -/
def zrow (x : Fin 1024 → EReal) (ro ao : Fin 512 → EReal) (w0 w1 : Fin 512 → Fin 1024 → EReal) (k : Fin 1024) : EReal :=
  x k + (∑ e, ro e * w0 e k + ∑ e, ao e * w1 e k)

/-- A row divided by its root mean square and scaled by the gain. -/
def fin (z g : Fin 1024 → EReal) (j : Fin 1024) : EReal :=
  z j * Ideal.rsqrt (Ideal.div (∑ k, z k * z k) (Ideal.ofBits .f32 1149239296#32) + Ideal.ofBits .f32 897988541#32) * g j

theorem at2 {n0 n1 : ℕ} (f : (⟨2, ![n0, n1]⟩ : Shape).Idx → EReal) {a a' : Fin n0} {b b' : Fin n1} (ha : a.val = a'.val) (hb : b.val = b'.val) :
    f (ix2 a b) = f (ix2 a' b') := by
  rw [Fin.ext ha, Fin.ext hb]
theorem at3 {n0 n1 n2 : ℕ} (f : (⟨3, ![n0, n1, n2]⟩ : Shape).Idx → EReal) {a a' : Fin n0} {b b' : Fin n1} {d d' : Fin n2}
    (ha : a.val = a'.val) (hb : b.val = b'.val) (hd : d.val = d'.val) : f (ix3 a b d) = f (ix3 a' b' d') := by
  rw [Fin.ext ha, Fin.ext hb, Fin.ext hd]

/-- The four blocks of attention columns laid side by side and transposed. -/
def aoT (v0 v2 v4 v6 : Vec Ideal S1x512x256 .bf16) : FVec Ideal S1024x512 .bf16 :=
  truncf .bf16 (transpose S1024x512 [1, 0] (extf .f32 (concatenate S512x1024 1
    [⟨S512x256, shapeCast S512x256 v0 shapeCasts_S1x512x256_S512x256⟩, ⟨S512x256, shapeCast S512x256 v2 shapeCasts_S1x512x256_S512x256⟩,
     ⟨S512x256, shapeCast S512x256 v4 shapeCasts_S1x512x256_S512x256⟩, ⟨S512x256, shapeCast S512x256 v6 shapeCasts_S1x512x256_S512x256⟩]
    concatenates_S512x256_S512x256_S512x256_S512x256_S512x1024_d1) bitsLt_bf16_f32) transposes_S512x1024_p1_0_S1024x512) bitsLt_bf16_f32

theorem aoT_at (x2 : Vec Ideal S4x512x256 .bf16) (r : Fin 1024) (e : Fin 512) (n : Fin 4) (q : Fin 256) (hr : r.val = 256 * n.val + q.val) :
    aoT (View.ld x2 r0_0) (View.ld x2 r0_1) (View.ld x2 r0_2) (View.ld x2 r0_3) (ix2 r e) = x2 (ix3 n e q) := by
  have hn := n.isLt; have hq := q.isLt
  pointwise [aoT]
  split_ifs <;> first
    | (exfalso; omega)
    | exact at3 x2 (by (try dsimp only) <;> omega) rfl (by (try dsimp only) <;> omega)

/-- The row before its normalisation, for any attention operand. -/
def zv (a v12 : FVec Ideal S1024x512 .bf16) (v13 v16 : Vec Ideal S512x1024 .bf16) (v20 : Vec Ideal S1024x1024 .f32) : FVec Ideal S1024x1024 .f32 :=
  addf (shapeCast S1024x1024 v20 shapeCasts_S1024x1024_S1024x1024)
    (addf (matmul dot_S1024x512_S512x1024_S1024x1024_1_0_0_1_n_n none v12 (shapeCast S512x1024 v13 shapeCasts_S512x1024_S512x1024 : FVec Ideal S512x1024 .bf16) (constant S1024x1024 .f32 0x00000000#32))
      (matmul dot_S1024x512_S512x1024_S1024x1024_1_0_0_1_n_n none a (shapeCast S512x1024 v16 shapeCasts_S512x1024_S512x1024 : FVec Ideal S512x1024 .bf16) (constant S1024x1024 .f32 0x00000000#32)))

/-- The normalised row. -/
def nv (z : FVec Ideal S1024x1024 .f32) : FVec Ideal S1024x1024 .f32 :=
  mulf z (broadcastTo S1024x1024 (rsqrt (addf (divf (shapeCast S1024x1 (multiReduction .add [1] S1024 (mulf z z) 0x00000000#32 reduces_S1024x1024_S1024 (.inl rfl) rfl) shapeCasts_S1024_S1024x1)
    (broadcast S1024x1 (Scalar.ofBits .f32 0x44800000#32))) (broadcast S1024x1 (Scalar.ofBits .f32 0x358637BD#32)))) broadcasts_S1024x1_S1024x1024)

theorem pay2_eq (v0 v2 v4 v6 : Vec Ideal S1x512x256 .bf16) (v12 : Vec Ideal S1024x512 .bf16) (v13 v16 : Vec Ideal S512x1024 .bf16) (v20 : Vec Ideal S1024x1024 .f32) :
    k0_pay2 (F := Ideal) v0 v2 v4 v6 v12 v13 v16 v20 = nv (zv (aoT v0 v2 v4 v6) v12 v13 v16 v20) := rfl

theorem zv_at (x0 : Vec Ideal S1024x1024 .f32) (x1 : Vec Ideal S1024x512 .bf16) (x3 : Vec Ideal S1024x1024 .bf16) (a : FVec Ideal S1024x512 .bf16) (r k : Fin 1024) :
    zv a (View.ld x1 r0_4) (View.ld x3 r0_5) (View.ld x3 r0_6) (View.ld x0 r0_7) (ix2 r k)
      = zrow (fun k => x0 (ix2 r k)) (fun e => x1 (ix2 r e)) (fun e => a (ix2 r e)) (fun e k => x3 (ix2 ⟨e.val, by omega⟩ k)) (fun e k => x3 (ix2 ⟨512 + e.val, by omega⟩ k)) k := by
  pointwise [zv]
  rfl

theorem nv_at (z : FVec Ideal S1024x1024 .f32) (r k : Fin 1024) :
    nv z (ix2 r k) = z (ix2 r k) * Ideal.rsqrt (Ideal.div (∑ k, z (ix2 r k) * z (ix2 r k)) (Ideal.ofBits .f32 1149239296#32) + Ideal.ofBits .f32 897988541#32) := by
  pointwise [nv]

theorem body (x0 : Vec Ideal S1024x1024 .f32) (x1 : Vec Ideal S1024x512 .bf16) (x2 : Vec Ideal S4x512x256 .bf16) (x3 : Vec Ideal S1024x1024 .bf16) (x4 : Vec Ideal S1x1024 .f32)
    (r j : Fin 1024) (n : Fin 4) (q : Fin 256) (hr : r.val = 256 * n.val + q.val) :
    out0_5 x0 x1 x2 x3 x4 (ix2 r j)
      = fin (zrow (fun k => x0 (ix2 r k)) (fun e => x1 (ix2 r e)) (fun e => x2 (ix3 n e q)) (fun e k => x3 (ix2 ⟨e.val, by omega⟩ k)) (fun e k => x3 (ix2 ⟨512 + e.val, by omega⟩ k)))
        (fun k => x4 (ix2 0 k)) j := by
  unfold out0_5
  rw [canon5_eq]
  have e0 : ix5_0 (ix2 r j) = ix2 r j := by
    funext a; apply Fin.ext
    match a with
    | ⟨0, _⟩ => rfl
    | ⟨1, _⟩ => rfl
  have e1 : ix5_1 (ix2 r j) = ix2 (0 : Fin 1) j := by
    funext a; apply Fin.ext
    match a with
    | ⟨0, _⟩ => rfl
    | ⟨1, _⟩ => rfl
  have e4 : (View.ld x4 r0_8 : Vec Ideal S1x1024 .f32) (ix2 (0 : Fin 1) j) = x4 (ix2 0 j) := by pointwise
  show k0_pay2 (F := Ideal) _ _ _ _ _ _ _ _ (ix5_0 (ix2 r j)) * (View.ld x4 r0_8 : Vec Ideal S1x1024 .f32) (ix5_1 (ix2 r j)) = _
  rw [e0, e1, e4, pay2_eq, nv_at]
  simp only [zv_at, aoT_at x2 r _ n q hr]
  rfl
end Cert.Proof.Outp
end
-- ==== Proof.Outp.Out.lean ====
module

public import proofs.«01_k».proof.Proof.Outp.Body
public import Idealize.ShloMosaic.Lib.StableHlo.Run

/-! The output projection's result array, read at an index in terms of the arguments. -/

@[expose] public section
set_option maxHeartbeats 400000
noncomputable section
namespace Cert.Proof.Outp
open Cert.Kernel4Ideal Cert.Kernel4Ideal.Gen Cert.Kernel4Ideal.Value Idealize.ShloMosaic Idealize.ShloMosaic.TcCoe Idealize.SL.Sem Idealize.ShloMosaic.StableHlo

theorem ix_0 : ∀ t : Fin cfg0.N, win0_0.index t = ![t.val, 0] := (by decide +kernel : ∀ t : Fin grid0.N, _)
theorem ix_1 : ∀ t : Fin cfg0.N, win0_1.index t = ![t.val, 0] := (by decide +kernel : ∀ t : Fin grid0.N, _)
theorem ix_2 : ∀ t : Fin cfg0.N, win0_2.index t = ![t.val, 0, 0] := (by decide +kernel : ∀ t : Fin grid0.N, _)
theorem ix_3 : ∀ t : Fin cfg0.N, win0_3.index t = ![0, 0] := (by decide +kernel : ∀ t : Fin grid0.N, _)
theorem ix_4 : ∀ t : Fin cfg0.N, win0_4.index t = ![0, 0] := (by decide +kernel : ∀ t : Fin grid0.N, _)
theorem ix_5 : ∀ t : Fin cfg0.N, win0_5.index t = ![t.val, 0] := (by decide +kernel : ∀ t : Fin grid0.N, _)
theorem fl_5 : ∀ t : Fin cfg0.N, (cfg0.win 5).flush t = true := (by decide +kernel : ∀ t : Fin grid0.N, _)

/-- The output row `R`, column `j`, as a function of the five arguments. -/
def rowOut (x : S16x2048x1024.Idx → EReal) (ro : S32768x512.Idx → EReal) (ao : S128x512x256.Idx → EReal) (w : S1x1024x1024.Idx → EReal) (g : S1024.Idx → EReal)
    (R : Fin 32768) (j : Fin 1024) : EReal :=
  fin (zrow (fun k => x (ix3 ⟨R.val / 2048, by omega⟩ ⟨R.val % 2048, by omega⟩ k)) (fun e => ro (ix2 R e))
    (fun e => ao (ix3 ⟨R.val / 256, by omega⟩ e ⟨R.val % 256, by omega⟩)) (fun e k => w (ix3 0 ⟨e.val, by omega⟩ k)) (fun e k => w (ix3 0 ⟨512 + e.val, by omega⟩ k)))
    (fun k => g (ix1 k)) j

variable (m : (ℓ : Loc nD τ sig) → Buf (Elt Ideal) ℓ) (c : Dev nD) (t : Fin cfg0.N)

/-- The arguments: activations, retention output, attention output, weights and gain. -/
abbrev a0 : S16x2048x1024.Idx → EReal := m ((c : Thread nD τ).loc main_arg0)
abbrev a1 : S32768x512.Idx → EReal := m ((c : Thread nD τ).loc main_arg1)
abbrev a2 : S128x512x256.Idx → EReal := m ((c : Thread nD τ).loc main_arg2)
abbrev a3 : S1x1024x1024.Idx → EReal := m ((c : Thread nD τ).loc main_arg3)
abbrev a4 : S1024.Idx → EReal := m ((c : Thread nD τ).loc main_arg4)

/-- The activations as rows, the weights as a matrix and the gain as a row. -/
def hx (x : FVec Ideal S16x2048x1024 .f32) : FVec Ideal S32768x1024 .f32 := shapeCast S32768x1024 x shapeCasts_S16x2048x1024_S32768x1024
def hw (w : FVec Ideal S1x1024x1024 .f32) : FVec Ideal S1024x1024 .bf16 := truncf .bf16 (shapeCast S1024x1024 w shapeCasts_S1x1024x1024_S1024x1024 : FVec Ideal S1024x1024 .f32) bitsLt_bf16_f32
def hg (g : FVec Ideal S1024 .f32) : FVec Ideal S1x1024 .f32 := broadcastInDim S1x1024 ![1] bcast_S1024_S1x1024_1 g

theorem v3 : (V m c main_v3 : FVec Ideal S32768x1024 .f32) = hx (a0 m c) := by
  show StableHlo.after _ _ _ = _
  simp only [hostOps0, List.flatten_cons, List.flatten_nil, List.append_nil, List.cons_append, List.nil_append]
  after_results_simp
  rfl
theorem v1 : (V m c main_v1 : FVec Ideal S1024x1024 .bf16) = hw (a3 m c) := by
  show StableHlo.after _ _ _ = _
  simp only [hostOps0, List.flatten_cons, List.flatten_nil, List.append_nil, List.cons_append, List.nil_append]
  after_results_simp
  rfl
theorem v2 : (V m c main_v2 : FVec Ideal S1x1024 .f32) = hg (a4 m c) := by
  show StableHlo.after _ _ _ = _
  simp only [hostOps0, List.flatten_cons, List.flatten_nil, List.append_nil, List.cons_append, List.nil_append]
  after_results_simp
  rfl
theorem vro : (V m c main_arg1 : FVec Ideal S32768x512 .bf16) = a1 m c := by
  show StableHlo.after _ _ _ = _
  simp only [hostOps0, List.flatten_cons, List.flatten_nil, List.append_nil, List.cons_append, List.nil_append]
  after_results_simp
theorem vao : (V m c main_arg2 : FVec Ideal S128x512x256 .bf16) = a2 m c := by
  show StableHlo.after _ _ _ = _
  simp only [hostOps0, List.flatten_cons, List.flatten_nil, List.append_nil, List.cons_append, List.nil_append]
  after_results_simp

theorem b0 (r k : Fin 1024) (R : Fin 32768) (hR : R.val = t.val * 1024 + r.val) :
    (iblk m c 0 t : Vec Ideal S1024x1024 .f32) (ix2 r k) = a0 m c (ix3 ⟨R.val / 2048, by omega⟩ ⟨R.val % 2048, by omega⟩ k) := by
  have ht : t.val < 32 := t.isLt
  have e : (iblk m c 0 t : Vec Ideal S1024x1024 .f32) (ix2 r k) = (V m c main_v3 : FVec Ideal S32768x1024 .f32) (ix2 ⟨t.val * 1024 + r.val, by omega⟩ k) := by
    blk_ext [iblk, ix_0]
  rw [e, v3]
  pointwise [hx]
  exact at3 _ (by (try dsimp only) <;> omega) (by (try dsimp only) <;> omega) rfl

theorem b1 (r : Fin 1024) (e : Fin 512) (R : Fin 32768) (hR : R.val = t.val * 1024 + r.val) :
    (iblk m c 1 t : Vec Ideal S1024x512 .bf16) (ix2 r e) = a1 m c (ix2 R e) := by
  have ht : t.val < 32 := t.isLt
  have e' : (iblk m c 1 t : Vec Ideal S1024x512 .bf16) (ix2 r e) = (V m c main_arg1 : FVec Ideal S32768x512 .bf16) (ix2 ⟨t.val * 1024 + r.val, by omega⟩ e) := by
    blk_ext [iblk, ix_1]
  rw [e', vro]
  exact at2 _ (by (try dsimp only) <;> omega) rfl

theorem b2 (n : Fin 4) (e : Fin 512) (q : Fin 256) (R : Fin 32768) (hR : R.val = t.val * 1024 + (256 * n.val + q.val)) :
    (iblk m c 2 t : Vec Ideal S4x512x256 .bf16) (ix3 n e q) = a2 m c (ix3 ⟨R.val / 256, by omega⟩ e ⟨R.val % 256, by omega⟩) := by
  have ht : t.val < 32 := t.isLt
  have e' : (iblk m c 2 t : Vec Ideal S4x512x256 .bf16) (ix3 n e q) = (V m c main_arg2 : FVec Ideal S128x512x256 .bf16) (ix3 ⟨t.val * 4 + n.val, by omega⟩ e q) := by
    blk_ext [iblk, ix_2]
  rw [e', vao]
  exact at3 _ (by (try dsimp only) <;> omega) rfl (by (try dsimp only) <;> omega)

theorem b3 (d k : Fin 1024) : (iblk m c 3 t : Vec Ideal S1024x1024 .bf16) (ix2 d k) = a3 m c (ix3 0 d k) := by
  have e' : (iblk m c 3 t : Vec Ideal S1024x1024 .bf16) (ix2 d k) = (V m c main_v1 : FVec Ideal S1024x1024 .bf16) (ix2 d k) := by
    blk_ext [iblk, ix_3]
  rw [e', v1]
  pointwise [hw]

theorem b4 (k : Fin 1024) : (iblk m c 4 t : Vec Ideal S1x1024 .f32) (ix2 0 k) = a4 m c (ix1 k) := by
  have e' : (iblk m c 4 t : Vec Ideal S1x1024 .f32) (ix2 0 k) = (V m c main_v2 : FVec Ideal S1x1024 .f32) (ix2 0 k) := by
    blk_ext [iblk, ix_4]
  rw [e', v2]
  pointwise [hg]

theorem tile (r j : Fin 1024) (R : Fin 32768) (hR : R.val = t.val * 1024 + r.val) :
    out0_5 (iblk m c 0 t) (iblk m c 1 t) (iblk m c 2 t) (iblk m c 3 t) (iblk m c 4 t) (ix2 r j)
      = rowOut (a0 m c) (a1 m c) (a2 m c) (a3 m c) (a4 m c) R j := by
  rw [body _ _ _ _ _ r j ⟨r.val / 256, by omega⟩ ⟨r.val % 256, by omega⟩ (by (try dsimp only) <;> omega)]
  simp only [b0 m c t r _ R hR, b1 m c t r _ R hR, b3, b4, b2 m c t ⟨r.val / 256, by omega⟩ _ ⟨r.val % 256, by omega⟩ R (by (try dsimp only) <;> omega)]
  rfl

/-- The result array. -/
def G5 : Buf (Elt Ideal) ((c : Thread nD τ).loc main_v4) :=
  fun i : S32768x1024.Idx => rowOut (a0 m c) (a1 m c) (a2 m c) (a3 m c) (a4 m c) (i 0) (i 1)

theorem flushed_eq : (dats m 0 c).flushed 5 t = ((cfg0.win 5).blk t).view.read (Elt Ideal) (G5 m c) := by
  rw [flushed5]
  have ht : t.val < 32 := t.isLt
  have e0 : win0_5.index t (0 : Fin 2) = t.val := congrFun (ix_5 t) 0
  have e1 : win0_5.index t (1 : Fin 2) = 0 := congrFun (ix_5 t) 1
  funext y
  have hy0 : (y 0).val < 1024 := (y 0).isLt
  have hy1 : (y 1).val < 1024 := (y 1).isLt
  have hb0 : (((cfg0.win 5).blk t).view.emb y 0).val = win0_5.index t (0 : Fin 2) * 1024 + 1 * (y 0).val := rfl
  have hb1 : (((cfg0.win 5).blk t).view.emb y 1).val = win0_5.index t (1 : Fin 2) * 1024 + 1 * (y 1).val := rfl
  have hx : (cfg0.win 5).xinj (grid0.coords t) y = ix2 (⟨(y 0).val, hy0⟩ : Fin 1024) (⟨(y 1).val, hy1⟩ : Fin 1024) := by
    funext a; apply Fin.ext
    match a with
    | ⟨0, _⟩ => rfl
    | ⟨1, _⟩ => rfl
  have hj : (((cfg0.win 5).blk t).view.emb y 1 : Fin 1024) = ⟨(y 1).val, hy1⟩ := by
    apply Fin.ext
    show (((cfg0.win 5).blk t).view.emb y 1).val = (y 1).val
    rw [hb1]; omega
  show out0_5 (F := Ideal) (iblk m c 0 t) (iblk m c 1 t) (iblk m c 2 t) (iblk m c 3 t) (iblk m c 4 t) ((cfg0.win 5).xinj (grid0.coords t) y) = rowOut (a0 m c) (a1 m c) (a2 m c) (a3 m c) (a4 m c) (((cfg0.win 5).blk t).view.emb y 0) (((cfg0.win 5).blk t).view.emb y 1)
  rw [hx, hj]
  refine tile m c t _ _ _ ?_
  show (((cfg0.win 5).blk t).view.emb y 0).val = t.val * 1024 + (y 0).val
  rw [hb0]; omega

theorem mem_blk (i : S32768x1024.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v4).slice (win0_5.rect t)).set ↔ _
  rw [View.set_slice_whole, Rect.mem_set_unit]
  exact Iff.rfl

theorem covered (i : S32768x1024.Idx) : ∃ t : Fin cfg0.N, (cfg0.win 5).flush t = true ∧ i ∈ ((cfg0.win 5).blk t).view.set := by
  have hi0 : (i 0).val < 32768 := (i 0).isLt
  have hi1 : (i 1).val < 1024 := (i 1).isLt
  have hlt : (i 0).val / 1024 < cfg0.N := lt_of_lt_of_eq (show (i 0).val / 1024 < 32 by omega) rfl
  refine ⟨⟨(i 0).val / 1024, hlt⟩, fl_5 _, ?_⟩
  rw [mem_blk]
  have e0 : win0_5.index ⟨(i 0).val / 1024, hlt⟩ (0 : Fin 2) = (i 0).val / 1024 := congrFun (ix_5 _) 0
  have e1 : win0_5.index ⟨(i 0).val / 1024, hlt⟩ (1 : Fin 2) = 0 := congrFun (ix_5 _) 1
  intro a
  match a with
  | ⟨0, _⟩ => show win0_5.index _ (0 : Fin 2) * 1024 ≤ (i 0).val ∧ (i 0).val < win0_5.index _ (0 : Fin 2) * 1024 + 1024; rw [e0]; omega
  | ⟨1, _⟩ => show win0_5.index _ (1 : Fin 2) * 1024 ≤ (i 1).val ∧ (i 1).val < win0_5.index _ (1 : Fin 2) * 1024 + 1024; rw [e1]; omega

theorem final : (dats m 0 c).arrAt 5 cfg0.N = G5 m c :=
  (dats m 0 c).arrAt_eq_of_cover 5 _ (fun t _ => flushed_eq m c t) covered
end Cert.Proof.Outp
end
-- ==== Proof.Outp.RefOut.lean ====
module

public import proofs.«01_k».proof.Proof.Gen.Reference4Ideal.Read
public import proofs.«01_k».proof.Proof.Outp.Out
public import Idealize.ShloMosaic.Lib.Pointwise

/-! The reference's result at an index, and its agreement with the output projection's array. -/

@[expose] public section
set_option maxHeartbeats 400000
noncomputable section
namespace Cert.Proof.Outp.Ref
open Cert.Reference4Ideal Cert.Reference4Ideal.Gen Cert.Reference4Ideal.Read Idealize.ShloMosaic Idealize.ShloMosaic.TcCoe Idealize.SL.Sem

theorem sum_split (f : Fin 1024 → EReal) :
    ∑ k, f k = ∑ e : Fin 512, f ⟨e.val, by omega⟩ + ∑ e : Fin 512, f ⟨512 + e.val, by omega⟩ :=
  Fin.sum_univ_add (a := 512) (b := 512) f

variable (x0 : (⟨S16x2048x1024, .f32⟩ : BufTy).Contents (Elt Ideal)) (x1 : (⟨S32768x512, .bf16⟩ : BufTy).Contents (Elt Ideal)) (x2 : (⟨S128x512x256, .bf16⟩ : BufTy).Contents (Elt Ideal))
  (x3 : (⟨S1x1024x1024, .f32⟩ : BufTy).Contents (Elt Ideal)) (x4 : (⟨S1024, .f32⟩ : BufTy).Contents (Elt Ideal))

theorem left_at (b : Fin 16) (p : Fin 2048) (e : Fin 512) (d : Fin 1024) (hd : d.val = e.val) (R : Fin 32768) (hR : R.val = b.val * 2048 + p.val) :
    val_main_v6 (F := Ideal) x1 x2 (ix3 b p d) = x1 (ix2 R e) := by
  pointwise [val_main_v6, val_main_v1, val_main_v0]
  split_ifs <;> first
    | (exfalso; omega)
    | exact at2 x1 (by (try dsimp only) <;> omega) (by (try dsimp only) <;> omega)

theorem right_at (b : Fin 16) (p : Fin 2048) (e : Fin 512) (d : Fin 1024) (hd : d.val = 512 + e.val) (R : Fin 32768) (hR : R.val = b.val * 2048 + p.val) :
    val_main_v6 (F := Ideal) x1 x2 (ix3 b p d) = x2 (ix3 ⟨R.val / 256, by omega⟩ e ⟨R.val % 256, by omega⟩) := by
  have hb := b.isLt; have hp := p.isLt; have he := e.isLt
  pointwise [val_main_v6, val_main_v5, val_main_v4, val_main_v3, val_main_v2]
  split_ifs <;> first
    | (exfalso; omega)
    | exact at3 x2 (by (try dsimp only) <;> omega) (by (try dsimp only) <;> omega) (by (try dsimp only) <;> omega)

theorem w_at (d k : Fin 1024) : val_main_v7 (F := Ideal) x3 (ix2 d k) = x3 (ix3 0 d k) := by
  pointwise [val_main_v7]

theorem z_at (b : Fin 16) (p : Fin 2048) (k : Fin 1024) (R : Fin 32768) (hR : R.val = b.val * 2048 + p.val) :
    val_main_v9 (F := Ideal) x0 x1 x2 x3 (ix3 b p k)
      = zrow (fun k => x0 (ix3 ⟨R.val / 2048, by omega⟩ ⟨R.val % 2048, by omega⟩ k)) (fun e => x1 (ix2 R e)) (fun e => x2 (ix3 ⟨R.val / 256, by omega⟩ e ⟨R.val % 256, by omega⟩))
        (fun e k => x3 (ix3 0 ⟨e.val, by omega⟩ k)) (fun e k => x3 (ix3 0 ⟨512 + e.val, by omega⟩ k)) k := by
  have hl : ∀ d, lidx_main_v8 (ix3 b p k) d = ix3 b p d := fun d => by
    funext a; apply Fin.ext
    match a with
    | ⟨0, _⟩ => rfl
    | ⟨1, _⟩ => rfl
    | ⟨2, _⟩ => rfl
  have hr : ∀ d, ridx_main_v8 (ix3 b p k) d = ix2 d k := fun d => by
    funext a; apply Fin.ext
    match a with
    | ⟨0, _⟩ => rfl
    | ⟨1, _⟩ => rfl
  have hx : x0 (ix3 b p k) = x0 (ix3 ⟨R.val / 2048, by omega⟩ ⟨R.val % 2048, by omega⟩ k) := at3 x0 (by (try dsimp only) <;> omega) (by (try dsimp only) <;> omega) rfl
  rw [val_main_v9_apply, val_main_v8_apply, sum_split, hx]
  simp only [hl, hr, w_at]
  unfold zrow
  refine congrArg (x0 _ + ·) (congrArg₂ (· + ·) (Finset.sum_congr rfl fun e _ => ?_) (Finset.sum_congr rfl fun e _ => ?_))
  · rw [left_at x1 x2 b p e ⟨e.val, by omega⟩ rfl R hR]
  · rw [right_at x1 x2 b p e ⟨512 + e.val, by omega⟩ rfl R hR]

theorem out_at (R : Fin 32768) (j : Fin 1024) : val_main_v23 (F := Ideal) x0 x1 x2 x3 x4 (ix2 R j) = rowOut x0 x1 x2 x3 x4 R j := by
  pointwise [val_main_v23, val_main_v22, val_main_v21, val_main_v20, val_main_v19, val_main_v18, val_main_v17, val_main_v16, val_main_v15, val_main_v14, val_main_v13, val_main_v12, val_main_v11, val_main_v10, val_main_cst, val_main_cst_0, val_main_cst_1]
  have hz : ∀ k, val_main_v9 (F := Ideal) x0 x1 x2 x3 (ix3 ⟨R.val / 2048, by omega⟩ ⟨R.val % 2048, by omega⟩ k)
      = zrow (fun k => x0 (ix3 ⟨R.val / 2048, by omega⟩ ⟨R.val % 2048, by omega⟩ k)) (fun e => x1 (ix2 R e)) (fun e => x2 (ix3 ⟨R.val / 256, by omega⟩ e ⟨R.val % 256, by omega⟩))
        (fun e k => x3 (ix3 0 ⟨e.val, by omega⟩ k)) (fun e k => x3 (ix3 0 ⟨512 + e.val, by omega⟩ k)) k :=
    fun k => z_at x0 x1 x2 x3 _ _ k R (by (try dsimp only) <;> omega)
  simp only [hz]
  rfl
end Cert.Proof.Outp.Ref
end
-- ==== Proof.Outp.Agree.lean ====
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import proofs.«01_k».proof.Proof.Outp.RefOut

/-! The output projection and its reference end with the same array. -/

@[expose] public section
noncomputable section
namespace Cert.Proof.Outp
open Idealize.ShloMosaic Idealize.ShloMosaic.TcCoe Idealize.SL.Sem

section
open Cert.Kernel4Ideal (nD τ sig)
variable (m : (ℓ : Loc nD τ sig) → Buf (Elt Ideal) ℓ) (c : Dev nD)
variable {x0 : (⟨Cert.Reference4Ideal.S16x2048x1024, .f32⟩ : BufTy).Contents (Elt Ideal)} {x1 : (⟨Cert.Reference4Ideal.S32768x512, .bf16⟩ : BufTy).Contents (Elt Ideal)}
  {x2 : (⟨Cert.Reference4Ideal.S128x512x256, .bf16⟩ : BufTy).Contents (Elt Ideal)} {x3 : (⟨Cert.Reference4Ideal.S1x1024x1024, .f32⟩ : BufTy).Contents (Elt Ideal)}
  {x4 : (⟨Cert.Reference4Ideal.S1024, .f32⟩ : BufTy).Contents (Elt Ideal)}

theorem agree (h0 : x0 = a0 m c) (h1 : x1 = a1 m c) (h2 : x2 = a2 m c) (h3 : x3 = a3 m c) (h4 : x4 = a4 m c) :
    (Cert.Reference4Ideal.Read.val_main_v23 (F := Ideal) x0 x1 x2 x3 x4 : Cert.Kernel4Ideal.S32768x1024.Idx → EReal) = G5 m c := by
  subst h0 h1 h2 h3 h4
  funext i
  rw [eq_ix2 i]
  exact Ref.out_at (a0 m c) (a1 m c) (a2 m c) (a3 m c) (a4 m c) (i 0) (i 1)
end

/-- The output projection at the ideal instance: both programs run and end with the same array. -/
theorem algebraic : Cert.algebraic_Kernel4Ideal_Reference4Ideal (hKernel4Ideal := Cert.Kernel4Ideal.Gen.facts) (hReference4Ideal := Cert.Reference4Ideal.Gen.facts) := by
  intro m g m' g' _ hag
  refine ⟨fun c => G5 m c, ?_, ?_⟩
  · exact (θ_run _ _ _).mono (fun _ h c => ⟨(h c).1.trans (final m c), (h c).2⟩) (Cert.Kernel4Ideal.Value.run_blocks m g)
  · exact (θ_run _ _ _).mono (fun _ h c => ⟨((h c).1.trans (Cert.Reference4Ideal.Read.val_main_v23_eq _ _ _ _ _)).trans
      (agree m c (hag c).1 (hag c).2.1 (hag c).2.2.1 (hag c).2.2.2.1 (hag c).2.2.2.2), (h c).2⟩) (Cert.Reference4Ideal.Value.run (F := Ideal) m' g')

/-- The reference leaves its arguments unchanged and every counter at zero. -/
theorem frame_reference : Cert.quiescent_Reference4Ideal (hReference4Ideal := Cert.Reference4Ideal.Gen.facts) := by
  intro m g _
  exact (θ_run _ _ _).mono (fun r h => ⟨fun c => (h c).2, sem_eq_zero_of_no_sems (by decide) r.2⟩)
    (Cert.Reference4Ideal.Value.run (F := Ideal) m g)
end Cert.Proof.Outp
end
-- ==== Proof.Outs.Body.lean ====
module

public import proofs.«01_k».proof.Proof.Gen.Kernel5Ideal.Value
public import proofs.«01_k».proof.Proof.Outp.Body

/-! The output projection's one tile for the sample batch: each row is the residual row plus the two products, normalised and scaled. -/

@[expose] public section
set_option maxHeartbeats 400000
noncomputable section
namespace Cert.Proof.Outs
open Cert.Kernel5Ideal Cert.Kernel5Ideal.Gen Cert.Kernel5Ideal.Value Idealize.ShloMosaic Idealize.ShloMosaic.TcCoe Idealize.SL.Sem
open Cert.Proof.Outp (zrow fin at2 at3)

/-- The eight blocks of attention columns laid side by side and transposed. -/
def aoT (v0 v2 v4 v6 v8 v10 v12 v14 : Vec Ideal S1x512x64 .bf16) : FVec Ideal S512x512 .bf16 :=
  truncf .bf16 (transpose S512x512 [1, 0] (extf .f32 (concatenate S512x512 1
    [⟨S512x64, shapeCast S512x64 v0 shapeCasts_S1x512x64_S512x64⟩, ⟨S512x64, shapeCast S512x64 v2 shapeCasts_S1x512x64_S512x64⟩, ⟨S512x64, shapeCast S512x64 v4 shapeCasts_S1x512x64_S512x64⟩, ⟨S512x64, shapeCast S512x64 v6 shapeCasts_S1x512x64_S512x64⟩, ⟨S512x64, shapeCast S512x64 v8 shapeCasts_S1x512x64_S512x64⟩, ⟨S512x64, shapeCast S512x64 v10 shapeCasts_S1x512x64_S512x64⟩, ⟨S512x64, shapeCast S512x64 v12 shapeCasts_S1x512x64_S512x64⟩, ⟨S512x64, shapeCast S512x64 v14 shapeCasts_S1x512x64_S512x64⟩]
    concatenates_S512x64_S512x64_S512x64_S512x64_S512x64_S512x64_S512x64_S512x64_S512x512_d1) bitsLt_bf16_f32) transposes_S512x512_p1_0_S512x512) bitsLt_bf16_f32

theorem aoT_at (x2 : Vec Ideal S8x512x64 .bf16) (r : Fin 512) (e : Fin 512) (n : Fin 8) (q : Fin 64) (hr : r.val = 64 * n.val + q.val) :
    aoT (View.ld x2 r0_0) (View.ld x2 r0_1) (View.ld x2 r0_2) (View.ld x2 r0_3) (View.ld x2 r0_4) (View.ld x2 r0_5) (View.ld x2 r0_6) (View.ld x2 r0_7) (ix2 r e) = x2 (ix3 n e q) := by
  have hn := n.isLt; have hq := q.isLt
  pointwise [aoT]
  split_ifs <;> first
    | (exfalso; omega)
    | exact at3 x2 (by (try dsimp only) <;> omega) rfl (by (try dsimp only) <;> omega)

/-- The row before its normalisation, for any attention operand. -/
def zv (a v12 : FVec Ideal S512x512 .bf16) (v13 v16 : Vec Ideal S512x1024 .bf16) (v20 : Vec Ideal S512x1024 .f32) : FVec Ideal S512x1024 .f32 :=
  addf (shapeCast S512x1024 v20 shapeCasts_S512x1024_S512x1024)
    (addf (matmul dot_S512x512_S512x1024_S512x1024_1_0_0_1_n_n none v12 (shapeCast S512x1024 v13 shapeCasts_S512x1024_S512x1024 : FVec Ideal S512x1024 .bf16) (constant S512x1024 .f32 0x00000000#32))
      (matmul dot_S512x512_S512x1024_S512x1024_1_0_0_1_n_n none a (shapeCast S512x1024 v16 shapeCasts_S512x1024_S512x1024 : FVec Ideal S512x1024 .bf16) (constant S512x1024 .f32 0x00000000#32)))

/-- The normalised row. -/
def nv (z : FVec Ideal S512x1024 .f32) : FVec Ideal S512x1024 .f32 :=
  mulf z (broadcastTo S512x1024 (rsqrt (addf (divf (shapeCast S512x1 (multiReduction .add [1] S512 (mulf z z) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024)

/-- A row scaled by the gain. -/
def gv (z : FVec Ideal S512x1024 .f32) (g : Vec Ideal S1x1024 .f32) : FVec Ideal S512x1024 .f32 :=
  mulf z (broadcastTo S512x1024 (shapeCast S1x1024 g shapeCasts_S1x1024_S1x1024) broadcasts_S1x1024_S512x1024)

theorem pay_eq (v0 v2 v4 v6 v8 v10 v12 v14 : Vec Ideal S1x512x64 .bf16) (p : Vec Ideal S512x512 .bf16) (w0 w1 : Vec Ideal S512x1024 .bf16) (x : Vec Ideal S512x1024 .f32) (g : Vec Ideal S1x1024 .f32) :
    k0_pay1 (F := Ideal) (k0_pay2 p w0) (k0_pay3 v0 v2 v4 v6 v8 v10 v12 v14 w1) x g = gv (nv (zv (aoT v0 v2 v4 v6 v8 v10 v12 v14) p w0 w1 x)) g := rfl

theorem zv_at (x0 : Vec Ideal S512x1024 .f32) (x1 : Vec Ideal S512x512 .bf16) (x3 : Vec Ideal S1024x1024 .bf16) (a : FVec Ideal S512x512 .bf16) (r : Fin 512) (k : Fin 1024) :
    zv a (View.ld x1 r0_8) (View.ld x3 r0_9) (View.ld x3 r0_10) (View.ld x0 r0_11) (ix2 r k)
      = zrow (fun k => x0 (ix2 r k)) (fun e => x1 (ix2 r e)) (fun e => a (ix2 r e)) (fun e k => x3 (ix2 ⟨e.val, by omega⟩ k)) (fun e k => x3 (ix2 ⟨512 + e.val, by omega⟩ k)) k := by
  pointwise [zv]
  rfl

theorem nv_at (z : FVec Ideal S512x1024 .f32) (r : Fin 512) (k : Fin 1024) :
    nv z (ix2 r k) = z (ix2 r k) * Ideal.rsqrt (Ideal.div (∑ k, z (ix2 r k) * z (ix2 r k)) (Ideal.ofBits .f32 1149239296#32) + Ideal.ofBits .f32 897988541#32) := by
  pointwise [nv]

theorem gv_at (z : FVec Ideal S512x1024 .f32) (x4 : Vec Ideal S1x1024 .f32) (r : Fin 512) (k : Fin 1024) :
    gv z (View.ld x4 r0_12) (ix2 r k) = z (ix2 r k) * x4 (ix2 0 k) := by
  pointwise [gv]

theorem whole (P : FVec Ideal S512x1024 .f32) (y : S512x1024.Idx) : View.canon (Val := Elt Ideal) (e := .f32) [⟨r0_11, P⟩] y = P y := by
  refine View.canon_apply_of_pieces (Val := Elt Ideal) (e := .f32) P _ ?_ y (cover0_5 _ y)
  intro pc hpc
  rcases List.mem_cons.mp hpc with rfl | hpc
  · intro x
    refine congrArg P (funext fun a => Fin.ext ?_)
    match a with
    | ⟨0, _⟩ => show (x 0).val = 0 + 1 * (x 0).val; omega
    | ⟨1, _⟩ => show (x 1).val = 0 + 1 * (x 1).val; omega
  nomatch hpc

theorem body (x0 : Vec Ideal S512x1024 .f32) (x1 : Vec Ideal S512x512 .bf16) (x2 : Vec Ideal S8x512x64 .bf16) (x3 : Vec Ideal S1024x1024 .bf16) (x4 : Vec Ideal S1x1024 .f32)
    (r : Fin 512) (j : Fin 1024) (n : Fin 8) (q : Fin 64) (hr : r.val = 64 * n.val + q.val) :
    out0_5 x0 x1 x2 x3 x4 (ix2 r j)
      = fin (zrow (fun k => x0 (ix2 r k)) (fun e => x1 (ix2 r e)) (fun e => x2 (ix3 n e q)) (fun e k => x3 (ix2 ⟨e.val, by omega⟩ k)) (fun e k => x3 (ix2 ⟨512 + e.val, by omega⟩ k)))
        (fun k => x4 (ix2 0 k)) j := by
  unfold out0_5
  rw [whole, pay_eq, gv_at, nv_at]
  simp only [zv_at, aoT_at x2 r _ n q hr]
  rfl
end Cert.Proof.Outs
end
-- ==== Proof.Outs.Out.lean ====
module

public import proofs.«01_k».proof.Proof.Outs.Body
public import Idealize.ShloMosaic.Lib.StableHlo.Run

/-! The sample batch's result array of the output projection, read at an index in terms of the arguments. -/

@[expose] public section
set_option maxHeartbeats 400000
noncomputable section
namespace Cert.Proof.Outs
open Cert.Kernel5Ideal Cert.Kernel5Ideal.Gen Cert.Kernel5Ideal.Value Idealize.ShloMosaic Idealize.ShloMosaic.TcCoe Idealize.SL.Sem Idealize.ShloMosaic.StableHlo
open Cert.Proof.Outp (zrow fin at2 at3)

theorem ix_0 : ∀ t : Fin cfg0.N, win0_0.index t = ![t.val, 0] := (by decide +kernel : ∀ t : Fin grid0.N, _)
theorem ix_1 : ∀ t : Fin cfg0.N, win0_1.index t = ![t.val, 0] := (by decide +kernel : ∀ t : Fin grid0.N, _)
theorem ix_2 : ∀ t : Fin cfg0.N, win0_2.index t = ![t.val, 0, 0] := (by decide +kernel : ∀ t : Fin grid0.N, _)
theorem ix_3 : ∀ t : Fin cfg0.N, win0_3.index t = ![0, 0] := (by decide +kernel : ∀ t : Fin grid0.N, _)
theorem ix_4 : ∀ t : Fin cfg0.N, win0_4.index t = ![0, 0] := (by decide +kernel : ∀ t : Fin grid0.N, _)
theorem ix_5 : ∀ t : Fin cfg0.N, win0_5.index t = ![t.val, 0] := (by decide +kernel : ∀ t : Fin grid0.N, _)
theorem fl_5 : ∀ t : Fin cfg0.N, (cfg0.win 5).flush t = true := (by decide +kernel : ∀ t : Fin grid0.N, _)

/-- The output row `R`, column `j`, as a function of the five arguments. -/
def rowOut (x : S8x64x1024.Idx → EReal) (ro : S512x512.Idx → EReal) (ao : S8x512x64.Idx → EReal) (w : S1x1024x1024.Idx → EReal) (g : S1024.Idx → EReal)
    (R : Fin 512) (j : Fin 1024) : EReal :=
  fin (zrow (fun k => x (ix3 ⟨R.val / 64, by omega⟩ ⟨R.val % 64, by omega⟩ k)) (fun e => ro (ix2 R e))
    (fun e => ao (ix3 ⟨R.val / 64, by omega⟩ e ⟨R.val % 64, by omega⟩)) (fun e k => w (ix3 0 ⟨e.val, by omega⟩ k)) (fun e k => w (ix3 0 ⟨512 + e.val, by omega⟩ k)))
    (fun k => g (ix1 k)) j

variable (m : (ℓ : Loc nD τ sig) → Buf (Elt Ideal) ℓ) (c : Dev nD) (t : Fin cfg0.N)

/-- The arguments: activations, retention output, attention output, weights and gain. -/
abbrev a0 : S8x64x1024.Idx → EReal := m ((c : Thread nD τ).loc main_arg0)
abbrev a1 : S512x512.Idx → EReal := m ((c : Thread nD τ).loc main_arg1)
abbrev a2 : S8x512x64.Idx → EReal := m ((c : Thread nD τ).loc main_arg2)
abbrev a3 : S1x1024x1024.Idx → EReal := m ((c : Thread nD τ).loc main_arg3)
abbrev a4 : S1024.Idx → EReal := m ((c : Thread nD τ).loc main_arg4)

/-- The activations as rows, the weights as a matrix and the gain as a row. -/
def hx (x : FVec Ideal S8x64x1024 .f32) : FVec Ideal S512x1024 .f32 := shapeCast S512x1024 x shapeCasts_S8x64x1024_S512x1024
def hw (w : FVec Ideal S1x1024x1024 .f32) : FVec Ideal S1024x1024 .bf16 := truncf .bf16 (shapeCast S1024x1024 w shapeCasts_S1x1024x1024_S1024x1024 : FVec Ideal S1024x1024 .f32) bitsLt_bf16_f32
def hg (g : FVec Ideal S1024 .f32) : FVec Ideal S1x1024 .f32 := broadcastInDim S1x1024 ![1] bcast_S1024_S1x1024_1 g

theorem v3 : (V m c main_v3 : FVec Ideal S512x1024 .f32) = hx (a0 m c) := by
  show StableHlo.after _ _ _ = _
  simp only [hostOps0, List.flatten_cons, List.flatten_nil, List.append_nil, List.cons_append, List.nil_append]
  after_results_simp
  rfl
theorem v1 : (V m c main_v1 : FVec Ideal S1024x1024 .bf16) = hw (a3 m c) := by
  show StableHlo.after _ _ _ = _
  simp only [hostOps0, List.flatten_cons, List.flatten_nil, List.append_nil, List.cons_append, List.nil_append]
  after_results_simp
  rfl
theorem v2 : (V m c main_v2 : FVec Ideal S1x1024 .f32) = hg (a4 m c) := by
  show StableHlo.after _ _ _ = _
  simp only [hostOps0, List.flatten_cons, List.flatten_nil, List.append_nil, List.cons_append, List.nil_append]
  after_results_simp
  rfl
theorem vro : (V m c main_arg1 : FVec Ideal S512x512 .bf16) = a1 m c := by
  show StableHlo.after _ _ _ = _
  simp only [hostOps0, List.flatten_cons, List.flatten_nil, List.append_nil, List.cons_append, List.nil_append]
  after_results_simp
theorem vao : (V m c main_arg2 : FVec Ideal S8x512x64 .bf16) = a2 m c := by
  show StableHlo.after _ _ _ = _
  simp only [hostOps0, List.flatten_cons, List.flatten_nil, List.append_nil, List.cons_append, List.nil_append]
  after_results_simp

theorem b0 (r : Fin 512) (k : Fin 1024) (R : Fin 512) (hR : R.val = t.val * 512 + r.val) :
    (iblk m c 0 t : Vec Ideal S512x1024 .f32) (ix2 r k) = a0 m c (ix3 ⟨R.val / 64, by omega⟩ ⟨R.val % 64, by omega⟩ k) := by
  have ht : t.val < 1 := t.isLt
  have e : (iblk m c 0 t : Vec Ideal S512x1024 .f32) (ix2 r k) = (V m c main_v3 : FVec Ideal S512x1024 .f32) (ix2 ⟨t.val * 512 + r.val, by omega⟩ k) := by
    blk_ext [iblk, ix_0]
  rw [e, v3]
  pointwise [hx]
  exact at3 _ (by (try dsimp only) <;> omega) (by (try dsimp only) <;> omega) rfl

theorem b1 (r : Fin 512) (e : Fin 512) (R : Fin 512) (hR : R.val = t.val * 512 + r.val) :
    (iblk m c 1 t : Vec Ideal S512x512 .bf16) (ix2 r e) = a1 m c (ix2 R e) := by
  have ht : t.val < 1 := t.isLt
  have e' : (iblk m c 1 t : Vec Ideal S512x512 .bf16) (ix2 r e) = (V m c main_arg1 : FVec Ideal S512x512 .bf16) (ix2 ⟨t.val * 512 + r.val, by omega⟩ e) := by
    blk_ext [iblk, ix_1]
  rw [e', vro]
  exact at2 _ (by (try dsimp only) <;> omega) rfl

theorem b2 (n : Fin 8) (e : Fin 512) (q : Fin 64) (R : Fin 512) (hR : R.val = t.val * 512 + (64 * n.val + q.val)) :
    (iblk m c 2 t : Vec Ideal S8x512x64 .bf16) (ix3 n e q) = a2 m c (ix3 ⟨R.val / 64, by omega⟩ e ⟨R.val % 64, by omega⟩) := by
  have ht : t.val < 1 := t.isLt
  have e' : (iblk m c 2 t : Vec Ideal S8x512x64 .bf16) (ix3 n e q) = (V m c main_arg2 : FVec Ideal S8x512x64 .bf16) (ix3 ⟨t.val * 8 + n.val, by omega⟩ e q) := by
    blk_ext [iblk, ix_2]
  rw [e', vao]
  exact at3 _ (by (try dsimp only) <;> omega) rfl (by (try dsimp only) <;> omega)

theorem b3 (d k : Fin 1024) : (iblk m c 3 t : Vec Ideal S1024x1024 .bf16) (ix2 d k) = a3 m c (ix3 0 d k) := by
  have e' : (iblk m c 3 t : Vec Ideal S1024x1024 .bf16) (ix2 d k) = (V m c main_v1 : FVec Ideal S1024x1024 .bf16) (ix2 d k) := by
    blk_ext [iblk, ix_3]
  rw [e', v1]
  pointwise [hw]

theorem b4 (k : Fin 1024) : (iblk m c 4 t : Vec Ideal S1x1024 .f32) (ix2 0 k) = a4 m c (ix1 k) := by
  have e' : (iblk m c 4 t : Vec Ideal S1x1024 .f32) (ix2 0 k) = (V m c main_v2 : FVec Ideal S1x1024 .f32) (ix2 0 k) := by
    blk_ext [iblk, ix_4]
  rw [e', v2]
  pointwise [hg]

theorem tile (r : Fin 512) (j : Fin 1024) (R : Fin 512) (hR : R.val = t.val * 512 + r.val) :
    out0_5 (iblk m c 0 t) (iblk m c 1 t) (iblk m c 2 t) (iblk m c 3 t) (iblk m c 4 t) (ix2 r j)
      = rowOut (a0 m c) (a1 m c) (a2 m c) (a3 m c) (a4 m c) R j := by
  rw [body _ _ _ _ _ r j ⟨r.val / 64, by omega⟩ ⟨r.val % 64, by omega⟩ (by (try dsimp only) <;> omega)]
  simp only [b0 m c t r _ R hR, b1 m c t r _ R hR, b3, b4, b2 m c t ⟨r.val / 64, by omega⟩ _ ⟨r.val % 64, by omega⟩ R (by (try dsimp only) <;> omega)]
  rfl

/-- The result array. -/
def G5 : Buf (Elt Ideal) ((c : Thread nD τ).loc main_v4) :=
  fun i : S512x1024.Idx => rowOut (a0 m c) (a1 m c) (a2 m c) (a3 m c) (a4 m c) (i 0) (i 1)

theorem flushed_eq : (dats m 0 c).flushed 5 t = ((cfg0.win 5).blk t).view.read (Elt Ideal) (G5 m c) := by
  rw [flushed5]
  have ht : t.val < 1 := t.isLt
  have e0 : win0_5.index t (0 : Fin 2) = t.val := congrFun (ix_5 t) 0
  have e1 : win0_5.index t (1 : Fin 2) = 0 := congrFun (ix_5 t) 1
  funext y
  have hy0 : (y 0).val < 512 := (y 0).isLt
  have hy1 : (y 1).val < 1024 := (y 1).isLt
  have hb0 : (((cfg0.win 5).blk t).view.emb y 0).val = win0_5.index t (0 : Fin 2) * 512 + 1 * (y 0).val := rfl
  have hb1 : (((cfg0.win 5).blk t).view.emb y 1).val = win0_5.index t (1 : Fin 2) * 1024 + 1 * (y 1).val := rfl
  have hx : (cfg0.win 5).xinj (grid0.coords t) y = ix2 (⟨(y 0).val, hy0⟩ : Fin 512) (⟨(y 1).val, hy1⟩ : Fin 1024) := by
    funext a; apply Fin.ext
    match a with
    | ⟨0, _⟩ => rfl
    | ⟨1, _⟩ => rfl
  have hj : (((cfg0.win 5).blk t).view.emb y 1 : Fin 1024) = ⟨(y 1).val, hy1⟩ := by
    apply Fin.ext
    show (((cfg0.win 5).blk t).view.emb y 1).val = (y 1).val
    rw [hb1]; omega
  show out0_5 (F := Ideal) (iblk m c 0 t) (iblk m c 1 t) (iblk m c 2 t) (iblk m c 3 t) (iblk m c 4 t) ((cfg0.win 5).xinj (grid0.coords t) y) = rowOut (a0 m c) (a1 m c) (a2 m c) (a3 m c) (a4 m c) (((cfg0.win 5).blk t).view.emb y 0) (((cfg0.win 5).blk t).view.emb y 1)
  rw [hx, hj]
  refine tile m c t _ _ _ ?_
  show (((cfg0.win 5).blk t).view.emb y 0).val = t.val * 512 + (y 0).val
  rw [hb0]; omega

theorem mem_blk (i : S512x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v4).slice (win0_5.rect t)).set ↔ _
  rw [View.set_slice_whole, Rect.mem_set_unit]
  exact Iff.rfl

theorem covered (i : S512x1024.Idx) : ∃ t : Fin cfg0.N, (cfg0.win 5).flush t = true ∧ i ∈ ((cfg0.win 5).blk t).view.set := by
  have hi0 : (i 0).val < 512 := (i 0).isLt
  have hi1 : (i 1).val < 1024 := (i 1).isLt
  have hlt : (i 0).val / 512 < cfg0.N := lt_of_lt_of_eq (show (i 0).val / 512 < 1 by omega) rfl
  refine ⟨⟨(i 0).val / 512, hlt⟩, fl_5 _, ?_⟩
  rw [mem_blk]
  have e0 : win0_5.index ⟨(i 0).val / 512, hlt⟩ (0 : Fin 2) = (i 0).val / 512 := congrFun (ix_5 _) 0
  have e1 : win0_5.index ⟨(i 0).val / 512, hlt⟩ (1 : Fin 2) = 0 := congrFun (ix_5 _) 1
  intro a
  match a with
  | ⟨0, _⟩ => show win0_5.index _ (0 : Fin 2) * 512 ≤ (i 0).val ∧ (i 0).val < win0_5.index _ (0 : Fin 2) * 512 + 512; rw [e0]; omega
  | ⟨1, _⟩ => show win0_5.index _ (1 : Fin 2) * 1024 ≤ (i 1).val ∧ (i 1).val < win0_5.index _ (1 : Fin 2) * 1024 + 1024; rw [e1]; omega

theorem final : (dats m 0 c).arrAt 5 cfg0.N = G5 m c :=
  (dats m 0 c).arrAt_eq_of_cover 5 _ (fun t _ => flushed_eq m c t) covered
end Cert.Proof.Outs
end
-- ==== Proof.Outs.RefOut.lean ====
module

public import proofs.«01_k».proof.Proof.Gen.Reference5Ideal.Read
public import proofs.«01_k».proof.Proof.Outs.Out
public import Idealize.ShloMosaic.Lib.Pointwise

/-! The reference's result at an index, for the sample batch. -/

@[expose] public section
set_option maxHeartbeats 400000
noncomputable section
namespace Cert.Proof.Outs.Ref
open Cert.Reference5Ideal Cert.Reference5Ideal.Gen Cert.Reference5Ideal.Read Idealize.ShloMosaic Idealize.ShloMosaic.TcCoe Idealize.SL.Sem
open Cert.Proof.Outp (zrow fin at2 at3)

theorem sum_split (f : Fin 1024 → EReal) :
    ∑ k, f k = ∑ e : Fin 512, f ⟨e.val, by omega⟩ + ∑ e : Fin 512, f ⟨512 + e.val, by omega⟩ :=
  Fin.sum_univ_add (a := 512) (b := 512) f

variable (x0 : (⟨S8x64x1024, .f32⟩ : BufTy).Contents (Elt Ideal)) (x1 : (⟨S512x512, .bf16⟩ : BufTy).Contents (Elt Ideal)) (x2 : (⟨S8x512x64, .bf16⟩ : BufTy).Contents (Elt Ideal))
  (x3 : (⟨S1x1024x1024, .f32⟩ : BufTy).Contents (Elt Ideal)) (x4 : (⟨S1024, .f32⟩ : BufTy).Contents (Elt Ideal))

theorem left_at (b : Fin 8) (p : Fin 64) (e : Fin 512) (d : Fin 1024) (hd : d.val = e.val) (R : Fin 512) (hR : R.val = b.val * 64 + p.val) :
    val_main_v4 (F := Ideal) x1 x2 (ix3 b p d) = x1 (ix2 R e) := by
  pointwise [val_main_v4, val_main_v1, val_main_v0]
  split_ifs <;> first
    | (exfalso; omega)
    | exact at2 x1 (by (try dsimp only) <;> omega) (by (try dsimp only) <;> omega)

theorem right_at (b : Fin 8) (p : Fin 64) (e : Fin 512) (d : Fin 1024) (hd : d.val = 512 + e.val) (R : Fin 512) (hR : R.val = b.val * 64 + p.val) :
    val_main_v4 (F := Ideal) x1 x2 (ix3 b p d) = x2 (ix3 ⟨R.val / 64, by omega⟩ e ⟨R.val % 64, by omega⟩) := by
  have hb := b.isLt; have hp := p.isLt; have he := e.isLt
  pointwise [val_main_v4, val_main_v3, val_main_v2]
  split_ifs <;> first
    | (exfalso; omega)
    | exact at3 x2 (by (try dsimp only) <;> omega) (by (try dsimp only) <;> omega) (by (try dsimp only) <;> omega)

theorem w_at (d k : Fin 1024) : val_main_v5 (F := Ideal) x3 (ix2 d k) = x3 (ix3 0 d k) := by
  pointwise [val_main_v5]

theorem z_at (b : Fin 8) (p : Fin 64) (k : Fin 1024) (R : Fin 512) (hR : R.val = b.val * 64 + p.val) :
    val_main_v7 (F := Ideal) x0 x1 x2 x3 (ix3 b p k)
      = zrow (fun k => x0 (ix3 ⟨R.val / 64, by omega⟩ ⟨R.val % 64, by omega⟩ k)) (fun e => x1 (ix2 R e)) (fun e => x2 (ix3 ⟨R.val / 64, by omega⟩ e ⟨R.val % 64, by omega⟩))
        (fun e k => x3 (ix3 0 ⟨e.val, by omega⟩ k)) (fun e k => x3 (ix3 0 ⟨512 + e.val, by omega⟩ k)) k := by
  have hl : ∀ d, lidx_main_v6 (ix3 b p k) d = ix3 b p d := fun d => by
    funext a; apply Fin.ext
    match a with
    | ⟨0, _⟩ => rfl
    | ⟨1, _⟩ => rfl
    | ⟨2, _⟩ => rfl
  have hr : ∀ d, ridx_main_v6 (ix3 b p k) d = ix2 d k := fun d => by
    funext a; apply Fin.ext
    match a with
    | ⟨0, _⟩ => rfl
    | ⟨1, _⟩ => rfl
  have hx : x0 (ix3 b p k) = x0 (ix3 ⟨R.val / 64, by omega⟩ ⟨R.val % 64, by omega⟩ k) := at3 x0 (by (try dsimp only) <;> omega) (by (try dsimp only) <;> omega) rfl
  rw [val_main_v7_apply, val_main_v6_apply, sum_split, hx]
  simp only [hl, hr, w_at]
  unfold zrow
  refine congrArg (x0 _ + ·) (congrArg₂ (· + ·) (Finset.sum_congr rfl fun e _ => ?_) (Finset.sum_congr rfl fun e _ => ?_))
  · rw [left_at x1 x2 b p e ⟨e.val, by omega⟩ rfl R hR]
  · rw [right_at x1 x2 b p e ⟨512 + e.val, by omega⟩ rfl R hR]

theorem out_at (R : Fin 512) (j : Fin 1024) : val_main_v21 (F := Ideal) x0 x1 x2 x3 x4 (ix2 R j) = rowOut x0 x1 x2 x3 x4 R j := by
  pointwise [val_main_v21, val_main_v20, val_main_v19, val_main_v18, val_main_v17, val_main_v16, val_main_v15, val_main_v14, val_main_v13, val_main_v12, val_main_v11, val_main_v10, val_main_v9, val_main_v8, val_main_cst, val_main_cst_0, val_main_cst_1]
  have hz : ∀ k, val_main_v7 (F := Ideal) x0 x1 x2 x3 (ix3 ⟨R.val / 64, by omega⟩ ⟨R.val % 64, by omega⟩ k)
      = zrow (fun k => x0 (ix3 ⟨R.val / 64, by omega⟩ ⟨R.val % 64, by omega⟩ k)) (fun e => x1 (ix2 R e)) (fun e => x2 (ix3 ⟨R.val / 64, by omega⟩ e ⟨R.val % 64, by omega⟩))
        (fun e k => x3 (ix3 0 ⟨e.val, by omega⟩ k)) (fun e k => x3 (ix3 0 ⟨512 + e.val, by omega⟩ k)) k :=
    fun k => z_at x0 x1 x2 x3 _ _ k R (by (try dsimp only) <;> omega)
  simp only [hz]
  rfl
end Cert.Proof.Outs.Ref
end
-- ==== Proof.Outs.Agree.lean ====
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.Outs.RefOut

/-! The sample batch's output projection and its reference end with the same array. -/

@[expose] public section
noncomputable section
namespace Cert.Proof.Outs
open Idealize.ShloMosaic Idealize.ShloMosaic.TcCoe Idealize.SL.Sem

section
open Cert.Kernel5Ideal (nD τ sig)
variable (m : (ℓ : Loc nD τ sig) → Buf (Elt Ideal) ℓ) (c : Dev nD)
variable {x0 : (⟨Cert.Reference5Ideal.S8x64x1024, .f32⟩ : BufTy).Contents (Elt Ideal)} {x1 : (⟨Cert.Reference5Ideal.S512x512, .bf16⟩ : BufTy).Contents (Elt Ideal)}
  {x2 : (⟨Cert.Reference5Ideal.S8x512x64, .bf16⟩ : BufTy).Contents (Elt Ideal)} {x3 : (⟨Cert.Reference5Ideal.S1x1024x1024, .f32⟩ : BufTy).Contents (Elt Ideal)}
  {x4 : (⟨Cert.Reference5Ideal.S1024, .f32⟩ : BufTy).Contents (Elt Ideal)}

theorem agree (h0 : x0 = a0 m c) (h1 : x1 = a1 m c) (h2 : x2 = a2 m c) (h3 : x3 = a3 m c) (h4 : x4 = a4 m c) :
    (Cert.Reference5Ideal.Read.val_main_v21 (F := Ideal) x0 x1 x2 x3 x4 : Cert.Kernel5Ideal.S512x1024.Idx → EReal) = G5 m c := by
  subst h0 h1 h2 h3 h4
  funext i
  rw [eq_ix2 i]
  exact Ref.out_at (a0 m c) (a1 m c) (a2 m c) (a3 m c) (a4 m c) (i 0) (i 1)
end

/-- The sample batch's output projection at the ideal instance: both programs run and end with the same array. -/
theorem algebraic : Cert.algebraic_Kernel5Ideal_Reference5Ideal (hKernel5Ideal := Cert.Kernel5Ideal.Gen.facts) (hReference5Ideal := Cert.Reference5Ideal.Gen.facts) := by
  intro m g m' g' _ hag
  refine ⟨fun c => G5 m c, ?_, ?_⟩
  · exact (θ_run _ _ _).mono (fun _ h c => ⟨(h c).1.trans (final m c), (h c).2⟩) (Cert.Kernel5Ideal.Value.run_blocks m g)
  · exact (θ_run _ _ _).mono (fun _ h c => ⟨((h c).1.trans (Cert.Reference5Ideal.Read.val_main_v21_eq _ _ _ _ _)).trans
      (agree m c (hag c).1 (hag c).2.1 (hag c).2.2.1 (hag c).2.2.2.1 (hag c).2.2.2.2), (h c).2⟩) (Cert.Reference5Ideal.Value.run (F := Ideal) m' g')

/-- The reference leaves its arguments unchanged and every counter at zero. -/
theorem frame_reference : Cert.quiescent_Reference5Ideal (hReference5Ideal := Cert.Reference5Ideal.Gen.facts) := by
  intro m g _
  exact (θ_run _ _ _).mono (fun r h => ⟨fun c => (h c).2, sem_eq_zero_of_no_sems (by decide) r.2⟩)
    (Cert.Reference5Ideal.Value.run (F := Ideal) m g)
end Cert.Proof.Outs
end
-- ==== Proof.lean ====
/-
  The claims of this directory, from the modules that prove them.
-/
module

public import proofs.«01_k».proof.Defs
public import proofs.«01_k».proof.Proof.Dsa.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Proj.Agree
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Outp.Agree
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Outs.Agree

@[expose] public section

noncomputable section

namespace Cert.Proof

open Idealize.ShloMosaic Idealize.ShloMosaic.TcCoe Idealize.SL.Sem

/-- The projection at the ideal instance: both programs run and end with the same eight results. -/
theorem algebraic : Cert.algebraic_Kernel3Ideal_Reference3Ideal (hKernel3Ideal := Cert.Kernel3Ideal.Gen.facts) (hReference3Ideal := Cert.Reference3Ideal.Gen.facts) := by
  intro m g m' g' _ hag
  refine ⟨fun c => Cert.Kernel3Ideal.Value.G16 m c, fun c => Cert.Kernel3Ideal.Value.G17 m c, fun c => Cert.Kernel3Ideal.Value.G18 m c,
    fun c => Cert.Kernel3Ideal.Value.G19 m c, fun c => Cert.Kernel3Ideal.Value.G20 m c, fun c => Cert.Kernel3Ideal.Value.G21 m c,
    fun c => Cert.Kernel3Ideal.Value.G22 m c, fun c => Cert.Kernel3Ideal.Value.G23 m c, ?_, ?_⟩
  · exact (θ_run _ _ _).mono (fun _ h c => (h c).2) (Cert.Kernel3Ideal.Value.run m g)
  · exact (θ_run _ _ _).mono (fun _ h c => ⟨
      ((h c).1.trans (Cert.Reference3Ideal.Read.val_main_v340_eq _)).trans (Proj.Agree.e0 m c (hag c).1 (hag c).2.1 (hag c).2.2.1),
      ((h c).2.1.trans (Cert.Reference3Ideal.Read.val_main_v536_eq _)).trans (Proj.Agree.e1 m c (hag c).1 (hag c).2.1 (hag c).2.2.1),
      ((h c).2.2.1.trans (Cert.Reference3Ideal.Read.val_main_v537_eq _)).trans (Proj.Agree.e2 m c (hag c).1 (hag c).2.1 (hag c).2.2.1),
      ((h c).2.2.2.1.trans (Cert.Reference3Ideal.Read.val_main_v538_eq _)).trans (Proj.Agree.e3 m c (hag c).1 (hag c).2.1 (hag c).2.2.1),
      ((h c).2.2.2.2.1.trans (Cert.Reference3Ideal.Read.val_main_v542_eq _)).trans (Proj.Agree.e4 m c (hag c).1 (hag c).2.1 (hag c).2.2.1),
      ((h c).2.2.2.2.2.1.trans (Cert.Reference3Ideal.Read.val_main_v546_eq _)).trans (Proj.Agree.e5 m c (hag c).1 (hag c).2.1 (hag c).2.2.1),
      ((h c).2.2.2.2.2.2.1.trans (Cert.Reference3Ideal.Read.val_main_v547_eq _)).trans (Proj.Agree.e6 m c (hag c).1 (hag c).2.1 (hag c).2.2.1),
      ((h c).2.2.2.2.2.2.2.1.trans (Cert.Reference3Ideal.Read.val_main_v550_eq _)).trans (Proj.Agree.e7 m c (hag c).1 (hag c).2.1 (hag c).2.2.1),
      (h c).2.2.2.2.2.2.2.2⟩) (Cert.Reference3Ideal.Value.run (F := Ideal) m' g')

/-- The reference leaves its arguments unchanged and every counter at zero. -/
theorem frame_reference : Cert.quiescent_Reference3Ideal (hReference3Ideal := Cert.Reference3Ideal.Gen.facts) := by
  intro m g _
  exact (θ_run _ _ _).mono (fun r h => ⟨fun c => (h c).2.2.2.2.2.2.2.2, sem_eq_zero_of_no_sems (by decide) r.2⟩)
    (Cert.Reference3Ideal.Value.run (F := Ideal) m g)

theorem claim : Cert.Claim := ⟨Cert.Kernel.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Proof.Dsa.frame_kernel, fun m g _ => Cert.Kernel3.Gen.frame m g, fun m g _ => Cert.Kernel3Ideal.Gen.frame m g, frame_reference,
  fun m g _ => Cert.Kernel4.Gen.frame m g, fun m g _ => Cert.Kernel4Ideal.Gen.frame m g, Cert.Proof.Outp.frame_reference,
  fun m g _ => Cert.Kernel5.Gen.frame m g, fun m g _ => Cert.Kernel5Ideal.Gen.frame m g, Cert.Proof.Outs.frame_reference,
  trivial, algebraic, trivial, Cert.Proof.Outp.algebraic, trivial, Cert.Proof.Outs.algebraic⟩

end Cert.Proof

end
